-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "query_scale" .f32 0x3E38AA3B#32 ((8⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v65_0)) (v1 : (c : Dev Cert.Kernel3Ideal.nD) → Buf (Elt Ideal) ((c.tc : Thread Cert.Kernel3Ideal.nD Cert.Kernel3Ideal.τ).loc Cert.Kernel3Ideal.main_v65_1)) (v2 : (c : Dev Cert.Kernel3Ideal.nD) → Buf (Elt Ideal) ((c.tc : Thread Cert.Kernel3Ideal.nD Cert.Kernel3Ideal.τ).loc Cert.Kernel3Ideal.main_v65_2)) (v3 : (c : Dev Cert.Kernel3Ideal.nD) → Buf (Elt Ideal) ((c.tc : Thread Cert.Kernel3Ideal.nD Cert.Kernel3Ideal.τ).loc Cert.Kernel3Ideal.main_v65_3)) (v4 : (c : Dev Cert.Kernel3Ideal.nD) → Buf (Elt Ideal) ((c.tc : Thread Cert.Kernel3Ideal.nD Cert.Kernel3Ideal.τ).loc Cert.Kernel3Ideal.main_v65_4)) (v5 : (c : Dev Cert.Kernel3Ideal.nD) → Buf (Elt Ideal) ((c.tc : Thread Cert.Kernel3Ideal.nD Cert.Kernel3Ideal.τ).loc Cert.Kernel3Ideal.main_v65_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v65_0) = v0 c
          ∧ r.2.mem ((c.tc : Thread Cert.Kernel3Ideal.nD Cert.Kernel3Ideal.τ).loc Cert.Kernel3Ideal.main_v65_1) = v1 c
          ∧ r.2.mem ((c.tc : Thread Cert.Kernel3Ideal.nD Cert.Kernel3Ideal.τ).loc Cert.Kernel3Ideal.main_v65_2) = v2 c
          ∧ r.2.mem ((c.tc : Thread Cert.Kernel3Ideal.nD Cert.Kernel3Ideal.τ).loc Cert.Kernel3Ideal.main_v65_3) = v3 c
          ∧ r.2.mem ((c.tc : Thread Cert.Kernel3Ideal.nD Cert.Kernel3Ideal.τ).loc Cert.Kernel3Ideal.main_v65_4) = v4 c
          ∧ r.2.mem ((c.tc : Thread Cert.Kernel3Ideal.nD Cert.Kernel3Ideal.τ).loc Cert.Kernel3Ideal.main_v65_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v245) = v0 c
          ∧ r.2.mem ((c.tc : Thread Cert.Reference3Ideal.nD Cert.Reference3Ideal.τ).loc Cert.Reference3Ideal.main_v246) = v1 c
          ∧ r.2.mem ((c.tc : Thread Cert.Reference3Ideal.nD Cert.Reference3Ideal.τ).loc Cert.Reference3Ideal.main_v247) = v2 c
          ∧ r.2.mem ((c.tc : Thread Cert.Reference3Ideal.nD Cert.Reference3Ideal.τ).loc Cert.Reference3Ideal.main_v248) = v3 c
          ∧ r.2.mem ((c.tc : Thread Cert.Reference3Ideal.nD Cert.Reference3Ideal.τ).loc Cert.Reference3Ideal.main_v249) = v4 c
          ∧ r.2.mem ((c.tc : Thread Cert.Reference3Ideal.nD Cert.Reference3Ideal.τ).loc Cert.Reference3Ideal.main_v250) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S_ : Shape := ⟨0, ![]⟩

class Facts : Prop where
  bcast_S_S2x8192x8x64 : S_.BroadcastsInDim S2x8192x8x64 (![] : Fin 0 → Fin S2x8192x8x64.rank)
  bcast_S_S2x8192x2x64 : S_.BroadcastsInDim S2x8192x2x64 (![] : Fin 0 → Fin S2x8192x2x64.rank)
  bcast_S_S2x256x2x64 : S_.BroadcastsInDim S2x256x2x64 (![] : Fin 0 → Fin S2x256x2x64.rank)

variable [Facts]

def fn {F : FTy → Type} [FloatOps F] (main_arg0 : FVec F S2x8192x8x64 .f32) (main_arg1 : FVec F S2x8192x2x64 .f32) (main_arg2 : FVec F S2x8192x2x64 .f32) (main_arg3 : FVec F S2x256x2x64 .f32) (main_arg4 : FVec F S2x256x2x64 .f32) : IVec S2x8192x8x64 1 × IVec S2x8192x2x64 1 × IVec S2x256x2x64 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x2x64 .f32 := Host.absf main_arg1
  let main_cst_0 : FVec F S_ .f32 := constant S_ .f32 0x7F800000#32
  let main_v4 : FVec F S2x8192x2x64 .f32 := broadcastInDim S2x8192x2x64 ![] bcast_S_S2x8192x2x64 main_cst_0
  let main_v5 : IVec S2x8192x2x64 1 := cmpf .olt main_v3 main_v4
  let main_v6 : FVec F S2x256x2x64 .f32 := Host.absf main_arg3
  let main_cst_1 : FVec F S_ .f32 := constant S_ .f32 0x7F800000#32
  let main_v7 : FVec F S2x256x2x64 .f32 := broadcastInDim S2x256x2x64 ![] bcast_S_S2x256x2x64 main_cst_1
  let main_v8 : IVec S2x256x2x64 1 := cmpf .olt main_v6 main_v7
  (main_v2, main_v5, main_v8)
-- ==== Kernel.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S_ : Shape := ⟨0, ![]⟩
abbrev S2x8x64x8192 : Shape := ⟨4, ![2, 8, 64, 8192]⟩
abbrev S2x4x64x8192 : Shape := ⟨4, ![2, 4, 64, 8192]⟩
abbrev S2x4x128x8192 : Shape := ⟨4, ![2, 4, 128, 8192]⟩
abbrev S2x8x128x8192 : Shape := ⟨4, ![2, 8, 128, 8192]⟩
abbrev S2x8448x2x64 : Shape := ⟨4, ![2, 8448, 2, 64]⟩
abbrev S2x8448x128 : Shape := ⟨3, ![2, 8448, 128]⟩
abbrev S2x2x64x8448 : Shape := ⟨4, ![2, 2, 64, 8448]⟩
abbrev S2x2x1x8448 : Shape := ⟨4, ![2, 2, 1, 8448]⟩
abbrev S2x2x15x8448 : Shape := ⟨4, ![2, 2, 15, 8448]⟩
abbrev S2x2x80x8448 : Shape := ⟨4, ![2, 2, 80, 8448]⟩
abbrev S2x8192x512 : Shape := ⟨3, ![2, 8192, 512]⟩
abbrev S1x8x128x256 : Shape := ⟨4, ![1, 8, 128, 256]⟩
abbrev S1x8448x128 : Shape := ⟨3, ![1, 8448, 128]⟩
abbrev S1x2x80x8448 : Shape := ⟨4, ![1, 2, 80, 8448]⟩
abbrev S1x256x512 : Shape := ⟨3, ![1, 256, 512]⟩
abbrev S1x1x128x256 : Shape := ⟨4, ![1, 1, 128, 256]⟩
abbrev S128x256 : Shape := ⟨2, ![128, 256]⟩
abbrev S1x256 : Shape := ⟨2, ![1, 256]⟩
abbrev S80x256 : Shape := ⟨2, ![80, 256]⟩
abbrev S1x256x128 : Shape := ⟨3, ![1, 256, 128]⟩
abbrev S256x128 : Shape := ⟨2, ![256, 128]⟩
abbrev S256x256 : Shape := ⟨2, ![256, 256]⟩
abbrev S1x1x80x256 : Shape := ⟨4, ![1, 1, 80, 256]⟩
abbrev S256 : Shape := ⟨1, ![256]⟩
abbrev S64x256 : Shape := ⟨2, ![64, 256]⟩

abbrev nBuf : Space → Nat
  | .hbm => 33
  | .vmem => 8
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x256x2x64, .f32⟩
  | .hbm, ⟨4, _⟩ => ⟨S2x256x2x64, .f32⟩
  | .hbm, ⟨5, _⟩ => ⟨S_, .f32⟩
  | .hbm, ⟨6, _⟩ => ⟨S2x8192x8x64, .f32⟩
  | .hbm, ⟨7, _⟩ => ⟨S2x8192x8x64, .f32⟩
  | .hbm, ⟨8, _⟩ => ⟨S_, .f32⟩
  | .hbm, ⟨9, _⟩ => ⟨S_, .f32⟩
  | .hbm, ⟨10, _⟩ => ⟨S2x8192x8x64, .f32⟩
  | .hbm, ⟨11, _⟩ => ⟨S2x8192x8x64, .f32⟩
  | .hbm, ⟨12, _⟩ => ⟨S2x8x64x8192, .f32⟩
  | .hbm, ⟨13, _⟩ => ⟨S2x8x64x8192, .bf16⟩
  | .hbm, ⟨14, _⟩ => ⟨S_, .bf16⟩
  | .hbm, ⟨15, _⟩ => ⟨S2x4x64x8192, .bf16⟩
  | .hbm, ⟨16, _⟩ => ⟨S2x4x64x8192, .bf16⟩
  | .hbm, ⟨17, _⟩ => ⟨S2x4x128x8192, .bf16⟩
  | .hbm, ⟨18, _⟩ => ⟨S2x4x64x8192, .bf16⟩
  | .hbm, ⟨19, _⟩ => ⟨S2x4x128x8192, .bf16⟩
  | .hbm, ⟨20, _⟩ => ⟨S2x8x128x8192, .bf16⟩
  | .hbm, ⟨21, _⟩ => ⟨S2x8448x2x64, .f32⟩
  | .hbm, ⟨22, _⟩ => ⟨S2x8448x128, .f32⟩
  | .hbm, ⟨23, _⟩ => ⟨S2x8448x128, .bf16⟩
  | .hbm, ⟨24, _⟩ => ⟨S2x8448x2x64, .f32⟩
  | .hbm, ⟨25, _⟩ => ⟨S2x2x64x8448, .f32⟩
  | .hbm, ⟨26, _⟩ => ⟨S2x2x64x8448, .bf16⟩
  | .hbm, ⟨27, _⟩ => ⟨S_, .bf16⟩
  | .hbm, ⟨28, _⟩ => ⟨S2x2x1x8448, .bf16⟩
  | .hbm, ⟨29, _⟩ => ⟨S_, .bf16⟩
  | .hbm, ⟨30, _⟩ => ⟨S2x2x15x8448, .bf16⟩
  | .hbm, ⟨31, _⟩ => ⟨S2x2x80x8448, .bf16⟩
  | .hbm, ⟨32, _⟩ => ⟨S2x8192x512, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x2x80x8448, .bf16⟩
  | .local _ .vmem, ⟨5, _⟩ => ⟨S1x2x80x8448, .bf16⟩
  | .local _ .vmem, ⟨6, _⟩ => ⟨S1x256x512, .bf16⟩
  | .local _ .vmem, ⟨7, _⟩ => ⟨S1x256x512, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  let c8448_i32 : BitVec 32 := 8448#32
  let v32 : BitVec 32 := Scalar.muli c0_i32 c8448_i32
  let c0_i32_39 : BitVec 32 := 0#32
  let v33 : BitVec 32 := Scalar.addi v32 c0_i32_39
  v33
def k0_off1 (c0_i32_39 : BitVec 32) : Fin 3 → Nat :=
  let c0_40 : Index := 0#32
  let c0_i32 : BitVec 32 := 0#32
  let c8448_i32 : BitVec 32 := 8448#32
  let v32 : BitVec 32 := Scalar.muli c0_i32 c8448_i32
  let v33 : BitVec 32 := Scalar.addi v32 c0_i32_39
  let v34 : BitVec 32 := v33
  let v35 : Index := Scalar.indexCast v34
  let c0_41 : Index := 0#32
  ![0, v35.toNat, 0]
def k0_mult2 : BitVec 32 :=
  let c0_i32 : BitVec 32 := 0#32
  let c8448_i32_43 : BitVec 32 := 8448#32
  let v39 : BitVec 32 := Scalar.muli c0_i32 c8448_i32_43
  let c0_i32_44 : BitVec 32 := 0#32
  let v40 : BitVec 32 := Scalar.addi v39 c0_i32_44
  v40
def k0_mult3 : BitVec 32 :=
  let c0_i32 : BitVec 32 := 0#32
  let c8448_i32_48 : BitVec 32 := 8448#32
  let v46 : BitVec 32 := Scalar.muli c0_i32 c8448_i32_48
  let c0_i32_49 : BitVec 32 := 0#32
  let v47 : BitVec 32 := Scalar.addi v46 c0_i32_49
  v47
def k0_mult4 : BitVec 32 :=
  let c0_i32 : BitVec 32 := 0#32
  let c8448_i32_53 : BitVec 32 := 8448#32
  let v53 : BitVec 32 := Scalar.muli c0_i32 c8448_i32_53
  let c0_i32_54 : BitVec 32 := 0#32
  let v54 : BitVec 32 := Scalar.addi v53 c0_i32_54
  v54
def k0_mult5 : BitVec 32 :=
  let c0_i32 : BitVec 32 := 0#32
  let c8448_i32_58 : BitVec 32 := 8448#32
  let v60 : BitVec 32 := Scalar.muli c0_i32 c8448_i32_58
  let c0_i32_59 : BitVec 32 := 0#32
  let v61 : BitVec 32 := Scalar.addi v60 c0_i32_59
  v61
def k0_mult6 : BitVec 32 :=
  let c0_i32 : BitVec 32 := 0#32
  let c8448_i32_63 : BitVec 32 := 8448#32
  let v67 : BitVec 32 := Scalar.muli c0_i32 c8448_i32_63
  let c0_i32_64 : BitVec 32 := 0#32
  let v68 : BitVec 32 := Scalar.addi v67 c0_i32_64
  v68
def k0_mult7 : BitVec 32 :=
  let c0_i32 : BitVec 32 := 0#32
  let c8448_i32_68 : BitVec 32 := 8448#32
  let v74 : BitVec 32 := Scalar.muli c0_i32 c8448_i32_68
  let c0_i32_69 : BitVec 32 := 0#32
  let v75 : BitVec 32 := Scalar.addi v74 c0_i32_69
  v75
def k0_off2 (c0_i32_69 : BitVec 32) : Fin 4 → Nat :=
  let c0_70 : Index := 0#32
  let c0_71 : Index := 0#32
  let c0_72 : Index := 0#32
  let c0_i32 : BitVec 32 := 0#32
  let c8448_i32_68 : BitVec 32 := 8448#32
  let v74 : BitVec 32 := Scalar.muli c0_i32 c8448_i32_68
  let v75 : BitVec 32 := Scalar.addi v74 c0_i32_69
  let v76 : BitVec 32 := v75
  let v77 : Index := Scalar.indexCast v76
  ![0, 0, 0, v77.toNat]
def k0_mult8 : BitVec 32 :=
  let c0_i32 : BitVec 32 := 0#32
  let c8448_i32_75 : BitVec 32 := 8448#32
  let v93 : BitVec 32 := Scalar.muli c0_i32 c8448_i32_75
  let c0_i32_76 : BitVec 32 := 0#32
  let v94 : BitVec 32 := Scalar.addi v93 c0_i32_76
  v94
def k0_mult9 : BitVec 32 :=
  let c0_i32 : BitVec 32 := 0#32
  let c8448_i32_80 : BitVec 32 := 8448#32
  let v100 : BitVec 32 := Scalar.muli c0_i32 c8448_i32_80
  let c0_i32_81 : BitVec 32 := 0#32
  let v101 : BitVec 32 := Scalar.addi v100 c0_i32_81
  v101
def k0_mult10 : BitVec 32 :=
  let c0_i32 : BitVec 32 := 0#32
  let c8448_i32_87 : BitVec 32 := 8448#32
  let v119 : BitVec 32 := Scalar.muli c0_i32 c8448_i32_87
  let c0_i32_88 : BitVec 32 := 0#32
  let v120 : BitVec 32 := Scalar.addi v119 c0_i32_88
  v120
def k0_mult11 : BitVec 32 :=
  let c0_i32 : BitVec 32 := 0#32
  let c8448_i32_92 : BitVec 32 := 8448#32
  let v126 : BitVec 32 := Scalar.muli c0_i32 c8448_i32_92
  let c0_i32_93 : BitVec 32 := 0#32
  let v127 : BitVec 32 := Scalar.addi v126 c0_i32_93
  v127
def k0_mult12 : BitVec 32 :=
  let c0_i32 : BitVec 32 := 0#32
  let c8448_i32_99 : BitVec 32 := 8448#32
  let v145 : BitVec 32 := Scalar.muli c0_i32 c8448_i32_99
  let c256_i32 : BitVec 32 := 256#32
  let v146 : BitVec 32 := Scalar.addi v145 c256_i32
  v146
def k0_mult13 : BitVec 32 :=
  let c0_i32 : BitVec 32 := 0#32
  let c8448_i32_103 : BitVec 32 := 8448#32
  let v152 : BitVec 32 := Scalar.muli c0_i32 c8448_i32_103
  let c0_i32_104 : BitVec 32 := 0#32
  let v153 : BitVec 32 := Scalar.addi v152 c0_i32_104
  v153
def k0_mult14 : BitVec 32 :=
  let c0_i32 : BitVec 32 := 0#32
  let c8448_i32_110 : BitVec 32 := 8448#32
  let v171 : BitVec 32 := Scalar.muli c0_i32 c8448_i32_110
  let c256_i32_111 : BitVec 32 := 256#32
  let v172 : BitVec 32 := Scalar.addi v171 c256_i32_111
  v172
def k0_mult15 : BitVec 32 :=
  let c0_i32 : BitVec 32 := 0#32
  let c8448_i32_115 : BitVec 32 := 8448#32
  let v178 : BitVec 32 := Scalar.muli c0_i32 c8448_i32_115
  let c0_i32_116 : BitVec 32 := 0#32
  let v179 : BitVec 32 := Scalar.addi v178 c0_i32_116
  v179
def k0_off3 (c0_i32_116 : BitVec 32) : Fin 4 → Nat :=
  let c0_117 : Index := 0#32
  let c1_118 : Index := 1#32
  let c0_119 : Index := 0#32
  let c0_i32 : BitVec 32 := 0#32
  let c8448_i32_115 : BitVec 32 := 8448#32
  let v178 : BitVec 32 := Scalar.muli c0_i32 c8448_i32_115
  let v179 : BitVec 32 := Scalar.addi v178 c0_i32_116
  let v180 : BitVec 32 := v179
  let v181 : Index := Scalar.indexCast v180
  ![0, 1, 0, v181.toNat]
def k0_mult16 : BitVec 32 :=
  let c0_i32 : BitVec 32 := 0#32
  let c8448_i32_122 : BitVec 32 := 8448#32
  let v197 : BitVec 32 := Scalar.muli c0_i32 c8448_i32_122
  let c256_i32_123 : BitVec 32 := 256#32
  let v198 : BitVec 32 := Scalar.addi v197 c256_i32_123
  v198
def k0_mult17 : BitVec 32 :=
  let c0_i32 : BitVec 32 := 0#32
  let c8448_i32_127 : BitVec 32 := 8448#32
  let v204 : BitVec 32 := Scalar.muli c0_i32 c8448_i32_127
  let c0_i32_128 : BitVec 32 := 0#32
  let v205 : BitVec 32 := Scalar.addi v204 c0_i32_128
  v205
def k0_mult18 : BitVec 32 :=
  let c0_i32 : BitVec 32 := 0#32
  let c8448_i32_134 : BitVec 32 := 8448#32
  let v223 : BitVec 32 := Scalar.muli c0_i32 c8448_i32_134
  let c256_i32_135 : BitVec 32 := 256#32
  let v224 : BitVec 32 := Scalar.addi v223 c256_i32_135
  v224
def k0_mult19 : BitVec 32 :=
  let c0_i32 : BitVec 32 := 0#32
  let c8448_i32_139 : BitVec 32 := 8448#32
  let v230 : BitVec 32 := Scalar.muli c0_i32 c8448_i32_139
  let c0_i32_140 : BitVec 32 := 0#32
  let v231 : BitVec 32 := Scalar.addi v230 c0_i32_140
  v231
def k0_mult20 : BitVec 32 :=
  let c0_i32 : BitVec 32 := 0#32
  let c8448_i32_146 : BitVec 32 := 8448#32
  let v249 : BitVec 32 := Scalar.muli c0_i32 c8448_i32_146
  let c256_i32_147 : BitVec 32 := 256#32
  let v250 : BitVec 32 := Scalar.addi v249 c256_i32_147
  v250
def k0_mult21 : BitVec 32 :=
  let c0_i32 : BitVec 32 := 0#32
  let c8448_i32_151 : BitVec 32 := 8448#32
  let v256 : BitVec 32 := Scalar.muli c0_i32 c8448_i32_151
  let c0_i32_152 : BitVec 32 := 0#32
  let v257 : BitVec 32 := Scalar.addi v256 c0_i32_152
  v257
def k0_mult22 : BitVec 32 :=
  let c0_i32 : BitVec 32 := 0#32
  let c8448_i32_158 : BitVec 32 := 8448#32
  let v275 : BitVec 32 := Scalar.muli c0_i32 c8448_i32_158
  let c256_i32_159 : BitVec 32 := 256#32
  let v276 : BitVec 32 := Scalar.addi v275 c256_i32_159
  v276
def k0_mult23 : BitVec 32 :=
  let c0_i32 : BitVec 32 := 0#32
  let c8448_i32_163 : BitVec 32 := 8448#32
  let v282 : BitVec 32 := Scalar.muli c0_i32 c8448_i32_163
  let c256_i32_164 : BitVec 32 := 256#32
  let v283 : BitVec 32 := Scalar.addi v282 c256_i32_164
  v283
def k0_mult24 : BitVec 32 :=
  let c0_i32 : BitVec 32 := 0#32
  let c8448_i32_170 : BitVec 32 := 8448#32
  let v301 : BitVec 32 := Scalar.muli c0_i32 c8448_i32_170
  let c256_i32_171 : BitVec 32 := 256#32
  let v302 : BitVec 32 := Scalar.addi v301 c256_i32_171
  v302
def k0_mult25 : BitVec 32 :=
  let c0_i32 : BitVec 32 := 0#32
  let c8448_i32_175 : BitVec 32 := 8448#32
  let v308 : BitVec 32 := Scalar.muli c0_i32 c8448_i32_175
  let c256_i32_176 : BitVec 32 := 256#32
  let v309 : BitVec 32 := Scalar.addi v308 c256_i32_176
  v309
def k0_mult26 : BitVec 32 :=
  let c0_i32 : BitVec 32 := 0#32
  let c8448_i32_182 : BitVec 32 := 8448#32
  let v327 : BitVec 32 := Scalar.muli c0_i32 c8448_i32_182
  let c256_i32_183 : BitVec 32 := 256#32
  let v328 : BitVec 32 := Scalar.addi v327 c256_i32_183
  v328
def k0_mult27 : BitVec 32 :=
  let c0_i32 : BitVec 32 := 0#32
  let c8448_i32_187 : BitVec 32 := 8448#32
  let v334 : BitVec 32 := Scalar.muli c0_i32 c8448_i32_187
  let c256_i32_188 : BitVec 32 := 256#32
  let v335 : BitVec 32 := Scalar.addi v334 c256_i32_188
  v335
def k0_mult28 : BitVec 32 :=
  let c0_i32 : BitVec 32 := 0#32
  let c8448_i32_194 : BitVec 32 := 8448#32
  let v353 : BitVec 32 := Scalar.muli c0_i32 c8448_i32_194
  let c512_i32 : BitVec 32 := 512#32
  let v354 : BitVec 32 := Scalar.addi v353 c512_i32
  v354
def k0_mult29 : BitVec 32 :=
  let c0_i32 : BitVec 32 := 0#32
  let c8448_i32_198 : BitVec 32 := 8448#32
  let v360 : BitVec 32 := Scalar.muli c0_i32 c8448_i32_198
  let c256_i32_199 : BitVec 32 := 256#32
  let v361 : BitVec 32 := Scalar.addi v360 c256_i32_199
  v361
def k0_mult30 : BitVec 32 :=
  let c0_i32 : BitVec 32 := 0#32
  let c8448_i32_205 : BitVec 32 := 8448#32
  let v379 : BitVec 32 := Scalar.muli c0_i32 c8448_i32_205
  let c512_i32_206 : BitVec 32 := 512#32
  let v380 : BitVec 32 := Scalar.addi v379 c512_i32_206
  v380
def k0_mult31 : BitVec 32 :=
  let c0_i32 : BitVec 32 := 0#32
  let c8448_i32_210 : BitVec 32 := 8448#32
  let v386 : BitVec 32 := Scalar.muli c0_i32 c8448_i32_210
  let c256_i32_211 : BitVec 32 := 256#32
  let v387 : BitVec 32 := Scalar.addi v386 c256_i32_211
  v387
def k0_mult32 : BitVec 32 :=
  let c0_i32 : BitVec 32 := 0#32
  let c8448_i32_217 : BitVec 32 := 8448#32
  let v405 : BitVec 32 := Scalar.muli c0_i32 c8448_i32_217
  let c512_i32_218 : BitVec 32 := 512#32
  let v406 : BitVec 32 := Scalar.addi v405 c512_i32_218
  v406
def k0_mult33 : BitVec 32 :=
  let c0_i32 : BitVec 32 := 0#32
  let c8448_i32_222 : BitVec 32 := 8448#32
  let v412 : BitVec 32 := Scalar.muli c0_i32 c8448_i32_222
  let c256_i32_223 : BitVec 32 := 256#32
  let v413 : BitVec 32 := Scalar.addi v412 c256_i32_223
  v413
def k0_mult34 : BitVec 32 :=
  let c0_i32 : BitVec 32 := 0#32
  let c8448_i32_229 : BitVec 32 := 8448#32
  let v431 : BitVec 32 := Scalar.muli c0_i32 c8448_i32_229
  let c512_i32_230 : BitVec 32 := 512#32
  let v432 : BitVec 32 := Scalar.addi v431 c512_i32_230
  v432
def k0_mult35 : BitVec 32 :=
  let c0_i32 : BitVec 32 := 0#32
  let c8448_i32_234 : BitVec 32 := 8448#32
  let v438 : BitVec 32 := Scalar.muli c0_i32 c8448_i32_234
  let c256_i32_235 : BitVec 32 := 256#32
  let v439 : BitVec 32 := Scalar.addi v438 c256_i32_235
  v439
def k0_mult36 : BitVec 32 :=
  let c0_i32 : BitVec 32 := 0#32
  let c8448_i32_241 : BitVec 32 := 8448#32
  let v457 : BitVec 32 := Scalar.muli c0_i32 c8448_i32_241
  let c512_i32_242 : BitVec 32 := 512#32
  let v458 : BitVec 32 := Scalar.addi v457 c512_i32_242
  v458
def k0_mult37 : BitVec 32 :=
  let c0_i32 : BitVec 32 := 0#32
  let c8448_i32_246 : BitVec 32 := 8448#32
  let v464 : BitVec 32 := Scalar.muli c0_i32 c8448_i32_246
  let c256_i32_247 : BitVec 32 := 256#32
  let v465 : BitVec 32 := Scalar.addi v464 c256_i32_247
  v465
def k0_mult38 : BitVec 32 :=
  let c0_i32 : BitVec 32 := 0#32
  let c8448_i32_253 : BitVec 32 := 8448#32
  let v483 : BitVec 32 := Scalar.muli c0_i32 c8448_i32_253
  let c512_i32_254 : BitVec 32 := 512#32
  let v484 : BitVec 32 := Scalar.addi v483 c512_i32_254
  v484
def k0_mult39 : BitVec 32 :=
  let c0_i32 : BitVec 32 := 0#32
  let c8448_i32_258 : BitVec 32 := 8448#32
  let v490 : BitVec 32 := Scalar.muli c0_i32 c8448_i32_258
  let c512_i32_259 : BitVec 32 := 512#32
  let v491 : BitVec 32 := Scalar.addi v490 c512_i32_259
  v491
def k0_mult40 : BitVec 32 :=
  let c0_i32 : BitVec 32 := 0#32
  let c8448_i32_265 : BitVec 32 := 8448#32
  let v509 : BitVec 32 := Scalar.muli c0_i32 c8448_i32_265
  let c512_i32_266 : BitVec 32 := 512#32
  let v510 : BitVec 32 := Scalar.addi v509 c512_i32_266
  v510
def k0_mult41 : BitVec 32 :=
  let c0_i32 : BitVec 32 := 0#32
  let c8448_i32_270 : BitVec 32 := 8448#32
  let v516 : BitVec 32 := Scalar.muli c0_i32 c8448_i32_270
  let c512_i32_271 : BitVec 32 := 512#32
  let v517 : BitVec 32 := Scalar.addi v516 c512_i32_271
  v517
def k0_mult42 : BitVec 32 :=
  let c0_i32 : BitVec 32 := 0#32
  let c8448_i32_277 : BitVec 32 := 8448#32
  let v535 : BitVec 32 := Scalar.muli c0_i32 c8448_i32_277
  let c512_i32_278 : BitVec 32 := 512#32
  let v536 : BitVec 32 := Scalar.addi v535 c512_i32_278
  v536
def k0_mult43 : BitVec 32 :=
  let c0_i32 : BitVec 32 := 0#32
  let c8448_i32_282 : BitVec 32 := 8448#32
  let v542 : BitVec 32 := Scalar.muli c0_i32 c8448_i32_282
  let c512_i32_283 : BitVec 32 := 512#32
  let v543 : BitVec 32 := Scalar.addi v542 c512_i32_283
  v543
def k0_mult44 : BitVec 32 :=
  let c0_i32 : BitVec 32 := 0#32
  let c8448_i32_289 : BitVec 32 := 8448#32
  let v561 : BitVec 32 := Scalar.muli c0_i32 c8448_i32_289
  let c768_i32 : BitVec 32 := 768#32
  let v562 : BitVec 32 := Scalar.addi v561 c768_i32
  v562
def k0_mult45 : BitVec 32 :=
  let c0_i32 : BitVec 32 := 0#32
  let c8448_i32_293 : BitVec 32 := 8448#32
  let v568 : BitVec 32 := Scalar.muli c0_i32 c8448_i32_293
  let c512_i32_294 : BitVec 32 := 512#32
  let v569 : BitVec 32 := Scalar.addi v568 c512_i32_294
  v569
def k0_mult46 : BitVec 32 :=
  let c0_i32 : BitVec 32 := 0#32
  let c8448_i32_300 : BitVec 32 := 8448#32
  let v587 : BitVec 32 := Scalar.muli c0_i32 c8448_i32_300
  let c768_i32_301 : BitVec 32 := 768#32
  let v588 : BitVec 32 := Scalar.addi v587 c768_i32_301
  v588
def k0_mult47 : BitVec 32 :=
  let c0_i32 : BitVec 32 := 0#32
  let c8448_i32_305 : BitVec 32 := 8448#32
  let v594 : BitVec 32 := Scalar.muli c0_i32 c8448_i32_305
  let c512_i32_306 : BitVec 32 := 512#32
  let v595 : BitVec 32 := Scalar.addi v594 c512_i32_306
  v595
def k0_mult48 : BitVec 32 :=
  let c0_i32 : BitVec 32 := 0#32
  let c8448_i32_312 : BitVec 32 := 8448#32
  let v613 : BitVec 32 := Scalar.muli c0_i32 c8448_i32_312
  let c768_i32_313 : BitVec 32 := 768#32
  let v614 : BitVec 32 := Scalar.addi v613 c768_i32_313
  v614
def k0_mult49 : BitVec 32 :=
  let c0_i32 : BitVec 32 := 0#32
  let c8448_i32_317 : BitVec 32 := 8448#32
  let v620 : BitVec 32 := Scalar.muli c0_i32 c8448_i32_317
  let c512_i32_318 : BitVec 32 := 512#32
  let v621 : BitVec 32 := Scalar.addi v620 c512_i32_318
  v621
def k0_mult50 : BitVec 32 :=
  let c0_i32 : BitVec 32 := 0#32
  let c8448_i32_324 : BitVec 32 := 8448#32
  let v639 : BitVec 32 := Scalar.muli c0_i32 c8448_i32_324
  let c768_i32_325 : BitVec 32 := 768#32
  let v640 : BitVec 32 := Scalar.addi v639 c768_i32_325
  v640
def k0_mult51 : BitVec 32 :=
  let c0_i32 : BitVec 32 := 0#32
  let c8448_i32_329 : BitVec 32 := 8448#32
  let v646 : BitVec 32 := Scalar.muli c0_i32 c8448_i32_329
  let c512_i32_330 : BitVec 32 := 512#32
  let v647 : BitVec 32 := Scalar.addi v646 c512_i32_330
  v647
def k0_mult52 : BitVec 32 :=
  let c0_i32 : BitVec 32 := 0#32
  let c8448_i32_336 : BitVec 32 := 8448#32
  let v665 : BitVec 32 := Scalar.muli c0_i32 c8448_i32_336
  let c768_i32_337 : BitVec 32 := 768#32
  let v666 : BitVec 32 := Scalar.addi v665 c768_i32_337
  v666
def k0_mult53 : BitVec 32 :=
  let c0_i32 : BitVec 32 := 0#32
  let c8448_i32_341 : BitVec 32 := 8448#32
  let v672 : BitVec 32 := Scalar.muli c0_i32 c8448_i32_341
  let c512_i32_342 : BitVec 32 := 512#32
  let v673 : BitVec 32 := Scalar.addi v672 c512_i32_342
  v673
def k0_mult54 : BitVec 32 :=
  let c0_i32 : BitVec 32 := 0#32
  let c8448_i32_348 : BitVec 32 := 8448#32
  let v691 : BitVec 32 := Scalar.muli c0_i32 c8448_i32_348
  let c768_i32_349 : BitVec 32 := 768#32
  let v692 : BitVec 32 := Scalar.addi v691 c768_i32_349
  v692
def k0_mult55 : BitVec 32 :=
  let c0_i32 : BitVec 32 := 0#32
  let c8448_i32_353 : BitVec 32 := 8448#32
  let v698 : BitVec 32 := Scalar.muli c0_i32 c8448_i32_353
  let c768_i32_354 : BitVec 32 := 768#32
  let v699 : BitVec 32 := Scalar.addi v698 c768_i32_354
  v699
def k0_mult56 : BitVec 32 :=
  let c0_i32 : BitVec 32 := 0#32
  let c8448_i32_360 : BitVec 32 := 8448#32
  let v717 : BitVec 32 := Scalar.muli c0_i32 c8448_i32_360
  let c768_i32_361 : BitVec 32 := 768#32
  let v718 : BitVec 32 := Scalar.addi v717 c768_i32_361
  v718
def k0_mult57 : BitVec 32 :=
  let c0_i32 : BitVec 32 := 0#32
  let c8448_i32_365 : BitVec 32 := 8448#32
  let v724 : BitVec 32 := Scalar.muli c0_i32 c8448_i32_365
  let c768_i32_366 : BitVec 32 := 768#32
  let v725 : BitVec 32 := Scalar.addi v724 c768_i32_366
  v725
def k0_mult58 : BitVec 32 :=
  let c0_i32 : BitVec 32 := 0#32
  let c8448_i32_372 : BitVec 32 := 8448#32
  let v743 : BitVec 32 := Scalar.muli c0_i32 c8448_i32_372
  let c768_i32_373 : BitVec 32 := 768#32
  let v744 : BitVec 32 := Scalar.addi v743 c768_i32_373
  v744
def k0_mult59 : BitVec 32 :=
  let c0_i32 : BitVec 32 := 0#32
  let c8448_i32_377 : BitVec 32 := 8448#32
  let v750 : BitVec 32 := Scalar.muli c0_i32 c8448_i32_377
  let c768_i32_378 : BitVec 32 := 768#32
  let v751 : BitVec 32 := Scalar.addi v750 c768_i32_378
  v751
def k0_mult60 : BitVec 32 :=
  let c0_i32 : BitVec 32 := 0#32
  let c8448_i32_384 : BitVec 32 := 8448#32
  let v769 : BitVec 32 := Scalar.muli c0_i32 c8448_i32_384
  let c1024_i32 : BitVec 32 := 1024#32
  let v770 : BitVec 32 := Scalar.addi v769 c1024_i32
  v770
def k0_mult61 : BitVec 32 :=
  let c0_i32 : BitVec 32 := 0#32
  let c8448_i32_388 : BitVec 32 := 8448#32
  let v776 : BitVec 32 := Scalar.muli c0_i32 c8448_i32_388
  let c768_i32_389 : BitVec 32 := 768#32
  let v777 : BitVec 32 := Scalar.addi v776 c768_i32_389
  v777
def k0_mult62 : BitVec 32 :=
  let c0_i32 : BitVec 32 := 0#32
  let c8448_i32_395 : BitVec 32 := 8448#32
  let v795 : BitVec 32 := Scalar.muli c0_i32 c8448_i32_395
  let c1024_i32_396 : BitVec 32 := 1024#32
  let v796 : BitVec 32 := Scalar.addi v795 c1024_i32_396
  v796
def k0_mult63 : BitVec 32 :=
  let c0_i32 : BitVec 32 := 0#32
  let c8448_i32_400 : BitVec 32 := 8448#32
  let v802 : BitVec 32 := Scalar.muli c0_i32 c8448_i32_400
  let c768_i32_401 : BitVec 32 := 768#32
  let v803 : BitVec 32 := Scalar.addi v802 c768_i32_401
  v803
def k0_mult64 : BitVec 32 :=
  let c0_i32 : BitVec 32 := 0#32
  let c8448_i32_407 : BitVec 32 := 8448#32
  let v821 : BitVec 32 := Scalar.muli c0_i32 c8448_i32_407
  let c1024_i32_408 : BitVec 32 := 1024#32
  let v822 : BitVec 32 := Scalar.addi v821 c1024_i32_408
  v822
def k0_mult65 : BitVec 32 :=
  let c0_i32 : BitVec 32 := 0#32
  let c8448_i32_412 : BitVec 32 := 8448#32
  let v828 : BitVec 32 := Scalar.muli c0_i32 c8448_i32_412
  let c768_i32_413 : BitVec 32 := 768#32
  let v829 : BitVec 32 := Scalar.addi v828 c768_i32_413
  v829
def k0_mult66 : BitVec 32 :=
  let c0_i32 : BitVec 32 := 0#32
  let c8448_i32_419 : BitVec 32 := 8448#32
  let v847 : BitVec 32 := Scalar.muli c0_i32 c8448_i32_419
  let c1024_i32_420 : BitVec 32 := 1024#32
  let v848 : BitVec 32 := Scalar.addi v847 c1024_i32_420
  v848
def k0_mult67 : BitVec 32 :=
  let c0_i32 : BitVec 32 := 0#32
  let c8448_i32_424 : BitVec 32 := 8448#32
  let v854 : BitVec 32 := Scalar.muli c0_i32 c8448_i32_424
  let c768_i32_425 : BitVec 32 := 768#32
  let v855 : BitVec 32 := Scalar.addi v854 c768_i32_425
  v855
def k0_mult68 : BitVec 32 :=
  let c0_i32 : BitVec 32 := 0#32
  let c8448_i32_431 : BitVec 32 := 8448#32
  let v873 : BitVec 32 := Scalar.muli c0_i32 c8448_i32_431
  let c1024_i32_432 : BitVec 32 := 1024#32
  let v874 : BitVec 32 := Scalar.addi v873 c1024_i32_432
  v874
def k0_mult69 : BitVec 32 :=
  let c0_i32 : BitVec 32 := 0#32
  let c8448_i32_436 : BitVec 32 := 8448#32
  let v880 : BitVec 32 := Scalar.muli c0_i32 c8448_i32_436
  let c768_i32_437 : BitVec 32 := 768#32
  let v881 : BitVec 32 := Scalar.addi v880 c768_i32_437
  v881
def k0_mult70 : BitVec 32 :=
  let c0_i32 : BitVec 32 := 0#32
  let c8448_i32_443 : BitVec 32 := 8448#32
  let v899 : BitVec 32 := Scalar.muli c0_i32 c8448_i32_443
  let c1024_i32_444 : BitVec 32 := 1024#32
  let v900 : BitVec 32 := Scalar.addi v899 c1024_i32_444
  v900
def k0_mult71 : BitVec 32 :=
  let c0_i32 : BitVec 32 := 0#32
  let c8448_i32_448 : BitVec 32 := 8448#32
  let v906 : BitVec 32 := Scalar.muli c0_i32 c8448_i32_448
  let c1024_i32_449 : BitVec 32 := 1024#32
  let v907 : BitVec 32 := Scalar.addi v906 c1024_i32_449
  v907
def k0_mult72 : BitVec 32 :=
  let c0_i32 : BitVec 32 := 0#32
  let c8448_i32_455 : BitVec 32 := 8448#32
  let v925 : BitVec 32 := Scalar.muli c0_i32 c8448_i32_455
  let c1024_i32_456 : BitVec 32 := 1024#32
  let v926 : BitVec 32 := Scalar.addi v925 c1024_i32_456
  v926
def k0_mult73 : BitVec 32 :=
  let c0_i32 : BitVec 32 := 0#32
  let c8448_i32_460 : BitVec 32 := 8448#32
  let v932 : BitVec 32 := Scalar.muli c0_i32 c8448_i32_460
  let c1024_i32_461 : BitVec 32 := 1024#32
  let v933 : BitVec 32 := Scalar.addi v932 c1024_i32_461
  v933
def k0_mult74 : BitVec 32 :=
  let c0_i32 : BitVec 32 := 0#32
  let c8448_i32_467 : BitVec 32 := 8448#32
  let v951 : BitVec 32 := Scalar.muli c0_i32 c8448_i32_467
  let c1024_i32_468 : BitVec 32 := 1024#32
  let v952 : BitVec 32 := Scalar.addi v951 c1024_i32_468
  v952
def k0_mult75 : BitVec 32 :=
  let c0_i32 : BitVec 32 := 0#32
  let c8448_i32_472 : BitVec 32 := 8448#32
  let v958 : BitVec 32 := Scalar.muli c0_i32 c8448_i32_472
  let c1024_i32_473 : BitVec 32 := 1024#32
  let v959 : BitVec 32 := Scalar.addi v958 c1024_i32_473
  v959
def k0_mult76 : BitVec 32 :=
  let c0_i32 : BitVec 32 := 0#32
  let c8448_i32_479 : BitVec 32 := 8448#32
  let v977 : BitVec 32 := Scalar.muli c0_i32 c8448_i32_479
  let c1280_i32 : BitVec 32 := 1280#32
  let v978 : BitVec 32 := Scalar.addi v977 c1280_i32
  v978
def k0_mult77 : BitVec 32 :=
  let c0_i32 : BitVec 32 := 0#32
  let c8448_i32_483 : BitVec 32 := 8448#32
  let v984 : BitVec 32 := Scalar.muli c0_i32 c8448_i32_483
  let c1024_i32_484 : BitVec 32 := 1024#32
  let v985 : BitVec 32 := Scalar.addi v984 c1024_i32_484
  v985
def k0_mult78 : BitVec 32 :=
  let c0_i32 : BitVec 32 := 0#32
  let c8448_i32_490 : BitVec 32 := 8448#32
  let v1003 : BitVec 32 := Scalar.muli c0_i32 c8448_i32_490
  let c1280_i32_491 : BitVec 32 := 1280#32
  let v1004 : BitVec 32 := Scalar.addi v1003 c1280_i32_491
  v1004
def k0_mult79 : BitVec 32 :=
  let c0_i32 : BitVec 32 := 0#32
  let c8448_i32_495 : BitVec 32 := 8448#32
  let v1010 : BitVec 32 := Scalar.muli c0_i32 c8448_i32_495
  let c1024_i32_496 : BitVec 32 := 1024#32
  let v1011 : BitVec 32 := Scalar.addi v1010 c1024_i32_496
  v1011
def k0_mult80 : BitVec 32 :=
  let c0_i32 : BitVec 32 := 0#32
  let c8448_i32_502 : BitVec 32 := 8448#32
  let v1029 : BitVec 32 := Scalar.muli c0_i32 c8448_i32_502
  let c1280_i32_503 : BitVec 32 := 1280#32
  let v1030 : BitVec 32 := Scalar.addi v1029 c1280_i32_503
  v1030
def k0_mult81 : BitVec 32 :=
  let c0_i32 : BitVec 32 := 0#32
  let c8448_i32_507 : BitVec 32 := 8448#32
  let v1036 : BitVec 32 := Scalar.muli c0_i32 c8448_i32_507
  let c1024_i32_508 : BitVec 32 := 1024#32
  let v1037 : BitVec 32 := Scalar.addi v1036 c1024_i32_508
  v1037
def k0_mult82 : BitVec 32 :=
  let c0_i32 : BitVec 32 := 0#32
  let c8448_i32_514 : BitVec 32 := 8448#32
  let v1055 : BitVec 32 := Scalar.muli c0_i32 c8448_i32_514
  let c1280_i32_515 : BitVec 32 := 1280#32
  let v1056 : BitVec 32 := Scalar.addi v1055 c1280_i32_515
  v1056
def k0_mult83 : BitVec 32 :=
  let c0_i32 : BitVec 32 := 0#32
  let c8448_i32_519 : BitVec 32 := 8448#32
  let v1062 : BitVec 32 := Scalar.muli c0_i32 c8448_i32_519
  let c1024_i32_520 : BitVec 32 := 1024#32
  let v1063 : BitVec 32 := Scalar.addi v1062 c1024_i32_520
  v1063
def k0_mult84 : BitVec 32 :=
  let c0_i32 : BitVec 32 := 0#32
  let c8448_i32_526 : BitVec 32 := 8448#32
  let v1081 : BitVec 32 := Scalar.muli c0_i32 c8448_i32_526
  let c1280_i32_527 : BitVec 32 := 1280#32
  let v1082 : BitVec 32 := Scalar.addi v1081 c1280_i32_527
  v1082
def k0_mult85 : BitVec 32 :=
  let c0_i32 : BitVec 32 := 0#32
  let c8448_i32_531 : BitVec 32 := 8448#32
  let v1088 : BitVec 32 := Scalar.muli c0_i32 c8448_i32_531
  let c1024_i32_532 : BitVec 32 := 1024#32
  let v1089 : BitVec 32 := Scalar.addi v1088 c1024_i32_532
  v1089
def k0_mult86 : BitVec 32 :=
  let c0_i32 : BitVec 32 := 0#32
  let c8448_i32_538 : BitVec 32 := 8448#32
  let v1107 : BitVec 32 := Scalar.muli c0_i32 c8448_i32_538
  let c1280_i32_539 : BitVec 32 := 1280#32
  let v1108 : BitVec 32 := Scalar.addi v1107 c1280_i32_539
  v1108
def k0_mult87 : BitVec 32 :=
  let c0_i32 : BitVec 32 := 0#32
  let c8448_i32_543 : BitVec 32 := 8448#32
  let v1114 : BitVec 32 := Scalar.muli c0_i32 c8448_i32_543
  let c1280_i32_544 : BitVec 32 := 1280#32
  let v1115 : BitVec 32 := Scalar.addi v1114 c1280_i32_544
  v1115
def k0_mult88 : BitVec 32 :=
  let c0_i32 : BitVec 32 := 0#32
  let c8448_i32_550 : BitVec 32 := 8448#32
  let v1133 : BitVec 32 := Scalar.muli c0_i32 c8448_i32_550
  let c1280_i32_551 : BitVec 32 := 1280#32
  let v1134 : BitVec 32 := Scalar.addi v1133 c1280_i32_551
  v1134
def k0_mult89 : BitVec 32 :=
  let c0_i32 : BitVec 32 := 0#32
  let c8448_i32_555 : BitVec 32 := 8448#32
  let v1140 : BitVec 32 := Scalar.muli c0_i32 c8448_i32_555
  let c1280_i32_556 : BitVec 32 := 1280#32
  let v1141 : BitVec 32 := Scalar.addi v1140 c1280_i32_556
  v1141
def k0_mult90 : BitVec 32 :=
  let c0_i32 : BitVec 32 := 0#32
  let c8448_i32_562 : BitVec 32 := 8448#32
  let v1159 : BitVec 32 := Scalar.muli c0_i32 c8448_i32_562
  let c1280_i32_563 : BitVec 32 := 1280#32
  let v1160 : BitVec 32 := Scalar.addi v1159 c1280_i32_563
  v1160
def k0_mult91 : BitVec 32 :=
  let c0_i32 : BitVec 32 := 0#32
  let c8448_i32_567 : BitVec 32 := 8448#32
  let v1166 : BitVec 32 := Scalar.muli c0_i32 c8448_i32_567
  let c1280_i32_568 : BitVec 32 := 1280#32
  let v1167 : BitVec 32 := Scalar.addi v1166 c1280_i32_568
  v1167
def k0_mult92 : BitVec 32 :=
  let c0_i32 : BitVec 32 := 0#32
  let c8448_i32_574 : BitVec 32 := 8448#32
  let v1185 : BitVec 32 := Scalar.muli c0_i32 c8448_i32_574
  let c1536_i32 : BitVec 32 := 1536#32
  let v1186 : BitVec 32 := Scalar.addi v1185 c1536_i32
  v1186
def k0_mult93 : BitVec 32 :=
  let c0_i32 : BitVec 32 := 0#32
  let c8448_i32_578 : BitVec 32 := 8448#32
  let v1192 : BitVec 32 := Scalar.muli c0_i32 c8448_i32_578
  let c1280_i32_579 : BitVec 32 := 1280#32
  let v1193 : BitVec 32 := Scalar.addi v1192 c1280_i32_579
  v1193
def k0_mult94 : BitVec 32 :=
  let c0_i32 : BitVec 32 := 0#32
  let c8448_i32_585 : BitVec 32 := 8448#32
  let v1211 : BitVec 32 := Scalar.muli c0_i32 c8448_i32_585
  let c1536_i32_586 : BitVec 32 := 1536#32
  let v1212 : BitVec 32 := Scalar.addi v1211 c1536_i32_586
  v1212
def k0_mult95 : BitVec 32 :=
  let c0_i32 : BitVec 32 := 0#32
  let c8448_i32_590 : BitVec 32 := 8448#32
  let v1218 : BitVec 32 := Scalar.muli c0_i32 c8448_i32_590
  let c1280_i32_591 : BitVec 32 := 1280#32
  let v1219 : BitVec 32 := Scalar.addi v1218 c1280_i32_591
  v1219
def k0_mult96 : BitVec 32 :=
  let c0_i32 : BitVec 32 := 0#32
  let c8448_i32_597 : BitVec 32 := 8448#32
  let v1237 : BitVec 32 := Scalar.muli c0_i32 c8448_i32_597
  let c1536_i32_598 : BitVec 32 := 1536#32
  let v1238 : BitVec 32 := Scalar.addi v1237 c1536_i32_598
  v1238
def k0_mult97 : BitVec 32 :=
  let c0_i32 : BitVec 32 := 0#32
  let c8448_i32_602 : BitVec 32 := 8448#32
  let v1244 : BitVec 32 := Scalar.muli c0_i32 c8448_i32_602
  let c1280_i32_603 : BitVec 32 := 1280#32
  let v1245 : BitVec 32 := Scalar.addi v1244 c1280_i32_603
  v1245
def k0_mult98 : BitVec 32 :=
  let c0_i32 : BitVec 32 := 0#32
  let c8448_i32_609 : BitVec 32 := 8448#32
  let v1263 : BitVec 32 := Scalar.muli c0_i32 c8448_i32_609
  let c1536_i32_610 : BitVec 32 := 1536#32
  let v1264 : BitVec 32 := Scalar.addi v1263 c1536_i32_610
  v1264
def k0_mult99 : BitVec 32 :=
  let c0_i32 : BitVec 32 := 0#32
  let c8448_i32_614 : BitVec 32 := 8448#32
  let v1270 : BitVec 32 := Scalar.muli c0_i32 c8448_i32_614
  let c1280_i32_615 : BitVec 32 := 1280#32
  let v1271 : BitVec 32 := Scalar.addi v1270 c1280_i32_615
  v1271
def k0_mult100 : BitVec 32 :=
  let c0_i32 : BitVec 32 := 0#32
  let c8448_i32_621 : BitVec 32 := 8448#32
  let v1289 : BitVec 32 := Scalar.muli c0_i32 c8448_i32_621
  let c1536_i32_622 : BitVec 32 := 1536#32
  let v1290 : BitVec 32 := Scalar.addi v1289 c1536_i32_622
  v1290
def k0_mult101 : BitVec 32 :=
  let c0_i32 : BitVec 32 := 0#32
  let c8448_i32_626 : BitVec 32 := 8448#32
  let v1296 : BitVec 32 := Scalar.muli c0_i32 c8448_i32_626
  let c1280_i32_627 : BitVec 32 := 1280#32
  let v1297 : BitVec 32 := Scalar.addi v1296 c1280_i32_627
  v1297
def k0_mult102 : BitVec 32 :=
  let c0_i32 : BitVec 32 := 0#32
  let c8448_i32_633 : BitVec 32 := 8448#32
  let v1315 : BitVec 32 := Scalar.muli c0_i32 c8448_i32_633
  let c1536_i32_634 : BitVec 32 := 1536#32
  let v1316 : BitVec 32 := Scalar.addi v1315 c1536_i32_634
  v1316
def k0_mult103 : BitVec 32 :=
  let c0_i32 : BitVec 32 := 0#32
  let c8448_i32_638 : BitVec 32 := 8448#32
  let v1322 : BitVec 32 := Scalar.muli c0_i32 c8448_i32_638
  let c1536_i32_639 : BitVec 32 := 1536#32
  let v1323 : BitVec 32 := Scalar.addi v1322 c1536_i32_639
  v1323
def k0_mult104 : BitVec 32 :=
  let c0_i32 : BitVec 32 := 0#32
  let c8448_i32_645 : BitVec 32 := 8448#32
  let v1341 : BitVec 32 := Scalar.muli c0_i32 c8448_i32_645
  let c1536_i32_646 : BitVec 32 := 1536#32
  let v1342 : BitVec 32 := Scalar.addi v1341 c1536_i32_646
  v1342
def k0_mult105 : BitVec 32 :=
  let c0_i32 : BitVec 32 := 0#32
  let c8448_i32_650 : BitVec 32 := 8448#32
  let v1348 : BitVec 32 := Scalar.muli c0_i32 c8448_i32_650
  let c1536_i32_651 : BitVec 32 := 1536#32
  let v1349 : BitVec 32 := Scalar.addi v1348 c1536_i32_651
  v1349
def k0_mult106 : BitVec 32 :=
  let c0_i32 : BitVec 32 := 0#32
  let c8448_i32_657 : BitVec 32 := 8448#32
  let v1367 : BitVec 32 := Scalar.muli c0_i32 c8448_i32_657
  let c1536_i32_658 : BitVec 32 := 1536#32
  let v1368 : BitVec 32 := Scalar.addi v1367 c1536_i32_658
  v1368
def k0_mult107 : BitVec 32 :=
  let c0_i32 : BitVec 32 := 0#32
  let c8448_i32_662 : BitVec 32 := 8448#32
  let v1374 : BitVec 32 := Scalar.muli c0_i32 c8448_i32_662
  let c1536_i32_663 : BitVec 32 := 1536#32
  let v1375 : BitVec 32 := Scalar.addi v1374 c1536_i32_663
  v1375
def k0_mult108 : BitVec 32 :=
  let c0_i32 : BitVec 32 := 0#32
  let c8448_i32_669 : BitVec 32 := 8448#32
  let v1393 : BitVec 32 := Scalar.muli c0_i32 c8448_i32_669
  let c1792_i32 : BitVec 32 := 1792#32
  let v1394 : BitVec 32 := Scalar.addi v1393 c1792_i32
  v1394
def k0_mult109 : BitVec 32 :=
  let c0_i32 : BitVec 32 := 0#32
  let c8448_i32_673 : BitVec 32 := 8448#32
  let v1400 : BitVec 32 := Scalar.muli c0_i32 c8448_i32_673
  let c1536_i32_674 : BitVec 32 := 1536#32
  let v1401 : BitVec 32 := Scalar.addi v1400 c1536_i32_674
  v1401
def k0_mult110 : BitVec 32 :=
  let c0_i32 : BitVec 32 := 0#32
  let c8448_i32_680 : BitVec 32 := 8448#32
  let v1419 : BitVec 32 := Scalar.muli c0_i32 c8448_i32_680
  let c1792_i32_681 : BitVec 32 := 1792#32
  let v1420 : BitVec 32 := Scalar.addi v1419 c1792_i32_681
  v1420
def k0_mult111 : BitVec 32 :=
  let c0_i32 : BitVec 32 := 0#32
  let c8448_i32_685 : BitVec 32 := 8448#32
  let v1426 : BitVec 32 := Scalar.muli c0_i32 c8448_i32_685
  let c1536_i32_686 : BitVec 32 := 1536#32
  let v1427 : BitVec 32 := Scalar.addi v1426 c1536_i32_686
  v1427
def k0_mult112 : BitVec 32 :=
  let c0_i32 : BitVec 32 := 0#32
  let c8448_i32_692 : BitVec 32 := 8448#32
  let v1445 : BitVec 32 := Scalar.muli c0_i32 c8448_i32_692
  let c1792_i32_693 : BitVec 32 := 1792#32
  let v1446 : BitVec 32 := Scalar.addi v1445 c1792_i32_693
  v1446
def k0_mult113 : BitVec 32 :=
  let c0_i32 : BitVec 32 := 0#32
  let c8448_i32_697 : BitVec 32 := 8448#32
  let v1452 : BitVec 32 := Scalar.muli c0_i32 c8448_i32_697
  let c1536_i32_698 : BitVec 32 := 1536#32
  let v1453 : BitVec 32 := Scalar.addi v1452 c1536_i32_698
  v1453
def k0_mult114 : BitVec 32 :=
  let c0_i32 : BitVec 32 := 0#32
  let c8448_i32_704 : BitVec 32 := 8448#32
  let v1471 : BitVec 32 := Scalar.muli c0_i32 c8448_i32_704
  let c1792_i32_705 : BitVec 32 := 1792#32
  let v1472 : BitVec 32 := Scalar.addi v1471 c1792_i32_705
  v1472
def k0_mult115 : BitVec 32 :=
  let c0_i32 : BitVec 32 := 0#32
  let c8448_i32_709 : BitVec 32 := 8448#32
  let v1478 : BitVec 32 := Scalar.muli c0_i32 c8448_i32_709
  let c1536_i32_710 : BitVec 32 := 1536#32
  let v1479 : BitVec 32 := Scalar.addi v1478 c1536_i32_710
  v1479
def k0_mult116 : BitVec 32 :=
  let c0_i32 : BitVec 32 := 0#32
  let c8448_i32_716 : BitVec 32 := 8448#32
  let v1497 : BitVec 32 := Scalar.muli c0_i32 c8448_i32_716
  let c1792_i32_717 : BitVec 32 := 1792#32
  let v1498 : BitVec 32 := Scalar.addi v1497 c1792_i32_717
  v1498
def k0_mult117 : BitVec 32 :=
  let c0_i32 : BitVec 32 := 0#32
  let c8448_i32_721 : BitVec 32 := 8448#32
  let v1504 : BitVec 32 := Scalar.muli c0_i32 c8448_i32_721
  let c1536_i32_722 : BitVec 32 := 1536#32
  let v1505 : BitVec 32 := Scalar.addi v1504 c1536_i32_722
  v1505
def k0_mult118 : BitVec 32 :=
  let c0_i32 : BitVec 32 := 0#32
  let c8448_i32_728 : BitVec 32 := 8448#32
  let v1523 : BitVec 32 := Scalar.muli c0_i32 c8448_i32_728
  let c1792_i32_729 : BitVec 32 := 1792#32
  let v1524 : BitVec 32 := Scalar.addi v1523 c1792_i32_729
  v1524
def k0_mult119 : BitVec 32 :=
  let c0_i32 : BitVec 32 := 0#32
  let c8448_i32_733 : BitVec 32 := 8448#32
  let v1530 : BitVec 32 := Scalar.muli c0_i32 c8448_i32_733
  let c1792_i32_734 : BitVec 32 := 1792#32
  let v1531 : BitVec 32 := Scalar.addi v1530 c1792_i32_734
  v1531
def k0_mult120 : BitVec 32 :=
  let c0_i32 : BitVec 32 := 0#32
  let c8448_i32_740 : BitVec 32 := 8448#32
  let v1549 : BitVec 32 := Scalar.muli c0_i32 c8448_i32_740
  let c1792_i32_741 : BitVec 32 := 1792#32
  let v1550 : BitVec 32 := Scalar.addi v1549 c1792_i32_741
  v1550
def k0_mult121 : BitVec 32 :=
  let c0_i32 : BitVec 32 := 0#32
  let c8448_i32_745 : BitVec 32 := 8448#32
  let v1556 : BitVec 32 := Scalar.muli c0_i32 c8448_i32_745
  let c1792_i32_746 : BitVec 32 := 1792#32
  let v1557 : BitVec 32 := Scalar.addi v1556 c1792_i32_746
  v1557
def k0_mult122 : BitVec 32 :=
  let c0_i32 : BitVec 32 := 0#32
  let c8448_i32_752 : BitVec 32 := 8448#32
  let v1575 : BitVec 32 := Scalar.muli c0_i32 c8448_i32_752
  let c1792_i32_753 : BitVec 32 := 1792#32
  let v1576 : BitVec 32 := Scalar.addi v1575 c1792_i32_753
  v1576
def k0_mult123 : BitVec 32 :=
  let c0_i32 : BitVec 32 := 0#32
  let c8448_i32_757 : BitVec 32 := 8448#32
  let v1582 : BitVec 32 := Scalar.muli c0_i32 c8448_i32_757
  let c1792_i32_758 : BitVec 32 := 1792#32
  let v1583 : BitVec 32 := Scalar.addi v1582 c1792_i32_758
  v1583
def k0_mult124 : BitVec 32 :=
  let c0_i32 : BitVec 32 := 0#32
  let c8448_i32_764 : BitVec 32 := 8448#32
  let v1601 : BitVec 32 := Scalar.muli c0_i32 c8448_i32_764
  let c2048_i32 : BitVec 32 := 2048#32
  let v1602 : BitVec 32 := Scalar.addi v1601 c2048_i32
  v1602
def k0_mult125 : BitVec 32 :=
  let c0_i32 : BitVec 32 := 0#32
  let c8448_i32_768 : BitVec 32 := 8448#32
  let v1608 : BitVec 32 := Scalar.muli c0_i32 c8448_i32_768
  let c1792_i32_769 : BitVec 32 := 1792#32
  let v1609 : BitVec 32 := Scalar.addi v1608 c1792_i32_769
  v1609
def k0_mult126 : BitVec 32 :=
  let c0_i32 : BitVec 32 := 0#32
  let c8448_i32_775 : BitVec 32 := 8448#32
  let v1627 : BitVec 32 := Scalar.muli c0_i32 c8448_i32_775
  let c2048_i32_776 : BitVec 32 := 2048#32
  let v1628 : BitVec 32 := Scalar.addi v1627 c2048_i32_776
  v1628
def k0_mult127 : BitVec 32 :=
  let c0_i32 : BitVec 32 := 0#32
  let c8448_i32_780 : BitVec 32 := 8448#32
  let v1634 : BitVec 32 := Scalar.muli c0_i32 c8448_i32_780
  let c1792_i32_781 : BitVec 32 := 1792#32
  let v1635 : BitVec 32 := Scalar.addi v1634 c1792_i32_781
  v1635
def k0_mult128 : BitVec 32 :=
  let c0_i32 : BitVec 32 := 0#32
  let c8448_i32_787 : BitVec 32 := 8448#32
  let v1653 : BitVec 32 := Scalar.muli c0_i32 c8448_i32_787
  let c2048_i32_788 : BitVec 32 := 2048#32
  let v1654 : BitVec 32 := Scalar.addi v1653 c2048_i32_788
  v1654
def k0_mult129 : BitVec 32 :=
  let c0_i32 : BitVec 32 := 0#32
  let c8448_i32_792 : BitVec 32 := 8448#32
  let v1660 : BitVec 32 := Scalar.muli c0_i32 c8448_i32_792
  let c1792_i32_793 : BitVec 32 := 1792#32
  let v1661 : BitVec 32 := Scalar.addi v1660 c1792_i32_793
  v1661
def k0_mult130 : BitVec 32 :=
  let c0_i32 : BitVec 32 := 0#32
  let c8448_i32_799 : BitVec 32 := 8448#32
  let v1679 : BitVec 32 := Scalar.muli c0_i32 c8448_i32_799
  let c2048_i32_800 : BitVec 32 := 2048#32
  let v1680 : BitVec 32 := Scalar.addi v1679 c2048_i32_800
  v1680
def k0_mult131 : BitVec 32 :=
  let c0_i32 : BitVec 32 := 0#32
  let c8448_i32_804 : BitVec 32 := 8448#32
  let v1686 : BitVec 32 := Scalar.muli c0_i32 c8448_i32_804
  let c1792_i32_805 : BitVec 32 := 1792#32
  let v1687 : BitVec 32 := Scalar.addi v1686 c1792_i32_805
  v1687
def k0_mult132 : BitVec 32 :=
  let c0_i32 : BitVec 32 := 0#32
  let c8448_i32_811 : BitVec 32 := 8448#32
  let v1705 : BitVec 32 := Scalar.muli c0_i32 c8448_i32_811
  let c2048_i32_812 : BitVec 32 := 2048#32
  let v1706 : BitVec 32 := Scalar.addi v1705 c2048_i32_812
  v1706
def k0_mult133 : BitVec 32 :=
  let c0_i32 : BitVec 32 := 0#32
  let c8448_i32_816 : BitVec 32 := 8448#32
  let v1712 : BitVec 32 := Scalar.muli c0_i32 c8448_i32_816
  let c1792_i32_817 : BitVec 32 := 1792#32
  let v1713 : BitVec 32 := Scalar.addi v1712 c1792_i32_817
  v1713
def k0_mult134 : BitVec 32 :=
  let c0_i32 : BitVec 32 := 0#32
  let c8448_i32_823 : BitVec 32 := 8448#32
  let v1731 : BitVec 32 := Scalar.muli c0_i32 c8448_i32_823
  let c2048_i32_824 : BitVec 32 := 2048#32
  let v1732 : BitVec 32 := Scalar.addi v1731 c2048_i32_824
  v1732
def k0_mult135 : BitVec 32 :=
  let c0_i32 : BitVec 32 := 0#32
  let c8448_i32_828 : BitVec 32 := 8448#32
  let v1738 : BitVec 32 := Scalar.muli c0_i32 c8448_i32_828
  let c2048_i32_829 : BitVec 32 := 2048#32
  let v1739 : BitVec 32 := Scalar.addi v1738 c2048_i32_829
  v1739
def k0_mult136 : BitVec 32 :=
  let c0_i32 : BitVec 32 := 0#32
  let c8448_i32_835 : BitVec 32 := 8448#32
  let v1757 : BitVec 32 := Scalar.muli c0_i32 c8448_i32_835
  let c2048_i32_836 : BitVec 32 := 2048#32
  let v1758 : BitVec 32 := Scalar.addi v1757 c2048_i32_836
  v1758
def k0_mult137 : BitVec 32 :=
  let c0_i32 : BitVec 32 := 0#32
  let c8448_i32_840 : BitVec 32 := 8448#32
  let v1764 : BitVec 32 := Scalar.muli c0_i32 c8448_i32_840
  let c2048_i32_841 : BitVec 32 := 2048#32
  let v1765 : BitVec 32 := Scalar.addi v1764 c2048_i32_841
  v1765
def k0_mult138 : BitVec 32 :=
  let c0_i32 : BitVec 32 := 0#32
  let c8448_i32_847 : BitVec 32 := 8448#32
  let v1783 : BitVec 32 := Scalar.muli c0_i32 c8448_i32_847
  let c2048_i32_848 : BitVec 32 := 2048#32
  let v1784 : BitVec 32 := Scalar.addi v1783 c2048_i32_848
  v1784
def k0_mult139 : BitVec 32 :=
  let c0_i32 : BitVec 32 := 0#32
  let c8448_i32_852 : BitVec 32 := 8448#32
  let v1790 : BitVec 32 := Scalar.muli c0_i32 c8448_i32_852
  let c2048_i32_853 : BitVec 32 := 2048#32
  let v1791 : BitVec 32 := Scalar.addi v1790 c2048_i32_853
  v1791
def k0_mult140 : BitVec 32 :=
  let c0_i32 : BitVec 32 := 0#32
  let c8448_i32_859 : BitVec 32 := 8448#32
  let v1809 : BitVec 32 := Scalar.muli c0_i32 c8448_i32_859
  let c2304_i32 : BitVec 32 := 2304#32
  let v1810 : BitVec 32 := Scalar.addi v1809 c2304_i32
  v1810
def k0_mult141 : BitVec 32 :=
  let c0_i32 : BitVec 32 := 0#32
  let c8448_i32_863 : BitVec 32 := 8448#32
  let v1816 : BitVec 32 := Scalar.muli c0_i32 c8448_i32_863
  let c2048_i32_864 : BitVec 32 := 2048#32
  let v1817 : BitVec 32 := Scalar.addi v1816 c2048_i32_864
  v1817
def k0_mult142 : BitVec 32 :=
  let c0_i32 : BitVec 32 := 0#32
  let c8448_i32_870 : BitVec 32 := 8448#32
  let v1835 : BitVec 32 := Scalar.muli c0_i32 c8448_i32_870
  let c2304_i32_871 : BitVec 32 := 2304#32
  let v1836 : BitVec 32 := Scalar.addi v1835 c2304_i32_871
  v1836
def k0_mult143 : BitVec 32 :=
  let c0_i32 : BitVec 32 := 0#32
  let c8448_i32_875 : BitVec 32 := 8448#32
  let v1842 : BitVec 32 := Scalar.muli c0_i32 c8448_i32_875
  let c2048_i32_876 : BitVec 32 := 2048#32
  let v1843 : BitVec 32 := Scalar.addi v1842 c2048_i32_876
  v1843
def k0_mult144 : BitVec 32 :=
  let c0_i32 : BitVec 32 := 0#32
  let c8448_i32_882 : BitVec 32 := 8448#32
  let v1861 : BitVec 32 := Scalar.muli c0_i32 c8448_i32_882
  let c2304_i32_883 : BitVec 32 := 2304#32
  let v1862 : BitVec 32 := Scalar.addi v1861 c2304_i32_883
  v1862
def k0_mult145 : BitVec 32 :=
  let c0_i32 : BitVec 32 := 0#32
  let c8448_i32_887 : BitVec 32 := 8448#32
  let v1868 : BitVec 32 := Scalar.muli c0_i32 c8448_i32_887
  let c2048_i32_888 : BitVec 32 := 2048#32
  let v1869 : BitVec 32 := Scalar.addi v1868 c2048_i32_888
  v1869
def k0_mult146 : BitVec 32 :=
  let c0_i32 : BitVec 32 := 0#32
  let c8448_i32_894 : BitVec 32 := 8448#32
  let v1887 : BitVec 32 := Scalar.muli c0_i32 c8448_i32_894
  let c2304_i32_895 : BitVec 32 := 2304#32
  let v1888 : BitVec 32 := Scalar.addi v1887 c2304_i32_895
  v1888
def k0_mult147 : BitVec 32 :=
  let c0_i32 : BitVec 32 := 0#32
  let c8448_i32_899 : BitVec 32 := 8448#32
  let v1894 : BitVec 32 := Scalar.muli c0_i32 c8448_i32_899
  let c2048_i32_900 : BitVec 32 := 2048#32
  let v1895 : BitVec 32 := Scalar.addi v1894 c2048_i32_900
  v1895
def k0_mult148 : BitVec 32 :=
  let c0_i32 : BitVec 32 := 0#32
  let c8448_i32_906 : BitVec 32 := 8448#32
  let v1913 : BitVec 32 := Scalar.muli c0_i32 c8448_i32_906
  let c2304_i32_907 : BitVec 32 := 2304#32
  let v1914 : BitVec 32 := Scalar.addi v1913 c2304_i32_907
  v1914
def k0_mult149 : BitVec 32 :=
  let c0_i32 : BitVec 32 := 0#32
  let c8448_i32_911 : BitVec 32 := 8448#32
  let v1920 : BitVec 32 := Scalar.muli c0_i32 c8448_i32_911
  let c2048_i32_912 : BitVec 32 := 2048#32
  let v1921 : BitVec 32 := Scalar.addi v1920 c2048_i32_912
  v1921
def k0_mult150 : BitVec 32 :=
  let c0_i32 : BitVec 32 := 0#32
  let c8448_i32_918 : BitVec 32 := 8448#32
  let v1939 : BitVec 32 := Scalar.muli c0_i32 c8448_i32_918
  let c2304_i32_919 : BitVec 32 := 2304#32
  let v1940 : BitVec 32 := Scalar.addi v1939 c2304_i32_919
  v1940
def k0_mult151 : BitVec 32 :=
  let c0_i32 : BitVec 32 := 0#32
  let c8448_i32_923 : BitVec 32 := 8448#32
  let v1946 : BitVec 32 := Scalar.muli c0_i32 c8448_i32_923
  let c2304_i32_924 : BitVec 32 := 2304#32
  let v1947 : BitVec 32 := Scalar.addi v1946 c2304_i32_924
  v1947
def k0_mult152 : BitVec 32 :=
  let c0_i32 : BitVec 32 := 0#32
  let c8448_i32_930 : BitVec 32 := 8448#32
  let v1965 : BitVec 32 := Scalar.muli c0_i32 c8448_i32_930
  let c2304_i32_931 : BitVec 32 := 2304#32
  let v1966 : BitVec 32 := Scalar.addi v1965 c2304_i32_931
  v1966
def k0_mult153 : BitVec 32 :=
  let c0_i32 : BitVec 32 := 0#32
  let c8448_i32_935 : BitVec 32 := 8448#32
  let v1972 : BitVec 32 := Scalar.muli c0_i32 c8448_i32_935
  let c2304_i32_936 : BitVec 32 := 2304#32
  let v1973 : BitVec 32 := Scalar.addi v1972 c2304_i32_936
  v1973
def k0_mult154 : BitVec 32 :=
  let c0_i32 : BitVec 32 := 0#32
  let c8448_i32_942 : BitVec 32 := 8448#32
  let v1991 : BitVec 32 := Scalar.muli c0_i32 c8448_i32_942
  let c2304_i32_943 : BitVec 32 := 2304#32
  let v1992 : BitVec 32 := Scalar.addi v1991 c2304_i32_943
  v1992
def k0_mult155 : BitVec 32 :=
  let c0_i32 : BitVec 32 := 0#32
  let c8448_i32_947 : BitVec 32 := 8448#32
  let v1998 : BitVec 32 := Scalar.muli c0_i32 c8448_i32_947
  let c2304_i32_948 : BitVec 32 := 2304#32
  let v1999 : BitVec 32 := Scalar.addi v1998 c2304_i32_948
  v1999
def k0_mult156 : BitVec 32 :=
  let c0_i32 : BitVec 32 := 0#32
  let c8448_i32_954 : BitVec 32 := 8448#32
  let v2017 : BitVec 32 := Scalar.muli c0_i32 c8448_i32_954
  let c2560_i32 : BitVec 32 := 2560#32
  let v2018 : BitVec 32 := Scalar.addi v2017 c2560_i32
  v2018
def k0_mult157 : BitVec 32 :=
  let c0_i32 : BitVec 32 := 0#32
  let c8448_i32_958 : BitVec 32 := 8448#32
  let v2024 : BitVec 32 := Scalar.muli c0_i32 c8448_i32_958
  let c2304_i32_959 : BitVec 32 := 2304#32
  let v2025 : BitVec 32 := Scalar.addi v2024 c2304_i32_959
  v2025
def k0_mult158 : BitVec 32 :=
  let c0_i32 : BitVec 32 := 0#32
  let c8448_i32_965 : BitVec 32 := 8448#32
  let v2043 : BitVec 32 := Scalar.muli c0_i32 c8448_i32_965
  let c2560_i32_966 : BitVec 32 := 2560#32
  let v2044 : BitVec 32 := Scalar.addi v2043 c2560_i32_966
  v2044
def k0_mult159 : BitVec 32 :=
  let c0_i32 : BitVec 32 := 0#32
  let c8448_i32_970 : BitVec 32 := 8448#32
  let v2050 : BitVec 32 := Scalar.muli c0_i32 c8448_i32_970
  let c2304_i32_971 : BitVec 32 := 2304#32
  let v2051 : BitVec 32 := Scalar.addi v2050 c2304_i32_971
  v2051
def k0_mult160 : BitVec 32 :=
  let c0_i32 : BitVec 32 := 0#32
  let c8448_i32_977 : BitVec 32 := 8448#32
  let v2069 : BitVec 32 := Scalar.muli c0_i32 c8448_i32_977
  let c2560_i32_978 : BitVec 32 := 2560#32
  let v2070 : BitVec 32 := Scalar.addi v2069 c2560_i32_978
  v2070
def k0_mult161 : BitVec 32 :=
  let c0_i32 : BitVec 32 := 0#32
  let c8448_i32_982 : BitVec 32 := 8448#32
  let v2076 : BitVec 32 := Scalar.muli c0_i32 c8448_i32_982
  let c2304_i32_983 : BitVec 32 := 2304#32
  let v2077 : BitVec 32 := Scalar.addi v2076 c2304_i32_983
  v2077
def k0_mult162 : BitVec 32 :=
  let c0_i32 : BitVec 32 := 0#32
  let c8448_i32_989 : BitVec 32 := 8448#32
  let v2095 : BitVec 32 := Scalar.muli c0_i32 c8448_i32_989
  let c2560_i32_990 : BitVec 32 := 2560#32
  let v2096 : BitVec 32 := Scalar.addi v2095 c2560_i32_990
  v2096
def k0_mult163 : BitVec 32 :=
  let c0_i32 : BitVec 32 := 0#32
  let c8448_i32_994 : BitVec 32 := 8448#32
  let v2102 : BitVec 32 := Scalar.muli c0_i32 c8448_i32_994
  let c2304_i32_995 : BitVec 32 := 2304#32
  let v2103 : BitVec 32 := Scalar.addi v2102 c2304_i32_995
  v2103
def k0_mult164 : BitVec 32 :=
  let c0_i32 : BitVec 32 := 0#32
  let c8448_i32_1001 : BitVec 32 := 8448#32
  let v2121 : BitVec 32 := Scalar.muli c0_i32 c8448_i32_1001
  let c2560_i32_1002 : BitVec 32 := 2560#32
  let v2122 : BitVec 32 := Scalar.addi v2121 c2560_i32_1002
  v2122
def k0_mult165 : BitVec 32 :=
  let c0_i32 : BitVec 32 := 0#32
  let c8448_i32_1006 : BitVec 32 := 8448#32
  let v2128 : BitVec 32 := Scalar.muli c0_i32 c8448_i32_1006
  let c2304_i32_1007 : BitVec 32 := 2304#32
  let v2129 : BitVec 32 := Scalar.addi v2128 c2304_i32_1007
  v2129
def k0_mult166 : BitVec 32 :=
  let c0_i32 : BitVec 32 := 0#32
  let c8448_i32_1013 : BitVec 32 := 8448#32
  let v2147 : BitVec 32 := Scalar.muli c0_i32 c8448_i32_1013
  let c2560_i32_1014 : BitVec 32 := 2560#32
  let v2148 : BitVec 32 := Scalar.addi v2147 c2560_i32_1014
  v2148
def k0_mult167 : BitVec 32 :=
  let c0_i32 : BitVec 32 := 0#32
  let c8448_i32_1018 : BitVec 32 := 8448#32
  let v2154 : BitVec 32 := Scalar.muli c0_i32 c8448_i32_1018
  let c2560_i32_1019 : BitVec 32 := 2560#32
  let v2155 : BitVec 32 := Scalar.addi v2154 c2560_i32_1019
  v2155
def k0_mult168 : BitVec 32 :=
  let c0_i32 : BitVec 32 := 0#32
  let c8448_i32_1025 : BitVec 32 := 8448#32
  let v2173 : BitVec 32 := Scalar.muli c0_i32 c8448_i32_1025
  let c2560_i32_1026 : BitVec 32 := 2560#32
  let v2174 : BitVec 32 := Scalar.addi v2173 c2560_i32_1026
  v2174
def k0_mult169 : BitVec 32 :=
  let c0_i32 : BitVec 32 := 0#32
  let c8448_i32_1030 : BitVec 32 := 8448#32
  let v2180 : BitVec 32 := Scalar.muli c0_i32 c8448_i32_1030
  let c2560_i32_1031 : BitVec 32 := 2560#32
  let v2181 : BitVec 32 := Scalar.addi v2180 c2560_i32_1031
  v2181
def k0_mult170 : BitVec 32 :=
  let c0_i32 : BitVec 32 := 0#32
  let c8448_i32_1037 : BitVec 32 := 8448#32
  let v2199 : BitVec 32 := Scalar.muli c0_i32 c8448_i32_1037
  let c2560_i32_1038 : BitVec 32 := 2560#32
  let v2200 : BitVec 32 := Scalar.addi v2199 c2560_i32_1038
  v2200
def k0_mult171 : BitVec 32 :=
  let c0_i32 : BitVec 32 := 0#32
  let c8448_i32_1042 : BitVec 32 := 8448#32
  let v2206 : BitVec 32 := Scalar.muli c0_i32 c8448_i32_1042
  let c2560_i32_1043 : BitVec 32 := 2560#32
  let v2207 : BitVec 32 := Scalar.addi v2206 c2560_i32_1043
  v2207
def k0_mult172 : BitVec 32 :=
  let c0_i32 : BitVec 32 := 0#32
  let c8448_i32_1049 : BitVec 32 := 8448#32
  let v2225 : BitVec 32 := Scalar.muli c0_i32 c8448_i32_1049
  let c2816_i32 : BitVec 32 := 2816#32
  let v2226 : BitVec 32 := Scalar.addi v2225 c2816_i32
  v2226
def k0_mult173 : BitVec 32 :=
  let c0_i32 : BitVec 32 := 0#32
  let c8448_i32_1053 : BitVec 32 := 8448#32
  let v2232 : BitVec 32 := Scalar.muli c0_i32 c8448_i32_1053
  let c2560_i32_1054 : BitVec 32 := 2560#32
  let v2233 : BitVec 32 := Scalar.addi v2232 c2560_i32_1054
  v2233
def k0_mult174 : BitVec 32 :=
  let c0_i32 : BitVec 32 := 0#32
  let c8448_i32_1060 : BitVec 32 := 8448#32
  let v2251 : BitVec 32 := Scalar.muli c0_i32 c8448_i32_1060
  let c2816_i32_1061 : BitVec 32 := 2816#32
  let v2252 : BitVec 32 := Scalar.addi v2251 c2816_i32_1061
  v2252
def k0_mult175 : BitVec 32 :=
  let c0_i32 : BitVec 32 := 0#32
  let c8448_i32_1065 : BitVec 32 := 8448#32
  let v2258 : BitVec 32 := Scalar.muli c0_i32 c8448_i32_1065
  let c2560_i32_1066 : BitVec 32 := 2560#32
  let v2259 : BitVec 32 := Scalar.addi v2258 c2560_i32_1066
  v2259
def k0_mult176 : BitVec 32 :=
  let c0_i32 : BitVec 32 := 0#32
  let c8448_i32_1072 : BitVec 32 := 8448#32
  let v2277 : BitVec 32 := Scalar.muli c0_i32 c8448_i32_1072
  let c2816_i32_1073 : BitVec 32 := 2816#32
  let v2278 : BitVec 32 := Scalar.addi v2277 c2816_i32_1073
  v2278
def k0_mult177 : BitVec 32 :=
  let c0_i32 : BitVec 32 := 0#32
  let c8448_i32_1077 : BitVec 32 := 8448#32
  let v2284 : BitVec 32 := Scalar.muli c0_i32 c8448_i32_1077
  let c2560_i32_1078 : BitVec 32 := 2560#32
  let v2285 : BitVec 32 := Scalar.addi v2284 c2560_i32_1078
  v2285
def k0_mult178 : BitVec 32 :=
  let c0_i32 : BitVec 32 := 0#32
  let c8448_i32_1084 : BitVec 32 := 8448#32
  let v2303 : BitVec 32 := Scalar.muli c0_i32 c8448_i32_1084
  let c2816_i32_1085 : BitVec 32 := 2816#32
  let v2304 : BitVec 32 := Scalar.addi v2303 c2816_i32_1085
  v2304
def k0_mult179 : BitVec 32 :=
  let c0_i32 : BitVec 32 := 0#32
  let c8448_i32_1089 : BitVec 32 := 8448#32
  let v2310 : BitVec 32 := Scalar.muli c0_i32 c8448_i32_1089
  let c2560_i32_1090 : BitVec 32 := 2560#32
  let v2311 : BitVec 32 := Scalar.addi v2310 c2560_i32_1090
  v2311
def k0_mult180 : BitVec 32 :=
  let c0_i32 : BitVec 32 := 0#32
  let c8448_i32_1096 : BitVec 32 := 8448#32
  let v2329 : BitVec 32 := Scalar.muli c0_i32 c8448_i32_1096
  let c2816_i32_1097 : BitVec 32 := 2816#32
  let v2330 : BitVec 32 := Scalar.addi v2329 c2816_i32_1097
  v2330
def k0_mult181 : BitVec 32 :=
  let c0_i32 : BitVec 32 := 0#32
  let c8448_i32_1101 : BitVec 32 := 8448#32
  let v2336 : BitVec 32 := Scalar.muli c0_i32 c8448_i32_1101
  let c2560_i32_1102 : BitVec 32 := 2560#32
  let v2337 : BitVec 32 := Scalar.addi v2336 c2560_i32_1102
  v2337
def k0_mult182 : BitVec 32 :=
  let c0_i32 : BitVec 32 := 0#32
  let c8448_i32_1108 : BitVec 32 := 8448#32
  let v2355 : BitVec 32 := Scalar.muli c0_i32 c8448_i32_1108
  let c2816_i32_1109 : BitVec 32 := 2816#32
  let v2356 : BitVec 32 := Scalar.addi v2355 c2816_i32_1109
  v2356
def k0_mult183 : BitVec 32 :=
  let c0_i32 : BitVec 32 := 0#32
  let c8448_i32_1113 : BitVec 32 := 8448#32
  let v2362 : BitVec 32 := Scalar.muli c0_i32 c8448_i32_1113
  let c2816_i32_1114 : BitVec 32 := 2816#32
  let v2363 : BitVec 32 := Scalar.addi v2362 c2816_i32_1114
  v2363
def k0_mult184 : BitVec 32 :=
  let c0_i32 : BitVec 32 := 0#32
  let c8448_i32_1120 : BitVec 32 := 8448#32
  let v2381 : BitVec 32 := Scalar.muli c0_i32 c8448_i32_1120
  let c2816_i32_1121 : BitVec 32 := 2816#32
  let v2382 : BitVec 32 := Scalar.addi v2381 c2816_i32_1121
  v2382
def k0_mult185 : BitVec 32 :=
  let c0_i32 : BitVec 32 := 0#32
  let c8448_i32_1125 : BitVec 32 := 8448#32
  let v2388 : BitVec 32 := Scalar.muli c0_i32 c8448_i32_1125
  let c2816_i32_1126 : BitVec 32 := 2816#32
  let v2389 : BitVec 32 := Scalar.addi v2388 c2816_i32_1126
  v2389
def k0_mult186 : BitVec 32 :=
  let c0_i32 : BitVec 32 := 0#32
  let c8448_i32_1132 : BitVec 32 := 8448#32
  let v2407 : BitVec 32 := Scalar.muli c0_i32 c8448_i32_1132
  let c2816_i32_1133 : BitVec 32 := 2816#32
  let v2408 : BitVec 32 := Scalar.addi v2407 c2816_i32_1133
  v2408
def k0_mult187 : BitVec 32 :=
  let c0_i32 : BitVec 32 := 0#32
  let c8448_i32_1137 : BitVec 32 := 8448#32
  let v2414 : BitVec 32 := Scalar.muli c0_i32 c8448_i32_1137
  let c2816_i32_1138 : BitVec 32 := 2816#32
  let v2415 : BitVec 32 := Scalar.addi v2414 c2816_i32_1138
  v2415
def k0_mult188 : BitVec 32 :=
  let c0_i32 : BitVec 32 := 0#32
  let c8448_i32_1144 : BitVec 32 := 8448#32
  let v2433 : BitVec 32 := Scalar.muli c0_i32 c8448_i32_1144
  let c3072_i32 : BitVec 32 := 3072#32
  let v2434 : BitVec 32 := Scalar.addi v2433 c3072_i32
  v2434
def k0_mult189 : BitVec 32 :=
  let c0_i32 : BitVec 32 := 0#32
  let c8448_i32_1148 : BitVec 32 := 8448#32
  let v2440 : BitVec 32 := Scalar.muli c0_i32 c8448_i32_1148
  let c2816_i32_1149 : BitVec 32 := 2816#32
  let v2441 : BitVec 32 := Scalar.addi v2440 c2816_i32_1149
  v2441
def k0_mult190 : BitVec 32 :=
  let c0_i32 : BitVec 32 := 0#32
  let c8448_i32_1155 : BitVec 32 := 8448#32
  let v2459 : BitVec 32 := Scalar.muli c0_i32 c8448_i32_1155
  let c3072_i32_1156 : BitVec 32 := 3072#32
  let v2460 : BitVec 32 := Scalar.addi v2459 c3072_i32_1156
  v2460
def k0_mult191 : BitVec 32 :=
  let c0_i32 : BitVec 32 := 0#32
  let c8448_i32_1160 : BitVec 32 := 8448#32
  let v2466 : BitVec 32 := Scalar.muli c0_i32 c8448_i32_1160
  let c2816_i32_1161 : BitVec 32 := 2816#32
  let v2467 : BitVec 32 := Scalar.addi v2466 c2816_i32_1161
  v2467
def k0_mult192 : BitVec 32 :=
  let c0_i32 : BitVec 32 := 0#32
  let c8448_i32_1167 : BitVec 32 := 8448#32
  let v2485 : BitVec 32 := Scalar.muli c0_i32 c8448_i32_1167
  let c3072_i32_1168 : BitVec 32 := 3072#32
  let v2486 : BitVec 32 := Scalar.addi v2485 c3072_i32_1168
  v2486
def k0_mult193 : BitVec 32 :=
  let c0_i32 : BitVec 32 := 0#32
  let c8448_i32_1172 : BitVec 32 := 8448#32
  let v2492 : BitVec 32 := Scalar.muli c0_i32 c8448_i32_1172
  let c2816_i32_1173 : BitVec 32 := 2816#32
  let v2493 : BitVec 32 := Scalar.addi v2492 c2816_i32_1173
  v2493
def k0_mult194 : BitVec 32 :=
  let c0_i32 : BitVec 32 := 0#32
  let c8448_i32_1179 : BitVec 32 := 8448#32
  let v2511 : BitVec 32 := Scalar.muli c0_i32 c8448_i32_1179
  let c3072_i32_1180 : BitVec 32 := 3072#32
  let v2512 : BitVec 32 := Scalar.addi v2511 c3072_i32_1180
  v2512
def k0_mult195 : BitVec 32 :=
  let c0_i32 : BitVec 32 := 0#32
  let c8448_i32_1184 : BitVec 32 := 8448#32
  let v2518 : BitVec 32 := Scalar.muli c0_i32 c8448_i32_1184
  let c2816_i32_1185 : BitVec 32 := 2816#32
  let v2519 : BitVec 32 := Scalar.addi v2518 c2816_i32_1185
  v2519
def k0_mult196 : BitVec 32 :=
  let c0_i32 : BitVec 32 := 0#32
  let c8448_i32_1191 : BitVec 32 := 8448#32
  let v2537 : BitVec 32 := Scalar.muli c0_i32 c8448_i32_1191
  let c3072_i32_1192 : BitVec 32 := 3072#32
  let v2538 : BitVec 32 := Scalar.addi v2537 c3072_i32_1192
  v2538
def k0_mult197 : BitVec 32 :=
  let c0_i32 : BitVec 32 := 0#32
  let c8448_i32_1196 : BitVec 32 := 8448#32
  let v2544 : BitVec 32 := Scalar.muli c0_i32 c8448_i32_1196
  let c2816_i32_1197 : BitVec 32 := 2816#32
  let v2545 : BitVec 32 := Scalar.addi v2544 c2816_i32_1197
  v2545
def k0_mult198 : BitVec 32 :=
  let c0_i32 : BitVec 32 := 0#32
  let c8448_i32_1203 : BitVec 32 := 8448#32
  let v2563 : BitVec 32 := Scalar.muli c0_i32 c8448_i32_1203
  let c3072_i32_1204 : BitVec 32 := 3072#32
  let v2564 : BitVec 32 := Scalar.addi v2563 c3072_i32_1204
  v2564
def k0_mult199 : BitVec 32 :=
  let c0_i32 : BitVec 32 := 0#32
  let c8448_i32_1208 : BitVec 32 := 8448#32
  let v2570 : BitVec 32 := Scalar.muli c0_i32 c8448_i32_1208
  let c3072_i32_1209 : BitVec 32 := 3072#32
  let v2571 : BitVec 32 := Scalar.addi v2570 c3072_i32_1209
  v2571
def k0_mult200 : BitVec 32 :=
  let c0_i32 : BitVec 32 := 0#32
  let c8448_i32_1215 : BitVec 32 := 8448#32
  let v2589 : BitVec 32 := Scalar.muli c0_i32 c8448_i32_1215
  let c3072_i32_1216 : BitVec 32 := 3072#32
  let v2590 : BitVec 32 := Scalar.addi v2589 c3072_i32_1216
  v2590
def k0_mult201 : BitVec 32 :=
  let c0_i32 : BitVec 32 := 0#32
  let c8448_i32_1220 : BitVec 32 := 8448#32
  let v2596 : BitVec 32 := Scalar.muli c0_i32 c8448_i32_1220
  let c3072_i32_1221 : BitVec 32 := 3072#32
  let v2597 : BitVec 32 := Scalar.addi v2596 c3072_i32_1221
  v2597
def k0_mult202 : BitVec 32 :=
  let c0_i32 : BitVec 32 := 0#32
  let c8448_i32_1227 : BitVec 32 := 8448#32
  let v2615 : BitVec 32 := Scalar.muli c0_i32 c8448_i32_1227
  let c3072_i32_1228 : BitVec 32 := 3072#32
  let v2616 : BitVec 32 := Scalar.addi v2615 c3072_i32_1228
  v2616
def k0_mult203 : BitVec 32 :=
  let c0_i32 : BitVec 32 := 0#32
  let c8448_i32_1232 : BitVec 32 := 8448#32
  let v2622 : BitVec 32 := Scalar.muli c0_i32 c8448_i32_1232
  let c3072_i32_1233 : BitVec 32 := 3072#32
  let v2623 : BitVec 32 := Scalar.addi v2622 c3072_i32_1233
  v2623
def k0_mult204 : BitVec 32 :=
  let c0_i32 : BitVec 32 := 0#32
  let c8448_i32_1239 : BitVec 32 := 8448#32
  let v2641 : BitVec 32 := Scalar.muli c0_i32 c8448_i32_1239
  let c3328_i32 : BitVec 32 := 3328#32
  let v2642 : BitVec 32 := Scalar.addi v2641 c3328_i32
  v2642
def k0_mult205 : BitVec 32 :=
  let c0_i32 : BitVec 32 := 0#32
  let c8448_i32_1243 : BitVec 32 := 8448#32
  let v2648 : BitVec 32 := Scalar.muli c0_i32 c8448_i32_1243
  let c3072_i32_1244 : BitVec 32 := 3072#32
  let v2649 : BitVec 32 := Scalar.addi v2648 c3072_i32_1244
  v2649
def k0_mult206 : BitVec 32 :=
  let c0_i32 : BitVec 32 := 0#32
  let c8448_i32_1250 : BitVec 32 := 8448#32
  let v2667 : BitVec 32 := Scalar.muli c0_i32 c8448_i32_1250
  let c3328_i32_1251 : BitVec 32 := 3328#32
  let v2668 : BitVec 32 := Scalar.addi v2667 c3328_i32_1251
  v2668
def k0_mult207 : BitVec 32 :=
  let c0_i32 : BitVec 32 := 0#32
  let c8448_i32_1255 : BitVec 32 := 8448#32
  let v2674 : BitVec 32 := Scalar.muli c0_i32 c8448_i32_1255
  let c3072_i32_1256 : BitVec 32 := 3072#32
  let v2675 : BitVec 32 := Scalar.addi v2674 c3072_i32_1256
  v2675
def k0_mult208 : BitVec 32 :=
  let c0_i32 : BitVec 32 := 0#32
  let c8448_i32_1262 : BitVec 32 := 8448#32
  let v2693 : BitVec 32 := Scalar.muli c0_i32 c8448_i32_1262
  let c3328_i32_1263 : BitVec 32 := 3328#32
  let v2694 : BitVec 32 := Scalar.addi v2693 c3328_i32_1263
  v2694
def k0_mult209 : BitVec 32 :=
  let c0_i32 : BitVec 32 := 0#32
  let c8448_i32_1267 : BitVec 32 := 8448#32
  let v2700 : BitVec 32 := Scalar.muli c0_i32 c8448_i32_1267
  let c3072_i32_1268 : BitVec 32 := 3072#32
  let v2701 : BitVec 32 := Scalar.addi v2700 c3072_i32_1268
  v2701
def k0_mult210 : BitVec 32 :=
  let c0_i32 : BitVec 32 := 0#32
  let c8448_i32_1274 : BitVec 32 := 8448#32
  let v2719 : BitVec 32 := Scalar.muli c0_i32 c8448_i32_1274
  let c3328_i32_1275 : BitVec 32 := 3328#32
  let v2720 : BitVec 32 := Scalar.addi v2719 c3328_i32_1275
  v2720
def k0_mult211 : BitVec 32 :=
  let c0_i32 : BitVec 32 := 0#32
  let c8448_i32_1279 : BitVec 32 := 8448#32
  let v2726 : BitVec 32 := Scalar.muli c0_i32 c8448_i32_1279
  let c3072_i32_1280 : BitVec 32 := 3072#32
  let v2727 : BitVec 32 := Scalar.addi v2726 c3072_i32_1280
  v2727
def k0_mult212 : BitVec 32 :=
  let c0_i32 : BitVec 32 := 0#32
  let c8448_i32_1286 : BitVec 32 := 8448#32
  let v2745 : BitVec 32 := Scalar.muli c0_i32 c8448_i32_1286
  let c3328_i32_1287 : BitVec 32 := 3328#32
  let v2746 : BitVec 32 := Scalar.addi v2745 c3328_i32_1287
  v2746
def k0_mult213 : BitVec 32 :=
  let c0_i32 : BitVec 32 := 0#32
  let c8448_i32_1291 : BitVec 32 := 8448#32
  let v2752 : BitVec 32 := Scalar.muli c0_i32 c8448_i32_1291
  let c3072_i32_1292 : BitVec 32 := 3072#32
  let v2753 : BitVec 32 := Scalar.addi v2752 c3072_i32_1292
  v2753
def k0_mult214 : BitVec 32 :=
  let c0_i32 : BitVec 32 := 0#32
  let c8448_i32_1298 : BitVec 32 := 8448#32
  let v2771 : BitVec 32 := Scalar.muli c0_i32 c8448_i32_1298
  let c3328_i32_1299 : BitVec 32 := 3328#32
  let v2772 : BitVec 32 := Scalar.addi v2771 c3328_i32_1299
  v2772
def k0_mult215 : BitVec 32 :=
  let c0_i32 : BitVec 32 := 0#32
  let c8448_i32_1303 : BitVec 32 := 8448#32
  let v2778 : BitVec 32 := Scalar.muli c0_i32 c8448_i32_1303
  let c3328_i32_1304 : BitVec 32 := 3328#32
  let v2779 : BitVec 32 := Scalar.addi v2778 c3328_i32_1304
  v2779
def k0_mult216 : BitVec 32 :=
  let c0_i32 : BitVec 32 := 0#32
  let c8448_i32_1310 : BitVec 32 := 8448#32
  let v2797 : BitVec 32 := Scalar.muli c0_i32 c8448_i32_1310
  let c3328_i32_1311 : BitVec 32 := 3328#32
  let v2798 : BitVec 32 := Scalar.addi v2797 c3328_i32_1311
  v2798
def k0_mult217 : BitVec 32 :=
  let c0_i32 : BitVec 32 := 0#32
  let c8448_i32_1315 : BitVec 32 := 8448#32
  let v2804 : BitVec 32 := Scalar.muli c0_i32 c8448_i32_1315
  let c3328_i32_1316 : BitVec 32 := 3328#32
  let v2805 : BitVec 32 := Scalar.addi v2804 c3328_i32_1316
  v2805
def k0_mult218 : BitVec 32 :=
  let c0_i32 : BitVec 32 := 0#32
  let c8448_i32_1322 : BitVec 32 := 8448#32
  let v2823 : BitVec 32 := Scalar.muli c0_i32 c8448_i32_1322
  let c3328_i32_1323 : BitVec 32 := 3328#32
  let v2824 : BitVec 32 := Scalar.addi v2823 c3328_i32_1323
  v2824
def k0_mult219 : BitVec 32 :=
  let c0_i32 : BitVec 32 := 0#32
  let c8448_i32_1327 : BitVec 32 := 8448#32
  let v2830 : BitVec 32 := Scalar.muli c0_i32 c8448_i32_1327
  let c3328_i32_1328 : BitVec 32 := 3328#32
  let v2831 : BitVec 32 := Scalar.addi v2830 c3328_i32_1328
  v2831
def k0_mult220 : BitVec 32 :=
  let c0_i32 : BitVec 32 := 0#32
  let c8448_i32_1334 : BitVec 32 := 8448#32
  let v2849 : BitVec 32 := Scalar.muli c0_i32 c8448_i32_1334
  let c3584_i32 : BitVec 32 := 3584#32
  let v2850 : BitVec 32 := Scalar.addi v2849 c3584_i32
  v2850
def k0_mult221 : BitVec 32 :=
  let c0_i32 : BitVec 32 := 0#32
  let c8448_i32_1338 : BitVec 32 := 8448#32
  let v2856 : BitVec 32 := Scalar.muli c0_i32 c8448_i32_1338
  let c3328_i32_1339 : BitVec 32 := 3328#32
  let v2857 : BitVec 32 := Scalar.addi v2856 c3328_i32_1339
  v2857
def k0_mult222 : BitVec 32 :=
  let c0_i32 : BitVec 32 := 0#32
  let c8448_i32_1345 : BitVec 32 := 8448#32
  let v2875 : BitVec 32 := Scalar.muli c0_i32 c8448_i32_1345
  let c3584_i32_1346 : BitVec 32 := 3584#32
  let v2876 : BitVec 32 := Scalar.addi v2875 c3584_i32_1346
  v2876
def k0_mult223 : BitVec 32 :=
  let c0_i32 : BitVec 32 := 0#32
  let c8448_i32_1350 : BitVec 32 := 8448#32
  let v2882 : BitVec 32 := Scalar.muli c0_i32 c8448_i32_1350
  let c3328_i32_1351 : BitVec 32 := 3328#32
  let v2883 : BitVec 32 := Scalar.addi v2882 c3328_i32_1351
  v2883
def k0_mult224 : BitVec 32 :=
  let c0_i32 : BitVec 32 := 0#32
  let c8448_i32_1357 : BitVec 32 := 8448#32
  let v2901 : BitVec 32 := Scalar.muli c0_i32 c8448_i32_1357
  let c3584_i32_1358 : BitVec 32 := 3584#32
  let v2902 : BitVec 32 := Scalar.addi v2901 c3584_i32_1358
  v2902
def k0_mult225 : BitVec 32 :=
  let c0_i32 : BitVec 32 := 0#32
  let c8448_i32_1362 : BitVec 32 := 8448#32
  let v2908 : BitVec 32 := Scalar.muli c0_i32 c8448_i32_1362
  let c3328_i32_1363 : BitVec 32 := 3328#32
  let v2909 : BitVec 32 := Scalar.addi v2908 c3328_i32_1363
  v2909
def k0_mult226 : BitVec 32 :=
  let c0_i32 : BitVec 32 := 0#32
  let c8448_i32_1369 : BitVec 32 := 8448#32
  let v2927 : BitVec 32 := Scalar.muli c0_i32 c8448_i32_1369
  let c3584_i32_1370 : BitVec 32 := 3584#32
  let v2928 : BitVec 32 := Scalar.addi v2927 c3584_i32_1370
  v2928
def k0_mult227 : BitVec 32 :=
  let c0_i32 : BitVec 32 := 0#32
  let c8448_i32_1374 : BitVec 32 := 8448#32
  let v2934 : BitVec 32 := Scalar.muli c0_i32 c8448_i32_1374
  let c3328_i32_1375 : BitVec 32 := 3328#32
  let v2935 : BitVec 32 := Scalar.addi v2934 c3328_i32_1375
  v2935
def k0_mult228 : BitVec 32 :=
  let c0_i32 : BitVec 32 := 0#32
  let c8448_i32_1381 : BitVec 32 := 8448#32
  let v2953 : BitVec 32 := Scalar.muli c0_i32 c8448_i32_1381
  let c3584_i32_1382 : BitVec 32 := 3584#32
  let v2954 : BitVec 32 := Scalar.addi v2953 c3584_i32_1382
  v2954
def k0_mult229 : BitVec 32 :=
  let c0_i32 : BitVec 32 := 0#32
  let c8448_i32_1386 : BitVec 32 := 8448#32
  let v2960 : BitVec 32 := Scalar.muli c0_i32 c8448_i32_1386
  let c3328_i32_1387 : BitVec 32 := 3328#32
  let v2961 : BitVec 32 := Scalar.addi v2960 c3328_i32_1387
  v2961
def k0_mult230 : BitVec 32 :=
  let c0_i32 : BitVec 32 := 0#32
  let c8448_i32_1393 : BitVec 32 := 8448#32
  let v2979 : BitVec 32 := Scalar.muli c0_i32 c8448_i32_1393
  let c3584_i32_1394 : BitVec 32 := 3584#32
  let v2980 : BitVec 32 := Scalar.addi v2979 c3584_i32_1394
  v2980
def k0_mult231 : BitVec 32 :=
  let c0_i32 : BitVec 32 := 0#32
  let c8448_i32_1398 : BitVec 32 := 8448#32
  let v2986 : BitVec 32 := Scalar.muli c0_i32 c8448_i32_1398
  let c3584_i32_1399 : BitVec 32 := 3584#32
  let v2987 : BitVec 32 := Scalar.addi v2986 c3584_i32_1399
  v2987
def k0_mult232 : BitVec 32 :=
  let c0_i32 : BitVec 32 := 0#32
  let c8448_i32_1405 : BitVec 32 := 8448#32
  let v3005 : BitVec 32 := Scalar.muli c0_i32 c8448_i32_1405
  let c3584_i32_1406 : BitVec 32 := 3584#32
  let v3006 : BitVec 32 := Scalar.addi v3005 c3584_i32_1406
  v3006
def k0_mult233 : BitVec 32 :=
  let c0_i32 : BitVec 32 := 0#32
  let c8448_i32_1410 : BitVec 32 := 8448#32
  let v3012 : BitVec 32 := Scalar.muli c0_i32 c8448_i32_1410
  let c3584_i32_1411 : BitVec 32 := 3584#32
  let v3013 : BitVec 32 := Scalar.addi v3012 c3584_i32_1411
  v3013
def k0_mult234 : BitVec 32 :=
  let c0_i32 : BitVec 32 := 0#32
  let c8448_i32_1417 : BitVec 32 := 8448#32
  let v3031 : BitVec 32 := Scalar.muli c0_i32 c8448_i32_1417
  let c3584_i32_1418 : BitVec 32 := 3584#32
  let v3032 : BitVec 32 := Scalar.addi v3031 c3584_i32_1418
  v3032
def k0_mult235 : BitVec 32 :=
  let c0_i32 : BitVec 32 := 0#32
  let c8448_i32_1422 : BitVec 32 := 8448#32
  let v3038 : BitVec 32 := Scalar.muli c0_i32 c8448_i32_1422
  let c3584_i32_1423 : BitVec 32 := 3584#32
  let v3039 : BitVec 32 := Scalar.addi v3038 c3584_i32_1423
  v3039
def k0_mult236 : BitVec 32 :=
  let c0_i32 : BitVec 32 := 0#32
  let c8448_i32_1429 : BitVec 32 := 8448#32
  let v3057 : BitVec 32 := Scalar.muli c0_i32 c8448_i32_1429
  let c3840_i32 : BitVec 32 := 3840#32
  let v3058 : BitVec 32 := Scalar.addi v3057 c3840_i32
  v3058
def k0_mult237 : BitVec 32 :=
  let c0_i32 : BitVec 32 := 0#32
  let c8448_i32_1433 : BitVec 32 := 8448#32
  let v3064 : BitVec 32 := Scalar.muli c0_i32 c8448_i32_1433
  let c3584_i32_1434 : BitVec 32 := 3584#32
  let v3065 : BitVec 32 := Scalar.addi v3064 c3584_i32_1434
  v3065
def k0_mult238 : BitVec 32 :=
  let c0_i32 : BitVec 32 := 0#32
  let c8448_i32_1440 : BitVec 32 := 8448#32
  let v3083 : BitVec 32 := Scalar.muli c0_i32 c8448_i32_1440
  let c3840_i32_1441 : BitVec 32 := 3840#32
  let v3084 : BitVec 32 := Scalar.addi v3083 c3840_i32_1441
  v3084
def k0_mult239 : BitVec 32 :=
  let c0_i32 : BitVec 32 := 0#32
  let c8448_i32_1445 : BitVec 32 := 8448#32
  let v3090 : BitVec 32 := Scalar.muli c0_i32 c8448_i32_1445
  let c3584_i32_1446 : BitVec 32 := 3584#32
  let v3091 : BitVec 32 := Scalar.addi v3090 c3584_i32_1446
  v3091
def k0_mult240 : BitVec 32 :=
  let c0_i32 : BitVec 32 := 0#32
  let c8448_i32_1452 : BitVec 32 := 8448#32
  let v3109 : BitVec 32 := Scalar.muli c0_i32 c8448_i32_1452
  let c3840_i32_1453 : BitVec 32 := 3840#32
  let v3110 : BitVec 32 := Scalar.addi v3109 c3840_i32_1453
  v3110
def k0_mult241 : BitVec 32 :=
  let c0_i32 : BitVec 32 := 0#32
  let c8448_i32_1457 : BitVec 32 := 8448#32
  let v3116 : BitVec 32 := Scalar.muli c0_i32 c8448_i32_1457
  let c3584_i32_1458 : BitVec 32 := 3584#32
  let v3117 : BitVec 32 := Scalar.addi v3116 c3584_i32_1458
  v3117
def k0_mult242 : BitVec 32 :=
  let c0_i32 : BitVec 32 := 0#32
  let c8448_i32_1464 : BitVec 32 := 8448#32
  let v3135 : BitVec 32 := Scalar.muli c0_i32 c8448_i32_1464
  let c3840_i32_1465 : BitVec 32 := 3840#32
  let v3136 : BitVec 32 := Scalar.addi v3135 c3840_i32_1465
  v3136
def k0_mult243 : BitVec 32 :=
  let c0_i32 : BitVec 32 := 0#32
  let c8448_i32_1469 : BitVec 32 := 8448#32
  let v3142 : BitVec 32 := Scalar.muli c0_i32 c8448_i32_1469
  let c3584_i32_1470 : BitVec 32 := 3584#32
  let v3143 : BitVec 32 := Scalar.addi v3142 c3584_i32_1470
  v3143
def k0_mult244 : BitVec 32 :=
  let c0_i32 : BitVec 32 := 0#32
  let c8448_i32_1476 : BitVec 32 := 8448#32
  let v3161 : BitVec 32 := Scalar.muli c0_i32 c8448_i32_1476
  let c3840_i32_1477 : BitVec 32 := 3840#32
  let v3162 : BitVec 32 := Scalar.addi v3161 c3840_i32_1477
  v3162
def k0_mult245 : BitVec 32 :=
  let c0_i32 : BitVec 32 := 0#32
  let c8448_i32_1481 : BitVec 32 := 8448#32
  let v3168 : BitVec 32 := Scalar.muli c0_i32 c8448_i32_1481
  let c3584_i32_1482 : BitVec 32 := 3584#32
  let v3169 : BitVec 32 := Scalar.addi v3168 c3584_i32_1482
  v3169
def k0_mult246 : BitVec 32 :=
  let c0_i32 : BitVec 32 := 0#32
  let c8448_i32_1488 : BitVec 32 := 8448#32
  let v3187 : BitVec 32 := Scalar.muli c0_i32 c8448_i32_1488
  let c3840_i32_1489 : BitVec 32 := 3840#32
  let v3188 : BitVec 32 := Scalar.addi v3187 c3840_i32_1489
  v3188
def k0_mult247 : BitVec 32 :=
  let c0_i32 : BitVec 32 := 0#32
  let c8448_i32_1493 : BitVec 32 := 8448#32
  let v3194 : BitVec 32 := Scalar.muli c0_i32 c8448_i32_1493
  let c3840_i32_1494 : BitVec 32 := 3840#32
  let v3195 : BitVec 32 := Scalar.addi v3194 c3840_i32_1494
  v3195
def k0_mult248 : BitVec 32 :=
  let c0_i32 : BitVec 32 := 0#32
  let c8448_i32_1500 : BitVec 32 := 8448#32
  let v3213 : BitVec 32 := Scalar.muli c0_i32 c8448_i32_1500
  let c3840_i32_1501 : BitVec 32 := 3840#32
  let v3214 : BitVec 32 := Scalar.addi v3213 c3840_i32_1501
  v3214
def k0_mult249 : BitVec 32 :=
  let c0_i32 : BitVec 32 := 0#32
  let c8448_i32_1505 : BitVec 32 := 8448#32
  let v3220 : BitVec 32 := Scalar.muli c0_i32 c8448_i32_1505
  let c3840_i32_1506 : BitVec 32 := 3840#32
  let v3221 : BitVec 32 := Scalar.addi v3220 c3840_i32_1506
  v3221
def k0_mult250 : BitVec 32 :=
  let c0_i32 : BitVec 32 := 0#32
  let c8448_i32_1512 : BitVec 32 := 8448#32
  let v3239 : BitVec 32 := Scalar.muli c0_i32 c8448_i32_1512
  let c3840_i32_1513 : BitVec 32 := 3840#32
  let v3240 : BitVec 32 := Scalar.addi v3239 c3840_i32_1513
  v3240
def k0_mult251 : BitVec 32 :=
  let c0_i32 : BitVec 32 := 0#32
  let c8448_i32_1517 : BitVec 32 := 8448#32
  let v3246 : BitVec 32 := Scalar.muli c0_i32 c8448_i32_1517
  let c3840_i32_1518 : BitVec 32 := 3840#32
  let v3247 : BitVec 32 := Scalar.addi v3246 c3840_i32_1518
  v3247
def k0_mult252 : BitVec 32 :=
  let c0_i32 : BitVec 32 := 0#32
  let c8448_i32_1524 : BitVec 32 := 8448#32
  let v3265 : BitVec 32 := Scalar.muli c0_i32 c8448_i32_1524
  let c4096_i32 : BitVec 32 := 4096#32
  let v3266 : BitVec 32 := Scalar.addi v3265 c4096_i32
  v3266
def k0_mult253 : BitVec 32 :=
  let c0_i32 : BitVec 32 := 0#32
  let c8448_i32_1528 : BitVec 32 := 8448#32
  let v3272 : BitVec 32 := Scalar.muli c0_i32 c8448_i32_1528
  let c3840_i32_1529 : BitVec 32 := 3840#32
  let v3273 : BitVec 32 := Scalar.addi v3272 c3840_i32_1529
  v3273
def k0_mult254 : BitVec 32 :=
  let c0_i32 : BitVec 32 := 0#32
  let c8448_i32_1535 : BitVec 32 := 8448#32
  let v3291 : BitVec 32 := Scalar.muli c0_i32 c8448_i32_1535
  let c4096_i32_1536 : BitVec 32 := 4096#32
  let v3292 : BitVec 32 := Scalar.addi v3291 c4096_i32_1536
  v3292
def k0_mult255 : BitVec 32 :=
  let c0_i32 : BitVec 32 := 0#32
  let c8448_i32_1540 : BitVec 32 := 8448#32
  let v3298 : BitVec 32 := Scalar.muli c0_i32 c8448_i32_1540
  let c3840_i32_1541 : BitVec 32 := 3840#32
  let v3299 : BitVec 32 := Scalar.addi v3298 c3840_i32_1541
  v3299
def k0_mult256 : BitVec 32 :=
  let c0_i32 : BitVec 32 := 0#32
  let c8448_i32_1547 : BitVec 32 := 8448#32
  let v3317 : BitVec 32 := Scalar.muli c0_i32 c8448_i32_1547
  let c4096_i32_1548 : BitVec 32 := 4096#32
  let v3318 : BitVec 32 := Scalar.addi v3317 c4096_i32_1548
  v3318
def k0_mult257 : BitVec 32 :=
  let c0_i32 : BitVec 32 := 0#32
  let c8448_i32_1552 : BitVec 32 := 8448#32
  let v3324 : BitVec 32 := Scalar.muli c0_i32 c8448_i32_1552
  let c3840_i32_1553 : BitVec 32 := 3840#32
  let v3325 : BitVec 32 := Scalar.addi v3324 c3840_i32_1553
  v3325
def k0_mult258 : BitVec 32 :=
  let c0_i32 : BitVec 32 := 0#32
  let c8448_i32_1559 : BitVec 32 := 8448#32
  let v3343 : BitVec 32 := Scalar.muli c0_i32 c8448_i32_1559
  let c4096_i32_1560 : BitVec 32 := 4096#32
  let v3344 : BitVec 32 := Scalar.addi v3343 c4096_i32_1560
  v3344
def k0_mult259 : BitVec 32 :=
  let c0_i32 : BitVec 32 := 0#32
  let c8448_i32_1564 : BitVec 32 := 8448#32
  let v3350 : BitVec 32 := Scalar.muli c0_i32 c8448_i32_1564
  let c3840_i32_1565 : BitVec 32 := 3840#32
  let v3351 : BitVec 32 := Scalar.addi v3350 c3840_i32_1565
  v3351
def k0_mult260 : BitVec 32 :=
  let c0_i32 : BitVec 32 := 0#32
  let c8448_i32_1571 : BitVec 32 := 8448#32
  let v3369 : BitVec 32 := Scalar.muli c0_i32 c8448_i32_1571
  let c4096_i32_1572 : BitVec 32 := 4096#32
  let v3370 : BitVec 32 := Scalar.addi v3369 c4096_i32_1572
  v3370
def k0_mult261 : BitVec 32 :=
  let c0_i32 : BitVec 32 := 0#32
  let c8448_i32_1576 : BitVec 32 := 8448#32
  let v3376 : BitVec 32 := Scalar.muli c0_i32 c8448_i32_1576
  let c3840_i32_1577 : BitVec 32 := 3840#32
  let v3377 : BitVec 32 := Scalar.addi v3376 c3840_i32_1577
  v3377
def k0_mult262 : BitVec 32 :=
  let c0_i32 : BitVec 32 := 0#32
  let c8448_i32_1583 : BitVec 32 := 8448#32
  let v3395 : BitVec 32 := Scalar.muli c0_i32 c8448_i32_1583
  let c4096_i32_1584 : BitVec 32 := 4096#32
  let v3396 : BitVec 32 := Scalar.addi v3395 c4096_i32_1584
  v3396
def k0_mult263 : BitVec 32 :=
  let c0_i32 : BitVec 32 := 0#32
  let c8448_i32_1588 : BitVec 32 := 8448#32
  let v3402 : BitVec 32 := Scalar.muli c0_i32 c8448_i32_1588
  let c4096_i32_1589 : BitVec 32 := 4096#32
  let v3403 : BitVec 32 := Scalar.addi v3402 c4096_i32_1589
  v3403
def k0_mult264 : BitVec 32 :=
  let c0_i32 : BitVec 32 := 0#32
  let c8448_i32_1595 : BitVec 32 := 8448#32
  let v3421 : BitVec 32 := Scalar.muli c0_i32 c8448_i32_1595
  let c4096_i32_1596 : BitVec 32 := 4096#32
  let v3422 : BitVec 32 := Scalar.addi v3421 c4096_i32_1596
  v3422
def k0_mult265 : BitVec 32 :=
  let c0_i32 : BitVec 32 := 0#32
  let c8448_i32_1600 : BitVec 32 := 8448#32
  let v3428 : BitVec 32 := Scalar.muli c0_i32 c8448_i32_1600
  let c4096_i32_1601 : BitVec 32 := 4096#32
  let v3429 : BitVec 32 := Scalar.addi v3428 c4096_i32_1601
  v3429
def k0_mult266 : BitVec 32 :=
  let c0_i32 : BitVec 32 := 0#32
  let c8448_i32_1607 : BitVec 32 := 8448#32
  let v3447 : BitVec 32 := Scalar.muli c0_i32 c8448_i32_1607
  let c4096_i32_1608 : BitVec 32 := 4096#32
  let v3448 : BitVec 32 := Scalar.addi v3447 c4096_i32_1608
  v3448
def k0_mult267 : BitVec 32 :=
  let c0_i32 : BitVec 32 := 0#32
  let c8448_i32_1612 : BitVec 32 := 8448#32
  let v3454 : BitVec 32 := Scalar.muli c0_i32 c8448_i32_1612
  let c4096_i32_1613 : BitVec 32 := 4096#32
  let v3455 : BitVec 32 := Scalar.addi v3454 c4096_i32_1613
  v3455
def k0_mult268 : BitVec 32 :=
  let c0_i32 : BitVec 32 := 0#32
  let c8448_i32_1619 : BitVec 32 := 8448#32
  let v3473 : BitVec 32 := Scalar.muli c0_i32 c8448_i32_1619
  let c4352_i32 : BitVec 32 := 4352#32
  let v3474 : BitVec 32 := Scalar.addi v3473 c4352_i32
  v3474
def k0_mult269 : BitVec 32 :=
  let c0_i32 : BitVec 32 := 0#32
  let c8448_i32_1623 : BitVec 32 := 8448#32
  let v3480 : BitVec 32 := Scalar.muli c0_i32 c8448_i32_1623
  let c4096_i32_1624 : BitVec 32 := 4096#32
  let v3481 : BitVec 32 := Scalar.addi v3480 c4096_i32_1624
  v3481
def k0_mult270 : BitVec 32 :=
  let c0_i32 : BitVec 32 := 0#32
  let c8448_i32_1630 : BitVec 32 := 8448#32
  let v3499 : BitVec 32 := Scalar.muli c0_i32 c8448_i32_1630
  let c4352_i32_1631 : BitVec 32 := 4352#32
  let v3500 : BitVec 32 := Scalar.addi v3499 c4352_i32_1631
  v3500
def k0_mult271 : BitVec 32 :=
  let c0_i32 : BitVec 32 := 0#32
  let c8448_i32_1635 : BitVec 32 := 8448#32
  let v3506 : BitVec 32 := Scalar.muli c0_i32 c8448_i32_1635
  let c4096_i32_1636 : BitVec 32 := 4096#32
  let v3507 : BitVec 32 := Scalar.addi v3506 c4096_i32_1636
  v3507
def k0_mult272 : BitVec 32 :=
  let c0_i32 : BitVec 32 := 0#32
  let c8448_i32_1642 : BitVec 32 := 8448#32
  let v3525 : BitVec 32 := Scalar.muli c0_i32 c8448_i32_1642
  let c4352_i32_1643 : BitVec 32 := 4352#32
  let v3526 : BitVec 32 := Scalar.addi v3525 c4352_i32_1643
  v3526
def k0_mult273 : BitVec 32 :=
  let c0_i32 : BitVec 32 := 0#32
  let c8448_i32_1647 : BitVec 32 := 8448#32
  let v3532 : BitVec 32 := Scalar.muli c0_i32 c8448_i32_1647
  let c4096_i32_1648 : BitVec 32 := 4096#32
  let v3533 : BitVec 32 := Scalar.addi v3532 c4096_i32_1648
  v3533
def k0_mult274 : BitVec 32 :=
  let c0_i32 : BitVec 32 := 0#32
  let c8448_i32_1654 : BitVec 32 := 8448#32
  let v3551 : BitVec 32 := Scalar.muli c0_i32 c8448_i32_1654
  let c4352_i32_1655 : BitVec 32 := 4352#32
  let v3552 : BitVec 32 := Scalar.addi v3551 c4352_i32_1655
  v3552
def k0_mult275 : BitVec 32 :=
  let c0_i32 : BitVec 32 := 0#32
  let c8448_i32_1659 : BitVec 32 := 8448#32
  let v3558 : BitVec 32 := Scalar.muli c0_i32 c8448_i32_1659
  let c4096_i32_1660 : BitVec 32 := 4096#32
  let v3559 : BitVec 32 := Scalar.addi v3558 c4096_i32_1660
  v3559
def k0_mult276 : BitVec 32 :=
  let c0_i32 : BitVec 32 := 0#32
  let c8448_i32_1666 : BitVec 32 := 8448#32
  let v3577 : BitVec 32 := Scalar.muli c0_i32 c8448_i32_1666
  let c4352_i32_1667 : BitVec 32 := 4352#32
  let v3578 : BitVec 32 := Scalar.addi v3577 c4352_i32_1667
  v3578
def k0_mult277 : BitVec 32 :=
  let c0_i32 : BitVec 32 := 0#32
  let c8448_i32_1671 : BitVec 32 := 8448#32
  let v3584 : BitVec 32 := Scalar.muli c0_i32 c8448_i32_1671
  let c4096_i32_1672 : BitVec 32 := 4096#32
  let v3585 : BitVec 32 := Scalar.addi v3584 c4096_i32_1672
  v3585
def k0_mult278 : BitVec 32 :=
  let c0_i32 : BitVec 32 := 0#32
  let c8448_i32_1678 : BitVec 32 := 8448#32
  let v3603 : BitVec 32 := Scalar.muli c0_i32 c8448_i32_1678
  let c4352_i32_1679 : BitVec 32 := 4352#32
  let v3604 : BitVec 32 := Scalar.addi v3603 c4352_i32_1679
  v3604
def k0_mult279 : BitVec 32 :=
  let c0_i32 : BitVec 32 := 0#32
  let c8448_i32_1683 : BitVec 32 := 8448#32
  let v3610 : BitVec 32 := Scalar.muli c0_i32 c8448_i32_1683
  let c4352_i32_1684 : BitVec 32 := 4352#32
  let v3611 : BitVec 32 := Scalar.addi v3610 c4352_i32_1684
  v3611
def k0_mult280 : BitVec 32 :=
  let c0_i32 : BitVec 32 := 0#32
  let c8448_i32_1690 : BitVec 32 := 8448#32
  let v3629 : BitVec 32 := Scalar.muli c0_i32 c8448_i32_1690
  let c4352_i32_1691 : BitVec 32 := 4352#32
  let v3630 : BitVec 32 := Scalar.addi v3629 c4352_i32_1691
  v3630
def k0_mult281 : BitVec 32 :=
  let c0_i32 : BitVec 32 := 0#32
  let c8448_i32_1695 : BitVec 32 := 8448#32
  let v3636 : BitVec 32 := Scalar.muli c0_i32 c8448_i32_1695
  let c4352_i32_1696 : BitVec 32 := 4352#32
  let v3637 : BitVec 32 := Scalar.addi v3636 c4352_i32_1696
  v3637
def k0_mult282 : BitVec 32 :=
  let c0_i32 : BitVec 32 := 0#32
  let c8448_i32_1702 : BitVec 32 := 8448#32
  let v3655 : BitVec 32 := Scalar.muli c0_i32 c8448_i32_1702
  let c4352_i32_1703 : BitVec 32 := 4352#32
  let v3656 : BitVec 32 := Scalar.addi v3655 c4352_i32_1703
  v3656
def k0_mult283 : BitVec 32 :=
  let c0_i32 : BitVec 32 := 0#32
  let c8448_i32_1707 : BitVec 32 := 8448#32
  let v3662 : BitVec 32 := Scalar.muli c0_i32 c8448_i32_1707
  let c4352_i32_1708 : BitVec 32 := 4352#32
  let v3663 : BitVec 32 := Scalar.addi v3662 c4352_i32_1708
  v3663
def k0_mult284 : BitVec 32 :=
  let c0_i32 : BitVec 32 := 0#32
  let c8448_i32_1714 : BitVec 32 := 8448#32
  let v3681 : BitVec 32 := Scalar.muli c0_i32 c8448_i32_1714
  let c4608_i32 : BitVec 32 := 4608#32
  let v3682 : BitVec 32 := Scalar.addi v3681 c4608_i32
  v3682
def k0_mult285 : BitVec 32 :=
  let c0_i32 : BitVec 32 := 0#32
  let c8448_i32_1718 : BitVec 32 := 8448#32
  let v3688 : BitVec 32 := Scalar.muli c0_i32 c8448_i32_1718
  let c4352_i32_1719 : BitVec 32 := 4352#32
  let v3689 : BitVec 32 := Scalar.addi v3688 c4352_i32_1719
  v3689
def k0_mult286 : BitVec 32 :=
  let c0_i32 : BitVec 32 := 0#32
  let c8448_i32_1725 : BitVec 32 := 8448#32
  let v3707 : BitVec 32 := Scalar.muli c0_i32 c8448_i32_1725
  let c4608_i32_1726 : BitVec 32 := 4608#32
  let v3708 : BitVec 32 := Scalar.addi v3707 c4608_i32_1726
  v3708
def k0_mult287 : BitVec 32 :=
  let c0_i32 : BitVec 32 := 0#32
  let c8448_i32_1730 : BitVec 32 := 8448#32
  let v3714 : BitVec 32 := Scalar.muli c0_i32 c8448_i32_1730
  let c4352_i32_1731 : BitVec 32 := 4352#32
  let v3715 : BitVec 32 := Scalar.addi v3714 c4352_i32_1731
  v3715
def k0_mult288 : BitVec 32 :=
  let c0_i32 : BitVec 32 := 0#32
  let c8448_i32_1737 : BitVec 32 := 8448#32
  let v3733 : BitVec 32 := Scalar.muli c0_i32 c8448_i32_1737
  let c4608_i32_1738 : BitVec 32 := 4608#32
  let v3734 : BitVec 32 := Scalar.addi v3733 c4608_i32_1738
  v3734
def k0_mult289 : BitVec 32 :=
  let c0_i32 : BitVec 32 := 0#32
  let c8448_i32_1742 : BitVec 32 := 8448#32
  let v3740 : BitVec 32 := Scalar.muli c0_i32 c8448_i32_1742
  let c4352_i32_1743 : BitVec 32 := 4352#32
  let v3741 : BitVec 32 := Scalar.addi v3740 c4352_i32_1743
  v3741
def k0_mult290 : BitVec 32 :=
  let c0_i32 : BitVec 32 := 0#32
  let c8448_i32_1749 : BitVec 32 := 8448#32
  let v3759 : BitVec 32 := Scalar.muli c0_i32 c8448_i32_1749
  let c4608_i32_1750 : BitVec 32 := 4608#32
  let v3760 : BitVec 32 := Scalar.addi v3759 c4608_i32_1750
  v3760
def k0_mult291 : BitVec 32 :=
  let c0_i32 : BitVec 32 := 0#32
  let c8448_i32_1754 : BitVec 32 := 8448#32
  let v3766 : BitVec 32 := Scalar.muli c0_i32 c8448_i32_1754
  let c4352_i32_1755 : BitVec 32 := 4352#32
  let v3767 : BitVec 32 := Scalar.addi v3766 c4352_i32_1755
  v3767
def k0_mult292 : BitVec 32 :=
  let c0_i32 : BitVec 32 := 0#32
  let c8448_i32_1761 : BitVec 32 := 8448#32
  let v3785 : BitVec 32 := Scalar.muli c0_i32 c8448_i32_1761
  let c4608_i32_1762 : BitVec 32 := 4608#32
  let v3786 : BitVec 32 := Scalar.addi v3785 c4608_i32_1762
  v3786
def k0_mult293 : BitVec 32 :=
  let c0_i32 : BitVec 32 := 0#32
  let c8448_i32_1766 : BitVec 32 := 8448#32
  let v3792 : BitVec 32 := Scalar.muli c0_i32 c8448_i32_1766
  let c4352_i32_1767 : BitVec 32 := 4352#32
  let v3793 : BitVec 32 := Scalar.addi v3792 c4352_i32_1767
  v3793
def k0_mult294 : BitVec 32 :=
  let c0_i32 : BitVec 32 := 0#32
  let c8448_i32_1773 : BitVec 32 := 8448#32
  let v3811 : BitVec 32 := Scalar.muli c0_i32 c8448_i32_1773
  let c4608_i32_1774 : BitVec 32 := 4608#32
  let v3812 : BitVec 32 := Scalar.addi v3811 c4608_i32_1774
  v3812
def k0_mult295 : BitVec 32 :=
  let c0_i32 : BitVec 32 := 0#32
  let c8448_i32_1778 : BitVec 32 := 8448#32
  let v3818 : BitVec 32 := Scalar.muli c0_i32 c8448_i32_1778
  let c4608_i32_1779 : BitVec 32 := 4608#32
  let v3819 : BitVec 32 := Scalar.addi v3818 c4608_i32_1779
  v3819
def k0_mult296 : BitVec 32 :=
  let c0_i32 : BitVec 32 := 0#32
  let c8448_i32_1785 : BitVec 32 := 8448#32
  let v3837 : BitVec 32 := Scalar.muli c0_i32 c8448_i32_1785
  let c4608_i32_1786 : BitVec 32 := 4608#32
  let v3838 : BitVec 32 := Scalar.addi v3837 c4608_i32_1786
  v3838
def k0_mult297 : BitVec 32 :=
  let c0_i32 : BitVec 32 := 0#32
  let c8448_i32_1790 : BitVec 32 := 8448#32
  let v3844 : BitVec 32 := Scalar.muli c0_i32 c8448_i32_1790
  let c4608_i32_1791 : BitVec 32 := 4608#32
  let v3845 : BitVec 32 := Scalar.addi v3844 c4608_i32_1791
  v3845
def k0_mult298 : BitVec 32 :=
  let c0_i32 : BitVec 32 := 0#32
  let c8448_i32_1797 : BitVec 32 := 8448#32
  let v3863 : BitVec 32 := Scalar.muli c0_i32 c8448_i32_1797
  let c4608_i32_1798 : BitVec 32 := 4608#32
  let v3864 : BitVec 32 := Scalar.addi v3863 c4608_i32_1798
  v3864
def k0_mult299 : BitVec 32 :=
  let c0_i32 : BitVec 32 := 0#32
  let c8448_i32_1802 : BitVec 32 := 8448#32
  let v3870 : BitVec 32 := Scalar.muli c0_i32 c8448_i32_1802
  let c4608_i32_1803 : BitVec 32 := 4608#32
  let v3871 : BitVec 32 := Scalar.addi v3870 c4608_i32_1803
  v3871
def k0_mult300 : BitVec 32 :=
  let c0_i32 : BitVec 32 := 0#32
  let c8448_i32_1809 : BitVec 32 := 8448#32
  let v3889 : BitVec 32 := Scalar.muli c0_i32 c8448_i32_1809
  let c4864_i32 : BitVec 32 := 4864#32
  let v3890 : BitVec 32 := Scalar.addi v3889 c4864_i32
  v3890
def k0_mult301 : BitVec 32 :=
  let c0_i32 : BitVec 32 := 0#32
  let c8448_i32_1813 : BitVec 32 := 8448#32
  let v3896 : BitVec 32 := Scalar.muli c0_i32 c8448_i32_1813
  let c4608_i32_1814 : BitVec 32 := 4608#32
  let v3897 : BitVec 32 := Scalar.addi v3896 c4608_i32_1814
  v3897
def k0_mult302 : BitVec 32 :=
  let c0_i32 : BitVec 32 := 0#32
  let c8448_i32_1820 : BitVec 32 := 8448#32
  let v3915 : BitVec 32 := Scalar.muli c0_i32 c8448_i32_1820
  let c4864_i32_1821 : BitVec 32 := 4864#32
  let v3916 : BitVec 32 := Scalar.addi v3915 c4864_i32_1821
  v3916
def k0_mult303 : BitVec 32 :=
  let c0_i32 : BitVec 32 := 0#32
  let c8448_i32_1825 : BitVec 32 := 8448#32
  let v3922 : BitVec 32 := Scalar.muli c0_i32 c8448_i32_1825
  let c4608_i32_1826 : BitVec 32 := 4608#32
  let v3923 : BitVec 32 := Scalar.addi v3922 c4608_i32_1826
  v3923
def k0_mult304 : BitVec 32 :=
  let c0_i32 : BitVec 32 := 0#32
  let c8448_i32_1832 : BitVec 32 := 8448#32
  let v3941 : BitVec 32 := Scalar.muli c0_i32 c8448_i32_1832
  let c4864_i32_1833 : BitVec 32 := 4864#32
  let v3942 : BitVec 32 := Scalar.addi v3941 c4864_i32_1833
  v3942
def k0_mult305 : BitVec 32 :=
  let c0_i32 : BitVec 32 := 0#32
  let c8448_i32_1837 : BitVec 32 := 8448#32
  let v3948 : BitVec 32 := Scalar.muli c0_i32 c8448_i32_1837
  let c4608_i32_1838 : BitVec 32 := 4608#32
  let v3949 : BitVec 32 := Scalar.addi v3948 c4608_i32_1838
  v3949
def k0_mult306 : BitVec 32 :=
  let c0_i32 : BitVec 32 := 0#32
  let c8448_i32_1844 : BitVec 32 := 8448#32
  let v3967 : BitVec 32 := Scalar.muli c0_i32 c8448_i32_1844
  let c4864_i32_1845 : BitVec 32 := 4864#32
  let v3968 : BitVec 32 := Scalar.addi v3967 c4864_i32_1845
  v3968
def k0_mult307 : BitVec 32 :=
  let c0_i32 : BitVec 32 := 0#32
  let c8448_i32_1849 : BitVec 32 := 8448#32
  let v3974 : BitVec 32 := Scalar.muli c0_i32 c8448_i32_1849
  let c4608_i32_1850 : BitVec 32 := 4608#32
  let v3975 : BitVec 32 := Scalar.addi v3974 c4608_i32_1850
  v3975
def k0_mult308 : BitVec 32 :=
  let c0_i32 : BitVec 32 := 0#32
  let c8448_i32_1856 : BitVec 32 := 8448#32
  let v3993 : BitVec 32 := Scalar.muli c0_i32 c8448_i32_1856
  let c4864_i32_1857 : BitVec 32 := 4864#32
  let v3994 : BitVec 32 := Scalar.addi v3993 c4864_i32_1857
  v3994
def k0_mult309 : BitVec 32 :=
  let c0_i32 : BitVec 32 := 0#32
  let c8448_i32_1861 : BitVec 32 := 8448#32
  let v4000 : BitVec 32 := Scalar.muli c0_i32 c8448_i32_1861
  let c4608_i32_1862 : BitVec 32 := 4608#32
  let v4001 : BitVec 32 := Scalar.addi v4000 c4608_i32_1862
  v4001
def k0_mult310 : BitVec 32 :=
  let c0_i32 : BitVec 32 := 0#32
  let c8448_i32_1868 : BitVec 32 := 8448#32
  let v4019 : BitVec 32 := Scalar.muli c0_i32 c8448_i32_1868
  let c4864_i32_1869 : BitVec 32 := 4864#32
  let v4020 : BitVec 32 := Scalar.addi v4019 c4864_i32_1869
  v4020
def k0_mult311 : BitVec 32 :=
  let c0_i32 : BitVec 32 := 0#32
  let c8448_i32_1873 : BitVec 32 := 8448#32
  let v4026 : BitVec 32 := Scalar.muli c0_i32 c8448_i32_1873
  let c4864_i32_1874 : BitVec 32 := 4864#32
  let v4027 : BitVec 32 := Scalar.addi v4026 c4864_i32_1874
  v4027
def k0_mult312 : BitVec 32 :=
  let c0_i32 : BitVec 32 := 0#32
  let c8448_i32_1880 : BitVec 32 := 8448#32
  let v4045 : BitVec 32 := Scalar.muli c0_i32 c8448_i32_1880
  let c4864_i32_1881 : BitVec 32 := 4864#32
  let v4046 : BitVec 32 := Scalar.addi v4045 c4864_i32_1881
  v4046
def k0_mult313 : BitVec 32 :=
  let c0_i32 : BitVec 32 := 0#32
  let c8448_i32_1885 : BitVec 32 := 8448#32
  let v4052 : BitVec 32 := Scalar.muli c0_i32 c8448_i32_1885
  let c4864_i32_1886 : BitVec 32 := 4864#32
  let v4053 : BitVec 32 := Scalar.addi v4052 c4864_i32_1886
  v4053
def k0_mult314 : BitVec 32 :=
  let c0_i32 : BitVec 32 := 0#32
  let c8448_i32_1892 : BitVec 32 := 8448#32
  let v4071 : BitVec 32 := Scalar.muli c0_i32 c8448_i32_1892
  let c4864_i32_1893 : BitVec 32 := 4864#32
  let v4072 : BitVec 32 := Scalar.addi v4071 c4864_i32_1893
  v4072
def k0_mult315 : BitVec 32 :=
  let c0_i32 : BitVec 32 := 0#32
  let c8448_i32_1897 : BitVec 32 := 8448#32
  let v4078 : BitVec 32 := Scalar.muli c0_i32 c8448_i32_1897
  let c4864_i32_1898 : BitVec 32 := 4864#32
  let v4079 : BitVec 32 := Scalar.addi v4078 c4864_i32_1898
  v4079
def k0_mult316 : BitVec 32 :=
  let c0_i32 : BitVec 32 := 0#32
  let c8448_i32_1904 : BitVec 32 := 8448#32
  let v4097 : BitVec 32 := Scalar.muli c0_i32 c8448_i32_1904
  let c5120_i32 : BitVec 32 := 5120#32
  let v4098 : BitVec 32 := Scalar.addi v4097 c5120_i32
  v4098
def k0_mult317 : BitVec 32 :=
  let c0_i32 : BitVec 32 := 0#32
  let c8448_i32_1908 : BitVec 32 := 8448#32
  let v4104 : BitVec 32 := Scalar.muli c0_i32 c8448_i32_1908
  let c4864_i32_1909 : BitVec 32 := 4864#32
  let v4105 : BitVec 32 := Scalar.addi v4104 c4864_i32_1909
  v4105
def k0_mult318 : BitVec 32 :=
  let c0_i32 : BitVec 32 := 0#32
  let c8448_i32_1915 : BitVec 32 := 8448#32
  let v4123 : BitVec 32 := Scalar.muli c0_i32 c8448_i32_1915
  let c5120_i32_1916 : BitVec 32 := 5120#32
  let v4124 : BitVec 32 := Scalar.addi v4123 c5120_i32_1916
  v4124
def k0_mult319 : BitVec 32 :=
  let c0_i32 : BitVec 32 := 0#32
  let c8448_i32_1920 : BitVec 32 := 8448#32
  let v4130 : BitVec 32 := Scalar.muli c0_i32 c8448_i32_1920
  let c4864_i32_1921 : BitVec 32 := 4864#32
  let v4131 : BitVec 32 := Scalar.addi v4130 c4864_i32_1921
  v4131
def k0_mult320 : BitVec 32 :=
  let c0_i32 : BitVec 32 := 0#32
  let c8448_i32_1927 : BitVec 32 := 8448#32
  let v4149 : BitVec 32 := Scalar.muli c0_i32 c8448_i32_1927
  let c5120_i32_1928 : BitVec 32 := 5120#32
  let v4150 : BitVec 32 := Scalar.addi v4149 c5120_i32_1928
  v4150
def k0_mult321 : BitVec 32 :=
  let c0_i32 : BitVec 32 := 0#32
  let c8448_i32_1932 : BitVec 32 := 8448#32
  let v4156 : BitVec 32 := Scalar.muli c0_i32 c8448_i32_1932
  let c4864_i32_1933 : BitVec 32 := 4864#32
  let v4157 : BitVec 32 := Scalar.addi v4156 c4864_i32_1933
  v4157
def k0_mult322 : BitVec 32 :=
  let c0_i32 : BitVec 32 := 0#32
  let c8448_i32_1939 : BitVec 32 := 8448#32
  let v4175 : BitVec 32 := Scalar.muli c0_i32 c8448_i32_1939
  let c5120_i32_1940 : BitVec 32 := 5120#32
  let v4176 : BitVec 32 := Scalar.addi v4175 c5120_i32_1940
  v4176
def k0_mult323 : BitVec 32 :=
  let c0_i32 : BitVec 32 := 0#32
  let c8448_i32_1944 : BitVec 32 := 8448#32
  let v4182 : BitVec 32 := Scalar.muli c0_i32 c8448_i32_1944
  let c4864_i32_1945 : BitVec 32 := 4864#32
  let v4183 : BitVec 32 := Scalar.addi v4182 c4864_i32_1945
  v4183
def k0_mult324 : BitVec 32 :=
  let c0_i32 : BitVec 32 := 0#32
  let c8448_i32_1951 : BitVec 32 := 8448#32
  let v4201 : BitVec 32 := Scalar.muli c0_i32 c8448_i32_1951
  let c5120_i32_1952 : BitVec 32 := 5120#32
  let v4202 : BitVec 32 := Scalar.addi v4201 c5120_i32_1952
  v4202
def k0_mult325 : BitVec 32 :=
  let c0_i32 : BitVec 32 := 0#32
  let c8448_i32_1956 : BitVec 32 := 8448#32
  let v4208 : BitVec 32 := Scalar.muli c0_i32 c8448_i32_1956
  let c4864_i32_1957 : BitVec 32 := 4864#32
  let v4209 : BitVec 32 := Scalar.addi v4208 c4864_i32_1957
  v4209
def k0_mult326 : BitVec 32 :=
  let c0_i32 : BitVec 32 := 0#32
  let c8448_i32_1963 : BitVec 32 := 8448#32
  let v4227 : BitVec 32 := Scalar.muli c0_i32 c8448_i32_1963
  let c5120_i32_1964 : BitVec 32 := 5120#32
  let v4228 : BitVec 32 := Scalar.addi v4227 c5120_i32_1964
  v4228
def k0_mult327 : BitVec 32 :=
  let c0_i32 : BitVec 32 := 0#32
  let c8448_i32_1968 : BitVec 32 := 8448#32
  let v4234 : BitVec 32 := Scalar.muli c0_i32 c8448_i32_1968
  let c5120_i32_1969 : BitVec 32 := 5120#32
  let v4235 : BitVec 32 := Scalar.addi v4234 c5120_i32_1969
  v4235
def k0_mult328 : BitVec 32 :=
  let c0_i32 : BitVec 32 := 0#32
  let c8448_i32_1975 : BitVec 32 := 8448#32
  let v4253 : BitVec 32 := Scalar.muli c0_i32 c8448_i32_1975
  let c5120_i32_1976 : BitVec 32 := 5120#32
  let v4254 : BitVec 32 := Scalar.addi v4253 c5120_i32_1976
  v4254
def k0_mult329 : BitVec 32 :=
  let c0_i32 : BitVec 32 := 0#32
  let c8448_i32_1980 : BitVec 32 := 8448#32
  let v4260 : BitVec 32 := Scalar.muli c0_i32 c8448_i32_1980
  let c5120_i32_1981 : BitVec 32 := 5120#32
  let v4261 : BitVec 32 := Scalar.addi v4260 c5120_i32_1981
  v4261
def k0_mult330 : BitVec 32 :=
  let c0_i32 : BitVec 32 := 0#32
  let c8448_i32_1987 : BitVec 32 := 8448#32
  let v4279 : BitVec 32 := Scalar.muli c0_i32 c8448_i32_1987
  let c5120_i32_1988 : BitVec 32 := 5120#32
  let v4280 : BitVec 32 := Scalar.addi v4279 c5120_i32_1988
  v4280
def k0_mult331 : BitVec 32 :=
  let c0_i32 : BitVec 32 := 0#32
  let c8448_i32_1992 : BitVec 32 := 8448#32
  let v4286 : BitVec 32 := Scalar.muli c0_i32 c8448_i32_1992
  let c5120_i32_1993 : BitVec 32 := 5120#32
  let v4287 : BitVec 32 := Scalar.addi v4286 c5120_i32_1993
  v4287
def k0_mult332 : BitVec 32 :=
  let c0_i32 : BitVec 32 := 0#32
  let c8448_i32_1999 : BitVec 32 := 8448#32
  let v4305 : BitVec 32 := Scalar.muli c0_i32 c8448_i32_1999
  let c5376_i32 : BitVec 32 := 5376#32
  let v4306 : BitVec 32 := Scalar.addi v4305 c5376_i32
  v4306
def k0_mult333 : BitVec 32 :=
  let c0_i32 : BitVec 32 := 0#32
  let c8448_i32_2003 : BitVec 32 := 8448#32
  let v4312 : BitVec 32 := Scalar.muli c0_i32 c8448_i32_2003
  let c5120_i32_2004 : BitVec 32 := 5120#32
  let v4313 : BitVec 32 := Scalar.addi v4312 c5120_i32_2004
  v4313
def k0_mult334 : BitVec 32 :=
  let c0_i32 : BitVec 32 := 0#32
  let c8448_i32_2010 : BitVec 32 := 8448#32
  let v4331 : BitVec 32 := Scalar.muli c0_i32 c8448_i32_2010
  let c5376_i32_2011 : BitVec 32 := 5376#32
  let v4332 : BitVec 32 := Scalar.addi v4331 c5376_i32_2011
  v4332
def k0_mult335 : BitVec 32 :=
  let c0_i32 : BitVec 32 := 0#32
  let c8448_i32_2015 : BitVec 32 := 8448#32
  let v4338 : BitVec 32 := Scalar.muli c0_i32 c8448_i32_2015
  let c5120_i32_2016 : BitVec 32 := 5120#32
  let v4339 : BitVec 32 := Scalar.addi v4338 c5120_i32_2016
  v4339
def k0_mult336 : BitVec 32 :=
  let c0_i32 : BitVec 32 := 0#32
  let c8448_i32_2022 : BitVec 32 := 8448#32
  let v4357 : BitVec 32 := Scalar.muli c0_i32 c8448_i32_2022
  let c5376_i32_2023 : BitVec 32 := 5376#32
  let v4358 : BitVec 32 := Scalar.addi v4357 c5376_i32_2023
  v4358
def k0_mult337 : BitVec 32 :=
  let c0_i32 : BitVec 32 := 0#32
  let c8448_i32_2027 : BitVec 32 := 8448#32
  let v4364 : BitVec 32 := Scalar.muli c0_i32 c8448_i32_2027
  let c5120_i32_2028 : BitVec 32 := 5120#32
  let v4365 : BitVec 32 := Scalar.addi v4364 c5120_i32_2028
  v4365
def k0_mult338 : BitVec 32 :=
  let c0_i32 : BitVec 32 := 0#32
  let c8448_i32_2034 : BitVec 32 := 8448#32
  let v4383 : BitVec 32 := Scalar.muli c0_i32 c8448_i32_2034
  let c5376_i32_2035 : BitVec 32 := 5376#32
  let v4384 : BitVec 32 := Scalar.addi v4383 c5376_i32_2035
  v4384
def k0_mult339 : BitVec 32 :=
  let c0_i32 : BitVec 32 := 0#32
  let c8448_i32_2039 : BitVec 32 := 8448#32
  let v4390 : BitVec 32 := Scalar.muli c0_i32 c8448_i32_2039
  let c5120_i32_2040 : BitVec 32 := 5120#32
  let v4391 : BitVec 32 := Scalar.addi v4390 c5120_i32_2040
  v4391
def k0_mult340 : BitVec 32 :=
  let c0_i32 : BitVec 32 := 0#32
  let c8448_i32_2046 : BitVec 32 := 8448#32
  let v4409 : BitVec 32 := Scalar.muli c0_i32 c8448_i32_2046
  let c5376_i32_2047 : BitVec 32 := 5376#32
  let v4410 : BitVec 32 := Scalar.addi v4409 c5376_i32_2047
  v4410
def k0_mult341 : BitVec 32 :=
  let c0_i32 : BitVec 32 := 0#32
  let c8448_i32_2051 : BitVec 32 := 8448#32
  let v4416 : BitVec 32 := Scalar.muli c0_i32 c8448_i32_2051
  let c5120_i32_2052 : BitVec 32 := 5120#32
  let v4417 : BitVec 32 := Scalar.addi v4416 c5120_i32_2052
  v4417
def k0_mult342 : BitVec 32 :=
  let c0_i32 : BitVec 32 := 0#32
  let c8448_i32_2058 : BitVec 32 := 8448#32
  let v4435 : BitVec 32 := Scalar.muli c0_i32 c8448_i32_2058
  let c5376_i32_2059 : BitVec 32 := 5376#32
  let v4436 : BitVec 32 := Scalar.addi v4435 c5376_i32_2059
  v4436
def k0_mult343 : BitVec 32 :=
  let c0_i32 : BitVec 32 := 0#32
  let c8448_i32_2063 : BitVec 32 := 8448#32
  let v4442 : BitVec 32 := Scalar.muli c0_i32 c8448_i32_2063
  let c5376_i32_2064 : BitVec 32 := 5376#32
  let v4443 : BitVec 32 := Scalar.addi v4442 c5376_i32_2064
  v4443
def k0_mult344 : BitVec 32 :=
  let c0_i32 : BitVec 32 := 0#32
  let c8448_i32_2070 : BitVec 32 := 8448#32
  let v4461 : BitVec 32 := Scalar.muli c0_i32 c8448_i32_2070
  let c5376_i32_2071 : BitVec 32 := 5376#32
  let v4462 : BitVec 32 := Scalar.addi v4461 c5376_i32_2071
  v4462
def k0_mult345 : BitVec 32 :=
  let c0_i32 : BitVec 32 := 0#32
  let c8448_i32_2075 : BitVec 32 := 8448#32
  let v4468 : BitVec 32 := Scalar.muli c0_i32 c8448_i32_2075
  let c5376_i32_2076 : BitVec 32 := 5376#32
  let v4469 : BitVec 32 := Scalar.addi v4468 c5376_i32_2076
  v4469
def k0_mult346 : BitVec 32 :=
  let c0_i32 : BitVec 32 := 0#32
  let c8448_i32_2082 : BitVec 32 := 8448#32
  let v4487 : BitVec 32 := Scalar.muli c0_i32 c8448_i32_2082
  let c5376_i32_2083 : BitVec 32 := 5376#32
  let v4488 : BitVec 32 := Scalar.addi v4487 c5376_i32_2083
  v4488
def k0_mult347 : BitVec 32 :=
  let c0_i32 : BitVec 32 := 0#32
  let c8448_i32_2087 : BitVec 32 := 8448#32
  let v4494 : BitVec 32 := Scalar.muli c0_i32 c8448_i32_2087
  let c5376_i32_2088 : BitVec 32 := 5376#32
  let v4495 : BitVec 32 := Scalar.addi v4494 c5376_i32_2088
  v4495
def k0_mult348 : BitVec 32 :=
  let c0_i32 : BitVec 32 := 0#32
  let c8448_i32_2094 : BitVec 32 := 8448#32
  let v4513 : BitVec 32 := Scalar.muli c0_i32 c8448_i32_2094
  let c5632_i32 : BitVec 32 := 5632#32
  let v4514 : BitVec 32 := Scalar.addi v4513 c5632_i32
  v4514
def k0_mult349 : BitVec 32 :=
  let c0_i32 : BitVec 32 := 0#32
  let c8448_i32_2098 : BitVec 32 := 8448#32
  let v4520 : BitVec 32 := Scalar.muli c0_i32 c8448_i32_2098
  let c5376_i32_2099 : BitVec 32 := 5376#32
  let v4521 : BitVec 32 := Scalar.addi v4520 c5376_i32_2099
  v4521
def k0_mult350 : BitVec 32 :=
  let c0_i32 : BitVec 32 := 0#32
  let c8448_i32_2105 : BitVec 32 := 8448#32
  let v4539 : BitVec 32 := Scalar.muli c0_i32 c8448_i32_2105
  let c5632_i32_2106 : BitVec 32 := 5632#32
  let v4540 : BitVec 32 := Scalar.addi v4539 c5632_i32_2106
  v4540
def k0_mult351 : BitVec 32 :=
  let c0_i32 : BitVec 32 := 0#32
  let c8448_i32_2110 : BitVec 32 := 8448#32
  let v4546 : BitVec 32 := Scalar.muli c0_i32 c8448_i32_2110
  let c5376_i32_2111 : BitVec 32 := 5376#32
  let v4547 : BitVec 32 := Scalar.addi v4546 c5376_i32_2111
  v4547
def k0_mult352 : BitVec 32 :=
  let c0_i32 : BitVec 32 := 0#32
  let c8448_i32_2117 : BitVec 32 := 8448#32
  let v4565 : BitVec 32 := Scalar.muli c0_i32 c8448_i32_2117
  let c5632_i32_2118 : BitVec 32 := 5632#32
  let v4566 : BitVec 32 := Scalar.addi v4565 c5632_i32_2118
  v4566
def k0_mult353 : BitVec 32 :=
  let c0_i32 : BitVec 32 := 0#32
  let c8448_i32_2122 : BitVec 32 := 8448#32
  let v4572 : BitVec 32 := Scalar.muli c0_i32 c8448_i32_2122
  let c5376_i32_2123 : BitVec 32 := 5376#32
  let v4573 : BitVec 32 := Scalar.addi v4572 c5376_i32_2123
  v4573
def k0_mult354 : BitVec 32 :=
  let c0_i32 : BitVec 32 := 0#32
  let c8448_i32_2129 : BitVec 32 := 8448#32
  let v4591 : BitVec 32 := Scalar.muli c0_i32 c8448_i32_2129
  let c5632_i32_2130 : BitVec 32 := 5632#32
  let v4592 : BitVec 32 := Scalar.addi v4591 c5632_i32_2130
  v4592
def k0_mult355 : BitVec 32 :=
  let c0_i32 : BitVec 32 := 0#32
  let c8448_i32_2134 : BitVec 32 := 8448#32
  let v4598 : BitVec 32 := Scalar.muli c0_i32 c8448_i32_2134
  let c5376_i32_2135 : BitVec 32 := 5376#32
  let v4599 : BitVec 32 := Scalar.addi v4598 c5376_i32_2135
  v4599
def k0_mult356 : BitVec 32 :=
  let c0_i32 : BitVec 32 := 0#32
  let c8448_i32_2141 : BitVec 32 := 8448#32
  let v4617 : BitVec 32 := Scalar.muli c0_i32 c8448_i32_2141
  let c5632_i32_2142 : BitVec 32 := 5632#32
  let v4618 : BitVec 32 := Scalar.addi v4617 c5632_i32_2142
  v4618
def k0_mult357 : BitVec 32 :=
  let c0_i32 : BitVec 32 := 0#32
  let c8448_i32_2146 : BitVec 32 := 8448#32
  let v4624 : BitVec 32 := Scalar.muli c0_i32 c8448_i32_2146
  let c5376_i32_2147 : BitVec 32 := 5376#32
  let v4625 : BitVec 32 := Scalar.addi v4624 c5376_i32_2147
  v4625
def k0_mult358 : BitVec 32 :=
  let c0_i32 : BitVec 32 := 0#32
  let c8448_i32_2153 : BitVec 32 := 8448#32
  let v4643 : BitVec 32 := Scalar.muli c0_i32 c8448_i32_2153
  let c5632_i32_2154 : BitVec 32 := 5632#32
  let v4644 : BitVec 32 := Scalar.addi v4643 c5632_i32_2154
  v4644
def k0_mult359 : BitVec 32 :=
  let c0_i32 : BitVec 32 := 0#32
  let c8448_i32_2158 : BitVec 32 := 8448#32
  let v4650 : BitVec 32 := Scalar.muli c0_i32 c8448_i32_2158
  let c5632_i32_2159 : BitVec 32 := 5632#32
  let v4651 : BitVec 32 := Scalar.addi v4650 c5632_i32_2159
  v4651
def k0_mult360 : BitVec 32 :=
  let c0_i32 : BitVec 32 := 0#32
  let c8448_i32_2165 : BitVec 32 := 8448#32
  let v4669 : BitVec 32 := Scalar.muli c0_i32 c8448_i32_2165
  let c5632_i32_2166 : BitVec 32 := 5632#32
  let v4670 : BitVec 32 := Scalar.addi v4669 c5632_i32_2166
  v4670
def k0_mult361 : BitVec 32 :=
  let c0_i32 : BitVec 32 := 0#32
  let c8448_i32_2170 : BitVec 32 := 8448#32
  let v4676 : BitVec 32 := Scalar.muli c0_i32 c8448_i32_2170
  let c5632_i32_2171 : BitVec 32 := 5632#32
  let v4677 : BitVec 32 := Scalar.addi v4676 c5632_i32_2171
  v4677
def k0_mult362 : BitVec 32 :=
  let c0_i32 : BitVec 32 := 0#32
  let c8448_i32_2177 : BitVec 32 := 8448#32
  let v4695 : BitVec 32 := Scalar.muli c0_i32 c8448_i32_2177
  let c5632_i32_2178 : BitVec 32 := 5632#32
  let v4696 : BitVec 32 := Scalar.addi v4695 c5632_i32_2178
  v4696
def k0_mult363 : BitVec 32 :=
  let c0_i32 : BitVec 32 := 0#32
  let c8448_i32_2182 : BitVec 32 := 8448#32
  let v4702 : BitVec 32 := Scalar.muli c0_i32 c8448_i32_2182
  let c5632_i32_2183 : BitVec 32 := 5632#32
  let v4703 : BitVec 32 := Scalar.addi v4702 c5632_i32_2183
  v4703
def k0_mult364 : BitVec 32 :=
  let c0_i32 : BitVec 32 := 0#32
  let c8448_i32_2189 : BitVec 32 := 8448#32
  let v4721 : BitVec 32 := Scalar.muli c0_i32 c8448_i32_2189
  let c5888_i32 : BitVec 32 := 5888#32
  let v4722 : BitVec 32 := Scalar.addi v4721 c5888_i32
  v4722
def k0_mult365 : BitVec 32 :=
  let c0_i32 : BitVec 32 := 0#32
  let c8448_i32_2193 : BitVec 32 := 8448#32
  let v4728 : BitVec 32 := Scalar.muli c0_i32 c8448_i32_2193
  let c5632_i32_2194 : BitVec 32 := 5632#32
  let v4729 : BitVec 32 := Scalar.addi v4728 c5632_i32_2194
  v4729
def k0_mult366 : BitVec 32 :=
  let c0_i32 : BitVec 32 := 0#32
  let c8448_i32_2200 : BitVec 32 := 8448#32
  let v4747 : BitVec 32 := Scalar.muli c0_i32 c8448_i32_2200
  let c5888_i32_2201 : BitVec 32 := 5888#32
  let v4748 : BitVec 32 := Scalar.addi v4747 c5888_i32_2201
  v4748
def k0_mult367 : BitVec 32 :=
  let c0_i32 : BitVec 32 := 0#32
  let c8448_i32_2205 : BitVec 32 := 8448#32
  let v4754 : BitVec 32 := Scalar.muli c0_i32 c8448_i32_2205
  let c5632_i32_2206 : BitVec 32 := 5632#32
  let v4755 : BitVec 32 := Scalar.addi v4754 c5632_i32_2206
  v4755
def k0_mult368 : BitVec 32 :=
  let c0_i32 : BitVec 32 := 0#32
  let c8448_i32_2212 : BitVec 32 := 8448#32
  let v4773 : BitVec 32 := Scalar.muli c0_i32 c8448_i32_2212
  let c5888_i32_2213 : BitVec 32 := 5888#32
  let v4774 : BitVec 32 := Scalar.addi v4773 c5888_i32_2213
  v4774
def k0_mult369 : BitVec 32 :=
  let c0_i32 : BitVec 32 := 0#32
  let c8448_i32_2217 : BitVec 32 := 8448#32
  let v4780 : BitVec 32 := Scalar.muli c0_i32 c8448_i32_2217
  let c5632_i32_2218 : BitVec 32 := 5632#32
  let v4781 : BitVec 32 := Scalar.addi v4780 c5632_i32_2218
  v4781
def k0_mult370 : BitVec 32 :=
  let c0_i32 : BitVec 32 := 0#32
  let c8448_i32_2224 : BitVec 32 := 8448#32
  let v4799 : BitVec 32 := Scalar.muli c0_i32 c8448_i32_2224
  let c5888_i32_2225 : BitVec 32 := 5888#32
  let v4800 : BitVec 32 := Scalar.addi v4799 c5888_i32_2225
  v4800
def k0_mult371 : BitVec 32 :=
  let c0_i32 : BitVec 32 := 0#32
  let c8448_i32_2229 : BitVec 32 := 8448#32
  let v4806 : BitVec 32 := Scalar.muli c0_i32 c8448_i32_2229
  let c5632_i32_2230 : BitVec 32 := 5632#32
  let v4807 : BitVec 32 := Scalar.addi v4806 c5632_i32_2230
  v4807
def k0_mult372 : BitVec 32 :=
  let c0_i32 : BitVec 32 := 0#32
  let c8448_i32_2236 : BitVec 32 := 8448#32
  let v4825 : BitVec 32 := Scalar.muli c0_i32 c8448_i32_2236
  let c5888_i32_2237 : BitVec 32 := 5888#32
  let v4826 : BitVec 32 := Scalar.addi v4825 c5888_i32_2237
  v4826
def k0_mult373 : BitVec 32 :=
  let c0_i32 : BitVec 32 := 0#32
  let c8448_i32_2241 : BitVec 32 := 8448#32
  let v4832 : BitVec 32 := Scalar.muli c0_i32 c8448_i32_2241
  let c5632_i32_2242 : BitVec 32 := 5632#32
  let v4833 : BitVec 32 := Scalar.addi v4832 c5632_i32_2242
  v4833
def k0_mult374 : BitVec 32 :=
  let c0_i32 : BitVec 32 := 0#32
  let c8448_i32_2248 : BitVec 32 := 8448#32
  let v4851 : BitVec 32 := Scalar.muli c0_i32 c8448_i32_2248
  let c5888_i32_2249 : BitVec 32 := 5888#32
  let v4852 : BitVec 32 := Scalar.addi v4851 c5888_i32_2249
  v4852
def k0_mult375 : BitVec 32 :=
  let c0_i32 : BitVec 32 := 0#32
  let c8448_i32_2253 : BitVec 32 := 8448#32
  let v4858 : BitVec 32 := Scalar.muli c0_i32 c8448_i32_2253
  let c5888_i32_2254 : BitVec 32 := 5888#32
  let v4859 : BitVec 32 := Scalar.addi v4858 c5888_i32_2254
  v4859
def k0_mult376 : BitVec 32 :=
  let c0_i32 : BitVec 32 := 0#32
  let c8448_i32_2260 : BitVec 32 := 8448#32
  let v4877 : BitVec 32 := Scalar.muli c0_i32 c8448_i32_2260
  let c5888_i32_2261 : BitVec 32 := 5888#32
  let v4878 : BitVec 32 := Scalar.addi v4877 c5888_i32_2261
  v4878
def k0_mult377 : BitVec 32 :=
  let c0_i32 : BitVec 32 := 0#32
  let c8448_i32_2265 : BitVec 32 := 8448#32
  let v4884 : BitVec 32 := Scalar.muli c0_i32 c8448_i32_2265
  let c5888_i32_2266 : BitVec 32 := 5888#32
  let v4885 : BitVec 32 := Scalar.addi v4884 c5888_i32_2266
  v4885
def k0_mult378 : BitVec 32 :=
  let c0_i32 : BitVec 32 := 0#32
  let c8448_i32_2272 : BitVec 32 := 8448#32
  let v4903 : BitVec 32 := Scalar.muli c0_i32 c8448_i32_2272
  let c5888_i32_2273 : BitVec 32 := 5888#32
  let v4904 : BitVec 32 := Scalar.addi v4903 c5888_i32_2273
  v4904
def k0_mult379 : BitVec 32 :=
  let c0_i32 : BitVec 32 := 0#32
  let c8448_i32_2277 : BitVec 32 := 8448#32
  let v4910 : BitVec 32 := Scalar.muli c0_i32 c8448_i32_2277
  let c5888_i32_2278 : BitVec 32 := 5888#32
  let v4911 : BitVec 32 := Scalar.addi v4910 c5888_i32_2278
  v4911
def k0_mult380 : BitVec 32 :=
  let c0_i32 : BitVec 32 := 0#32
  let c8448_i32_2284 : BitVec 32 := 8448#32
  let v4929 : BitVec 32 := Scalar.muli c0_i32 c8448_i32_2284
  let c6144_i32 : BitVec 32 := 6144#32
  let v4930 : BitVec 32 := Scalar.addi v4929 c6144_i32
  v4930
def k0_mult381 : BitVec 32 :=
  let c0_i32 : BitVec 32 := 0#32
  let c8448_i32_2288 : BitVec 32 := 8448#32
  let v4936 : BitVec 32 := Scalar.muli c0_i32 c8448_i32_2288
  let c5888_i32_2289 : BitVec 32 := 5888#32
  let v4937 : BitVec 32 := Scalar.addi v4936 c5888_i32_2289
  v4937
def k0_mult382 : BitVec 32 :=
  let c0_i32 : BitVec 32 := 0#32
  let c8448_i32_2295 : BitVec 32 := 8448#32
  let v4955 : BitVec 32 := Scalar.muli c0_i32 c8448_i32_2295
  let c6144_i32_2296 : BitVec 32 := 6144#32
  let v4956 : BitVec 32 := Scalar.addi v4955 c6144_i32_2296
  v4956
def k0_mult383 : BitVec 32 :=
  let c0_i32 : BitVec 32 := 0#32
  let c8448_i32_2300 : BitVec 32 := 8448#32
  let v4962 : BitVec 32 := Scalar.muli c0_i32 c8448_i32_2300
  let c5888_i32_2301 : BitVec 32 := 5888#32
  let v4963 : BitVec 32 := Scalar.addi v4962 c5888_i32_2301
  v4963
def k0_mult384 : BitVec 32 :=
  let c0_i32 : BitVec 32 := 0#32
  let c8448_i32_2307 : BitVec 32 := 8448#32
  let v4981 : BitVec 32 := Scalar.muli c0_i32 c8448_i32_2307
  let c6144_i32_2308 : BitVec 32 := 6144#32
  let v4982 : BitVec 32 := Scalar.addi v4981 c6144_i32_2308
  v4982
def k0_mult385 : BitVec 32 :=
  let c0_i32 : BitVec 32 := 0#32
  let c8448_i32_2312 : BitVec 32 := 8448#32
  let v4988 : BitVec 32 := Scalar.muli c0_i32 c8448_i32_2312
  let c5888_i32_2313 : BitVec 32 := 5888#32
  let v4989 : BitVec 32 := Scalar.addi v4988 c5888_i32_2313
  v4989
def k0_mult386 : BitVec 32 :=
  let c0_i32 : BitVec 32 := 0#32
  let c8448_i32_2319 : BitVec 32 := 8448#32
  let v5007 : BitVec 32 := Scalar.muli c0_i32 c8448_i32_2319
  let c6144_i32_2320 : BitVec 32 := 6144#32
  let v5008 : BitVec 32 := Scalar.addi v5007 c6144_i32_2320
  v5008
def k0_mult387 : BitVec 32 :=
  let c0_i32 : BitVec 32 := 0#32
  let c8448_i32_2324 : BitVec 32 := 8448#32
  let v5014 : BitVec 32 := Scalar.muli c0_i32 c8448_i32_2324
  let c5888_i32_2325 : BitVec 32 := 5888#32
  let v5015 : BitVec 32 := Scalar.addi v5014 c5888_i32_2325
  v5015
def k0_mult388 : BitVec 32 :=
  let c0_i32 : BitVec 32 := 0#32
  let c8448_i32_2331 : BitVec 32 := 8448#32
  let v5033 : BitVec 32 := Scalar.muli c0_i32 c8448_i32_2331
  let c6144_i32_2332 : BitVec 32 := 6144#32
  let v5034 : BitVec 32 := Scalar.addi v5033 c6144_i32_2332
  v5034
def k0_mult389 : BitVec 32 :=
  let c0_i32 : BitVec 32 := 0#32
  let c8448_i32_2336 : BitVec 32 := 8448#32
  let v5040 : BitVec 32 := Scalar.muli c0_i32 c8448_i32_2336
  let c5888_i32_2337 : BitVec 32 := 5888#32
  let v5041 : BitVec 32 := Scalar.addi v5040 c5888_i32_2337
  v5041
def k0_mult390 : BitVec 32 :=
  let c0_i32 : BitVec 32 := 0#32
  let c8448_i32_2343 : BitVec 32 := 8448#32
  let v5059 : BitVec 32 := Scalar.muli c0_i32 c8448_i32_2343
  let c6144_i32_2344 : BitVec 32 := 6144#32
  let v5060 : BitVec 32 := Scalar.addi v5059 c6144_i32_2344
  v5060
def k0_mult391 : BitVec 32 :=
  let c0_i32 : BitVec 32 := 0#32
  let c8448_i32_2348 : BitVec 32 := 8448#32
  let v5066 : BitVec 32 := Scalar.muli c0_i32 c8448_i32_2348
  let c6144_i32_2349 : BitVec 32 := 6144#32
  let v5067 : BitVec 32 := Scalar.addi v5066 c6144_i32_2349
  v5067
def k0_mult392 : BitVec 32 :=
  let c0_i32 : BitVec 32 := 0#32
  let c8448_i32_2355 : BitVec 32 := 8448#32
  let v5085 : BitVec 32 := Scalar.muli c0_i32 c8448_i32_2355
  let c6144_i32_2356 : BitVec 32 := 6144#32
  let v5086 : BitVec 32 := Scalar.addi v5085 c6144_i32_2356
  v5086
def k0_mult393 : BitVec 32 :=
  let c0_i32 : BitVec 32 := 0#32
  let c8448_i32_2360 : BitVec 32 := 8448#32
  let v5092 : BitVec 32 := Scalar.muli c0_i32 c8448_i32_2360
  let c6144_i32_2361 : BitVec 32 := 6144#32
  let v5093 : BitVec 32 := Scalar.addi v5092 c6144_i32_2361
  v5093
def k0_mult394 : BitVec 32 :=
  let c0_i32 : BitVec 32 := 0#32
  let c8448_i32_2367 : BitVec 32 := 8448#32
  let v5111 : BitVec 32 := Scalar.muli c0_i32 c8448_i32_2367
  let c6144_i32_2368 : BitVec 32 := 6144#32
  let v5112 : BitVec 32 := Scalar.addi v5111 c6144_i32_2368
  v5112
def k0_mult395 : BitVec 32 :=
  let c0_i32 : BitVec 32 := 0#32
  let c8448_i32_2372 : BitVec 32 := 8448#32
  let v5118 : BitVec 32 := Scalar.muli c0_i32 c8448_i32_2372
  let c6144_i32_2373 : BitVec 32 := 6144#32
  let v5119 : BitVec 32 := Scalar.addi v5118 c6144_i32_2373
  v5119
def k0_mult396 : BitVec 32 :=
  let c0_i32 : BitVec 32 := 0#32
  let c8448_i32_2379 : BitVec 32 := 8448#32
  let v5137 : BitVec 32 := Scalar.muli c0_i32 c8448_i32_2379
  let c6400_i32 : BitVec 32 := 6400#32
  let v5138 : BitVec 32 := Scalar.addi v5137 c6400_i32
  v5138
def k0_mult397 : BitVec 32 :=
  let c0_i32 : BitVec 32 := 0#32
  let c8448_i32_2383 : BitVec 32 := 8448#32
  let v5144 : BitVec 32 := Scalar.muli c0_i32 c8448_i32_2383
  let c6144_i32_2384 : BitVec 32 := 6144#32
  let v5145 : BitVec 32 := Scalar.addi v5144 c6144_i32_2384
  v5145
def k0_mult398 : BitVec 32 :=
  let c0_i32 : BitVec 32 := 0#32
  let c8448_i32_2390 : BitVec 32 := 8448#32
  let v5163 : BitVec 32 := Scalar.muli c0_i32 c8448_i32_2390
  let c6400_i32_2391 : BitVec 32 := 6400#32
  let v5164 : BitVec 32 := Scalar.addi v5163 c6400_i32_2391
  v5164
def k0_mult399 : BitVec 32 :=
  let c0_i32 : BitVec 32 := 0#32
  let c8448_i32_2395 : BitVec 32 := 8448#32
  let v5170 : BitVec 32 := Scalar.muli c0_i32 c8448_i32_2395
  let c6144_i32_2396 : BitVec 32 := 6144#32
  let v5171 : BitVec 32 := Scalar.addi v5170 c6144_i32_2396
  v5171
def k0_mult400 : BitVec 32 :=
  let c0_i32 : BitVec 32 := 0#32
  let c8448_i32_2402 : BitVec 32 := 8448#32
  let v5189 : BitVec 32 := Scalar.muli c0_i32 c8448_i32_2402
  let c6400_i32_2403 : BitVec 32 := 6400#32
  let v5190 : BitVec 32 := Scalar.addi v5189 c6400_i32_2403
  v5190
def k0_mult401 : BitVec 32 :=
  let c0_i32 : BitVec 32 := 0#32
  let c8448_i32_2407 : BitVec 32 := 8448#32
  let v5196 : BitVec 32 := Scalar.muli c0_i32 c8448_i32_2407
  let c6144_i32_2408 : BitVec 32 := 6144#32
  let v5197 : BitVec 32 := Scalar.addi v5196 c6144_i32_2408
  v5197
def k0_mult402 : BitVec 32 :=
  let c0_i32 : BitVec 32 := 0#32
  let c8448_i32_2414 : BitVec 32 := 8448#32
  let v5215 : BitVec 32 := Scalar.muli c0_i32 c8448_i32_2414
  let c6400_i32_2415 : BitVec 32 := 6400#32
  let v5216 : BitVec 32 := Scalar.addi v5215 c6400_i32_2415
  v5216
def k0_mult403 : BitVec 32 :=
  let c0_i32 : BitVec 32 := 0#32
  let c8448_i32_2419 : BitVec 32 := 8448#32
  let v5222 : BitVec 32 := Scalar.muli c0_i32 c8448_i32_2419
  let c6144_i32_2420 : BitVec 32 := 6144#32
  let v5223 : BitVec 32 := Scalar.addi v5222 c6144_i32_2420
  v5223
def k0_mult404 : BitVec 32 :=
  let c0_i32 : BitVec 32 := 0#32
  let c8448_i32_2426 : BitVec 32 := 8448#32
  let v5241 : BitVec 32 := Scalar.muli c0_i32 c8448_i32_2426
  let c6400_i32_2427 : BitVec 32 := 6400#32
  let v5242 : BitVec 32 := Scalar.addi v5241 c6400_i32_2427
  v5242
def k0_mult405 : BitVec 32 :=
  let c0_i32 : BitVec 32 := 0#32
  let c8448_i32_2431 : BitVec 32 := 8448#32
  let v5248 : BitVec 32 := Scalar.muli c0_i32 c8448_i32_2431
  let c6144_i32_2432 : BitVec 32 := 6144#32
  let v5249 : BitVec 32 := Scalar.addi v5248 c6144_i32_2432
  v5249
def k0_mult406 : BitVec 32 :=
  let c0_i32 : BitVec 32 := 0#32
  let c8448_i32_2438 : BitVec 32 := 8448#32
  let v5267 : BitVec 32 := Scalar.muli c0_i32 c8448_i32_2438
  let c6400_i32_2439 : BitVec 32 := 6400#32
  let v5268 : BitVec 32 := Scalar.addi v5267 c6400_i32_2439
  v5268
def k0_mult407 : BitVec 32 :=
  let c0_i32 : BitVec 32 := 0#32
  let c8448_i32_2443 : BitVec 32 := 8448#32
  let v5274 : BitVec 32 := Scalar.muli c0_i32 c8448_i32_2443
  let c6400_i32_2444 : BitVec 32 := 6400#32
  let v5275 : BitVec 32 := Scalar.addi v5274 c6400_i32_2444
  v5275
def k0_mult408 : BitVec 32 :=
  let c0_i32 : BitVec 32 := 0#32
  let c8448_i32_2450 : BitVec 32 := 8448#32
  let v5293 : BitVec 32 := Scalar.muli c0_i32 c8448_i32_2450
  let c6400_i32_2451 : BitVec 32 := 6400#32
  let v5294 : BitVec 32 := Scalar.addi v5293 c6400_i32_2451
  v5294
def k0_mult409 : BitVec 32 :=
  let c0_i32 : BitVec 32 := 0#32
  let c8448_i32_2455 : BitVec 32 := 8448#32
  let v5300 : BitVec 32 := Scalar.muli c0_i32 c8448_i32_2455
  let c6400_i32_2456 : BitVec 32 := 6400#32
  let v5301 : BitVec 32 := Scalar.addi v5300 c6400_i32_2456
  v5301
def k0_mult410 : BitVec 32 :=
  let c0_i32 : BitVec 32 := 0#32
  let c8448_i32_2462 : BitVec 32 := 8448#32
  let v5319 : BitVec 32 := Scalar.muli c0_i32 c8448_i32_2462
  let c6400_i32_2463 : BitVec 32 := 6400#32
  let v5320 : BitVec 32 := Scalar.addi v5319 c6400_i32_2463
  v5320
def k0_mult411 : BitVec 32 :=
  let c0_i32 : BitVec 32 := 0#32
  let c8448_i32_2467 : BitVec 32 := 8448#32
  let v5326 : BitVec 32 := Scalar.muli c0_i32 c8448_i32_2467
  let c6400_i32_2468 : BitVec 32 := 6400#32
  let v5327 : BitVec 32 := Scalar.addi v5326 c6400_i32_2468
  v5327
def k0_mult412 : BitVec 32 :=
  let c0_i32 : BitVec 32 := 0#32
  let c8448_i32_2474 : BitVec 32 := 8448#32
  let v5345 : BitVec 32 := Scalar.muli c0_i32 c8448_i32_2474
  let c6656_i32 : BitVec 32 := 6656#32
  let v5346 : BitVec 32 := Scalar.addi v5345 c6656_i32
  v5346
def k0_mult413 : BitVec 32 :=
  let c0_i32 : BitVec 32 := 0#32
  let c8448_i32_2478 : BitVec 32 := 8448#32
  let v5352 : BitVec 32 := Scalar.muli c0_i32 c8448_i32_2478
  let c6400_i32_2479 : BitVec 32 := 6400#32
  let v5353 : BitVec 32 := Scalar.addi v5352 c6400_i32_2479
  v5353
def k0_mult414 : BitVec 32 :=
  let c0_i32 : BitVec 32 := 0#32
  let c8448_i32_2485 : BitVec 32 := 8448#32
  let v5371 : BitVec 32 := Scalar.muli c0_i32 c8448_i32_2485
  let c6656_i32_2486 : BitVec 32 := 6656#32
  let v5372 : BitVec 32 := Scalar.addi v5371 c6656_i32_2486
  v5372
def k0_mult415 : BitVec 32 :=
  let c0_i32 : BitVec 32 := 0#32
  let c8448_i32_2490 : BitVec 32 := 8448#32
  let v5378 : BitVec 32 := Scalar.muli c0_i32 c8448_i32_2490
  let c6400_i32_2491 : BitVec 32 := 6400#32
  let v5379 : BitVec 32 := Scalar.addi v5378 c6400_i32_2491
  v5379
def k0_mult416 : BitVec 32 :=
  let c0_i32 : BitVec 32 := 0#32
  let c8448_i32_2497 : BitVec 32 := 8448#32
  let v5397 : BitVec 32 := Scalar.muli c0_i32 c8448_i32_2497
  let c6656_i32_2498 : BitVec 32 := 6656#32
  let v5398 : BitVec 32 := Scalar.addi v5397 c6656_i32_2498
  v5398
def k0_mult417 : BitVec 32 :=
  let c0_i32 : BitVec 32 := 0#32
  let c8448_i32_2502 : BitVec 32 := 8448#32
  let v5404 : BitVec 32 := Scalar.muli c0_i32 c8448_i32_2502
  let c6400_i32_2503 : BitVec 32 := 6400#32
  let v5405 : BitVec 32 := Scalar.addi v5404 c6400_i32_2503
  v5405
def k0_mult418 : BitVec 32 :=
  let c0_i32 : BitVec 32 := 0#32
  let c8448_i32_2509 : BitVec 32 := 8448#32
  let v5423 : BitVec 32 := Scalar.muli c0_i32 c8448_i32_2509
  let c6656_i32_2510 : BitVec 32 := 6656#32
  let v5424 : BitVec 32 := Scalar.addi v5423 c6656_i32_2510
  v5424
def k0_mult419 : BitVec 32 :=
  let c0_i32 : BitVec 32 := 0#32
  let c8448_i32_2514 : BitVec 32 := 8448#32
  let v5430 : BitVec 32 := Scalar.muli c0_i32 c8448_i32_2514
  let c6400_i32_2515 : BitVec 32 := 6400#32
  let v5431 : BitVec 32 := Scalar.addi v5430 c6400_i32_2515
  v5431
def k0_mult420 : BitVec 32 :=
  let c0_i32 : BitVec 32 := 0#32
  let c8448_i32_2521 : BitVec 32 := 8448#32
  let v5449 : BitVec 32 := Scalar.muli c0_i32 c8448_i32_2521
  let c6656_i32_2522 : BitVec 32 := 6656#32
  let v5450 : BitVec 32 := Scalar.addi v5449 c6656_i32_2522
  v5450
def k0_mult421 : BitVec 32 :=
  let c0_i32 : BitVec 32 := 0#32
  let c8448_i32_2526 : BitVec 32 := 8448#32
  let v5456 : BitVec 32 := Scalar.muli c0_i32 c8448_i32_2526
  let c6400_i32_2527 : BitVec 32 := 6400#32
  let v5457 : BitVec 32 := Scalar.addi v5456 c6400_i32_2527
  v5457
def k0_mult422 : BitVec 32 :=
  let c0_i32 : BitVec 32 := 0#32
  let c8448_i32_2533 : BitVec 32 := 8448#32
  let v5475 : BitVec 32 := Scalar.muli c0_i32 c8448_i32_2533
  let c6656_i32_2534 : BitVec 32 := 6656#32
  let v5476 : BitVec 32 := Scalar.addi v5475 c6656_i32_2534
  v5476
def k0_mult423 : BitVec 32 :=
  let c0_i32 : BitVec 32 := 0#32
  let c8448_i32_2538 : BitVec 32 := 8448#32
  let v5482 : BitVec 32 := Scalar.muli c0_i32 c8448_i32_2538
  let c6656_i32_2539 : BitVec 32 := 6656#32
  let v5483 : BitVec 32 := Scalar.addi v5482 c6656_i32_2539
  v5483
def k0_mult424 : BitVec 32 :=
  let c0_i32 : BitVec 32 := 0#32
  let c8448_i32_2545 : BitVec 32 := 8448#32
  let v5501 : BitVec 32 := Scalar.muli c0_i32 c8448_i32_2545
  let c6656_i32_2546 : BitVec 32 := 6656#32
  let v5502 : BitVec 32 := Scalar.addi v5501 c6656_i32_2546
  v5502
def k0_mult425 : BitVec 32 :=
  let c0_i32 : BitVec 32 := 0#32
  let c8448_i32_2550 : BitVec 32 := 8448#32
  let v5508 : BitVec 32 := Scalar.muli c0_i32 c8448_i32_2550
  let c6656_i32_2551 : BitVec 32 := 6656#32
  let v5509 : BitVec 32 := Scalar.addi v5508 c6656_i32_2551
  v5509
def k0_mult426 : BitVec 32 :=
  let c0_i32 : BitVec 32 := 0#32
  let c8448_i32_2557 : BitVec 32 := 8448#32
  let v5527 : BitVec 32 := Scalar.muli c0_i32 c8448_i32_2557
  let c6656_i32_2558 : BitVec 32 := 6656#32
  let v5528 : BitVec 32 := Scalar.addi v5527 c6656_i32_2558
  v5528
def k0_mult427 : BitVec 32 :=
  let c0_i32 : BitVec 32 := 0#32
  let c8448_i32_2562 : BitVec 32 := 8448#32
  let v5534 : BitVec 32 := Scalar.muli c0_i32 c8448_i32_2562
  let c6656_i32_2563 : BitVec 32 := 6656#32
  let v5535 : BitVec 32 := Scalar.addi v5534 c6656_i32_2563
  v5535
def k0_mult428 : BitVec 32 :=
  let c0_i32 : BitVec 32 := 0#32
  let c8448_i32_2569 : BitVec 32 := 8448#32
  let v5553 : BitVec 32 := Scalar.muli c0_i32 c8448_i32_2569
  let c6912_i32 : BitVec 32 := 6912#32
  let v5554 : BitVec 32 := Scalar.addi v5553 c6912_i32
  v5554
def k0_mult429 : BitVec 32 :=
  let c0_i32 : BitVec 32 := 0#32
  let c8448_i32_2573 : BitVec 32 := 8448#32
  let v5560 : BitVec 32 := Scalar.muli c0_i32 c8448_i32_2573
  let c6656_i32_2574 : BitVec 32 := 6656#32
  let v5561 : BitVec 32 := Scalar.addi v5560 c6656_i32_2574
  v5561
def k0_mult430 : BitVec 32 :=
  let c0_i32 : BitVec 32 := 0#32
  let c8448_i32_2580 : BitVec 32 := 8448#32
  let v5579 : BitVec 32 := Scalar.muli c0_i32 c8448_i32_2580
  let c6912_i32_2581 : BitVec 32 := 6912#32
  let v5580 : BitVec 32 := Scalar.addi v5579 c6912_i32_2581
  v5580
def k0_mult431 : BitVec 32 :=
  let c0_i32 : BitVec 32 := 0#32
  let c8448_i32_2585 : BitVec 32 := 8448#32
  let v5586 : BitVec 32 := Scalar.muli c0_i32 c8448_i32_2585
  let c6656_i32_2586 : BitVec 32 := 6656#32
  let v5587 : BitVec 32 := Scalar.addi v5586 c6656_i32_2586
  v5587
def k0_mult432 : BitVec 32 :=
  let c0_i32 : BitVec 32 := 0#32
  let c8448_i32_2592 : BitVec 32 := 8448#32
  let v5605 : BitVec 32 := Scalar.muli c0_i32 c8448_i32_2592
  let c6912_i32_2593 : BitVec 32 := 6912#32
  let v5606 : BitVec 32 := Scalar.addi v5605 c6912_i32_2593
  v5606
def k0_mult433 : BitVec 32 :=
  let c0_i32 : BitVec 32 := 0#32
  let c8448_i32_2597 : BitVec 32 := 8448#32
  let v5612 : BitVec 32 := Scalar.muli c0_i32 c8448_i32_2597
  let c6656_i32_2598 : BitVec 32 := 6656#32
  let v5613 : BitVec 32 := Scalar.addi v5612 c6656_i32_2598
  v5613
def k0_mult434 : BitVec 32 :=
  let c0_i32 : BitVec 32 := 0#32
  let c8448_i32_2604 : BitVec 32 := 8448#32
  let v5631 : BitVec 32 := Scalar.muli c0_i32 c8448_i32_2604
  let c6912_i32_2605 : BitVec 32 := 6912#32
  let v5632 : BitVec 32 := Scalar.addi v5631 c6912_i32_2605
  v5632
def k0_mult435 : BitVec 32 :=
  let c0_i32 : BitVec 32 := 0#32
  let c8448_i32_2609 : BitVec 32 := 8448#32
  let v5638 : BitVec 32 := Scalar.muli c0_i32 c8448_i32_2609
  let c6656_i32_2610 : BitVec 32 := 6656#32
  let v5639 : BitVec 32 := Scalar.addi v5638 c6656_i32_2610
  v5639
def k0_mult436 : BitVec 32 :=
  let c0_i32 : BitVec 32 := 0#32
  let c8448_i32_2616 : BitVec 32 := 8448#32
  let v5657 : BitVec 32 := Scalar.muli c0_i32 c8448_i32_2616
  let c6912_i32_2617 : BitVec 32 := 6912#32
  let v5658 : BitVec 32 := Scalar.addi v5657 c6912_i32_2617
  v5658
def k0_mult437 : BitVec 32 :=
  let c0_i32 : BitVec 32 := 0#32
  let c8448_i32_2621 : BitVec 32 := 8448#32
  let v5664 : BitVec 32 := Scalar.muli c0_i32 c8448_i32_2621
  let c6656_i32_2622 : BitVec 32 := 6656#32
  let v5665 : BitVec 32 := Scalar.addi v5664 c6656_i32_2622
  v5665
def k0_mult438 : BitVec 32 :=
  let c0_i32 : BitVec 32 := 0#32
  let c8448_i32_2628 : BitVec 32 := 8448#32
  let v5683 : BitVec 32 := Scalar.muli c0_i32 c8448_i32_2628
  let c6912_i32_2629 : BitVec 32 := 6912#32
  let v5684 : BitVec 32 := Scalar.addi v5683 c6912_i32_2629
  v5684
def k0_mult439 : BitVec 32 :=
  let c0_i32 : BitVec 32 := 0#32
  let c8448_i32_2633 : BitVec 32 := 8448#32
  let v5690 : BitVec 32 := Scalar.muli c0_i32 c8448_i32_2633
  let c6912_i32_2634 : BitVec 32 := 6912#32
  let v5691 : BitVec 32 := Scalar.addi v5690 c6912_i32_2634
  v5691
def k0_mult440 : BitVec 32 :=
  let c0_i32 : BitVec 32 := 0#32
  let c8448_i32_2640 : BitVec 32 := 8448#32
  let v5709 : BitVec 32 := Scalar.muli c0_i32 c8448_i32_2640
  let c6912_i32_2641 : BitVec 32 := 6912#32
  let v5710 : BitVec 32 := Scalar.addi v5709 c6912_i32_2641
  v5710
def k0_mult441 : BitVec 32 :=
  let c0_i32 : BitVec 32 := 0#32
  let c8448_i32_2645 : BitVec 32 := 8448#32
  let v5716 : BitVec 32 := Scalar.muli c0_i32 c8448_i32_2645
  let c6912_i32_2646 : BitVec 32 := 6912#32
  let v5717 : BitVec 32 := Scalar.addi v5716 c6912_i32_2646
  v5717
def k0_mult442 : BitVec 32 :=
  let c0_i32 : BitVec 32 := 0#32
  let c8448_i32_2652 : BitVec 32 := 8448#32
  let v5735 : BitVec 32 := Scalar.muli c0_i32 c8448_i32_2652
  let c6912_i32_2653 : BitVec 32 := 6912#32
  let v5736 : BitVec 32 := Scalar.addi v5735 c6912_i32_2653
  v5736
def k0_mult443 : BitVec 32 :=
  let c0_i32 : BitVec 32 := 0#32
  let c8448_i32_2657 : BitVec 32 := 8448#32
  let v5742 : BitVec 32 := Scalar.muli c0_i32 c8448_i32_2657
  let c6912_i32_2658 : BitVec 32 := 6912#32
  let v5743 : BitVec 32 := Scalar.addi v5742 c6912_i32_2658
  v5743
def k0_mult444 : BitVec 32 :=
  let c0_i32 : BitVec 32 := 0#32
  let c8448_i32_2664 : BitVec 32 := 8448#32
  let v5761 : BitVec 32 := Scalar.muli c0_i32 c8448_i32_2664
  let c7168_i32 : BitVec 32 := 7168#32
  let v5762 : BitVec 32 := Scalar.addi v5761 c7168_i32
  v5762
def k0_mult445 : BitVec 32 :=
  let c0_i32 : BitVec 32 := 0#32
  let c8448_i32_2668 : BitVec 32 := 8448#32
  let v5768 : BitVec 32 := Scalar.muli c0_i32 c8448_i32_2668
  let c6912_i32_2669 : BitVec 32 := 6912#32
  let v5769 : BitVec 32 := Scalar.addi v5768 c6912_i32_2669
  v5769
def k0_mult446 : BitVec 32 :=
  let c0_i32 : BitVec 32 := 0#32
  let c8448_i32_2675 : BitVec 32 := 8448#32
  let v5787 : BitVec 32 := Scalar.muli c0_i32 c8448_i32_2675
  let c7168_i32_2676 : BitVec 32 := 7168#32
  let v5788 : BitVec 32 := Scalar.addi v5787 c7168_i32_2676
  v5788
def k0_mult447 : BitVec 32 :=
  let c0_i32 : BitVec 32 := 0#32
  let c8448_i32_2680 : BitVec 32 := 8448#32
  let v5794 : BitVec 32 := Scalar.muli c0_i32 c8448_i32_2680
  let c6912_i32_2681 : BitVec 32 := 6912#32
  let v5795 : BitVec 32 := Scalar.addi v5794 c6912_i32_2681
  v5795
def k0_mult448 : BitVec 32 :=
  let c0_i32 : BitVec 32 := 0#32
  let c8448_i32_2687 : BitVec 32 := 8448#32
  let v5813 : BitVec 32 := Scalar.muli c0_i32 c8448_i32_2687
  let c7168_i32_2688 : BitVec 32 := 7168#32
  let v5814 : BitVec 32 := Scalar.addi v5813 c7168_i32_2688
  v5814
def k0_mult449 : BitVec 32 :=
  let c0_i32 : BitVec 32 := 0#32
  let c8448_i32_2692 : BitVec 32 := 8448#32
  let v5820 : BitVec 32 := Scalar.muli c0_i32 c8448_i32_2692
  let c6912_i32_2693 : BitVec 32 := 6912#32
  let v5821 : BitVec 32 := Scalar.addi v5820 c6912_i32_2693
  v5821
def k0_mult450 : BitVec 32 :=
  let c0_i32 : BitVec 32 := 0#32
  let c8448_i32_2699 : BitVec 32 := 8448#32
  let v5839 : BitVec 32 := Scalar.muli c0_i32 c8448_i32_2699
  let c7168_i32_2700 : BitVec 32 := 7168#32
  let v5840 : BitVec 32 := Scalar.addi v5839 c7168_i32_2700
  v5840
def k0_mult451 : BitVec 32 :=
  let c0_i32 : BitVec 32 := 0#32
  let c8448_i32_2704 : BitVec 32 := 8448#32
  let v5846 : BitVec 32 := Scalar.muli c0_i32 c8448_i32_2704
  let c6912_i32_2705 : BitVec 32 := 6912#32
  let v5847 : BitVec 32 := Scalar.addi v5846 c6912_i32_2705
  v5847
def k0_mult452 : BitVec 32 :=
  let c0_i32 : BitVec 32 := 0#32
  let c8448_i32_2711 : BitVec 32 := 8448#32
  let v5865 : BitVec 32 := Scalar.muli c0_i32 c8448_i32_2711
  let c7168_i32_2712 : BitVec 32 := 7168#32
  let v5866 : BitVec 32 := Scalar.addi v5865 c7168_i32_2712
  v5866
def k0_mult453 : BitVec 32 :=
  let c0_i32 : BitVec 32 := 0#32
  let c8448_i32_2716 : BitVec 32 := 8448#32
  let v5872 : BitVec 32 := Scalar.muli c0_i32 c8448_i32_2716
  let c6912_i32_2717 : BitVec 32 := 6912#32
  let v5873 : BitVec 32 := Scalar.addi v5872 c6912_i32_2717
  v5873
def k0_mult454 : BitVec 32 :=
  let c0_i32 : BitVec 32 := 0#32
  let c8448_i32_2723 : BitVec 32 := 8448#32
  let v5891 : BitVec 32 := Scalar.muli c0_i32 c8448_i32_2723
  let c7168_i32_2724 : BitVec 32 := 7168#32
  let v5892 : BitVec 32 := Scalar.addi v5891 c7168_i32_2724
  v5892
def k0_mult455 : BitVec 32 :=
  let c0_i32 : BitVec 32 := 0#32
  let c8448_i32_2728 : BitVec 32 := 8448#32
  let v5898 : BitVec 32 := Scalar.muli c0_i32 c8448_i32_2728
  let c7168_i32_2729 : BitVec 32 := 7168#32
  let v5899 : BitVec 32 := Scalar.addi v5898 c7168_i32_2729
  v5899
def k0_mult456 : BitVec 32 :=
  let c0_i32 : BitVec 32 := 0#32
  let c8448_i32_2735 : BitVec 32 := 8448#32
  let v5917 : BitVec 32 := Scalar.muli c0_i32 c8448_i32_2735
  let c7168_i32_2736 : BitVec 32 := 7168#32
  let v5918 : BitVec 32 := Scalar.addi v5917 c7168_i32_2736
  v5918
def k0_mult457 : BitVec 32 :=
  let c0_i32 : BitVec 32 := 0#32
  let c8448_i32_2740 : BitVec 32 := 8448#32
  let v5924 : BitVec 32 := Scalar.muli c0_i32 c8448_i32_2740
  let c7168_i32_2741 : BitVec 32 := 7168#32
  let v5925 : BitVec 32 := Scalar.addi v5924 c7168_i32_2741
  v5925
def k0_mult458 : BitVec 32 :=
  let c0_i32 : BitVec 32 := 0#32
  let c8448_i32_2747 : BitVec 32 := 8448#32
  let v5943 : BitVec 32 := Scalar.muli c0_i32 c8448_i32_2747
  let c7168_i32_2748 : BitVec 32 := 7168#32
  let v5944 : BitVec 32 := Scalar.addi v5943 c7168_i32_2748
  v5944
def k0_mult459 : BitVec 32 :=
  let c0_i32 : BitVec 32 := 0#32
  let c8448_i32_2752 : BitVec 32 := 8448#32
  let v5950 : BitVec 32 := Scalar.muli c0_i32 c8448_i32_2752
  let c7168_i32_2753 : BitVec 32 := 7168#32
  let v5951 : BitVec 32 := Scalar.addi v5950 c7168_i32_2753
  v5951
def k0_mult460 : BitVec 32 :=
  let c0_i32 : BitVec 32 := 0#32
  let c8448_i32_2759 : BitVec 32 := 8448#32
  let v5969 : BitVec 32 := Scalar.muli c0_i32 c8448_i32_2759
  let c7424_i32 : BitVec 32 := 7424#32
  let v5970 : BitVec 32 := Scalar.addi v5969 c7424_i32
  v5970
def k0_mult461 : BitVec 32 :=
  let c0_i32 : BitVec 32 := 0#32
  let c8448_i32_2763 : BitVec 32 := 8448#32
  let v5976 : BitVec 32 := Scalar.muli c0_i32 c8448_i32_2763
  let c7168_i32_2764 : BitVec 32 := 7168#32
  let v5977 : BitVec 32 := Scalar.addi v5976 c7168_i32_2764
  v5977
def k0_mult462 : BitVec 32 :=
  let c0_i32 : BitVec 32 := 0#32
  let c8448_i32_2770 : BitVec 32 := 8448#32
  let v5995 : BitVec 32 := Scalar.muli c0_i32 c8448_i32_2770
  let c7424_i32_2771 : BitVec 32 := 7424#32
  let v5996 : BitVec 32 := Scalar.addi v5995 c7424_i32_2771
  v5996
def k0_mult463 : BitVec 32 :=
  let c0_i32 : BitVec 32 := 0#32
  let c8448_i32_2775 : BitVec 32 := 8448#32
  let v6002 : BitVec 32 := Scalar.muli c0_i32 c8448_i32_2775
  let c7168_i32_2776 : BitVec 32 := 7168#32
  let v6003 : BitVec 32 := Scalar.addi v6002 c7168_i32_2776
  v6003
def k0_mult464 : BitVec 32 :=
  let c0_i32 : BitVec 32 := 0#32
  let c8448_i32_2782 : BitVec 32 := 8448#32
  let v6021 : BitVec 32 := Scalar.muli c0_i32 c8448_i32_2782
  let c7424_i32_2783 : BitVec 32 := 7424#32
  let v6022 : BitVec 32 := Scalar.addi v6021 c7424_i32_2783
  v6022
def k0_mult465 : BitVec 32 :=
  let c0_i32 : BitVec 32 := 0#32
  let c8448_i32_2787 : BitVec 32 := 8448#32
  let v6028 : BitVec 32 := Scalar.muli c0_i32 c8448_i32_2787
  let c7168_i32_2788 : BitVec 32 := 7168#32
  let v6029 : BitVec 32 := Scalar.addi v6028 c7168_i32_2788
  v6029
def k0_mult466 : BitVec 32 :=
  let c0_i32 : BitVec 32 := 0#32
  let c8448_i32_2794 : BitVec 32 := 8448#32
  let v6047 : BitVec 32 := Scalar.muli c0_i32 c8448_i32_2794
  let c7424_i32_2795 : BitVec 32 := 7424#32
  let v6048 : BitVec 32 := Scalar.addi v6047 c7424_i32_2795
  v6048
def k0_mult467 : BitVec 32 :=
  let c0_i32 : BitVec 32 := 0#32
  let c8448_i32_2799 : BitVec 32 := 8448#32
  let v6054 : BitVec 32 := Scalar.muli c0_i32 c8448_i32_2799
  let c7168_i32_2800 : BitVec 32 := 7168#32
  let v6055 : BitVec 32 := Scalar.addi v6054 c7168_i32_2800
  v6055
def k0_mult468 : BitVec 32 :=
  let c0_i32 : BitVec 32 := 0#32
  let c8448_i32_2806 : BitVec 32 := 8448#32
  let v6073 : BitVec 32 := Scalar.muli c0_i32 c8448_i32_2806
  let c7424_i32_2807 : BitVec 32 := 7424#32
  let v6074 : BitVec 32 := Scalar.addi v6073 c7424_i32_2807
  v6074
def k0_mult469 : BitVec 32 :=
  let c0_i32 : BitVec 32 := 0#32
  let c8448_i32_2811 : BitVec 32 := 8448#32
  let v6080 : BitVec 32 := Scalar.muli c0_i32 c8448_i32_2811
  let c7168_i32_2812 : BitVec 32 := 7168#32
  let v6081 : BitVec 32 := Scalar.addi v6080 c7168_i32_2812
  v6081
def k0_mult470 : BitVec 32 :=
  let c0_i32 : BitVec 32 := 0#32
  let c8448_i32_2818 : BitVec 32 := 8448#32
  let v6099 : BitVec 32 := Scalar.muli c0_i32 c8448_i32_2818
  let c7424_i32_2819 : BitVec 32 := 7424#32
  let v6100 : BitVec 32 := Scalar.addi v6099 c7424_i32_2819
  v6100
def k0_mult471 : BitVec 32 :=
  let c0_i32 : BitVec 32 := 0#32
  let c8448_i32_2823 : BitVec 32 := 8448#32
  let v6106 : BitVec 32 := Scalar.muli c0_i32 c8448_i32_2823
  let c7424_i32_2824 : BitVec 32 := 7424#32
  let v6107 : BitVec 32 := Scalar.addi v6106 c7424_i32_2824
  v6107
def k0_mult472 : BitVec 32 :=
  let c0_i32 : BitVec 32 := 0#32
  let c8448_i32_2830 : BitVec 32 := 8448#32
  let v6125 : BitVec 32 := Scalar.muli c0_i32 c8448_i32_2830
  let c7424_i32_2831 : BitVec 32 := 7424#32
  let v6126 : BitVec 32 := Scalar.addi v6125 c7424_i32_2831
  v6126
def k0_mult473 : BitVec 32 :=
  let c0_i32 : BitVec 32 := 0#32
  let c8448_i32_2835 : BitVec 32 := 8448#32
  let v6132 : BitVec 32 := Scalar.muli c0_i32 c8448_i32_2835
  let c7424_i32_2836 : BitVec 32 := 7424#32
  let v6133 : BitVec 32 := Scalar.addi v6132 c7424_i32_2836
  v6133
def k0_mult474 : BitVec 32 :=
  let c0_i32 : BitVec 32 := 0#32
  let c8448_i32_2842 : BitVec 32 := 8448#32
  let v6151 : BitVec 32 := Scalar.muli c0_i32 c8448_i32_2842
  let c7424_i32_2843 : BitVec 32 := 7424#32
  let v6152 : BitVec 32 := Scalar.addi v6151 c7424_i32_2843
  v6152
def k0_mult475 : BitVec 32 :=
  let c0_i32 : BitVec 32 := 0#32
  let c8448_i32_2847 : BitVec 32 := 8448#32
  let v6158 : BitVec 32 := Scalar.muli c0_i32 c8448_i32_2847
  let c7424_i32_2848 : BitVec 32 := 7424#32
  let v6159 : BitVec 32 := Scalar.addi v6158 c7424_i32_2848
  v6159
def k0_mult476 : BitVec 32 :=
  let c0_i32 : BitVec 32 := 0#32
  let c8448_i32_2854 : BitVec 32 := 8448#32
  let v6177 : BitVec 32 := Scalar.muli c0_i32 c8448_i32_2854
  let c7680_i32 : BitVec 32 := 7680#32
  let v6178 : BitVec 32 := Scalar.addi v6177 c7680_i32
  v6178
def k0_mult477 : BitVec 32 :=
  let c0_i32 : BitVec 32 := 0#32
  let c8448_i32_2858 : BitVec 32 := 8448#32
  let v6184 : BitVec 32 := Scalar.muli c0_i32 c8448_i32_2858
  let c7424_i32_2859 : BitVec 32 := 7424#32
  let v6185 : BitVec 32 := Scalar.addi v6184 c7424_i32_2859
  v6185
def k0_mult478 : BitVec 32 :=
  let c0_i32 : BitVec 32 := 0#32
  let c8448_i32_2865 : BitVec 32 := 8448#32
  let v6203 : BitVec 32 := Scalar.muli c0_i32 c8448_i32_2865
  let c7680_i32_2866 : BitVec 32 := 7680#32
  let v6204 : BitVec 32 := Scalar.addi v6203 c7680_i32_2866
  v6204
def k0_mult479 : BitVec 32 :=
  let c0_i32 : BitVec 32 := 0#32
  let c8448_i32_2870 : BitVec 32 := 8448#32
  let v6210 : BitVec 32 := Scalar.muli c0_i32 c8448_i32_2870
  let c7424_i32_2871 : BitVec 32 := 7424#32
  let v6211 : BitVec 32 := Scalar.addi v6210 c7424_i32_2871
  v6211
def k0_mult480 : BitVec 32 :=
  let c0_i32 : BitVec 32 := 0#32
  let c8448_i32_2877 : BitVec 32 := 8448#32
  let v6229 : BitVec 32 := Scalar.muli c0_i32 c8448_i32_2877
  let c7680_i32_2878 : BitVec 32 := 7680#32
  let v6230 : BitVec 32 := Scalar.addi v6229 c7680_i32_2878
  v6230
def k0_mult481 : BitVec 32 :=
  let c0_i32 : BitVec 32 := 0#32
  let c8448_i32_2882 : BitVec 32 := 8448#32
  let v6236 : BitVec 32 := Scalar.muli c0_i32 c8448_i32_2882
  let c7424_i32_2883 : BitVec 32 := 7424#32
  let v6237 : BitVec 32 := Scalar.addi v6236 c7424_i32_2883
  v6237
def k0_mult482 : BitVec 32 :=
  let c0_i32 : BitVec 32 := 0#32
  let c8448_i32_2889 : BitVec 32 := 8448#32
  let v6255 : BitVec 32 := Scalar.muli c0_i32 c8448_i32_2889
  let c7680_i32_2890 : BitVec 32 := 7680#32
  let v6256 : BitVec 32 := Scalar.addi v6255 c7680_i32_2890
  v6256
def k0_mult483 : BitVec 32 :=
  let c0_i32 : BitVec 32 := 0#32
  let c8448_i32_2894 : BitVec 32 := 8448#32
  let v6262 : BitVec 32 := Scalar.muli c0_i32 c8448_i32_2894
  let c7424_i32_2895 : BitVec 32 := 7424#32
  let v6263 : BitVec 32 := Scalar.addi v6262 c7424_i32_2895
  v6263
def k0_mult484 : BitVec 32 :=
  let c0_i32 : BitVec 32 := 0#32
  let c8448_i32_2901 : BitVec 32 := 8448#32
  let v6281 : BitVec 32 := Scalar.muli c0_i32 c8448_i32_2901
  let c7680_i32_2902 : BitVec 32 := 7680#32
  let v6282 : BitVec 32 := Scalar.addi v6281 c7680_i32_2902
  v6282
def k0_mult485 : BitVec 32 :=
  let c0_i32 : BitVec 32 := 0#32
  let c8448_i32_2906 : BitVec 32 := 8448#32
  let v6288 : BitVec 32 := Scalar.muli c0_i32 c8448_i32_2906
  let c7424_i32_2907 : BitVec 32 := 7424#32
  let v6289 : BitVec 32 := Scalar.addi v6288 c7424_i32_2907
  v6289
def k0_mult486 : BitVec 32 :=
  let c0_i32 : BitVec 32 := 0#32
  let c8448_i32_2913 : BitVec 32 := 8448#32
  let v6307 : BitVec 32 := Scalar.muli c0_i32 c8448_i32_2913
  let c7680_i32_2914 : BitVec 32 := 7680#32
  let v6308 : BitVec 32 := Scalar.addi v6307 c7680_i32_2914
  v6308
def k0_mult487 : BitVec 32 :=
  let c0_i32 : BitVec 32 := 0#32
  let c8448_i32_2918 : BitVec 32 := 8448#32
  let v6314 : BitVec 32 := Scalar.muli c0_i32 c8448_i32_2918
  let c7680_i32_2919 : BitVec 32 := 7680#32
  let v6315 : BitVec 32 := Scalar.addi v6314 c7680_i32_2919
  v6315
def k0_mult488 : BitVec 32 :=
  let c0_i32 : BitVec 32 := 0#32
  let c8448_i32_2925 : BitVec 32 := 8448#32
  let v6333 : BitVec 32 := Scalar.muli c0_i32 c8448_i32_2925
  let c7680_i32_2926 : BitVec 32 := 7680#32
  let v6334 : BitVec 32 := Scalar.addi v6333 c7680_i32_2926
  v6334
def k0_mult489 : BitVec 32 :=
  let c0_i32 : BitVec 32 := 0#32
  let c8448_i32_2930 : BitVec 32 := 8448#32
  let v6340 : BitVec 32 := Scalar.muli c0_i32 c8448_i32_2930
  let c7680_i32_2931 : BitVec 32 := 7680#32
  let v6341 : BitVec 32 := Scalar.addi v6340 c7680_i32_2931
  v6341
def k0_mult490 : BitVec 32 :=
  let c0_i32 : BitVec 32 := 0#32
  let c8448_i32_2937 : BitVec 32 := 8448#32
  let v6359 : BitVec 32 := Scalar.muli c0_i32 c8448_i32_2937
  let c7680_i32_2938 : BitVec 32 := 7680#32
  let v6360 : BitVec 32 := Scalar.addi v6359 c7680_i32_2938
  v6360
def k0_mult491 : BitVec 32 :=
  let c0_i32 : BitVec 32 := 0#32
  let c8448_i32_2942 : BitVec 32 := 8448#32
  let v6366 : BitVec 32 := Scalar.muli c0_i32 c8448_i32_2942
  let c7680_i32_2943 : BitVec 32 := 7680#32
  let v6367 : BitVec 32 := Scalar.addi v6366 c7680_i32_2943
  v6367
def k0_mult492 : BitVec 32 :=
  let c0_i32 : BitVec 32 := 0#32
  let c8448_i32_2949 : BitVec 32 := 8448#32
  let v6385 : BitVec 32 := Scalar.muli c0_i32 c8448_i32_2949
  let c7936_i32 : BitVec 32 := 7936#32
  let v6386 : BitVec 32 := Scalar.addi v6385 c7936_i32
  v6386
def k0_mult493 : BitVec 32 :=
  let c0_i32 : BitVec 32 := 0#32
  let c8448_i32_2953 : BitVec 32 := 8448#32
  let v6392 : BitVec 32 := Scalar.muli c0_i32 c8448_i32_2953
  let c7680_i32_2954 : BitVec 32 := 7680#32
  let v6393 : BitVec 32 := Scalar.addi v6392 c7680_i32_2954
  v6393
def k0_mult494 : BitVec 32 :=
  let c0_i32 : BitVec 32 := 0#32
  let c8448_i32_2960 : BitVec 32 := 8448#32
  let v6411 : BitVec 32 := Scalar.muli c0_i32 c8448_i32_2960
  let c7936_i32_2961 : BitVec 32 := 7936#32
  let v6412 : BitVec 32 := Scalar.addi v6411 c7936_i32_2961
  v6412
def k0_mult495 : BitVec 32 :=
  let c0_i32 : BitVec 32 := 0#32
  let c8448_i32_2965 : BitVec 32 := 8448#32
  let v6418 : BitVec 32 := Scalar.muli c0_i32 c8448_i32_2965
  let c7680_i32_2966 : BitVec 32 := 7680#32
  let v6419 : BitVec 32 := Scalar.addi v6418 c7680_i32_2966
  v6419
def k0_mult496 : BitVec 32 :=
  let c0_i32 : BitVec 32 := 0#32
  let c8448_i32_2972 : BitVec 32 := 8448#32
  let v6437 : BitVec 32 := Scalar.muli c0_i32 c8448_i32_2972
  let c7936_i32_2973 : BitVec 32 := 7936#32
  let v6438 : BitVec 32 := Scalar.addi v6437 c7936_i32_2973
  v6438
def k0_mult497 : BitVec 32 :=
  let c0_i32 : BitVec 32 := 0#32
  let c8448_i32_2977 : BitVec 32 := 8448#32
  let v6444 : BitVec 32 := Scalar.muli c0_i32 c8448_i32_2977
  let c7680_i32_2978 : BitVec 32 := 7680#32
  let v6445 : BitVec 32 := Scalar.addi v6444 c7680_i32_2978
  v6445
def k0_mult498 : BitVec 32 :=
  let c0_i32 : BitVec 32 := 0#32
  let c8448_i32_2984 : BitVec 32 := 8448#32
  let v6463 : BitVec 32 := Scalar.muli c0_i32 c8448_i32_2984
  let c7936_i32_2985 : BitVec 32 := 7936#32
  let v6464 : BitVec 32 := Scalar.addi v6463 c7936_i32_2985
  v6464
def k0_mult499 : BitVec 32 :=
  let c0_i32 : BitVec 32 := 0#32
  let c8448_i32_2989 : BitVec 32 := 8448#32
  let v6470 : BitVec 32 := Scalar.muli c0_i32 c8448_i32_2989
  let c7680_i32_2990 : BitVec 32 := 7680#32
  let v6471 : BitVec 32 := Scalar.addi v6470 c7680_i32_2990
  v6471
def k0_mult500 : BitVec 32 :=
  let c0_i32 : BitVec 32 := 0#32
  let c8448_i32_2996 : BitVec 32 := 8448#32
  let v6489 : BitVec 32 := Scalar.muli c0_i32 c8448_i32_2996
  let c7936_i32_2997 : BitVec 32 := 7936#32
  let v6490 : BitVec 32 := Scalar.addi v6489 c7936_i32_2997
  v6490
def k0_mult501 : BitVec 32 :=
  let c0_i32 : BitVec 32 := 0#32
  let c8448_i32_3001 : BitVec 32 := 8448#32
  let v6496 : BitVec 32 := Scalar.muli c0_i32 c8448_i32_3001
  let c7680_i32_3002 : BitVec 32 := 7680#32
  let v6497 : BitVec 32 := Scalar.addi v6496 c7680_i32_3002
  v6497
def k0_mult502 : BitVec 32 :=
  let c0_i32 : BitVec 32 := 0#32
  let c8448_i32_3008 : BitVec 32 := 8448#32
  let v6515 : BitVec 32 := Scalar.muli c0_i32 c8448_i32_3008
  let c7936_i32_3009 : BitVec 32 := 7936#32
  let v6516 : BitVec 32 := Scalar.addi v6515 c7936_i32_3009
  v6516
def k0_mult503 : BitVec 32 :=
  let c0_i32 : BitVec 32 := 0#32
  let c8448_i32_3013 : BitVec 32 := 8448#32
  let v6522 : BitVec 32 := Scalar.muli c0_i32 c8448_i32_3013
  let c7936_i32_3014 : BitVec 32 := 7936#32
  let v6523 : BitVec 32 := Scalar.addi v6522 c7936_i32_3014
  v6523
def k0_mult504 : BitVec 32 :=
  let c0_i32 : BitVec 32 := 0#32
  let c8448_i32_3020 : BitVec 32 := 8448#32
  let v6541 : BitVec 32 := Scalar.muli c0_i32 c8448_i32_3020
  let c7936_i32_3021 : BitVec 32 := 7936#32
  let v6542 : BitVec 32 := Scalar.addi v6541 c7936_i32_3021
  v6542
def k0_mult505 : BitVec 32 :=
  let c0_i32 : BitVec 32 := 0#32
  let c8448_i32_3025 : BitVec 32 := 8448#32
  let v6548 : BitVec 32 := Scalar.muli c0_i32 c8448_i32_3025
  let c7936_i32_3026 : BitVec 32 := 7936#32
  let v6549 : BitVec 32 := Scalar.addi v6548 c7936_i32_3026
  v6549
def k0_mult506 : BitVec 32 :=
  let c0_i32 : BitVec 32 := 0#32
  let c8448_i32_3032 : BitVec 32 := 8448#32
  let v6567 : BitVec 32 := Scalar.muli c0_i32 c8448_i32_3032
  let c7936_i32_3033 : BitVec 32 := 7936#32
  let v6568 : BitVec 32 := Scalar.addi v6567 c7936_i32_3033
  v6568
def k0_mult507 : BitVec 32 :=
  let c0_i32 : BitVec 32 := 0#32
  let c8448_i32_3037 : BitVec 32 := 8448#32
  let v6574 : BitVec 32 := Scalar.muli c0_i32 c8448_i32_3037
  let c7936_i32_3038 : BitVec 32 := 7936#32
  let v6575 : BitVec 32 := Scalar.addi v6574 c7936_i32_3038
  v6575
def k0_mult508 : BitVec 32 :=
  let c0_i32 : BitVec 32 := 0#32
  let c8448_i32_3044 : BitVec 32 := 8448#32
  let v6593 : BitVec 32 := Scalar.muli c0_i32 c8448_i32_3044
  let c8192_i32 : BitVec 32 := 8192#32
  let v6594 : BitVec 32 := Scalar.addi v6593 c8192_i32
  v6594
def k0_mult509 : BitVec 32 :=
  let c0_i32 : BitVec 32 := 0#32
  let c8448_i32_3048 : BitVec 32 := 8448#32
  let v6600 : BitVec 32 := Scalar.muli c0_i32 c8448_i32_3048
  let c7936_i32_3049 : BitVec 32 := 7936#32
  let v6601 : BitVec 32 := Scalar.addi v6600 c7936_i32_3049
  v6601
def k0_mult510 : BitVec 32 :=
  let c0_i32 : BitVec 32 := 0#32
  let c8448_i32_3055 : BitVec 32 := 8448#32
  let v6619 : BitVec 32 := Scalar.muli c0_i32 c8448_i32_3055
  let c8192_i32_3056 : BitVec 32 := 8192#32
  let v6620 : BitVec 32 := Scalar.addi v6619 c8192_i32_3056
  v6620
def k0_mult511 : BitVec 32 :=
  let c0_i32 : BitVec 32 := 0#32
  let c8448_i32_3060 : BitVec 32 := 8448#32
  let v6626 : BitVec 32 := Scalar.muli c0_i32 c8448_i32_3060
  let c7936_i32_3061 : BitVec 32 := 7936#32
  let v6627 : BitVec 32 := Scalar.addi v6626 c7936_i32_3061
  v6627
def k0_mult512 : BitVec 32 :=
  let c0_i32 : BitVec 32 := 0#32
  let c8448_i32_3067 : BitVec 32 := 8448#32
  let v6645 : BitVec 32 := Scalar.muli c0_i32 c8448_i32_3067
  let c8192_i32_3068 : BitVec 32 := 8192#32
  let v6646 : BitVec 32 := Scalar.addi v6645 c8192_i32_3068
  v6646
def k0_mult513 : BitVec 32 :=
  let c0_i32 : BitVec 32 := 0#32
  let c8448_i32_3072 : BitVec 32 := 8448#32
  let v6652 : BitVec 32 := Scalar.muli c0_i32 c8448_i32_3072
  let c7936_i32_3073 : BitVec 32 := 7936#32
  let v6653 : BitVec 32 := Scalar.addi v6652 c7936_i32_3073
  v6653
def k0_mult514 : BitVec 32 :=
  let c0_i32 : BitVec 32 := 0#32
  let c8448_i32_3079 : BitVec 32 := 8448#32
  let v6671 : BitVec 32 := Scalar.muli c0_i32 c8448_i32_3079
  let c8192_i32_3080 : BitVec 32 := 8192#32
  let v6672 : BitVec 32 := Scalar.addi v6671 c8192_i32_3080
  v6672
def k0_mult515 : BitVec 32 :=
  let c0_i32 : BitVec 32 := 0#32
  let c8448_i32_3084 : BitVec 32 := 8448#32
  let v6678 : BitVec 32 := Scalar.muli c0_i32 c8448_i32_3084
  let c7936_i32_3085 : BitVec 32 := 7936#32
  let v6679 : BitVec 32 := Scalar.addi v6678 c7936_i32_3085
  v6679
def k0_mult516 : BitVec 32 :=
  let c0_i32 : BitVec 32 := 0#32
  let c8448_i32_3091 : BitVec 32 := 8448#32
  let v6697 : BitVec 32 := Scalar.muli c0_i32 c8448_i32_3091
  let c8192_i32_3092 : BitVec 32 := 8192#32
  let v6698 : BitVec 32 := Scalar.addi v6697 c8192_i32_3092
  v6698
def k0_mult517 : BitVec 32 :=
  let c0_i32 : BitVec 32 := 0#32
  let c8448_i32_3096 : BitVec 32 := 8448#32
  let v6704 : BitVec 32 := Scalar.muli c0_i32 c8448_i32_3096
  let c7936_i32_3097 : BitVec 32 := 7936#32
  let v6705 : BitVec 32 := Scalar.addi v6704 c7936_i32_3097
  v6705
def k0_mult518 : BitVec 32 :=
  let c0_i32 : BitVec 32 := 0#32
  let c8448_i32_3103 : BitVec 32 := 8448#32
  let v6723 : BitVec 32 := Scalar.muli c0_i32 c8448_i32_3103
  let c8192_i32_3104 : BitVec 32 := 8192#32
  let v6724 : BitVec 32 := Scalar.addi v6723 c8192_i32_3104
  v6724
def k0_mult519 : BitVec 32 :=
  let c0_i32 : BitVec 32 := 0#32
  let c8448_i32_3108 : BitVec 32 := 8448#32
  let v6730 : BitVec 32 := Scalar.muli c0_i32 c8448_i32_3108
  let c8192_i32_3109 : BitVec 32 := 8192#32
  let v6731 : BitVec 32 := Scalar.addi v6730 c8192_i32_3109
  v6731
def k0_mult520 : BitVec 32 :=
  let c0_i32 : BitVec 32 := 0#32
  let c8448_i32_3115 : BitVec 32 := 8448#32
  let v6749 : BitVec 32 := Scalar.muli c0_i32 c8448_i32_3115
  let c8192_i32_3116 : BitVec 32 := 8192#32
  let v6750 : BitVec 32 := Scalar.addi v6749 c8192_i32_3116
  v6750
def k0_mult521 : BitVec 32 :=
  let c0_i32 : BitVec 32 := 0#32
  let c8448_i32_3120 : BitVec 32 := 8448#32
  let v6756 : BitVec 32 := Scalar.muli c0_i32 c8448_i32_3120
  let c8192_i32_3121 : BitVec 32 := 8192#32
  let v6757 : BitVec 32 := Scalar.addi v6756 c8192_i32_3121
  v6757
def k0_mult522 : BitVec 32 :=
  let c0_i32 : BitVec 32 := 0#32
  let c8448_i32_3127 : BitVec 32 := 8448#32
  let v6775 : BitVec 32 := Scalar.muli c0_i32 c8448_i32_3127
  let c8192_i32_3128 : BitVec 32 := 8192#32
  let v6776 : BitVec 32 := Scalar.addi v6775 c8192_i32_3128
  v6776
def k0_mult523 : BitVec 32 :=
  let c0_i32 : BitVec 32 := 0#32
  let c8448_i32_3132 : BitVec 32 := 8448#32
  let v6782 : BitVec 32 := Scalar.muli c0_i32 c8448_i32_3132
  let c8192_i32_3133 : BitVec 32 := 8192#32
  let v6783 : BitVec 32 := Scalar.addi v6782 c8192_i32_3133
  v6783
def k0_mult524 : BitVec 32 :=
  let c0_i32 : BitVec 32 := 0#32
  let c8448_i32_3139 : BitVec 32 := 8448#32
  let v6801 : BitVec 32 := Scalar.muli c0_i32 c8448_i32_3139
  let c8192_i32_3140 : BitVec 32 := 8192#32
  let v6802 : BitVec 32 := Scalar.addi v6801 c8192_i32_3140
  v6802
def k0_mult525 : BitVec 32 :=
  let c0_i32 : BitVec 32 := 0#32
  let c8448_i32_3146 : BitVec 32 := 8448#32
  let v6820 : BitVec 32 := Scalar.muli c0_i32 c8448_i32_3146
  let c8192_i32_3147 : BitVec 32 := 8192#32
  let v6821 : BitVec 32 := Scalar.addi v6820 c8192_i32_3147
  v6821
def k0_mult526 : BitVec 32 :=
  let c0_i32 : BitVec 32 := 0#32
  let c8448_i32_3153 : BitVec 32 := 8448#32
  let v6839 : BitVec 32 := Scalar.muli c0_i32 c8448_i32_3153
  let c8192_i32_3154 : BitVec 32 := 8192#32
  let v6840 : BitVec 32 := Scalar.addi v6839 c8192_i32_3154
  v6840
def k0_mult527 : BitVec 32 :=
  let c0_i32 : BitVec 32 := 0#32
  let c8448_i32_3160 : BitVec 32 := 8448#32
  let v6858 : BitVec 32 := Scalar.muli c0_i32 c8448_i32_3160
  let c8192_i32_3161 : BitVec 32 := 8192#32
  let v6859 : BitVec 32 := Scalar.addi v6858 c8192_i32_3161
  v6859
def k0_mult528 : BitVec 32 :=
  let c0_i32 : BitVec 32 := 0#32
  let c8448_i32_3167 : BitVec 32 := 8448#32
  let v6877 : BitVec 32 := Scalar.muli c0_i32 c8448_i32_3167
  let c8192_i32_3168 : BitVec 32 := 8192#32
  let v6878 : BitVec 32 := Scalar.addi v6877 c8192_i32_3168
  v6878
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x80x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S2x8448x2x64 : Shape := ⟨4, ![2, 8448, 2, 64]⟩
abbrev S2x8192x2x4x64 : Shape := ⟨5, ![2, 8192, 2, 4, 64]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x512 : Shape := ⟨3, ![2, 8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x256x2x64, .f32⟩
  | .hbm, ⟨4, _⟩ => ⟨S2x256x2x64, .f32⟩
  | .hbm, ⟨5, _⟩ => ⟨S2x8448x2x64, .f32⟩
  | .hbm, ⟨6, _⟩ => ⟨S2x8448x2x64, .f32⟩
  | .hbm, ⟨7, _⟩ => ⟨S2x8192x2x4x64, .f32⟩
  | .hbm, ⟨8, _⟩ => ⟨S2x2x8448x8192x4, .f32⟩
  | .hbm, ⟨9, _⟩ => ⟨S2x2x4x8192x8448, .f32⟩
  | .hbm, ⟨10, _⟩ => ⟨S_, .f32⟩
  | .hbm, ⟨11, _⟩ => ⟨S2x2x4x8192x8448, .f32⟩
  | .hbm, ⟨12, _⟩ => ⟨S2x2x4x8192x8448, .f32⟩
  | .hbm, ⟨13, _⟩ => ⟨S_, .f32⟩
  | .hbm, ⟨14, _⟩ => ⟨S2x2x4x8192, .f32⟩
  | .hbm, ⟨15, _⟩ => ⟨S_, .f32⟩
  | .hbm, ⟨16, _⟩ => ⟨S2x2x4x8192, .f32⟩
  | .hbm, ⟨17, _⟩ => ⟨S2x2x4x8192, .f32⟩
  | .hbm, ⟨18, _⟩ => ⟨S2x2x4x8192x1, .f32⟩
  | .hbm, ⟨19, _⟩ => ⟨S2x2x4x8192x8448, .f32⟩
  | .hbm, ⟨20, _⟩ => ⟨S2x2x4x8192x8448, .f32⟩
  | .hbm, ⟨21, _⟩ => ⟨S2x2x4x8192x8448, .f32⟩
  | .hbm, ⟨22, _⟩ => ⟨S_, .f32⟩
  | .hbm, ⟨23, _⟩ => ⟨S2x2x4x8192, .f32⟩
  | .hbm, ⟨24, _⟩ => ⟨S2x2x4x8192x1, .f32⟩
  | .hbm, ⟨25, _⟩ => ⟨S2x2x4x8192x8448, .f32⟩
  | .hbm, ⟨26, _⟩ => ⟨S2x2x4x8192x8448, .f32⟩
  | .hbm, ⟨27, _⟩ => ⟨S2x2x64x4x8192, .f32⟩
  | .hbm, ⟨28, _⟩ => ⟨S2x8192x2x4x64, .f32⟩
  | .hbm, ⟨29, _⟩ => ⟨S2x8192x512, .f32⟩
  | .hbm, ⟨30, _⟩ => ⟨S2x8192x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x1024 : Shape := ⟨2, ![2, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S2x512x16x32x16 : Shape := ⟨5, ![2, 512, 16, 32, 16]⟩
abbrev S2x32x512x16x16 : Shape := ⟨5, ![2, 32, 512, 16, 16]⟩
abbrev S2x32x512x256 : Shape := ⟨4, ![2, 32, 512, 256]⟩
abbrev S_ : Shape := ⟨0, ![]⟩
abbrev S2x1x1024 : Shape := ⟨3, ![2, 1, 1024]⟩
abbrev S1x512 : Shape := ⟨2, ![1, 512]⟩
abbrev S1x1024 : Shape := ⟨2, ![1, 1024]⟩
abbrev S1x1024x1024 : Shape := ⟨3, ![1, 1024, 1024]⟩
abbrev S1x1024x512 : Shape := ⟨3, ![1, 1024, 512]⟩
abbrev S1x32x64x256 : Shape := ⟨4, ![1, 32, 64, 256]⟩
abbrev S1x1x1024 : Shape := ⟨3, ![1, 1, 1024]⟩
abbrev S4x1024x128 : Shape := ⟨3, ![4, 1024, 128]⟩
abbrev S16x128 : Shape := ⟨2, ![16, 128]⟩
abbrev S1x1x16x128 : Shape := ⟨4, ![1, 1, 16, 128]⟩
abbrev S1x16x128 : Shape := ⟨3, ![1, 16, 128]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 41
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x1024, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S2x512x16x32x16, .f32⟩
  | .hbm, ⟨11, _⟩ => ⟨S2x32x512x16x16, .f32⟩
  | .hbm, ⟨12, _⟩ => ⟨S2x32x512x256, .f32⟩
  | .hbm, ⟨13, _⟩ => ⟨S2x32x512x256, .bf16⟩
  | .hbm, ⟨14, _⟩ => ⟨S2x8192x512, .f32⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S_, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .bf16⟩
  | .hbm, ⟨24, _⟩ => ⟨S2x8192x512, .f32⟩
  | .hbm, ⟨25, _⟩ => ⟨S2x8192x512, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S_, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .bf16⟩
  | .hbm, ⟨34, _⟩ => ⟨S2x8192x512, .bf16⟩
  | .hbm, ⟨35, _⟩ => ⟨S2x1x1024, .f32⟩
  | .hbm, ⟨36, _⟩ => ⟨S512x512, .bf16⟩
  | .hbm, ⟨37, _⟩ => ⟨S1x512, .f32⟩
  | .hbm, ⟨38, _⟩ => ⟨S1024x1024, .bf16⟩
  | .hbm, ⟨39, _⟩ => ⟨S1x1024, .f32⟩
  | .hbm, ⟨40, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x32x64x256, .bf16⟩
  | .local _ .vmem, ⟨7, _⟩ => ⟨S1x32x64x256, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1x1024, .f32⟩
  | .local _ .vmem, ⟨11, _⟩ => ⟨S1x1x1024, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S4x1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x1024 : Shape := ⟨2, ![2, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x1024, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S2x8192x512, .f32⟩
  | .hbm, ⟨11, _⟩ => ⟨S2x8192x512, .f32⟩
  | .hbm, ⟨12, _⟩ => ⟨S_, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S_, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S_, .f32⟩
  | .hbm, ⟨21, _⟩ => ⟨S2x8192x512, .f32⟩
  | .hbm, ⟨22, _⟩ => ⟨S2x8192x512, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S1x1x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S_, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S_, .f32⟩
  | .hbm, ⟨43, _⟩ => ⟨S2x8192x512, .f32⟩
  | .hbm, ⟨44, _⟩ => ⟨S2x8192x512, .f32⟩
  | .hbm, ⟨45, _⟩ => ⟨S_, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S_, .f32⟩
  | .hbm, ⟨53, _⟩ => ⟨S2x8192x512, .f32⟩
  | .hbm, ⟨54, _⟩ => ⟨S2x8192x512, .f32⟩
  | .hbm, ⟨55, _⟩ => ⟨S_, .f32⟩
  | .hbm, ⟨56, _⟩ => ⟨S2x8192x512, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x8192, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S2x1x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_cst_7 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x256x1024 : Shape := ⟨3, ![2, 256, 1024]⟩
abbrev S2x1024 : Shape := ⟨2, ![2, 1024]⟩
abbrev S1024 : Shape := ⟨1, ![1024]⟩
abbrev S1024x2304 : Shape := ⟨2, ![1024, 2304]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S2x1x1024 : Shape := ⟨3, ![2, 1, 1024]⟩
abbrev S1x1x1024 : Shape := ⟨3, ![1, 1, 1024]⟩
abbrev S1x1024 : Shape := ⟨2, ![1, 1024]⟩
abbrev S2x8x128x8192 : Shape := ⟨4, ![2, 8, 128, 8192]⟩
abbrev S2x8448x128 : Shape := ⟨3, ![2, 8448, 128]⟩
abbrev S2x2x80x8448 : Shape := ⟨4, ![2, 2, 80, 8448]⟩
abbrev S2x8192x512 : Shape := ⟨3, ![2, 8192, 512]⟩
abbrev S2x32x528x256 : Shape := ⟨4, ![2, 32, 528, 256]⟩
abbrev S1x256x1024 : Shape := ⟨3, ![1, 256, 1024]⟩
abbrev S256x128 : Shape := ⟨2, ![256, 128]⟩
abbrev S1x8x128x256 : Shape := ⟨4, ![1, 8, 128, 256]⟩
abbrev S1x256x128 : Shape := ⟨3, ![1, 256, 128]⟩
abbrev S1x2x80x256 : Shape := ⟨4, ![1, 2, 80, 256]⟩
abbrev S1x256x512 : Shape := ⟨3, ![1, 256, 512]⟩
abbrev S1x32x16x256 : Shape := ⟨4, ![1, 32, 16, 256]⟩
abbrev S4x256x128 : Shape := ⟨3, ![4, 256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S16x128 : Shape := ⟨2, ![16, 128]⟩
abbrev S1x16x128 : Shape := ⟨3, ![1, 16, 128]⟩
abbrev S1x1x16x128 : Shape := ⟨4, ![1, 1, 16, 128]⟩
abbrev S1024x128 : Shape := ⟨2, ![1024, 128]⟩
abbrev S128x128 : Shape := ⟨2, ![128, 128]⟩
abbrev S64x256 : Shape := ⟨2, ![64, 256]⟩
abbrev S128x256 : Shape := ⟨2, ![128, 256]⟩
abbrev S1x1x64x256 : Shape := ⟨4, ![1, 1, 64, 256]⟩
abbrev S16x256 : Shape := ⟨2, ![16, 256]⟩
abbrev S1x1x16x256 : Shape := ⟨4, ![1, 1, 16, 256]⟩

abbrev nBuf : Space → Nat
  | .hbm => 141
  | .vmem => 33
  | .smem => 0
  | _ => 0

abbrev hbmTy0_0 (i : Nat) : BufTy := match i % 128 with
  | 0 => ⟨S2x8192x1024, .f32⟩
  | 1 => ⟨S2x256x1024, .f32⟩
  | 2 => ⟨S2x1024, .f32⟩
  | 3 => ⟨S2x1024, .f32⟩
  | 4 => ⟨S1024, .f32⟩
  | 5 => ⟨S1024, .f32⟩
  | 6 => ⟨S1024, .f32⟩
  | 7 => ⟨S1024x2304, .f32⟩
  | 8 => ⟨S64, .f32⟩
  | 9 => ⟨S64, .f32⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S1x512, .i32⟩
  | 31 => ⟨S512x512, .i32⟩
  | 32 => ⟨S512x512, .i32⟩
  | 33 => ⟨S512x512, .i1⟩
  | 34 => ⟨S512x512, .bf16⟩
  | 35 => ⟨S_, .bf16⟩
  | 36 => ⟨S512x512, .bf16⟩
  | 37 => ⟨S512x512, .bf16⟩
  | 38 => ⟨S1x64, .f32⟩
  | 39 => ⟨S8x64, .f32⟩
  | 40 => ⟨S512, .f32⟩
  | 41 => ⟨S1x512, .f32⟩
  | 42 => ⟨S1x64, .f32⟩
  | 43 => ⟨S2x64, .f32⟩
  | 44 => ⟨S128, .f32⟩
  | 45 => ⟨S1x128, .f32⟩
  | 46 => ⟨S8192, .i32⟩
  | 47 => ⟨S_, .i32⟩
  | 48 => ⟨S_, .i32⟩
  | 49 => ⟨S8192, .i32⟩
  | 50 => ⟨S8192, .i32⟩
  | 51 => ⟨S8192, .i32⟩
  | 52 => ⟨S_, .i32⟩
  | 53 => ⟨S8192, .i32⟩
  | 54 => ⟨S8192, .i1⟩
  | 55 => ⟨S8192, .i32⟩
  | 56 => ⟨S8192, .i32⟩
  | 57 => ⟨S_, .i32⟩
  | 58 => ⟨S8192, .i32⟩
  | 59 => ⟨S8192, .i1⟩
  | 60 => ⟨S8192, .i1⟩
  | 61 => ⟨S_, .i32⟩
  | 62 => ⟨S8192, .i32⟩
  | 63 => ⟨S8192, .i32⟩
  | 64 => ⟨S8192, .i32⟩
  | 65 => ⟨S8192, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i1⟩
  | 77 => ⟨S_, .i32⟩
  | 78 => ⟨S8192, .i32⟩
  | 79 => ⟨S8192, .i1⟩
  | 80 => ⟨S_, .i32⟩
  | 81 => ⟨S_, .i1⟩
  | 82 => ⟨S8192, .i1⟩
  | 83 => ⟨S8192, .i1⟩
  | 84 => ⟨S8192, .i1⟩
  | 85 => ⟨S8192, .i32⟩
  | 86 => ⟨S8192, .i32⟩
  | 87 => ⟨S8192, .i32⟩
  | 88 => ⟨S8192, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S8192x1, .f32⟩
  | 98 => ⟨S1x16, .f32⟩
  | 99 => ⟨S8192x16, .f32⟩
  | 100 => ⟨S8192x16, .f32⟩
  | 101 => ⟨S8192x16, .f32⟩
  | 102 => ⟨S8192x1, .f32⟩
  | 103 => ⟨S1x16, .f32⟩
  | 104 => ⟨S8192x16, .f32⟩
  | 105 => ⟨S8192x16, .f32⟩
  | 106 => ⟨S8192x16, .f32⟩
  | 107 => ⟨S8192x16, .f32⟩
  | 108 => ⟨S8192x16, .f32⟩
  | 109 => ⟨S8192x64, .f32⟩
  | 110 => ⟨S8192x16, .f32⟩
  | 111 => ⟨S8192x16, .f32⟩
  | 112 => ⟨S8192x16, .f32⟩
  | 113 => ⟨S8192x16, .f32⟩
  | 114 => ⟨S8192x16, .f32⟩
  | 115 => ⟨S8192x16, .f32⟩
  | 116 => ⟨S8192x64, .f32⟩
  | 117 => ⟨S_, .f32⟩
  | 118 => ⟨S256x64, .f32⟩
  | 119 => ⟨S8448x64, .f32⟩
  | 120 => ⟨S_, .f32⟩
  | 121 => ⟨S256x64, .f32⟩
  | 122 => ⟨S8448x64, .f32⟩
  | 123 => ⟨S1x8448x1x64, .f32⟩
  | 124 => ⟨S1x8448x2x64, .f32⟩
  | 125 => ⟨S8448x128, .f32⟩
  | 126 => ⟨S1x8448x1x64, .f32⟩
  | 127 => ⟨S1x8448x2x64, .f32⟩
  | _ => ⟨S2x8192x1024, .f32⟩

abbrev hbmTy0_1 (i : Nat) : BufTy := match i % 128 with
  | 0 => ⟨S8448x128, .f32⟩
  | 1 => ⟨S2x1x1024, .f32⟩
  | 2 => ⟨S2x1x1024, .f32⟩
  | 3 => ⟨S1x1x1024, .f32⟩
  | 4 => ⟨S1x1x1024, .f32⟩
  | 5 => ⟨S1x1024, .f32⟩
  | 6 => ⟨S1024x2304, .bf16⟩
  | 7 => ⟨S2x8x128x8192, .bf16⟩
  | 8 => ⟨S2x8448x128, .bf16⟩
  | 9 => ⟨S2x2x80x8448, .bf16⟩
  | 10 => ⟨S2x8192x512, .bf16⟩
  | 11 => ⟨S2x32x528x256, .bf16⟩
  | 12 => ⟨S2x8192x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x2304, .bf16⟩
  | .local _ .vmem, ⟨12, _⟩ => ⟨S1x512, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S512x512, .bf16⟩
  | .local _ .vmem, ⟨19, _⟩ => ⟨S1x8x128x256, .bf16⟩
  | .local _ .vmem, ⟨20, _⟩ => ⟨S1x8x128x256, .bf16⟩
  | .local _ .vmem, ⟨21, _⟩ => ⟨S1x256x128, .bf16⟩
  | .local _ .vmem, ⟨22, _⟩ => ⟨S1x256x128, .bf16⟩
  | .local _ .vmem, ⟨23, _⟩ => ⟨S1x2x80x256, .bf16⟩
  | .local _ .vmem, ⟨24, _⟩ => ⟨S1x2x80x256, .bf16⟩
  | .local _ .vmem, ⟨25, _⟩ => ⟨S1x256x512, .bf16⟩
  | .local _ .vmem, ⟨26, _⟩ => ⟨S1x256x512, .bf16⟩
  | .local _ .vmem, ⟨27, _⟩ => ⟨S1x32x16x256, .bf16⟩
  | .local _ .vmem, ⟨28, _⟩ => ⟨S1x32x16x256, .bf16⟩
  | .local _ .vmem, ⟨29, _⟩ => ⟨S1x256x512, .bf16⟩
  | .local _ .vmem, ⟨30, _⟩ => ⟨S1x256x512, .bf16⟩
  | .local _ .vmem, ⟨31, _⟩ => ⟨S256x128, .f32⟩
  | .local _ .vmem, ⟨32, _⟩ => ⟨S4x256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v19 : Ref sig .tc := ⟨.hbm, 64, rfl⟩
abbrev main_v20 : Ref sig .tc := ⟨.hbm, 65, rfl⟩
abbrev main_c_1 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_cst_2 : Ref sig .tc := ⟨.hbm, 91, rfl⟩
abbrev main_v25 : Ref sig .tc := ⟨.hbm, 92, rfl⟩
abbrev main_v26 : Ref sig .tc := ⟨.hbm, 93, rfl⟩
abbrev main_cst_3 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_4 : Ref sig .tc := ⟨.hbm, 117, rfl⟩
abbrev main_v49 : Ref sig .tc := ⟨.hbm, 118, rfl⟩
abbrev main_v50 : Ref sig .tc := ⟨.hbm, 119, rfl⟩
abbrev main_cst_5 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65_0 : Ref sig .tc := ⟨.hbm, 135, rfl⟩
abbrev main_v65_1 : Ref sig .tc := ⟨.hbm, 136, rfl⟩
abbrev main_v65_2 : Ref sig .tc := ⟨.hbm, 137, rfl⟩
abbrev main_v65_3 : Ref sig .tc := ⟨.hbm, 138, rfl⟩
abbrev main_v65_4 : Ref sig .tc := ⟨.hbm, 139, rfl⟩
abbrev main_v65_5 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, c0_i32_1.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x80x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x16x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel3Ideal.lean ====
variable {F : FTy → Type} [FloatOps F] [Named F]
def κ : String → Option EReal := fun
  | "query_scale" => some ((8⁻¹ * (Real.log 2)⁻¹ : ℝ) : EReal)
  | _ => none
-- ==== Reference3Ideal.lean ====
abbrev S2x8192x1024 : Shape := ⟨3, ![2, 8192, 1024]⟩
abbrev S2x256x1024 : Shape := ⟨3, ![2, 256, 1024]⟩
abbrev S2x1024 : Shape := ⟨2, ![2, 1024]⟩
abbrev S1024 : Shape := ⟨1, ![1024]⟩
abbrev S1024x2304 : Shape := ⟨2, ![1024, 2304]⟩
abbrev S64 : Shape := ⟨1, ![64]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2304 : Shape := ⟨3, ![2, 8192, 2304]⟩
abbrev S2x256 : Shape := ⟨2, ![2, 256]⟩
abbrev S2x256x1 : Shape := ⟨3, ![2, 256, 1]⟩
abbrev S2x256x2304 : Shape := ⟨3, ![2, 256, 2304]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S16 : Shape := ⟨1, ![16]⟩
abbrev S2x8192x8x32 : Shape := ⟨4, ![2, 8192, 8, 32]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S2x8192x128 : Shape := ⟨3, ![2, 8192, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x32 : Shape := ⟨4, ![2, 8192, 2, 32]⟩
abbrev S2x8192x2x16 : Shape := ⟨4, ![2, 8192, 2, 16]⟩
abbrev S2x256x128 : Shape := ⟨3, ![2, 256, 128]⟩
abbrev S2x256x2x64 : Shape := ⟨4, ![2, 256, 2, 64]⟩
abbrev S2x256x2 : Shape := ⟨3, ![2, 256, 2]⟩
abbrev S2x256x2x1 : Shape := ⟨4, ![2, 256, 2, 1]⟩
abbrev S2x8448x2x64 : Shape := ⟨4, ![2, 8448, 2, 64]⟩
abbrev S2x8448x128 : Shape := ⟨3, ![2, 8448, 128]⟩
abbrev S2x8448x2304 : Shape := ⟨3, ![2, 8448, 2304]⟩
abbrev S2x8448x512 : Shape := ⟨3, ![2, 8448, 512]⟩
abbrev S2x8x64x8192 : Shape := ⟨4, ![2, 8, 64, 8192]⟩
abbrev S2x4x64x8192 : Shape := ⟨4, ![2, 4, 64, 8192]⟩
abbrev S2x4x128x8192 : Shape := ⟨4, ![2, 4, 128, 8192]⟩
abbrev S2x8x128x8192 : Shape := ⟨4, ![2, 8, 128, 8192]⟩
abbrev S2x2x64x8448 : Shape := ⟨4, ![2, 2, 64, 8448]⟩
abbrev S2x2x1x8448 : Shape := ⟨4, ![2, 2, 1, 8448]⟩
abbrev S2x2x15x8448 : Shape := ⟨4, ![2, 2, 15, 8448]⟩
abbrev S2x2x80x8448 : Shape := ⟨4, ![2, 2, 80, 8448]⟩
abbrev S2x528x16x32x16 : Shape := ⟨5, ![2, 528, 16, 32, 16]⟩
abbrev S2x32x528x16x16 : Shape := ⟨5, ![2, 32, 528, 16, 16]⟩
abbrev S2x32x528x256 : Shape := ⟨4, ![2, 32, 528, 256]⟩

abbrev nBuf : Space → Nat
  | .hbm => 341
  | .vmem => 0
  | .smem => 0
  | _ => 0

abbrev hbmTy0_0 (i : Nat) : BufTy := match i % 128 with
  | 0 => ⟨S2x8192x1024, .f32⟩
  | 1 => ⟨S2x256x1024, .f32⟩
  | 2 => ⟨S2x1024, .f32⟩
  | 3 => ⟨S2x1024, .f32⟩
  | 4 => ⟨S1024, .f32⟩
  | 5 => ⟨S1024, .f32⟩
  | 6 => ⟨S1024, .f32⟩
  | 7 => ⟨S1024x2304, .f32⟩
  | 8 => ⟨S64, .f32⟩
  | 9 => ⟨S64, .f32⟩
  | 10 => ⟨S8192, .i32⟩
  | 11 => ⟨S_, .i32⟩
  | 12 => ⟨S_, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i1⟩
  | 19 => ⟨S8192, .i32⟩
  | 20 => ⟨S8192, .i32⟩
  | 21 => ⟨S_, .i32⟩
  | 22 => ⟨S8192, .i32⟩
  | 23 => ⟨S8192, .i1⟩
  | 24 => ⟨S8192, .i1⟩
  | 25 => ⟨S_, .i32⟩
  | 26 => ⟨S8192, .i32⟩
  | 27 => ⟨S8192, .i32⟩
  | 28 => ⟨S8192, .i32⟩
  | 29 => ⟨S8192, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i1⟩
  | 44 => ⟨S_, .i32⟩
  | 45 => ⟨S_, .i1⟩
  | 46 => ⟨S8192, .i1⟩
  | 47 => ⟨S8192, .i1⟩
  | 48 => ⟨S8192, .i1⟩
  | 49 => ⟨S8192, .i32⟩
  | 50 => ⟨S8192, .i32⟩
  | 51 => ⟨S8192, .i32⟩
  | 52 => ⟨S8192, .f32⟩
  | 53 => ⟨S2x8192x1024, .f32⟩
  | 54 => ⟨S_, .f32⟩
  | 55 => ⟨S2x8192, .f32⟩
  | 56 => ⟨S2x8192x1, .f32⟩
  | 57 => ⟨S_, .f32⟩
  | 58 => ⟨S2x8192x1, .f32⟩
  | 59 => ⟨S2x8192x1, .f32⟩
  | 60 => ⟨S_, .f32⟩
  | 61 => ⟨S2x8192x1, .f32⟩
  | 62 => ⟨S2x8192x1, .f32⟩
  | 63 => ⟨S2x8192x1, .f32⟩
  | 64 => ⟨S2x8192x1024, .f32⟩
  | 65 => ⟨S2x8192x1024, .f32⟩
  | 66 => ⟨S1x1x1024, .f32⟩
  | 67 => ⟨S2x8192x1024, .f32⟩
  | 68 => ⟨S2x8192x1024, .f32⟩
  | 69 => ⟨S2x1x1024, .f32⟩
  | 70 => ⟨S_, .f32⟩
  | 71 => ⟨S2x1x1024, .f32⟩
  | 72 => ⟨S2x1x1024, .f32⟩
  | 73 => ⟨S2x8192x1024, .f32⟩
  | 74 => ⟨S2x8192x1024, .f32⟩
  | 75 => ⟨S2x1x1024, .f32⟩
  | 76 => ⟨S2x8192x1024, .f32⟩
  | 77 => ⟨S2x8192x1024, .f32⟩
  | 78 => ⟨S2x8192x2304, .f32⟩
  | 79 => ⟨S2x256x1024, .f32⟩
  | 80 => ⟨S_, .f32⟩
  | 81 => ⟨S2x256, .f32⟩
  | 82 => ⟨S2x256x1, .f32⟩
  | 83 => ⟨S_, .f32⟩
  | 84 => ⟨S2x256x1, .f32⟩
  | 85 => ⟨S2x256x1, .f32⟩
  | 86 => ⟨S_, .f32⟩
  | 87 => ⟨S2x256x1, .f32⟩
  | 88 => ⟨S2x256x1, .f32⟩
  | 89 => ⟨S2x256x1, .f32⟩
  | 90 => ⟨S2x256x1024, .f32⟩
  | 91 => ⟨S2x256x1024, .f32⟩
  | 92 => ⟨S1x1x1024, .f32⟩
  | 93 => ⟨S2x256x1024, .f32⟩
  | 94 => ⟨S2x256x1024, .f32⟩
  | 95 => ⟨S_, .f32⟩
  | 96 => ⟨S1024, .f32⟩
  | 97 => ⟨S1024, .f32⟩
  | 98 => ⟨S1x1x1024, .f32⟩
  | 99 => ⟨S2x256x1024, .f32⟩
  | 100 => ⟨S2x256x1024, .f32⟩
  | 101 => ⟨S1x1x1024, .f32⟩
  | 102 => ⟨S2x256x1024, .f32⟩
  | 103 => ⟨S2x256x1024, .f32⟩
  | 104 => ⟨S2x256x2304, .f32⟩
  | 105 => ⟨S2x8192x512, .f32⟩
  | 106 => ⟨S2x8192x8x64, .f32⟩
  | 107 => ⟨S2x8192x8x64, .f32⟩
  | 108 => ⟨S_, .f32⟩
  | 109 => ⟨S2x8192x8, .f32⟩
  | 110 => ⟨S2x8192x8x1, .f32⟩
  | 111 => ⟨S_, .f32⟩
  | 112 => ⟨S2x8192x8x1, .f32⟩
  | 113 => ⟨S2x8192x8x1, .f32⟩
  | 114 => ⟨S_, .f32⟩
  | 115 => ⟨S2x8192x8x1, .f32⟩
  | 116 => ⟨S2x8192x8x1, .f32⟩
  | 117 => ⟨S2x8192x8x1, .f32⟩
  | 118 => ⟨S2x8192x8x64, .f32⟩
  | 119 => ⟨S2x8192x8x64, .f32⟩
  | 120 => ⟨S1x1x1x64, .f32⟩
  | 121 => ⟨S2x8192x8x64, .f32⟩
  | 122 => ⟨S2x8192x8x64, .f32⟩
  | 123 => ⟨S16, .f32⟩
  | 124 => ⟨S16, .f32⟩
  | 125 => ⟨S_, .f32⟩
  | 126 => ⟨S16, .f32⟩
  | 127 => ⟨S16, .f32⟩
  | _ => ⟨S2x8192x1024, .f32⟩

abbrev hbmTy0_1 (i : Nat) : BufTy := match i % 128 with
  | 0 => ⟨S_, .f32⟩
  | 1 => ⟨S16, .f32⟩
  | 2 => ⟨S16, .f32⟩
  | 3 => ⟨S2x8192x8x32, .f32⟩
  | 4 => ⟨S8192x1, .f32⟩
  | 5 => ⟨S1x16, .f32⟩
  | 6 => ⟨S8192x16, .f32⟩
  | 7 => ⟨S8192x16, .f32⟩
  | 8 => ⟨S8192x16, .f32⟩
  | 9 => ⟨S8192x16, .f32⟩
  | 10 => ⟨S8192x1x16, .f32⟩
  | 11 => ⟨S8192x16, .f32⟩
  | 12 => ⟨S8192x1x16, .f32⟩
  | 13 => ⟨S2x8192x8x16, .f32⟩
  | 14 => ⟨S2x8192x8x16, .f32⟩
  | 15 => ⟨S1x8192x1x16, .f32⟩
  | 16 => ⟨S2x8192x8x16, .f32⟩
  | 17 => ⟨S2x8192x8x16, .f32⟩
  | 18 => ⟨S1x8192x1x16, .f32⟩
  | 19 => ⟨S2x8192x8x16, .f32⟩
  | 20 => ⟨S2x8192x8x16, .f32⟩
  | 21 => ⟨S2x8192x8x16, .f32⟩
  | 22 => ⟨S1x8192x1x16, .f32⟩
  | 23 => ⟨S2x8192x8x16, .f32⟩
  | 24 => ⟨S2x8192x8x16, .f32⟩
  | 25 => ⟨S1x8192x1x16, .f32⟩
  | 26 => ⟨S2x8192x8x16, .f32⟩
  | 27 => ⟨S2x8192x8x16, .f32⟩
  | 28 => ⟨S2x8192x8x16, .f32⟩
  | 29 => ⟨S2x8192x8x32, .f32⟩
  | 30 => ⟨S2x8192x8x32, .f32⟩
  | 31 => ⟨S8192x1, .f32⟩
  | 32 => ⟨S1x16, .f32⟩
  | 33 => ⟨S8192x16, .f32⟩
  | 34 => ⟨S8192x16, .f32⟩
  | 35 => ⟨S8192x16, .f32⟩
  | 36 => ⟨S8192x16, .f32⟩
  | 37 => ⟨S8192x1x16, .f32⟩
  | 38 => ⟨S8192x16, .f32⟩
  | 39 => ⟨S8192x1x16, .f32⟩
  | 40 => ⟨S2x8192x8x16, .f32⟩
  | 41 => ⟨S2x8192x8x16, .f32⟩
  | 42 => ⟨S1x8192x1x16, .f32⟩
  | 43 => ⟨S2x8192x8x16, .f32⟩
  | 44 => ⟨S2x8192x8x16, .f32⟩
  | 45 => ⟨S1x8192x1x16, .f32⟩
  | 46 => ⟨S2x8192x8x16, .f32⟩
  | 47 => ⟨S2x8192x8x16, .f32⟩
  | 48 => ⟨S2x8192x8x16, .f32⟩
  | 49 => ⟨S1x8192x1x16, .f32⟩
  | 50 => ⟨S2x8192x8x16, .f32⟩
  | 51 => ⟨S2x8192x8x16, .f32⟩
  | 52 => ⟨S1x8192x1x16, .f32⟩
  | 53 => ⟨S2x8192x8x16, .f32⟩
  | 54 => ⟨S2x8192x8x16, .f32⟩
  | 55 => ⟨S2x8192x8x16, .f32⟩
  | 56 => ⟨S2x8192x8x32, .f32⟩
  | 57 => ⟨S2x8192x8x64, .f32⟩
  | 58 => ⟨S2x8192x128, .f32⟩
  | 59 => ⟨S2x8192x2x64, .f32⟩
  | 60 => ⟨S2x8192x2x64, .f32⟩
  | 61 => ⟨S_, .f32⟩
  | 62 => ⟨S2x8192x2, .f32⟩
  | 63 => ⟨S2x8192x2x1, .f32⟩
  | 64 => ⟨S_, .f32⟩
  | 65 => ⟨S2x8192x2x1, .f32⟩
  | 66 => ⟨S2x8192x2x1, .f32⟩
  | 67 => ⟨S_, .f32⟩
  | 68 => ⟨S2x8192x2x1, .f32⟩
  | 69 => ⟨S2x8192x2x1, .f32⟩
  | 70 => ⟨S2x8192x2x1, .f32⟩
  | 71 => ⟨S2x8192x2x64, .f32⟩
  | 72 => ⟨S2x8192x2x64, .f32⟩
  | 73 => ⟨S1x1x1x64, .f32⟩
  | 74 => ⟨S2x8192x2x64, .f32⟩
  | 75 => ⟨S2x8192x2x64, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2x8192x2x32, .f32⟩
  | 85 => ⟨S8192x1, .f32⟩
  | 86 => ⟨S1x16, .f32⟩
  | 87 => ⟨S8192x16, .f32⟩
  | 88 => ⟨S8192x16, .f32⟩
  | 89 => ⟨S8192x16, .f32⟩
  | 90 => ⟨S8192x16, .f32⟩
  | 91 => ⟨S8192x1x16, .f32⟩
  | 92 => ⟨S8192x16, .f32⟩
  | 93 => ⟨S8192x1x16, .f32⟩
  | 94 => ⟨S2x8192x2x16, .f32⟩
  | 95 => ⟨S2x8192x2x16, .f32⟩
  | 96 => ⟨S1x8192x1x16, .f32⟩
  | 97 => ⟨S2x8192x2x16, .f32⟩
  | 98 => ⟨S2x8192x2x16, .f32⟩
  | 99 => ⟨S1x8192x1x16, .f32⟩
  | 100 => ⟨S2x8192x2x16, .f32⟩
  | 101 => ⟨S2x8192x2x16, .f32⟩
  | 102 => ⟨S2x8192x2x16, .f32⟩
  | 103 => ⟨S1x8192x1x16, .f32⟩
  | 104 => ⟨S2x8192x2x16, .f32⟩
  | 105 => ⟨S2x8192x2x16, .f32⟩
  | 106 => ⟨S1x8192x1x16, .f32⟩
  | 107 => ⟨S2x8192x2x16, .f32⟩
  | 108 => ⟨S2x8192x2x16, .f32⟩
  | 109 => ⟨S2x8192x2x16, .f32⟩
  | 110 => ⟨S2x8192x2x32, .f32⟩
  | 111 => ⟨S2x8192x2x32, .f32⟩
  | 112 => ⟨S8192x1, .f32⟩
  | 113 => ⟨S1x16, .f32⟩
  | 114 => ⟨S8192x16, .f32⟩
  | 115 => ⟨S8192x16, .f32⟩
  | 116 => ⟨S8192x16, .f32⟩
  | 117 => ⟨S8192x16, .f32⟩
  | 118 => ⟨S8192x1x16, .f32⟩
  | 119 => ⟨S8192x16, .f32⟩
  | 120 => ⟨S8192x1x16, .f32⟩
  | 121 => ⟨S2x8192x2x16, .f32⟩
  | 122 => ⟨S2x8192x2x16, .f32⟩
  | 123 => ⟨S1x8192x1x16, .f32⟩
  | 124 => ⟨S2x8192x2x16, .f32⟩
  | 125 => ⟨S2x8192x2x16, .f32⟩
  | 126 => ⟨S1x8192x1x16, .f32⟩
  | 127 => ⟨S2x8192x2x16, .f32⟩
  | _ => ⟨S2x8192x1024, .f32⟩

abbrev hbmTy0_2 (i : Nat) : BufTy := match i % 128 with
  | 0 => ⟨S2x8192x2x16, .f32⟩
  | 1 => ⟨S2x8192x2x16, .f32⟩
  | 2 => ⟨S1x8192x1x16, .f32⟩
  | 3 => ⟨S2x8192x2x16, .f32⟩
  | 4 => ⟨S2x8192x2x16, .f32⟩
  | 5 => ⟨S1x8192x1x16, .f32⟩
  | 6 => ⟨S2x8192x2x16, .f32⟩
  | 7 => ⟨S2x8192x2x16, .f32⟩
  | 8 => ⟨S2x8192x2x16, .f32⟩
  | 9 => ⟨S2x8192x2x32, .f32⟩
  | 10 => ⟨S2x8192x2x64, .f32⟩
  | 11 => ⟨S2x256x128, .f32⟩
  | 12 => ⟨S2x256x2x64, .f32⟩
  | 13 => ⟨S2x256x2x64, .f32⟩
  | 14 => ⟨S_, .f32⟩
  | 15 => ⟨S2x256x2, .f32⟩
  | 16 => ⟨S2x256x2x1, .f32⟩
  | 17 => ⟨S_, .f32⟩
  | 18 => ⟨S2x256x2x1, .f32⟩
  | 19 => ⟨S2x256x2x1, .f32⟩
  | 20 => ⟨S_, .f32⟩
  | 21 => ⟨S2x256x2x1, .f32⟩
  | 22 => ⟨S2x256x2x1, .f32⟩
  | 23 => ⟨S2x256x2x1, .f32⟩
  | 24 => ⟨S2x256x2x64, .f32⟩
  | 25 => ⟨S2x256x2x64, .f32⟩
  | 26 => ⟨S1x1x1x64, .f32⟩
  | 27 => ⟨S2x256x2x64, .f32⟩
  | 28 => ⟨S2x256x2x64, .f32⟩
  | 29 => ⟨S2x8448x2x64, .f32⟩
  | 30 => ⟨S2x8448x128, .f32⟩
  | 31 => ⟨S2x8448x2304, .f32⟩
  | 32 => ⟨S2x8448x128, .f32⟩
  | 33 => ⟨S2x8448x512, .f32⟩
  | 34 => ⟨S2x8192x512, .f32⟩
  | 35 => ⟨S2x8192x512, .f32⟩
  | 36 => ⟨S2x8192x512, .f32⟩
  | 37 => ⟨S_, .f32⟩
  | 38 => ⟨S2x8192x512, .f32⟩
  | 39 => ⟨S2x8192x512, .f32⟩
  | 40 => ⟨S_, .f32⟩
  | 41 => ⟨S2x8192x512, .f32⟩
  | 42 => ⟨S2x8192x512, .f32⟩
  | 43 => ⟨S2x8192x512, .f32⟩
  | 44 => ⟨S2x8192x512, .f32⟩
  | 45 => ⟨S2x8192x512, .f32⟩
  | 46 => ⟨S2x8192x512, .f32⟩
  | 47 => ⟨S_, .f32⟩
  | 48 => ⟨S2x8192x512, .f32⟩
  | 49 => ⟨S2x8192x512, .f32⟩
  | 50 => ⟨S_, .f32⟩
  | 51 => ⟨S2x8192x512, .f32⟩
  | 52 => ⟨S2x8192x512, .f32⟩
  | 53 => ⟨S2x8192x512, .f32⟩
  | 54 => ⟨S_, .f32⟩
  | 55 => ⟨S2x8192x8x64, .f32⟩
  | 56 => ⟨S2x8192x8x64, .f32⟩
  | 57 => ⟨S_, .f32⟩
  | 58 => ⟨S_, .f32⟩
  | 59 => ⟨S2x8192x8x64, .f32⟩
  | 60 => ⟨S2x8192x8x64, .f32⟩
  | 61 => ⟨S2x8x64x8192, .f32⟩
  | 62 => ⟨S_, .f32⟩
  | 63 => ⟨S2x4x64x8192, .f32⟩
  | 64 => ⟨S2x4x64x8192, .f32⟩
  | 65 => ⟨S2x4x128x8192, .f32⟩
  | 66 => ⟨S2x4x64x8192, .f32⟩
  | 67 => ⟨S2x4x128x8192, .f32⟩
  | 68 => ⟨S2x8x128x8192, .f32⟩
  | 69 => ⟨S2x8448x2x64, .f32⟩
  | 70 => ⟨S2x2x64x8448, .f32⟩
  | 71 => ⟨S_, .f32⟩
  | 72 => ⟨S2x2x1x8448, .f32⟩
  | 73 => ⟨S_, .f32⟩
  | 74 => ⟨S2x2x15x8448, .f32⟩
  | 75 => ⟨S2x2x80x8448, .f32⟩
  | 76 => ⟨S2x528x16x32x16, .f32⟩
  | 77 => ⟨S2x32x528x16x16, .f32⟩
  | 78 => ⟨S2x32x528x256, .f32⟩
  | 79 => ⟨S2x8x128x8192, .bf16⟩
  | 80 => ⟨S2x8448x128, .bf16⟩
  | 81 => ⟨S2x2x80x8448, .bf16⟩
  | 82 => ⟨S2x8192x512, .bf16⟩
  | 83 => ⟨S2x32x528x256, .bf16⟩
  | 84 => ⟨S2x8192x512, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst : Ref sig .tc := ⟨.hbm, 54, rfl⟩
abbrev main_v6 : Ref sig .tc := ⟨.hbm, 55, rfl⟩
abbrev main_v7 : Ref sig .tc := ⟨.hbm, 56, rfl⟩
abbrev main_cst_1 : Ref sig .tc := ⟨.hbm, 57, rfl⟩
abbrev main_v8 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_4 : Ref sig .tc := ⟨.hbm, 80, rfl⟩
abbrev main_v28 : Ref sig .tc := ⟨.hbm, 81, rfl⟩
abbrev main_v29 : Ref sig .tc := ⟨.hbm, 82, rfl⟩
abbrev main_cst_5 : Ref sig .tc := ⟨.hbm, 83, rfl⟩
abbrev main_v30 : Ref sig .tc := ⟨.hbm, 84, rfl⟩
abbrev main_v31 : Ref sig .tc := ⟨.hbm, 85, rfl⟩
abbrev main_cst_6 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_8 : Ref sig .tc := ⟨.hbm, 108, rfl⟩
abbrev main_v52 : Ref sig .tc := ⟨.hbm, 109, rfl⟩
abbrev main_v53 : Ref sig .tc := ⟨.hbm, 110, rfl⟩
abbrev main_cst_9 : Ref sig .tc := ⟨.hbm, 111, rfl⟩
abbrev main_v54 : Ref sig .tc := ⟨.hbm, 112, rfl⟩
abbrev main_v55 : Ref sig .tc := ⟨.hbm, 113, rfl⟩
abbrev main_cst_10 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_11 : Ref sig .tc := ⟨.hbm, 125, rfl⟩
abbrev main_v66 : Ref sig .tc := ⟨.hbm, 126, rfl⟩
abbrev main_v67 : Ref sig .tc := ⟨.hbm, 127, rfl⟩
abbrev main_cst_12 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_13 : Ref sig .tc := ⟨.hbm, 189, rfl⟩
abbrev main_v128 : Ref sig .tc := ⟨.hbm, 190, rfl⟩
abbrev main_v129 : Ref sig .tc := ⟨.hbm, 191, rfl⟩
abbrev main_cst_14 : Ref sig .tc := ⟨.hbm, 192, rfl⟩
abbrev main_v130 : Ref sig .tc := ⟨.hbm, 193, rfl⟩
abbrev main_v131 : Ref sig .tc := ⟨.hbm, 194, rfl⟩
abbrev main_cst_15 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_16 : Ref sig .tc := ⟨.hbm, 206, rfl⟩
abbrev main_v142 : Ref sig .tc := ⟨.hbm, 207, rfl⟩
abbrev main_v143 : Ref sig .tc := ⟨.hbm, 208, rfl⟩
abbrev main_cst_17 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_18 : Ref sig .tc := ⟨.hbm, 270, rfl⟩
abbrev main_v204 : Ref sig .tc := ⟨.hbm, 271, rfl⟩
abbrev main_v205 : Ref sig .tc := ⟨.hbm, 272, rfl⟩
abbrev main_cst_19 : Ref sig .tc := ⟨.hbm, 273, rfl⟩
abbrev main_v206 : Ref sig .tc := ⟨.hbm, 274, rfl⟩
abbrev main_v207 : Ref sig .tc := ⟨.hbm, 275, rfl⟩
abbrev main_cst_20 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_call2_v0 : Ref sig .tc := ⟨.hbm, 291, rfl⟩
abbrev main_call2_v1 : Ref sig .tc := ⟨.hbm, 292, rfl⟩
abbrev main_call2_cst : Ref sig .tc := ⟨.hbm, 293, rfl⟩
abbrev main_call2_v2 : Ref sig .tc := ⟨.hbm, 294, rfl⟩
abbrev main_call2_v3 : Ref sig .tc := ⟨.hbm, 295, rfl⟩
abbrev main_call2_cst_0 : Ref sig .tc := ⟨.hbm, 296, rfl⟩
abbrev main_call2_v4 : Ref sig .tc := ⟨.hbm, 297, rfl⟩
abbrev main_call2_v5 : Ref sig .tc := ⟨.hbm, 298, rfl⟩
abbrev main_v222 : Ref sig .tc := ⟨.hbm, 299, rfl⟩
abbrev main_v223 : Ref sig .tc := ⟨.hbm, 300, rfl⟩
abbrev main_call3_v0 : Ref sig .tc := ⟨.hbm, 301, rfl⟩
abbrev main_call3_v1 : Ref sig .tc := ⟨.hbm, 302, rfl⟩
abbrev main_call3_cst : Ref sig .tc := ⟨.hbm, 303, rfl⟩
abbrev main_call3_v2 : Ref sig .tc := ⟨.hbm, 304, rfl⟩
abbrev main_call3_v3 : Ref sig .tc := ⟨.hbm, 305, rfl⟩
abbrev main_call3_cst_0 : Ref sig .tc := ⟨.hbm, 306, rfl⟩
abbrev main_call3_v4 : Ref sig .tc := ⟨.hbm, 307, rfl⟩
abbrev main_call3_v5 : Ref sig .tc := ⟨.hbm, 308, rfl⟩
abbrev main_v224 : Ref sig .tc := ⟨.hbm, 309, rfl⟩
abbrev main_cst_21 : Ref sig .tc := ⟨.hbm, 310, rfl⟩
abbrev main_v225 : Ref sig .tc := ⟨.hbm, 311, rfl⟩
abbrev main_v226 : Ref sig .tc := ⟨.hbm, 312, rfl⟩
abbrev main_cst_22 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_cst_23 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_cst_24 : Ref sig .tc := ⟨.hbm, 327, rfl⟩
abbrev main_v239 : Ref sig .tc := ⟨.hbm, 328, rfl⟩
abbrev main_cst_25 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩

abbrev nD : Nat := 1
abbrev τ : Topo := Topo.v7x

variable {F : FTy → Type} [FloatOps F]
-- ==== Proof.Attn.Tiles.lean ====
/- The attention kernel's body in closed form: what its four stores write, each head's online softmax as a recursion
   over the 33 key tiles. The run of the body (264 tasks, one after the other) stores exactly this. -/
module

public import proofs.«01_k».proof.Proof.Gen.KernelIdeal.Frame

@[expose] public section

noncomputable section

namespace Cert.KernelIdeal.Attn

open Idealize.ShloMosaic Cert.KernelIdeal Cert.KernelIdeal.Gen

variable {F : FTy → Type} [FloatOps F]

/-- One key tile's scores against a head's widened queries: keys down the rows, queries along the lanes. -/
def score (k : Vec F S1x256x128 .bf16) (q : Vec F S1x1x128x256 .bf16) : FVec F S256x256 .f32 :=
  matmul dot_S256x128_S128x256_S256x256_1_0_0_1_n_n none (shapeCast S256x128 k shapeCasts_S1x256x128_S256x128)
    (shapeCast S128x256 q shapeCasts_S1x1x128x256_S128x256) (constant S256x256 .f32 0x00000000#32)

/-- The running maximum, after one more tile of scores. -/
def newMax (m : FVec F S1x256 .f32) (s : FVec F S256x256 .f32) : FVec F S1x256 .f32 :=
  maximumf m (shapeCast S1x256 (multiReduction .maximumf [0] S256 s 0xFF800000#32 reduces_S256x256_S256 (.inl rfl) rfl)
    shapeCasts_S256_S1x256)

/-- The accumulator rescaled from maximum `m` to `m'`, plus the tile's values weighted. -/
def newAcc (m m' : FVec F S1x256 .f32) (s : FVec F S256x256 .f32) (v : Vec F S1x1x80x256 .bf16) (a : FVec F S80x256 .f32) :
    FVec F S80x256 .f32 :=
  addf (mulf (broadcastTo S80x256 (exp2 (subf m m')) broadcasts_S1x256_S80x256) a)
    (matmul dot_S80x256_S256x256_S80x256_1_0_0_1_n_n none (shapeCast S80x256 v shapeCasts_S1x1x80x256_S80x256)
      (exp2 (truncf .bf16 (subf s (broadcastTo S256x256 m' broadcasts_S1x256_S256x256)) bitsLt_bf16_f32))
      (constant S80x256 .f32 0x00000000#32))

/-- A head's running maximum after `j` key tiles. -/
def stM (s : Fin 33 → FVec F S256x256 .f32) (j : ℕ) : j ≤ 33 → FVec F S1x256 .f32 :=
  Nat.rec (motive := fun j => j ≤ 33 → FVec F S1x256 .f32) (fun _ => broadcast S1x256 (Scalar.ofBits .f32 0xF149F2CA#32))
    (fun j ih h => newMax (ih (Nat.le_of_succ_le h)) (s ⟨j, h⟩)) j

/-- A head's accumulator after `j` key tiles. -/
def stA (s : Fin 33 → FVec F S256x256 .f32) (v : Fin 33 → Vec F S1x1x80x256 .bf16) (j : ℕ) : j ≤ 33 → FVec F S80x256 .f32 :=
  Nat.rec (motive := fun j => j ≤ 33 → FVec F S80x256 .f32) (fun _ => broadcast S80x256 (Scalar.ofBits .f32 0x00000000#32))
    (fun j ih h => newAcc (stM s j (Nat.le_of_succ_le h)) (newMax (stM s j (Nat.le_of_succ_le h)) (s ⟨j, h⟩)) (s ⟨j, h⟩) (v ⟨j, h⟩)
      (ih (Nat.le_of_succ_le h))) j

/-- A head's output: the accumulated values over the accumulated row of ones. -/
def headOut (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- Two heads side by side, transposed to one row per query. -/
def pairOut (a b : FVec F S64x256 .f32) : FVec F S1x256x128 .bf16 :=
  shapeCast S1x256x128 (truncf .bf16 (transpose S256x128 [1, 0]
    (concatenate S128x256 0 [⟨S64x256, a⟩, ⟨S64x256, b⟩] concatenates_S64x256_S64x256_S128x256_d0) transposes_S128x256_p1_0_S256x128)
    bitsLt_bf16_f32) shapeCasts_S256x128_S1x256x128

section Loads

variable (arg2 : Memref sig .tc .vmem S1x8x128x256 .bf16) (harg2 : arg2.IsWhole) (arg3 : Memref sig .tc .vmem S1x8448x128 .bf16)
  (harg3 : arg3.IsWhole) (arg4 : Memref sig .tc .vmem S1x2x80x8448 .bf16) (harg4 : arg4.IsWhole)
  (x0 : Vec F S1x8x128x256 .bf16) (x1 : Vec F S1x8448x128 .bf16) (x2 : Vec F S1x2x80x8448 .bf16)

/-- The queries of head `h`. -/
def loadQ (h : Fin 8) : Vec F S1x1x128x256 .bf16 :=
  View.readAt (Elt F) arg2.view (Rect.unit (s := S1x8x128x256) ![0, h.val, 0, 0] S1x1x128x256.size
    (by have := h.isLt; intro a; fin_cases a <;> simp [Shape.size] <;> omega)).toLoadRect (harg2.unread x0)

/-- Key tile `j`. -/
def loadK (j : Fin 33) : Vec F S1x256x128 .bf16 :=
  View.readAt (Elt F) arg3.view (Rect.unit (s := S1x8448x128) ![0, 256 * j.val, 0] S1x256x128.size
    (by have := j.isLt; intro a; fin_cases a <;> simp [Shape.size] <;> omega)).toLoadRect (harg3.unread x1)

/-- Key head `g`'s values over key tile `j`. -/
def loadV (g : Fin 2) (j : Fin 33) : Vec F S1x1x80x256 .bf16 :=
  View.readAt (Elt F) arg4.view (Rect.unit (s := S1x2x80x8448) ![0, g.val, 0, 256 * j.val] S1x1x80x256.size
    (by have := j.isLt; have := g.isLt; intro a; fin_cases a <;> simp [Shape.size] <;> omega)).toLoadRect (harg4.unread x2)

/-- What the body computes for head `h`, which attends key head `g`. -/
def head (h : Fin 8) (g : Fin 2) : FVec F S64x256 .f32 :=
  headOut (stA (fun j => score (loadK arg3 harg3 x1 j) (loadQ arg2 harg2 x0 h)) (loadV arg4 harg4 x2 g) 33 (le_refl 33))

end Loads

set_option maxHeartbeats 4000000 in
set_option maxRecDepth 100000 in
/-- The body's four stores: each pair of heads in its 128 columns. -/
theorem run_pieces (c : Dev nD) (i : grid0.Coords) (arg2 : Memref sig .tc .vmem S1x8x128x256 .bf16) (harg2 : arg2.IsWhole)
    (arg3 : Memref sig .tc .vmem S1x8448x128 .bf16) (harg3 : arg3.IsWhole) (arg4 : Memref sig .tc .vmem S1x2x80x8448 .bf16)
    (harg4 : arg4.IsWhole) (arg5 : Memref sig .tc .vmem S1x256x512 .bf16) (harg5 : arg5.IsWhole)
    (x0 : Vec F S1x8x128x256 .bf16) (x1 : Vec F S1x8448x128 .bf16) (x2 : Vec F S1x2x80x8448 .bf16) :
    (kernelRun0_A c i arg2 harg2 arg3 harg3 arg4 harg4 arg5 harg5 x0 x1 x2).1
      = [⟨Rect.unit (s := S1x256x512) ![0, 0, 384] S1x256x128.size inb_S1x256x512_S1x256x128_0_0_384,
            pairOut (head arg2 harg2 arg3 harg3 arg4 harg4 x0 x1 x2 6 1) (head arg2 harg2 arg3 harg3 arg4 harg4 x0 x1 x2 7 1)⟩,
          ⟨Rect.unit (s := S1x256x512) ![0, 0, 256] S1x256x128.size inb_S1x256x512_S1x256x128_0_0_256,
            pairOut (head arg2 harg2 arg3 harg3 arg4 harg4 x0 x1 x2 4 1) (head arg2 harg2 arg3 harg3 arg4 harg4 x0 x1 x2 5 1)⟩,
          ⟨Rect.unit (s := S1x256x512) ![0, 0, 128] S1x256x128.size inb_S1x256x512_S1x256x128_0_0_128,
            pairOut (head arg2 harg2 arg3 harg3 arg4 harg4 x0 x1 x2 2 0) (head arg2 harg2 arg3 harg3 arg4 harg4 x0 x1 x2 3 0)⟩,
          ⟨Rect.unit (s := S1x256x512) ![0, 0, 0] S1x256x128.size inb_S1x256x512_S1x256x128_0_0_0,
            pairOut (head arg2 harg2 arg3 harg3 arg4 harg4 x0 x1 x2 0 0) (head arg2 harg2 arg3 harg3 arg4 harg4 x0 x1 x2 1 0)⟩] := by
  sl_kernel_rfl

end Cert.KernelIdeal.Attn

end
-- ==== Proof.Attn.Read.lean ====
/- The named steps of the attention call read at their indices: scores, running maxima, accumulators, and the loads. -/
module

public import proofs.«01_k».proof.Proof.Attn.Tiles
public import Idealize.ShloMosaic.Lib.Pointwise

@[expose] public section

noncomputable section

namespace Cert.KernelIdeal.Attn

open Idealize.ShloMosaic Cert.KernelIdeal Cert.KernelIdeal.Gen

/-- A tile of scores: one key row against one query column. -/
theorem score_apply (k : Vec Ideal S1x256x128 .bf16) (q : Vec Ideal S1x1x128x256 .bf16) (t l : Fin 256) :
    score k q (ix2 t l) = ∑ c : Fin 128, k (ix3 0 t c) * q (ix4 0 0 c l) := by
  pointwise [score]

/-- The pattern a maximum starts from. -/
theorem negInf : Ideal.ofBits .f32 0xFF800000#32 = ⊥ := by simp [Ideal.ofBits, Ideal.ieee]

/-- The running maximum after a tile. -/
theorem newMax_apply (m : FVec Ideal S1x256 .f32) (s : FVec Ideal S256x256 .f32) (l : Fin 256) :
    newMax m s (ix2 0 l) = max (m (ix2 0 l)) (Finset.univ.fold max ⊥ fun t : Fin 256 => s (ix2 t l)) := by
  pointwise [newMax]
  rw [negInf]

/-- The accumulator after a tile: rescaled, then the tile's weighted values added. -/
theorem newAcc_apply (m m' : FVec Ideal S1x256 .f32) (s : FVec Ideal S256x256 .f32) (v : Vec Ideal S1x1x80x256 .bf16) (a : FVec Ideal S80x256 .f32)
    (r : Fin 80) (l : Fin 256) :
    newAcc m m' s v a (ix2 r l) = Ideal.exp2 (m (ix2 0 l) - m' (ix2 0 l)) * a (ix2 r l)
      + ∑ t : Fin 256, v (ix4 0 0 r t) * Ideal.exp2 (s (ix2 t l) - m' (ix2 0 l)) := by
  pointwise [newAcc]
  rfl

/-- A head's output: the weighted sum over the sum of the weights. -/
theorem headOut_apply (a : FVec Ideal S80x256 .f32) (r : Fin 64) (l : Fin 256) :
    headOut a (ix2 r l) = Ideal.div (a (ix2 ⟨r.val, by omega⟩ l)) (a (ix2 64 l)) := by
  pointwise [headOut]

/-- Two heads side by side. -/
theorem pairOut_apply (a b : FVec Ideal S64x256 .f32) (l : Fin 256) (r : Fin 128) :
    pairOut a b (ix3 0 l r) = if h : r.val < 64 then a (ix2 ⟨r.val, h⟩ l) else b (ix2 ⟨r.val - 64, by omega⟩ l) := by
  pointwise [pairOut]

section
variable (arg2 : Memref sig .tc .vmem S1x8x128x256 .bf16) (harg2 : arg2.IsWhole) (arg3 : Memref sig .tc .vmem S1x8448x128 .bf16)
  (harg3 : arg3.IsWhole) (arg4 : Memref sig .tc .vmem S1x2x80x8448 .bf16) (harg4 : arg4.IsWhole)
  (x0 : Vec Ideal S1x8x128x256 .bf16) (x1 : Vec Ideal S1x8448x128 .bf16) (x2 : Vec Ideal S1x2x80x8448 .bf16)

/-- The queries of a head. -/
theorem loadQ_apply (h : Fin 8) (c : Fin 128) (l : Fin 256) : loadQ arg2 harg2 x0 h (ix4 0 0 c l) = x0 (ix4 0 h c l) := by
  unfold loadQ
  rw [View.readAt_apply, harg2.read_unread]
  refine congrArg x0 ?_
  funext a
  fin_cases a <;> apply Fin.ext <;> simp

/-- The keys of a tile. -/
theorem loadK_apply (j : Fin 33) (t : Fin 256) (c : Fin 128) :
    loadK arg3 harg3 x1 j (ix3 0 t c) = x1 (ix3 0 ⟨256 * j.val + t.val, by omega⟩ c) := by
  unfold loadK
  rw [View.readAt_apply, harg3.read_unread]
  refine congrArg x1 ?_
  funext a
  fin_cases a <;> apply Fin.ext <;> simp

/-- The values of a tile. -/
theorem loadV_apply (g : Fin 2) (j : Fin 33) (r : Fin 80) (t : Fin 256) :
    loadV arg4 harg4 x2 g j (ix4 0 0 r t) = x2 (ix4 0 g r ⟨256 * j.val + t.val, by omega⟩) := by
  unfold loadV
  rw [View.readAt_apply, harg4.read_unread]
  refine congrArg x2 ?_
  funext a
  fin_cases a <;> apply Fin.ext <;> simp

end
end Cert.KernelIdeal.Attn
end
-- ==== Proof.Attn.Softmax.lean ====
/- Sums of extended reals weighted by exponentials: a softmax does not depend on the number subtracted from its scores,
   nor on the base its exponentials are taken in. -/
module

public import Idealize.ShloMosaic.PureOps.Ideal.Laws
public import Idealize.ShloMosaic.PureOps.Ideal

@[expose] public section

noncomputable section

namespace Cert.Softmax

open Idealize.ShloMosaic

/-- A nonnegative real distributes over a sum of extended reals. -/
theorem mul_sum {ι : Type} (s : Finset ι) (f : ι → EReal) {c : ℝ} (hc : 0 ≤ c) : (c : EReal) * ∑ i ∈ s, f i = ∑ i ∈ s, (c : EReal) * f i := by
  classical
  induction s using Finset.induction with
  | empty => simp
  | insert a s ha ih =>
    rw [Finset.sum_insert ha, Finset.sum_insert ha, EReal.left_distrib_of_nonneg_of_ne_top (by exact_mod_cast hc) (EReal.coe_ne_top c), ih]

/-- A sum of reals is a real. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- Greatest of a real and finitely many reals: a real. -/
theorem max_fold_real {ι : Type} (s : Finset ι) (f : ι → EReal) (hf : ∀ i, ∃ x : ℝ, f i = x) (m : ℝ) :
    ∃ x : ℝ, max (m : EReal) (s.fold max ⊥ f) = x := by
  have h : s.fold max ⊥ f ≠ ⊤ := by
    have : s.fold max ⊥ f < ⊤ := by
      rw [Finset.fold_max_lt]
      refine ⟨bot_lt_top, fun i _ => ?_⟩
      obtain ⟨x, hx⟩ := hf i
      rw [hx]; exact EReal.coe_lt_top x
    exact this.ne
  generalize s.fold max ⊥ f = y at h
  induction y using EReal.rec with
  | bot => exact ⟨m, by simp⟩
  | coe y => exact ⟨max m y, (EReal.coe_strictMono.monotone.map_max).symm⟩
  | top => exact absurd rfl h

/-- Greatest of a nonempty finite family of reals: a real. -/
theorem fold_real {ι : Type} (s : Finset ι) (hs : s.Nonempty) (f : ι → EReal) (hf : ∀ i, ∃ x : ℝ, f i = x) :
    ∃ x : ℝ, s.fold max ⊥ f = x := by
  obtain ⟨i, hi⟩ := hs
  obtain ⟨x, hx⟩ := hf i
  have h1 : f i ≤ s.fold max ⊥ f := (Finset.le_fold_max (f i)).2 (Or.inr ⟨i, hi, le_refl _⟩)
  obtain ⟨y, hy⟩ := max_fold_real s f hf x
  refine ⟨y, ?_⟩
  rw [← hy, ← hx, max_eq_right h1]

/-- A real power of two as an exponential. -/
theorem exp2_real (x : ℝ) : Ideal.exp2 (x : EReal) = ((Real.exp (x * Real.log 2) : ℝ) : EReal) := by
  rw [Ideal.exp2_coe]
  refine congrArg _ ?_
  show (2 : ℝ) ^ x = _
  rw [Real.rpow_def_of_pos (by norm_num), mul_comm]

/-- One tile more of an online softmax: rescaling what is accumulated to the new maximum and adding the tile's terms. -/
theorem step {N n : ℕ} (σ : ℕ → ℝ) (V : ℕ → EReal) (μ μ' : ℝ) (a : EReal)
    (ha : a = ∑ t ∈ Finset.range N, ((Real.exp ((σ t - μ) * Real.log 2) : ℝ) : EReal) * V t) :
    Ideal.exp2 ((μ : EReal) - (μ' : EReal)) * a
        + ∑ t : Fin n, V (N + t.val) * Ideal.exp2 ((σ (N + t.val) : EReal) - (μ' : EReal))
      = ∑ t ∈ Finset.range (N + n), ((Real.exp ((σ t - μ') * Real.log 2) : ℝ) : EReal) * V t := by
  rw [Finset.sum_range_add, ha, ← EReal.coe_sub, exp2_real, mul_sum _ _ (Real.exp_pos _).le]
  congr 1
  · refine Finset.sum_congr rfl fun t _ => ?_
    rw [← mul_assoc, ← EReal.coe_mul, ← Real.exp_add]
    congr 3
    ring
  · rw [Finset.sum_range]
    refine Finset.sum_congr rfl fun t _ => ?_
    rw [← EReal.coe_sub, exp2_real, mul_comm]

/-- The softmax of the scores `τ`, weighing the values `V`. -/
def attend {N : ℕ} (τ : Fin N → ℝ) (V : Fin N → EReal) : EReal :=
  ∑ t, ((Real.exp (τ t) / ∑ u, Real.exp (τ u) : ℝ) : EReal) * V t

/-- Division by a positive real. -/
theorem div_pos_real (x : EReal) {y : ℝ} (hy : 0 < y) : Ideal.div x (y : EReal) = ((y⁻¹ : ℝ) : EReal) * x := by
  have : (y : EReal) ≠ 0 := by exact_mod_cast hy.ne'
  rw [Ideal.div, if_neg this, mul_comm, EReal.coe_inv]

theorem sum_exp_pos {N : ℕ} (hN : 0 < N) (τ : Fin N → ℝ) : 0 < ∑ u, Real.exp (τ u) :=
  haveI : Nonempty (Fin N) := ⟨⟨0, hN⟩⟩
  Finset.sum_pos (fun _ _ => Real.exp_pos _) Finset.univ_nonempty

/-- The quotient of the two accumulated sums is the softmax, whatever was subtracted from the scores. -/
theorem quotient {N : ℕ} (hN : 0 < N) (τ σ : Fin N → ℝ) (V : Fin N → EReal) (μ : ℝ) (h : ∀ t, σ t * Real.log 2 = τ t) :
    Ideal.div (∑ t, ((Real.exp ((σ t - μ) * Real.log 2) : ℝ) : EReal) * V t)
        (∑ t, ((Real.exp ((σ t - μ) * Real.log 2) : ℝ) : EReal) * 1)
      = attend τ V := by
  have e : ∀ t, Real.exp ((σ t - μ) * Real.log 2) = Real.exp (τ t) * Real.exp (-(μ * Real.log 2)) := fun t => by
    rw [← Real.exp_add, ← h t]; congr 1; ring
  simp only [mul_one, e]
  rw [← coe_sum, ← Finset.sum_mul, div_pos_real _ (mul_pos (sum_exp_pos hN τ) (Real.exp_pos _)), mul_sum _ _ (inv_nonneg.2 (mul_pos (sum_exp_pos hN τ) (Real.exp_pos _)).le), attend]
  refine Finset.sum_congr rfl fun t _ => ?_
  rw [← mul_assoc, ← EReal.coe_mul]
  congr 2
  have h1 := (sum_exp_pos hN τ).ne'
  have h2 := (Real.exp_pos (-(μ * Real.log 2))).ne'
  field_simp

/-- The softmax with each weight divided first. -/
theorem weights {N : ℕ} (hN : 0 < N) (τ : Fin N → ℝ) (V : Fin N → EReal) (M : ℝ) :
    ∑ t, V t * Ideal.div (Ideal.exp ((τ t : EReal) - (M : EReal))) (∑ u, Ideal.exp ((τ u : EReal) - (M : EReal)))
      = attend τ V := by
  have e : ∀ t, Ideal.exp ((τ t : EReal) - (M : EReal)) = ((Real.exp (τ t) * Real.exp (-M) : ℝ) : EReal) := fun t => by
    rw [← EReal.coe_sub, Ideal.exp_coe, ← Real.exp_add]; rfl
  simp only [e]
  rw [← coe_sum, ← Finset.sum_mul, attend]
  refine Finset.sum_congr rfl fun t _ => ?_
  rw [div_pos_real _ (mul_pos (sum_exp_pos hN τ) (Real.exp_pos _)), mul_comm, ← EReal.coe_mul]
  congr 2
  have h1 := (sum_exp_pos hN τ).ne'
  have h2 := (Real.exp_pos (-M)).ne'
  field_simp

end Cert.Softmax

end
-- ==== Proof.Attn.Fold.lean ====
/- The online softmax over the 33 key tiles, in closed form: on real scores a head's output is the softmax of its scores
   weighing the values, and the four stores put every head in its columns. -/
module

public import proofs.«01_k».proof.Proof.Attn.Read
public import proofs.«01_k».proof.Proof.Attn.Softmax

@[expose] public section

noncomputable section

namespace Cert.KernelIdeal.Attn

open Idealize.ShloMosaic Cert.KernelIdeal Cert.KernelIdeal.Gen Cert.Softmax

/-- The number a running maximum starts from is a real. -/
theorem start_real : ∃ μ : ℝ, Ideal.ofBits .f32 0xF149F2CA#32 = (μ : EReal) := by
  simp only [Ideal.ofBits, Ideal.ieee]
  norm_num
  exact ⟨_, rfl⟩

/-- After `j` tiles the maximum is a real, and the accumulator holds the weighted sums of the keys met, relative to it. -/
theorem fold_inv (s : Fin 33 → FVec Ideal S256x256 .f32) (v : Fin 33 → Vec Ideal S1x1x80x256 .bf16) (l : Fin 256) (σ : ℕ → ℝ)
    (V : Fin 80 → ℕ → EReal) (hs : ∀ (j : Fin 33) (t : Fin 256), s j (ix2 t l) = (σ (256 * j.val + t.val) : EReal))
    (hv : ∀ (j : Fin 33) (r : Fin 80) (t : Fin 256), v j (ix4 0 0 r t) = V r (256 * j.val + t.val)) (j : ℕ) (h : j ≤ 33) :
    ∃ μ : ℝ, stM s j h (ix2 0 l) = (μ : EReal)
      ∧ ∀ r, stA s v j h (ix2 r l) = ∑ t ∈ Finset.range (256 * j), ((Real.exp ((σ t - μ) * Real.log 2) : ℝ) : EReal) * V r t := by
  induction j with
  | zero =>
    obtain ⟨μ, hμ⟩ := start_real
    refine ⟨μ, hμ, fun r => ?_⟩
    simp only [Nat.mul_zero, Finset.range_zero, Finset.sum_empty]
    show Ideal.ofBits .f32 0x00000000#32 = 0
    simp [Ideal.ofBits, Ideal.ieee]
  | succ j ih =>
    obtain ⟨μ, hμ, ha⟩ := ih (Nat.le_of_succ_le h)
    obtain ⟨μ', hμ'⟩ := max_fold_real Finset.univ (fun t : Fin 256 => s ⟨j, h⟩ (ix2 t l)) (fun t => ⟨_, hs ⟨j, h⟩ t⟩) μ
    have hm : newMax (stM s j (Nat.le_of_succ_le h)) (s ⟨j, h⟩) (ix2 0 l) = (μ' : EReal) := by
      rw [newMax_apply, hμ, hμ']
    refine ⟨μ', hm, fun r => ?_⟩
    show newAcc (stM s j _) (newMax (stM s j _) (s ⟨j, h⟩)) (s ⟨j, h⟩) (v ⟨j, h⟩) (stA s v j _) (ix2 r l) = _
    rw [newAcc_apply, hm, hμ]
    simp only [hs, hv]
    exact step σ (V r) μ μ' _ (ha r)

/-- A head's output at query `l`, column `d`: the softmax of its scores, weighing the values' row `d`. -/
theorem headOut_fold (s : Fin 33 → FVec Ideal S256x256 .f32) (v : Fin 33 → Vec Ideal S1x1x80x256 .bf16) (l : Fin 256)
    (σ τ : Fin 8448 → ℝ) (hστ : ∀ t, σ t * Real.log 2 = τ t) (V : Fin 80 → Fin 8448 → EReal) (hone : ∀ t, V 64 t = 1)
    (hs : ∀ (j : Fin 33) (t : Fin 256), s j (ix2 t l) = (σ ⟨256 * j.val + t.val, by omega⟩ : EReal))
    (hv : ∀ (j : Fin 33) (r : Fin 80) (t : Fin 256), v j (ix4 0 0 r t) = V r ⟨256 * j.val + t.val, by omega⟩) (d : Fin 64) :
    headOut (stA s v 33 (le_refl 33)) (ix2 d l) = attend τ (V ⟨d.val, by omega⟩) := by
  obtain ⟨μ, -, ha⟩ := fold_inv s v l (fun n => if h : n < 8448 then σ ⟨n, h⟩ else 0) (fun r n => if h : n < 8448 then V r ⟨n, h⟩ else 0)
    (fun j t => by rw [hs, dif_pos]) (fun j r t => by rw [hv, dif_pos]) 33 (le_refl 33)
  have e : ∀ r, stA s v 33 (le_refl 33) (ix2 r l) = ∑ t : Fin 8448, ((Real.exp ((σ t - μ) * Real.log 2) : ℝ) : EReal) * V r t := fun r => by
    rw [ha r, show 256 * 33 = 8448 from rfl, Finset.sum_range]
    exact Finset.sum_congr rfl fun t _ => by simp only [t.isLt, dite_true]
  rw [headOut_apply, e, e, ← quotient (by norm_num) τ σ _ μ hστ]
  simp only [hone]

section
variable (arg2 : Memref sig .tc .vmem S1x8x128x256 .bf16) (harg2 : arg2.IsWhole) (arg3 : Memref sig .tc .vmem S1x8448x128 .bf16)
  (harg3 : arg3.IsWhole) (arg4 : Memref sig .tc .vmem S1x2x80x8448 .bf16) (harg4 : arg4.IsWhole)
  (x0 : Vec Ideal S1x8x128x256 .bf16) (x1 : Vec Ideal S1x8448x128 .bf16) (x2 : Vec Ideal S1x2x80x8448 .bf16)

/-- What one point of the grid leaves in its output block, on blocks whose scores are real and whose values end in a row of ones. -/
def block (τ : Fin 8 → Fin 256 → Fin 8448 → ℝ) : Vec Ideal S1x256x512 .bf16 := fun y =>
  attend (τ ⟨(y 2).val / 64, by have : (y 2).val < 512 := (y 2).isLt; omega⟩ (y 1))
    fun t => x2 (ix4 0 ⟨(y 2).val / 256, by have : (y 2).val < 512 := (y 2).isLt; omega⟩ ⟨(y 2).val % 64, by omega⟩ t)

variable (σ τ : Fin 8 → Fin 256 → Fin 8448 → ℝ) (hστ : ∀ h l t, σ h l t * Real.log 2 = τ h l t)
  (hs : ∀ (h : Fin 8) (l : Fin 256) (t : Fin 8448), ∑ c : Fin 128, x1 (ix3 0 t c) * x0 (ix4 0 h c l) = (σ h l t : EReal))
  (hone : ∀ (g : Fin 2) (t : Fin 8448), x2 (ix4 0 g 64 t) = 1)

include hστ hs hone in
/-- One head, at query `l` and column `d`. -/
theorem head_apply (h : Fin 8) (g : Fin 2) (d : Fin 64) (l : Fin 256) :
    head arg2 harg2 arg3 harg3 arg4 harg4 x0 x1 x2 h g (ix2 d l) = attend (τ h l) fun t => x2 (ix4 0 g ⟨d.val, by omega⟩ t) := by
  unfold head
  refine headOut_fold _ _ l (σ h l) (τ h l) (hστ h l) (fun r t => x2 (ix4 0 g r t)) (hone g) (fun j t => ?_) (fun j r t => ?_) d
  · rw [score_apply, ← hs]
    exact Finset.sum_congr rfl fun c _ => by rw [loadK_apply, loadQ_apply]
  · exact loadV_apply ..

include hστ hs hone in
/-- One store: heads `2c` and `2c + 1`, in columns `128c` to `128c + 127`. -/
theorem pair_apply (c : Fin 4) (h h' : Fin 8) (g : Fin 2) (hh : h.val = 2 * c.val) (hh' : h'.val = 2 * c.val + 1) (hg : g.val = c.val / 2)
    (off : ℕ) (hoff : off = 128 * c.val) (inb : ∀ a, (![0, 0, off] : Fin 3 → ℕ) a + S1x256x128.size a ≤ S1x256x512.size a)
    (x : S1x256x128.Idx) :
    pairOut (head arg2 harg2 arg3 harg3 arg4 harg4 x0 x1 x2 h g) (head arg2 harg2 arg3 harg3 arg4 harg4 x0 x1 x2 h' g) x
      = block x2 τ ((Rect.unit (s := S1x256x512) ![0, 0, off] S1x256x128.size inb).emb x) := by
  subst hoff
  obtain ⟨l, r, rfl⟩ : ∃ (l : Fin 256) (r : Fin 128), x = ix3 0 l r := ⟨x 1, x 2, by
    rw [show (0 : Fin 1) = x 0 from Subsingleton.elim _ _]; exact (ix3_eta x).symm⟩
  rw [pairOut_apply]
  have e2 : (((Rect.unit (s := S1x256x512) ![0, 0, 128 * c.val] S1x256x128.size inb).emb (ix3 0 l r)) 2).val = 128 * c.val + r.val := by
    show 128 * c.val + 1 * r.val = _
    omega
  have e1 : ((Rect.unit (s := S1x256x512) ![0, 0, 128 * c.val] S1x256x128.size inb).emb (ix3 0 l r)) 1 = l := by
    apply Fin.ext
    show 0 + 1 * l.val = _
    omega
  unfold block
  simp only [e2, e1]
  split
  · rename_i hr
    rw [head_apply (σ := σ) (τ := τ) (hστ := hστ) (hs := hs) (hone := hone)]
    congr 2
    · refine Fin.ext ?_
      dsimp only
      omega
    · funext t; congr 2 <;> apply Fin.ext <;> first | rfl | (dsimp only; omega)
  · rename_i hr
    rw [head_apply (σ := σ) (τ := τ) (hστ := hστ) (hs := hs) (hone := hone)]
    congr 2
    · refine Fin.ext ?_
      dsimp only
      omega
    · funext t; congr 2 <;> apply Fin.ext <;> first | rfl | (dsimp only; omega)

include hστ hs hone in
/-- The body's four stores, read back: every head in its columns. -/
theorem out_eq (c : Dev nD) (i : grid0.Coords) (arg5 : Memref sig .tc .vmem S1x256x512 .bf16) (harg5 : arg5.IsWhole) :
    out0_A_3 c i arg2 harg2 arg3 harg3 arg4 harg4 arg5 harg5 x0 x1 x2 = block x2 τ := by
  funext y
  unfold out0_A_3
  refine View.read_writes_apply_of_pieces VO0_3 _ (block x2 τ) _ ?_ y (cover0_A_3 c i arg2 harg2 arg3 harg3 arg4 harg4 arg5 harg5 x0 x1 x2 y)
  rw [run_pieces]
  simp only [List.mem_cons, List.not_mem_nil, or_false, forall_eq_or_imp, forall_eq]
  have P := pair_apply arg2 harg2 arg3 harg3 arg4 harg4 x0 x1 x2 σ τ hστ hs hone
  exact ⟨P 3 6 7 1 rfl rfl rfl _ rfl _, P 2 4 5 1 rfl rfl rfl _ rfl _, P 1 2 3 0 rfl rfl rfl _ rfl _, P 0 0 1 0 rfl rfl rfl _ rfl _⟩

end

end Cert.KernelIdeal.Attn

end
-- ==== Proof.Attn.Blocks.lean ====
/- The blocks the attention call's windows cut, as entries of its operands. -/
module

public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.SL.Sem Cert.KernelIdeal Cert.KernelIdeal.Gen

/-- Where each window's block lies: batch `t / 32`, query block `t % 32`. -/
theorem index0 : ∀ t : Fin cfg0.N, win0_0.index t = ![t.val / 32, 0, 0, t.val % 32] :=
  (by decide +kernel : ∀ t : Fin grid0.N, win0_0.index t = ![t.val / 32, 0, 0, t.val % 32])
theorem index1 : ∀ t : Fin cfg0.N, win0_1.index t = ![t.val / 32, 0, 0] :=
  (by decide +kernel : ∀ t : Fin grid0.N, win0_1.index t = ![t.val / 32, 0, 0])
theorem index2 : ∀ t : Fin cfg0.N, win0_2.index t = ![t.val / 32, 0, 0, 0] :=
  (by decide +kernel : ∀ t : Fin grid0.N, win0_2.index t = ![t.val / 32, 0, 0, 0])
theorem index3 : ∀ t : Fin cfg0.N, win0_3.index t = ![t.val / 32, t.val % 32, 0] :=
  (by decide +kernel : ∀ t : Fin grid0.N, win0_3.index t = ![t.val / 32, t.val % 32, 0])

theorem lt_points (t : Fin cfg0.N) : t.val < 64 := lt_of_lt_of_eq t.isLt N_0

/-- A grid point's batch. -/
def batch (t : Fin cfg0.N) : Fin 2 := ⟨t.val / 32, by have := lt_points t; omega⟩

/-- A grid point's query in lane `l`. -/
def query (t : Fin cfg0.N) (l : Fin 256) : Fin 8192 := ⟨t.val % 32 * 256 + l.val, by omega⟩

variable (m : (ℓ : Loc nD τ sig) → Buf (Elt Ideal) ℓ) (c : Dev nD)

theorem block0 (t : Fin cfg0.N) (h : Fin 8) (k : Fin 128) (l : Fin 256) :
    iblk m c 0 t (ix4 0 h k l) = V m c main_v12 (ix4 (batch t) h k (query t l)) := by
  blk_ext [iblk, index0, batch, query]

theorem block1 (t : Fin cfg0.N) (s : Fin 8448) (k : Fin 128) :
    iblk m c 1 t (ix3 0 s k) = V m c main_v15 (ix3 (batch t) s k) := by
  blk_ext [iblk, index1, batch]

theorem block2 (t : Fin cfg0.N) (g : Fin 2) (r : Fin 80) (s : Fin 8448) :
    iblk m c 2 t (ix4 0 g r s) = V m c main_v21 (ix4 (batch t) g r s) := by
  blk_ext [iblk, index2, batch]

end Cert.KernelIdeal.Attn

end
-- ==== Proof.Attn.Host.lean ====
/- What the attention call's three operands hold, read at an index: the queries scaled, each head in the half of its key
   head's columns with zeros in the other half; the keys; the values with a row of ones under them. -/
module

public import proofs.«01_k».proof.Proof.Gen.KernelIdeal.Frame
public import Idealize.ShloMosaic.Lib.Pointwise
public import Idealize.ShloMosaic.Lib.StableHlo.Run

@[expose] public section

noncomputable section

namespace Cert.KernelIdeal.Attn

open Idealize.ShloMosaic Idealize.ShloMosaic.TcCoe Idealize.SL.Sem Cert.KernelIdeal Cert.KernelIdeal.Gen

section
variable {F : FTy → Type} [FloatOps F]

/-- The queries, scaled and transposed. -/
def scaled (q : FVec F S2x8192x8x64 .f32) : FVec F S2x8x64x8192 .bf16 :=
  truncf .bf16 (transpose S2x8x64x8192 [0, 2, 3, 1] (Host.divf
    (mulf q (broadcastInDim S2x8192x8x64 ![] bcast_S_S2x8192x8x64 (constant S_ .f32 0x3E000000#32)))
    (broadcastInDim S2x8192x8x64 ![] bcast_S_S2x8192x8x64 (Host.log (constant S_ .f32 0x40000000#32))))
    transposes_S2x8192x8x64_S2x8x64x8192_0_2_3_1) bitsLt_bf16_f32

/-- The half of the columns a head leaves empty. -/
def blank : FVec F S2x4x64x8192 .bf16 := broadcastInDim S2x4x64x8192 ![] bcast_S_S2x4x64x8192 (constant S_ .bf16 0x0000#16)

/-- The call's first operand. -/
def queries (q : FVec F S2x8192x8x64 .f32) : FVec F S2x8x128x8192 .bf16 :=
  concatenate S2x8x128x8192 1
    [⟨S2x4x128x8192, concatenate S2x4x128x8192 2 [⟨S2x4x64x8192, extractStridedSlice S2x4x64x8192 ![0, 0, 0, 0] (scaled q) slices_S2x8x64x8192_S2x4x64x8192_0_0_0_0⟩,
        ⟨S2x4x64x8192, blank⟩] concatenates_S2x4x64x8192_S2x4x64x8192_S2x4x128x8192_d2⟩,
      ⟨S2x4x128x8192, concatenate S2x4x128x8192 2 [⟨S2x4x64x8192, blank⟩,
        ⟨S2x4x64x8192, extractStridedSlice S2x4x64x8192 ![0, 4, 0, 0] (scaled q) slices_S2x8x64x8192_S2x4x64x8192_0_4_0_0⟩]
        concatenates_S2x4x64x8192_S2x4x64x8192_S2x4x128x8192_d2⟩] concatenates_S2x4x128x8192_S2x4x128x8192_S2x8x128x8192_d1

/-- Context rows, then latent rows. -/
def joined (ctx : FVec F S2x256x2x64 .f32) (lat : FVec F S2x8192x2x64 .f32) : FVec F S2x8448x2x64 .f32 :=
  concatenate S2x8448x2x64 1 [⟨S2x256x2x64, ctx⟩, ⟨S2x8192x2x64, lat⟩] concatenates_S2x256x2x64_S2x8192x2x64_S2x8448x2x64_d1

/-- The call's second operand. -/
def keys (ctx : FVec F S2x256x2x64 .f32) (lat : FVec F S2x8192x2x64 .f32) : FVec F S2x8448x128 .bf16 :=
  truncf .bf16 (shapeCast S2x8448x128 (joined ctx lat) shapeCasts_S2x8448x2x64_S2x8448x128) bitsLt_bf16_f32

/-- The call's third operand. -/
def values (ctx : FVec F S2x256x2x64 .f32) (lat : FVec F S2x8192x2x64 .f32) : FVec F S2x2x80x8448 .bf16 :=
  concatenate S2x2x80x8448 2
    [⟨S2x2x64x8448, truncf .bf16 (transpose S2x2x64x8448 [0, 2, 3, 1] (joined ctx lat) transposes_S2x8448x2x64_S2x2x64x8448_0_2_3_1) bitsLt_bf16_f32⟩,
      ⟨S2x2x1x8448, broadcastInDim S2x2x1x8448 ![] bcast_S_S2x2x1x8448 (constant S_ .bf16 0x3F80#16)⟩,
      ⟨S2x2x15x8448, broadcastInDim S2x2x15x8448 ![] bcast_S_S2x2x15x8448 (constant S_ .bf16 0x0000#16)⟩]
    concatenates_S2x2x64x8448_S2x2x1x8448_S2x2x15x8448_S2x2x80x8448_d2

variable (m : (ℓ : Loc nD τ sig) → Buf (Elt F) ℓ) (c : Dev nD)

theorem V_queries : V m c main_v12 = queries (m ((c : Thread nD τ).loc main_arg0)) := by
  unfold_abbrev_sides
  after_results
  rfl

theorem V_keys : V m c main_v15 = keys (m ((c : Thread nD τ).loc main_arg3)) (m ((c : Thread nD τ).loc main_arg1)) := by
  unfold_abbrev_sides
  after_results
  rfl

theorem V_values : V m c main_v21 = values (m ((c : Thread nD τ).loc main_arg4)) (m ((c : Thread nD τ).loc main_arg2)) := by
  unfold_abbrev_sides
  after_results
  rfl

end

theorem joined_apply (ctx : FVec Ideal S2x256x2x64 .f32) (lat : FVec Ideal S2x8192x2x64 .f32) (b : Fin 2) (t : Fin 8448) (g : Fin 2) (d : Fin 64) :
    joined ctx lat (ix4 b t g d) = if h : t.val < 256 then ctx (ix4 b ⟨t.val, h⟩ g d) else lat (ix4 b ⟨t.val - 256, by omega⟩ g d) := by
  pointwise [joined]

theorem queries_apply (q : FVec Ideal S2x8192x8x64 .f32) (b : Fin 2) (h : Fin 8) (c : Fin 128) (n : Fin 8192) :
    queries q (ix4 b h c n) = if h.val < 4 then
        if hc : c.val < 64 then Ideal.div (q (ix4 b n h ⟨c.val, hc⟩) * Ideal.ofBits .f32 0x3E000000#32) (Ideal.log (Ideal.ofBits .f32 0x40000000#32)) else 0
      else if hc : c.val < 64 then 0
        else Ideal.div (q (ix4 b n h ⟨c.val - 64, by omega⟩) * Ideal.ofBits .f32 0x3E000000#32) (Ideal.log (Ideal.ofBits .f32 0x40000000#32)) := by
  pointwise [queries, blank, scaled]
  split
  · rfl
  · have e : (⟨4 + (h.val - 4), by omega⟩ : Fin 8) = h := Fin.ext (by dsimp only; omega)
    exact congrArg (fun z : Fin 8 => if hc : c.val < 64 then (0 : EReal) else Ideal.div (q (ix4 b n z ⟨c.val - 64, by omega⟩) *
      Ideal.ofBits .f32 0x3E000000#32) (Ideal.log (Ideal.ofBits .f32 0x40000000#32))) e

theorem keys_apply (ctx : FVec Ideal S2x256x2x64 .f32) (lat : FVec Ideal S2x8192x2x64 .f32) (b : Fin 2) (t : Fin 8448) (c : Fin 128) :
    keys ctx lat (ix3 b t c) = joined ctx lat (ix4 b t ⟨c.val / 64, by omega⟩ ⟨c.val % 64, by omega⟩) := by
  pointwise [keys]

theorem values_apply (ctx : FVec Ideal S2x256x2x64 .f32) (lat : FVec Ideal S2x8192x2x64 .f32) (b g : Fin 2) (d : Fin 64) (t : Fin 8448) :
    values ctx lat (ix4 b g ⟨d.val, by omega⟩ t) = joined ctx lat (ix4 b t g d) := by
  pointwise [values]

theorem values_one (ctx : FVec Ideal S2x256x2x64 .f32) (lat : FVec Ideal S2x8192x2x64 .f32) (b g : Fin 2) (t : Fin 8448) :
    values ctx lat (ix4 b g 64 t) = 1 := by
  pointwise [values]

end Cert.KernelIdeal.Attn

end
-- ==== Proof.Attn.Spec.lean ====
/- The attention of finite queries and keys, as one function of its five arrays: every head's softmax over the context and
   latent keys, weighing the values. Both programs are shown to compute it. -/
module

public import proofs.«01_k».proof.Proof.Attn.Softmax
public import Idealize.ShloMosaic.Lib.Pointwise

@[expose] public section

noncomputable section

namespace Cert.Spec

open Idealize.ShloMosaic Cert.Softmax

/-- Every entry is a real. -/
def Reals {S : Shape} {e : FTy} (x : FVec Ideal S e) : Prop := ∀ i, ∃ r : ℝ, x i = (r : EReal)

/-- Context rows, then latent rows, at an index. -/
def join (ctx : FVec Ideal ⟨4, ![2, 256, 2, 64]⟩ .f32) (lat : FVec Ideal ⟨4, ![2, 8192, 2, 64]⟩ .f32) (b : Fin 2) (t : Fin 8448) (g : Fin 2)
    (d : Fin 64) : EReal :=
  if h : t.val < 256 then ctx (ix4 b ⟨t.val, h⟩ g d) else lat (ix4 b ⟨t.val - 256, by omega⟩ g d)

theorem join_real {ctx : FVec Ideal ⟨4, ![2, 256, 2, 64]⟩ .f32} {lat : FVec Ideal ⟨4, ![2, 8192, 2, 64]⟩ .f32} (hc : Reals ctx) (hl : Reals lat)
    (b : Fin 2) (t : Fin 8448) (g : Fin 2) (d : Fin 64) : ∃ r : ℝ, join ctx lat b t g d = (r : EReal) := by
  unfold join
  split
  · exact hc _
  · exact hl _

variable (q : FVec Ideal ⟨4, ![2, 8192, 8, 64]⟩ .f32) (kl vl : FVec Ideal ⟨4, ![2, 8192, 2, 64]⟩ .f32) (kc vc : FVec Ideal ⟨4, ![2, 256, 2, 64]⟩ .f32)

/-- The scaled score of query `n` of head `h` and key `t`. -/
def logit (b : Fin 2) (h : Fin 8) (n : Fin 8192) (t : Fin 8448) : ℝ :=
  (∑ d : Fin 64, (join kc kl b t ⟨h.val / 4, by omega⟩ d).toReal * (q (ix4 b n h d)).toReal) * (1 / 8)

/-- Column `d` of head `h` at query `n`. -/
def headAt (b : Fin 2) (n : Fin 8192) (h : Fin 8) (d : Fin 64) : EReal :=
  attend (logit q kl kc b h n) fun t => join vc vl b t ⟨h.val / 4, by omega⟩ d

/-- The whole result: head `h` in columns `64 h` to `64 h + 63`. -/
def result : FVec Ideal ⟨3, ![2, 8192, 512]⟩ .bf16 := fun i =>
  headAt q kl vl kc vc (i 0) (i 1) ⟨(i 2).val / 64, by have : (i 2).val < 512 := (i 2).isLt; omega⟩ ⟨(i 2).val % 64, by omega⟩

/-- The reference's factor. -/
theorem eighth : Ideal.ofBits .f32 0x3E000000#32 = ((1 / 8 : ℝ) : EReal) := by
  simp [Ideal.ofBits, Ideal.ieee, -EReal.coe_mul]
  norm_num

/-- The kernel's divisor is the logarithm of this. -/
theorem two : Ideal.ofBits .f32 0x40000000#32 = ((2 : ℝ) : EReal) := by
  simp [Ideal.ofBits, Ideal.ieee, -EReal.coe_mul]
  norm_num

/-- A product of reals, as a real. -/
theorem mul_toReal {x y : EReal} (hx : ∃ r : ℝ, x = (r : EReal)) (hy : ∃ r : ℝ, y = (r : EReal)) : x * y = ((x.toReal * y.toReal : ℝ) : EReal) := by
  obtain ⟨r, rfl⟩ := hx
  obtain ⟨s, rfl⟩ := hy
  simp

/-- The largest of a row of reals is a real: a maximum reduction over a nonempty set of places. -/
theorem reduce_real {s t u : Shape} {axes : List (Fin s.rank)} (x : FVec Ideal s .f32) (init : FVec Ideal u .f32) (h : s.ReducesTo axes t)
    (hu : 0 < u.numel) (j : t.Idx) (hinit : init (Shape.Idx.first hu) = ⊥) (hx : Reals x) (i : s.Idx) (hi : h.drop i = j) :
    ∃ M : ℝ, Host.reduce FloatOps.maximumf x init h hu j = (M : EReal) := by
  rw [Host.reduce_eq_fold, hinit]
  exact fold_real _ ⟨i, by simp [hi]⟩ _ hx

end Cert.Spec

end
-- ==== Proof.Attn.Score.lean ====
/- The widened scores of the attention call are the logits of `Spec`, in the kernel's scale. -/
module

public import proofs.«01_k».proof.Proof.Attn.Host
public import proofs.«01_k».proof.Proof.Attn.Spec

@[expose] public section

set_option maxRecDepth 16384

noncomputable section

namespace Cert.KernelIdeal.Attn

open Idealize.ShloMosaic Idealize.ShloMosaic.TcCoe Idealize.SL.Sem Cert.KernelIdeal Cert.KernelIdeal.Gen Cert.Softmax Cert.Spec

theorem joined_join (ctx : FVec Ideal S2x256x2x64 .f32) (lat : FVec Ideal S2x8192x2x64 .f32) (b : Fin 2) (t : Fin 8448) (g : Fin 2) (d : Fin 64) :
    joined ctx lat (ix4 b t g d) = join ctx lat b t g d := joined_apply ..

/-- The widened product is the product over the head's own 64 columns, in the kernel's scale. -/
theorem score_real (q : FVec Ideal S2x8192x8x64 .f32) (kl : FVec Ideal S2x8192x2x64 .f32) (kc : FVec Ideal S2x256x2x64 .f32)
    (hq : Reals q) (hl : Reals kl) (hc : Reals kc) (b : Fin 2) (h : Fin 8) (n : Fin 8192) (t : Fin 8448) :
    ∑ k : Fin 128, keys kc kl (ix3 b t k) * queries q (ix4 b h k n) = ((logit q kl kc b h n t / Real.log 2 : ℝ) : EReal) := by
  have hlog : Ideal.log (Ideal.ofBits .f32 0x40000000#32) = ((Real.log 2 : ℝ) : EReal) := by
    rw [two, Ideal.log_coe]
    norm_num
  have hpos : 0 < Real.log 2 := Real.log_pos (by norm_num)
  have term : ∀ d : Fin 64, join kc kl b t ⟨h.val / 4, by omega⟩ d * Ideal.div (q (ix4 b n h d) * Ideal.ofBits .f32 0x3E000000#32)
        (Ideal.log (Ideal.ofBits .f32 0x40000000#32))
      = (((join kc kl b t ⟨h.val / 4, by omega⟩ d).toReal * (q (ix4 b n h d)).toReal * (1 / 8) / Real.log 2 : ℝ) : EReal) := fun d => by
    obtain ⟨x, hx⟩ := join_real hc hl b t ⟨h.val / 4, by omega⟩ d
    obtain ⟨y, hy⟩ := hq (ix4 b n h d)
    rw [hx, hy, hlog, eighth, ← EReal.coe_mul, div_pos_real _ hpos, ← EReal.coe_mul, ← EReal.coe_mul, EReal.toReal_coe, EReal.toReal_coe]
    congr 1
    field_simp
  have split : ∑ k : Fin 128, keys kc kl (ix3 b t k) * queries q (ix4 b h k n)
      = ∑ d : Fin 64, join kc kl b t ⟨h.val / 4, by omega⟩ d * Ideal.div (q (ix4 b n h d) * Ideal.ofBits .f32 0x3E000000#32)
        (Ideal.log (Ideal.ofBits .f32 0x40000000#32)) := by
    refine (Fin.sum_univ_add (a := 64) (b := 64) fun k : Fin (64 + 64) => keys kc kl (ix3 b t k) * queries q (ix4 b h k n)).trans ?_
    simp only [keys_apply, queries_apply, joined_join]
    have fst : ∀ x : Fin 64, (⟨(Fin.castAdd 64 x).val / 64, by have := (Fin.castAdd 64 x).isLt; omega⟩ : Fin 2) = 0 := fun x => Fin.ext (by simp)
    have snd : ∀ x : Fin 64, (⟨(Fin.natAdd 64 x).val / 64, by have := (Fin.natAdd 64 x).isLt; omega⟩ : Fin 2) = 1 := fun x => Fin.ext (by
      show (64 + x.val) / 64 = 1; omega)
    have lo : ∀ x : Fin 64, (Fin.castAdd 64 x).val < 64 := fun x => x.isLt
    have hi : ∀ x : Fin 64, ¬(Fin.natAdd 64 x).val < 64 := fun x => by show ¬(64 + x.val < 64); omega
    have col : ∀ x : Fin 64, (⟨(Fin.castAdd 64 x).val % 64, Nat.mod_lt _ (by norm_num)⟩ : Fin 64) = x := fun x => Fin.ext (by
      show x.val % 64 = x.val; omega)
    have col' : ∀ x : Fin 64, (⟨(Fin.natAdd 64 x).val % 64, Nat.mod_lt _ (by norm_num)⟩ : Fin 64) = x := fun x => Fin.ext (by
      show (64 + x.val) % 64 = x.val; omega)
    have sub : ∀ x : Fin 64, (⟨(Fin.natAdd 64 x).val - 64, by show 64 + x.val - 64 < 64; omega⟩ : Fin 64) = x := fun x => Fin.ext (by
      show 64 + x.val - 64 = x.val; omega)
    have low : ∀ x : Fin 64, (⟨(Fin.castAdd 64 x).val, x.isLt⟩ : Fin 64) = x := fun x => rfl
    by_cases hh : h.val < 4
    · have hg : (⟨h.val / 4, by omega⟩ : Fin 2) = 0 := Fin.ext (by show h.val / 4 = 0; omega)
      simp only [hh, if_true, fst, snd, lo, hi, col, col', low, dif_pos, dif_neg, not_false_eq_true, mul_zero, Finset.sum_const_zero, add_zero, hg]
    · have hg : (⟨h.val / 4, by omega⟩ : Fin 2) = 1 := Fin.ext (by show h.val / 4 = 1; omega)
      simp only [hh, if_false, fst, snd, lo, hi, col, col', sub, dif_pos, dif_neg, not_false_eq_true, mul_zero, Finset.sum_const_zero, zero_add, hg]
  rw [split, Finset.sum_congr rfl fun d _ => term d, ← coe_sum, logit, Finset.sum_mul, Finset.sum_div]

end Cert.KernelIdeal.Attn

end
-- ==== Proof.Attn.Result.lean ====
/- The attention call's result array is the attention of `Spec`, on finite queries and keys. -/
module

public import proofs.«01_k».proof.Proof.Attn.Fold
public import proofs.«01_k».proof.Proof.Attn.Blocks
public import proofs.«01_k».proof.Proof.Attn.Score
public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.SL.Sem Cert.KernelIdeal Cert.KernelIdeal.Gen Cert.Softmax Cert.Spec

variable (m : (ℓ : Loc nD τ sig) → Buf (Elt Ideal) ℓ) (c : Dev nD)

/-- The call's result array. -/
theorem final_o (hq : Reals (S := S2x8192x8x64) (e := .f32) (m ((c : Thread nD τ).loc main_arg0))) (hl : Reals (S := S2x8192x2x64) (e := .f32) (m ((c : Thread nD τ).loc main_arg1)))
    (hc : Reals (S := S2x256x2x64) (e := .f32) (m ((c : Thread nD τ).loc main_arg3))) :
    (dats m 0 c).arrAt 3 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 3 _ (by decide +kernel) fun t hf y => ?_
  blk_simp
  rw [after0_3]
  unfold outsAt0
  rw [out_eq (σ := fun h l s => logit (m ((c : Thread nD τ).loc main_arg0)) (m ((c : Thread nD τ).loc main_arg1)) (m ((c : Thread nD τ).loc main_arg3)) (batch t) h (query t l) s / Real.log 2)
    (τ := fun h l s => logit (m ((c : Thread nD τ).loc main_arg0)) (m ((c : Thread nD τ).loc main_arg1)) (m ((c : Thread nD τ).loc main_arg3)) (batch t) h (query t l) s)]
  · have e0 : (((win0_3.blk t).view.emb y) 0 : Fin 2) = batch t := Fin.ext (by
      blk_simp [index3, batch])
    have e1 : (((win0_3.blk t).view.emb y) 1 : Fin 8192) = query t (y 1) := Fin.ext (by blk_simp [index3, query])
    have e2 : (((win0_3.blk t).view.emb y) 2).val = (y 2).val := by blk_simp [index3]
    unfold block result headAt
    simp only [e0, e1, e2]
    refine congrArg (attend _) (funext fun s => ?_)
    rw [block2, V_values]
    refine (values_apply _ _ _ _ ⟨(y 2).val % 64, Nat.mod_lt _ (by norm_num)⟩ _).trans ((joined_join ..).trans ?_)
    congr 1
    exact Fin.ext (by show (y 2).val / 256 = (y 2).val / 64 / 4; omega)
  · intro h l s
    have hpos : 0 < Real.log 2 := Real.log_pos (by norm_num)
    field_simp
  · intro h l s
    rw [← score_real _ _ _ hq hl hc]
    refine Finset.sum_congr rfl fun k _ => ?_
    rw [block0, block1, V_keys, V_queries]
  · intro g s
    rw [block2, V_values, values_one]

end Cert.KernelIdeal.Attn

end
-- ==== Proof.Attn.Ref.lean ====
/- The reference computes the attention of `Spec`. -/
module

public import proofs.«01_k».proof.Proof.Attn.Spec
public import proofs.«01_k».proof.Proof.Gen.ReferenceIdeal.Read

@[expose] public section

noncomputable section

namespace Cert.ReferenceIdeal.Attn

open Idealize.ShloMosaic Cert.ReferenceIdeal Cert.ReferenceIdeal.Gen Cert.ReferenceIdeal.Read Cert.Softmax Cert.Spec

variable (q : FVec Ideal S2x8192x8x64 .f32) (kl vl : FVec Ideal S2x8192x2x64 .f32) (kc vc : FVec Ideal S2x256x2x64 .f32)

theorem joined_apply (ctx : FVec Ideal S2x256x2x64 .f32) (lat : FVec Ideal S2x8192x2x64 .f32) (b : Fin 2) (t : Fin 8448) (g : Fin 2) (d : Fin 64) :
    val_main_v0 (F := Ideal) lat ctx (ix4 b t g d) = join ctx lat b t g d := by
  pointwise [val_main_v0, join]

/-- The scaled scores. -/
theorem score_apply (b g : Fin 2) (r : Fin 4) (n : Fin 8192) (t : Fin 8448) :
    val_main_v6 (F := Ideal) q kl kc (ix5 b g r n t)
      = (∑ d : Fin 64, val_main_v0 (F := Ideal) kl kc (ix4 b t g d) * q (ix4 b n ⟨g.val * 4 + r.val, by omega⟩ d)) * Ideal.ofBits .f32 0x3E000000#32 := by
  generalize hk : val_main_v0 (F := Ideal) kl kc = k
  pointwise [val_main_v6, val_main_v5, val_main_v4, val_main_v3, val_main_v2, val_main_cst, hk]

/-- A reduced row's place. -/
theorem drop_row (b g : Fin 2) (r : Fin 4) (n : Fin 8192) :
    reducesTo_S2x2x4x8192x8448_S2x2x4x8192_d4.drop (ix5 b g r n 0) = ix4 b g r n := by
  funext a
  apply Fin.ext
  fin_cases a
  · exact Shape.ReducesTo.drop_apply_val_of_eq reducesTo_S2x2x4x8192x8448_S2x2x4x8192_d4 (ix5 b g r n 0) 0 0
  · exact Shape.ReducesTo.drop_apply_val_of_eq reducesTo_S2x2x4x8192x8448_S2x2x4x8192_d4 (ix5 b g r n 0) 1 1
  · exact Shape.ReducesTo.drop_apply_val_of_eq reducesTo_S2x2x4x8192x8448_S2x2x4x8192_d4 (ix5 b g r n 0) 2 2
  · exact Shape.ReducesTo.drop_apply_val_of_eq reducesTo_S2x2x4x8192x8448_S2x2x4x8192_d4 (ix5 b g r n 0) 3 3

theorem negInf (i : S_.Idx) : constant (F := Ideal) S_ .f32 0xFF800000#32 i = ⊥ := by
  show Ideal.ofBits .f32 0xFF800000#32 = ⊥
  simp [Ideal.ofBits, Ideal.ieee]

/-- A row's largest score is a real. -/
theorem row_real (x : FVec Ideal S2x2x4x8192x8448 .f32) (h : Reals x) (b g : Fin 2) (r : Fin 4) (n : Fin 8192) :
    ∃ M : ℝ, Host.reduce FloatOps.maximumf x (constant (F := Ideal) S_ .f32 0xFF800000#32) reducesTo_S2x2x4x8192x8448_S2x2x4x8192_d4 h_S_
      (ix4 b g r n) = (M : EReal) :=
  reduce_real x _ _ _ _ (negInf _) h _ (drop_row b g r n)

/-- … and so is the number subtracted from its scores. -/
theorem max_real (h : Reals (S := S2x2x4x8192x8448) (e := .f32) (val_main_v6 (F := Ideal) q kl kc)) (b g : Fin 2) (r : Fin 4) (n : Fin 8192) :
    ∃ M : ℝ, val_main_v9 (F := Ideal) q kl kc (ix4 b g r n) = (M : EReal) := by
  obtain ⟨M, hM⟩ := row_real _ h b g r n
  refine ⟨M, ?_⟩
  rw [val_main_v9_apply, val_main_v8_apply, val_main_v7, val_main_cst_0, hM, val_main_cst_1]
  exact (congrArg (max · (M : EReal)) (negInf _)).trans (max_eq_right bot_le)

/-- Each exponential is taken relative to its row's largest score. -/
theorem exp_apply (b g : Fin 2) (r : Fin 4) (n : Fin 8192) (t : Fin 8448) :
    val_main_v13 (F := Ideal) q kl kc (ix5 b g r n t)
      = Ideal.exp (val_main_v6 (F := Ideal) q kl kc (ix5 b g r n t) - val_main_v9 (F := Ideal) q kl kc (ix4 b g r n)) := by
  generalize hk : val_main_v6 (F := Ideal) q kl kc = k
  generalize hm : val_main_v9 (F := Ideal) q kl kc = m
  pointwise [val_main_v13, val_main_v12, val_main_v11, val_main_v10, hk, hm]

/-- The values weighed by the exponentials, each divided by its row's sum. -/
theorem out_apply (b : Fin 2) (n : Fin 8192) (g : Fin 2) (r : Fin 4) (d : Fin 64) :
    val_main_v19 (F := Ideal) q kl vl kc vc (ix5 b n g r d)
      = ∑ t : Fin 8448, val_main_v1 (F := Ideal) vl vc (ix4 b t g d) * Ideal.div (val_main_v13 (F := Ideal) q kl kc (ix5 b g r n t))
          (∑ u : Fin 8448, val_main_v13 (F := Ideal) q kl kc (ix5 b g r n u)) := by
  generalize hk : val_main_v13 (F := Ideal) q kl kc = k
  generalize hm : val_main_v1 (F := Ideal) vl vc = v
  pointwise [val_main_v19, val_main_v18, val_main_v17, val_main_v16, val_main_v15, val_main_v14, val_main_cst_2, hk, hm]

/-- The columns of the result: key head, query head within it, column. -/
theorem flat_apply (b : Fin 2) (n : Fin 8192) (e : Fin 512) :
    val_main_v21 (F := Ideal) q kl vl kc vc (ix3 b n e)
      = val_main_v19 (F := Ideal) q kl vl kc vc (ix5 b n ⟨e.val / 256, by omega⟩ ⟨e.val / 64 % 4, by omega⟩ ⟨e.val % 64, by omega⟩) := by
  generalize hk : val_main_v19 (F := Ideal) q kl vl kc vc = k
  pointwise [val_main_v21, val_main_v20, hk]

/-- The scaled scores are the logits of `Spec`. -/
theorem score_logit (hq : Reals (S := S2x8192x8x64) (e := .f32) q) (hl : Reals (S := S2x8192x2x64) (e := .f32) kl)
    (hc : Reals (S := S2x256x2x64) (e := .f32) kc) (b g : Fin 2) (r : Fin 4) (n : Fin 8192) (t : Fin 8448) (h : Fin 8) (hh : h.val = g.val * 4 + r.val) :
    val_main_v6 (F := Ideal) q kl kc (ix5 b g r n t) = ((logit q kl kc b h n t : ℝ) : EReal) := by
  have hg : (⟨h.val / 4, by omega⟩ : Fin 2) = g := Fin.ext (by show h.val / 4 = g.val; omega)
  have eh : (⟨g.val * 4 + r.val, by omega⟩ : Fin 8) = h := Fin.ext hh.symm
  rw [score_apply, eighth, logit, EReal.coe_mul, coe_sum]
  congr 1
  refine Finset.sum_congr rfl fun d _ => ?_
  rw [joined_apply, eh, hg]
  exact mul_toReal (join_real hc hl b t g d) (hq _)

/-- The reference's result. -/
theorem ref_eq (hq : Reals (S := S2x8192x8x64) (e := .f32) q) (hl : Reals (S := S2x8192x2x64) (e := .f32) kl)
    (hc : Reals (S := S2x256x2x64) (e := .f32) kc) :
    val_main_v21 (F := Ideal) q kl vl kc vc = result q kl vl kc vc := by
  funext i
  obtain ⟨b, n, e, rfl⟩ : ∃ (b : Fin 2) (n : Fin 8192) (e : Fin 512), i = ix3 b n e := ⟨i 0, i 1, i 2, (ix3_eta i).symm⟩
  have hs := fun t => score_logit q kl kc hq hl hc b ⟨e.val / 256, by omega⟩ ⟨e.val / 64 % 4, by omega⟩ n t ⟨e.val / 64, by omega⟩
    (by show e.val / 64 = e.val / 256 * 4 + e.val / 64 % 4; omega)
  have hr : Reals (S := S2x2x4x8192x8448) (e := .f32) (val_main_v6 (F := Ideal) q kl kc) := fun j => by
    rw [eq_ix5 j]
    exact ⟨_, score_logit q kl kc hq hl hc (j 0) (j 1) (j 2) (j 3) (j 4) ⟨(j 1).val * 4 + (j 2).val, by
      have h1 : (j 1).val < 2 := (j 1).isLt
      have h2 : (j 2).val < 4 := (j 2).isLt
      omega⟩ rfl⟩
  obtain ⟨M, hM⟩ := max_real q kl kc hr b ⟨e.val / 256, by omega⟩ ⟨e.val / 64 % 4, by omega⟩ n
  rw [flat_apply, out_apply]
  simp only [exp_apply, hs, hM]
  refine (weights (by norm_num) _ _ M).trans ?_
  show _ = attend _ _
  refine congrArg (attend _) (funext fun t => ?_)
  have hg : (⟨e.val / 64 / 4, by omega⟩ : Fin 2) = ⟨e.val / 256, by omega⟩ := Fin.ext (by show e.val / 64 / 4 = e.val / 256; omega)
  refine (joined_apply vc vl b t _ _).trans ?_
  show join vc vl b t _ _ = join vc vl b t ⟨e.val / 64 / 4, _⟩ ⟨e.val % 64, _⟩
  rw [hg]

end Cert.ReferenceIdeal.Attn

end
-- ==== Proof.Attn.Finite.lean ====
/- The precondition, read: where its three masks are true everywhere, queries and keys are reals. -/
module

public import proofs.«01_k».proof.Pre_finite_scores
public import proofs.«01_k».proof.Proof.Attn.Spec

@[expose] public section

noncomputable section

namespace Cert.Spec

open Idealize.ShloMosaic Cert.Pre_finite_scores

/-- The precondition's side conditions. -/
theorem pre_facts : Cert.Pre_finite_scores.Facts where
  bcast_S_S2x8192x8x64 := by decide
  bcast_S_S2x8192x2x64 := by decide
  bcast_S_S2x256x2x64 := by decide

/-- The pattern of the bound is the largest extended real. -/
theorem posInf : Ideal.ofBits .f32 0x7F800000#32 = ⊤ := by simp [Ideal.ofBits, Ideal.ieee]

/-- An extended real whose absolute value is below the largest one is a real. -/
theorem real_of_abs (x : EReal) (h : max x (-x) < ⊤) : ∃ r : ℝ, x = (r : EReal) := by
  induction x using EReal.rec with
  | bot => simp at h
  | coe r => exact ⟨r, rfl⟩
  | top => simp at h

/-- A mask `|x| < ∞` true everywhere says that every entry is a real. -/
theorem reals_of_mask {S : Shape} (hb : S_.BroadcastsInDim S (![] : Fin 0 → Fin S.rank)) (x : FVec Ideal S .f32)
    (h : cmpf .olt (Host.absf x) (broadcastInDim S ![] hb (constant S_ .f32 0x7F800000#32)) = fun _ => 1#1) : Reals x := by
  intro i
  have hi : BitVec.ofBool (decide (max (x i) (-(x i)) < Ideal.ofBits .f32 0x7F800000#32)) = 1#1 := congrFun h i
  rw [posInf] at hi
  refine real_of_abs _ ?_
  by_contra hn
  rw [decide_eq_false hn] at hi
  exact absurd hi (by decide)

end Cert.Spec

end
-- ==== Proof.Final.Tiles.lean ====
/- The final call's body in closed form. The recurrence's output arrives chunk by chunk: a register row holds one chunk of
   one channel group, its lanes being 16 steps of 16 channels. The body sorts it into rows of 512 channels, one row per
   step, through a scratch buffer; then it gates, mixes, normalizes and adds, 256 rows at a time. -/
module

public import proofs.«01_k».proof.Proof.Gen.Kernel2Ideal.Frame.Runs

@[expose] public section

noncomputable section

namespace Cert.Kernel2Ideal.Final

open Idealize.ShloMosaic Cert.Kernel2Ideal Cert.Kernel2Ideal.Gen

variable {F : FTy → Type} [FloatOps F]

/-- The lanes turned until the 16 that hold step `j` of the loaded eight stand at group `g`. -/
def turned (g j : ℕ) (v : FVec F S16x128 .f32) : FVec F S16x128 .f32 :=
  match (g + 8 - j % 8) % 8 with
  | 0 => v
  | k + 1 => dynamicRotate 1 (BitVec.ofNat 32 (16 * (k + 1))) none v rotates_S16x128_d1

/-- Lanes `16 g … 16 g + 15` of the `g`-th of eight arrays. -/
def pick (r : Fin 8 → FVec F S16x128 .f32) : FVec F S16x128 .f32 :=
  select (cmpi .eq k0_pay3 (broadcast S16x128 7#32)) (r 7) <| select (cmpi .eq k0_pay3 (broadcast S16x128 6#32)) (r 6) <|
  select (cmpi .eq k0_pay3 (broadcast S16x128 5#32)) (r 5) <| select (cmpi .eq k0_pay3 (broadcast S16x128 4#32)) (r 4) <|
  select (cmpi .eq k0_pay3 (broadcast S16x128 3#32)) (r 3) <| select (cmpi .eq k0_pay3 (broadcast S16x128 2#32)) (r 2) <|
  select (cmpi .eq k0_pay3 (broadcast S16x128 1#32)) (r 1) (r 0)

/-- Sixteen chunks' worth of one step, 128 channels: from eight channel groups' loads. -/
def strip (y : Fin 8 → Vec F S1x1x16x128 .bf16) (j : ℕ) : FVec F S1x16x128 .f32 :=
  shapeCast S1x16x128 (pick fun g => turned g.val j (extf .f32 (shapeCast S16x128 (y g) shapeCasts_S1x1x16x128_S16x128) bitsLt_bf16_f32))
    shapeCasts_S16x128_S1x16x128

/-- The smooth rectifier, by its tangent formula. -/
def gelu (y : FVec F S256x512 .f32) : FVec F S256x512 .f32 :=
  mulf y (mulf (broadcast S256x512 (Scalar.ofBits .f32 0x3F000000#32)) (addf (broadcast S256x512 (Scalar.ofBits .f32 0x3F800000#32))
    (tanh (mulf (broadcast S256x512 (Scalar.ofBits .f32 0x3F4C422A#32))
      (addf y (mulf (broadcast S256x512 (Scalar.ofBits .f32 0x3D372713#32)) (mulf y (mulf y y))))))))

/-- The four column blocks of 256 rows, side by side. -/
def rows (s : Fin 4 → Vec F S1x256x128 .f32) : FVec F S256x512 .f32 :=
  concatenate S256x512 1
    [⟨S256x128, shapeCast S256x128 (s 0) shapeCasts_S1x256x128_S256x128⟩, ⟨S256x128, shapeCast S256x128 (s 1) shapeCasts_S1x256x128_S256x128⟩,
      ⟨S256x128, shapeCast S256x128 (s 2) shapeCasts_S1x256x128_S256x128⟩, ⟨S256x128, shapeCast S256x128 (s 3) shapeCasts_S1x256x128_S256x128⟩]
    concatenates_S256x128_S256x128_S256x128_S256x128_S256x512_d1

/-- The gated branch of the recurrence: each channel times the sigmoid of the mixed row, times its gate. -/
def mixed (y : FVec F S256x512 .f32) (w : Vec F S512x512 .bf16) (b : Vec F S1x512 .f32) (gs : Vec F S1x256x512 .bf16) : FVec F S256x512 .bf16 :=
  truncf .bf16 (mulf (mulf y (logistic (addf
    (matmul dot_S256x512_S512x512_S256x512_1_0_0_1_n_n none (truncf .bf16 y bitsLt_bf16_f32) (shapeCast S512x512 w shapeCasts_S512x512_S512x512)
      (constant S256x512 .f32 0x00000000#32))
    (broadcastTo S256x512 (shapeCast S1x512 b shapeCasts_S1x512_S1x512) broadcasts_S1x512_S256x512))))
    (extf .f32 (shapeCast S256x512 gs shapeCasts_S1x256x512_S256x512) bitsLt_bf16_f32)) bitsLt_bf16_f32

/-- Both branches side by side, through the output projection. -/
def project (s : FVec F S256x512 .bf16) (a ga : Vec F S1x256x512 .bf16) (w : Vec F S1024x1024 .bf16) : FVec F S256x1024 .f32 :=
  matmul dot_S256x1024_S1024x1024_S256x1024_1_0_0_1_n_n none
    (concatenate S256x1024 1
      [⟨S256x512, mulf (shapeCast S256x512 a shapeCasts_S1x256x512_S256x512) (shapeCast S256x512 ga shapeCasts_S1x256x512_S256x512)⟩, ⟨S256x512, s⟩]
      concatenates_S256x512_S256x512_S256x1024_d1)
    (shapeCast S1024x1024 w shapeCasts_S1024x1024_S1024x1024) (constant S256x1024 .f32 0x00000000#32)

/-- The normalized projection, scaled, onto the input rows. -/
def finish (o : FVec F S256x1024 .f32) (gate : Vec F S1x1x1024 .f32) (pg : Vec F S1x1024 .f32) (x : Vec F S1x256x1024 .f32) : FVec F S1x256x1024 .f32 :=
  shapeCast S1x256x1024 (addf (shapeCast S256x1024 x shapeCasts_S1x256x1024_S256x1024)
    (mulf (mulf o (broadcastTo S256x1024 (rsqrt (addf
      (divf (shapeCast S256x1 (multiReduction .add [1] S256 (mulf o o) 0x00000000#32 reduces_S256x1024_S256 (.inl rfl) rfl) shapeCasts_S256_S256x1)
        (broadcast S256x1 (Scalar.ofBits .f32 0x44800000#32)))
      (broadcast S256x1 (Scalar.ofBits .f32 0x358637BD#32)))) broadcasts_S256x1_S256x1024))
      (broadcastTo S256x1024 (mulf (shapeCast S1x1024 gate shapeCasts_S1x1x1024_S1x1024) (shapeCast S1x1024 pg shapeCasts_S1x1024_S1x1024))
        broadcasts_S1x1024_S256x1024))) shapeCasts_S256x1024_S1x256x1024

section Loads

variable (arg2 : Memref sig .tc .vmem S1x1024x1024 .f32) (harg2 : arg2.IsWhole) (arg3 : Memref sig .tc .vmem S1x1024x512 .bf16)
  (harg3 : arg3.IsWhole) (arg4 : Memref sig .tc .vmem S1x1024x512 .bf16) (harg4 : arg4.IsWhole)
  (arg5 : Memref sig .tc .vmem S1x32x64x256 .bf16) (harg5 : arg5.IsWhole) (arg6 : Memref sig .tc .vmem S1x1024x512 .bf16)
  (harg6 : arg6.IsWhole) (arg7 : Memref sig .tc .vmem S1x1x1024 .f32) (harg7 : arg7.IsWhole)
  (arg8 : Memref sig .tc .vmem S512x512 .bf16) (harg8 : arg8.IsWhole) (arg9 : Memref sig .tc .vmem S1x512 .f32) (harg9 : arg9.IsWhole)
  (arg10 : Memref sig .tc .vmem S1024x1024 .bf16) (harg10 : arg10.IsWhole) (arg11 : Memref sig .tc .vmem S1x1024 .f32)
  (harg11 : arg11.IsWhole) (arg13 : Memref sig .tc .vmem S4x1024x128 .f32)
  (x0 : Vec F S1x1024x1024 .f32) (x1 : Vec F S1x1024x512 .bf16) (x2 : Vec F S1x1024x512 .bf16) (x3 : Vec F S1x32x64x256 .bf16)
  (x4 : Vec F S1x1024x512 .bf16) (x5 : Vec F S1x1x1024 .f32) (x6 : Vec F S512x512 .bf16) (x7 : Vec F S1x512 .f32)
  (x8 : Vec F S1024x1024 .bf16) (x9 : Vec F S1x1024 .f32)

/-- Sixteen chunks of channel group `8 c + g`, the half of their steps that `u` names. -/
def loadY (h c : Fin 4) (u : Fin 2) (g : Fin 8) : Vec F S1x1x16x128 .bf16 :=
  View.readAt (Elt F) arg5.view (Rect.unit (s := S1x32x64x256) ![0, 8 * c.val + g.val, 16 * h.val, 128 * u.val] S1x1x16x128.size
    (by have := h.isLt; have := c.isLt; have := u.isLt; have := g.isLt; intro a; fin_cases a <;> simp [Shape.size] <;> omega)).toLoadRect
    (harg5.unread x3)

/-- A store into the scratch buffer: step `j` of the sixteen chunks of row block `h`, column block `c`. -/
def piece (h c : Fin 4) (j : Fin 16) : View.Piece (Elt F) S4x1024x128 .f32 :=
  ⟨⟨(⟨![c.val, 256 * h.val + j.val, 0], S1x16x128.size, ![1, 16, 1],
    by have := h.isLt; have := c.isLt; have := j.isLt; intro a; fin_cases a <;> simp [Shape.size] <;> omega⟩ : LoadRect S4x1024x128), spos_1_16_1⟩,
    strip (fun g => loadY arg5 harg5 x3 h c ⟨j.val / 8, by omega⟩ g) j.val⟩

/-- The first `n` stores into the scratch buffer, the last first. -/
def pieces (n : ℕ) : List (View.Piece (Elt F) S4x1024x128 .f32) :=
  Nat.rec (motive := fun _ => List (View.Piece (Elt F) S4x1024x128 .f32)) [] (fun n L => piece arg5 harg5 x3 ⟨n / 64 % 4, Nat.mod_lt _ (by decide)⟩ ⟨n / 16 % 4, Nat.mod_lt _ (by decide)⟩
    ⟨n % 16, Nat.mod_lt _ (by decide)⟩ :: L) n

/-- Row block `h` of column block `c`, read back. -/
def loadS (h c : Fin 4) : Vec F S1x256x128 .f32 :=
  View.readCov (Val := Elt F) arg13.view (pieces arg5 harg5 x3 (64 * (h.val + 1))) (Rect.unit (s := S4x1024x128) ![c.val, 256 * h.val, 0] S1x256x128.size
    (by have := h.isLt; have := c.isLt; intro a; fin_cases a <;> simp [Shape.size] <;> omega)).toLoadRect

/-- Row block `h` of a 512-column operand. -/
def loadW (arg : Memref sig .tc .vmem S1x1024x512 .bf16) (harg : arg.IsWhole) (x : Vec F S1x1024x512 .bf16) (h : Fin 4) : Vec F S1x256x512 .bf16 :=
  View.readAt (Elt F) arg.view (Rect.unit (s := S1x1024x512) ![0, 256 * h.val, 0] S1x256x512.size
    (by have := h.isLt; intro a; fin_cases a <;> simp [Shape.size] <;> omega)).toLoadRect (harg.unread x)

/-- Row block `h` of the input rows. -/
def loadX (h : Fin 4) : Vec F S1x256x1024 .f32 :=
  View.readAt (Elt F) arg2.view (Rect.unit (s := S1x1024x1024) ![0, 256 * h.val, 0] S1x256x1024.size
    (by have := h.isLt; intro a; fin_cases a <;> simp [Shape.size] <;> omega)).toLoadRect (harg2.unread x0)

def loadGate : Vec F S1x1x1024 .f32 :=
  View.readAt (Elt F) arg7.view (Rect.unit (s := S1x1x1024) ![0, 0, 0] S1x1x1024.size inb_S1x1x1024_S1x1x1024_0_0_0).toLoadRect (harg7.unread x5)
def loadGlu : Vec F S512x512 .bf16 :=
  View.readAt (Elt F) arg8.view (Rect.unit (s := S512x512) ![0, 0] S512x512.size inb_S512x512_S512x512_0_0).toLoadRect (harg8.unread x6)
def loadBias : Vec F S1x512 .f32 :=
  View.readAt (Elt F) arg9.view (Rect.unit (s := S1x512) ![0, 0] S1x512.size inb_S1x512_S1x512_0_0).toLoadRect (harg9.unread x7)
def loadOut : Vec F S1024x1024 .bf16 :=
  View.readAt (Elt F) arg10.view (Rect.unit (s := S1024x1024) ![0, 0] S1024x1024.size inb_S1024x1024_S1024x1024_0_0).toLoadRect (harg10.unread x8)
def loadGain : Vec F S1x1024 .f32 :=
  View.readAt (Elt F) arg11.view (Rect.unit (s := S1x1024) ![0, 0] S1x1024.size inb_S1x1024_S1x1024_0_0).toLoadRect (harg11.unread x9)

/-- The projected rows of row block `h`. -/
def projected (h : Fin 4) : FVec F S256x1024 .f32 :=
  project (mixed (gelu (rows (loadS arg5 harg5 arg13 x3 h))) (loadGlu arg8 harg8 x6) (loadBias arg9 harg9 x7) (loadW arg6 harg6 x4 h))
    (loadW arg3 harg3 x1 h) (loadW arg4 harg4 x2 h) (loadOut arg10 harg10 x8)

/-- What the body stores for row block `h`. -/
def stored (h : Fin 4) : FVec F S1x256x1024 .f32 :=
  finish (projected arg3 harg3 arg4 harg4 arg5 harg5 arg6 harg6 arg8 harg8 arg9 harg9 arg10 harg10 arg13 x1 x2 x3 x4 x6 x7 x8 h)
    (loadGate arg7 harg7 x5) (loadGain arg11 harg11 x9) (loadX arg2 harg2 x0 h)

end Loads

end Cert.Kernel2Ideal.Final

end
-- ==== Proof.Final.Run.lean ====
/- The run of the final call's body stores exactly the four row blocks of `Tiles`. -/
module

public import proofs.«01_k».proof.Proof.Final.Tiles
public import proofs.«01_k».proof.Proof.Gen.Kernel2Ideal.Frame

@[expose] public section

noncomputable section

namespace Cert.Kernel2Ideal.Final

open Idealize.ShloMosaic Cert.Kernel2Ideal Cert.Kernel2Ideal.Gen

variable {F : FTy → Type} [FloatOps F]

set_option maxHeartbeats 4000000 in
set_option maxRecDepth 100000 in
/-- The body's four stores, 256 rows each. -/
theorem run_pieces (c : Dev nD) (i : grid0.Coords) (arg2 : Memref sig .tc .vmem S1x1024x1024 .f32) (harg2 : arg2.IsWhole)
    (arg3 : Memref sig .tc .vmem S1x1024x512 .bf16) (harg3 : arg3.IsWhole) (arg4 : Memref sig .tc .vmem S1x1024x512 .bf16) (harg4 : arg4.IsWhole)
    (arg5 : Memref sig .tc .vmem S1x32x64x256 .bf16) (harg5 : arg5.IsWhole) (arg6 : Memref sig .tc .vmem S1x1024x512 .bf16)
    (harg6 : arg6.IsWhole) (arg7 : Memref sig .tc .vmem S1x1x1024 .f32) (harg7 : arg7.IsWhole)
    (arg8 : Memref sig .tc .vmem S512x512 .bf16) (harg8 : arg8.IsWhole) (arg9 : Memref sig .tc .vmem S1x512 .f32) (harg9 : arg9.IsWhole)
    (arg10 : Memref sig .tc .vmem S1024x1024 .bf16) (harg10 : arg10.IsWhole) (arg11 : Memref sig .tc .vmem S1x1024 .f32)
    (harg11 : arg11.IsWhole) (arg12 : Memref sig .tc .vmem S1x1024x1024 .f32) (harg12 : arg12.IsWhole) (arg13 : Memref sig .tc .vmem S4x1024x128 .f32)
    (harg13 : arg13.IsWhole)
    (x0 : Vec F S1x1024x1024 .f32) (x1 : Vec F S1x1024x512 .bf16) (x2 : Vec F S1x1024x512 .bf16) (x3 : Vec F S1x32x64x256 .bf16)
    (x4 : Vec F S1x1024x512 .bf16) (x5 : Vec F S1x1x1024 .f32) (x6 : Vec F S512x512 .bf16) (x7 : Vec F S1x512 .f32)
    (x8 : Vec F S1024x1024 .bf16) (x9 : Vec F S1x1024 .f32) :
    (kernelRun0_A c i arg2 harg2 arg3 harg3 arg4 harg4 arg5 harg5 arg6 harg6 arg7 harg7 arg8 harg8 arg9 harg9 arg10 harg10 arg11 harg11
        arg12 harg12 arg13 harg13 x0 x1 x2 x3 x4 x5 x6 x7 x8 x9).1
      = [⟨Rect.unit (s := S1x1024x1024) ![0, 768, 0] S1x256x1024.size inb_S1x1024x1024_S1x256x1024_0_768_0,
            stored arg2 harg2 arg3 harg3 arg4 harg4 arg5 harg5 arg6 harg6 arg7 harg7 arg8 harg8 arg9 harg9 arg10 harg10 arg11 harg11 arg13 x0 x1 x2 x3 x4 x5 x6 x7 x8 x9 3⟩,
          ⟨Rect.unit (s := S1x1024x1024) ![0, 512, 0] S1x256x1024.size inb_S1x1024x1024_S1x256x1024_0_512_0,
            stored arg2 harg2 arg3 harg3 arg4 harg4 arg5 harg5 arg6 harg6 arg7 harg7 arg8 harg8 arg9 harg9 arg10 harg10 arg11 harg11 arg13 x0 x1 x2 x3 x4 x5 x6 x7 x8 x9 2⟩,
          ⟨Rect.unit (s := S1x1024x1024) ![0, 256, 0] S1x256x1024.size inb_S1x1024x1024_S1x256x1024_0_256_0,
            stored arg2 harg2 arg3 harg3 arg4 harg4 arg5 harg5 arg6 harg6 arg7 harg7 arg8 harg8 arg9 harg9 arg10 harg10 arg11 harg11 arg13 x0 x1 x2 x3 x4 x5 x6 x7 x8 x9 1⟩,
          ⟨Rect.unit (s := S1x1024x1024) ![0, 0, 0] S1x256x1024.size inb_S1x1024x1024_S1x256x1024_0_0_0,
            stored arg2 harg2 arg3 harg3 arg4 harg4 arg5 harg5 arg6 harg6 arg7 harg7 arg8 harg8 arg9 harg9 arg10 harg10 arg11 harg11 arg13 x0 x1 x2 x3 x4 x5 x6 x7 x8 x9 0⟩] := by
  sl_kernel_rfl

end Cert.Kernel2Ideal.Final

end
-- ==== Proof.Final.Sort.lean ====
/- The scratch buffer read at its entries: row `r` of column block `c` holds step `r % 16` of chunk `r / 16`, its lane `l`
   the channel `l % 16` of group `8 c + l / 16`. -/
module

public import proofs.«01_k».proof.Proof.Final.Tiles
public import Idealize.ShloMosaic.Lib.Pointwise
public import Idealize.ShloMosaic.Lib.Pipeline.Value

@[expose] public section

set_option maxRecDepth 16384

noncomputable section

namespace Cert.Kernel2Ideal.Final

open Idealize.ShloMosaic Cert.Kernel2Ideal Cert.Kernel2Ideal.Gen

/-- A lane's group of sixteen. -/
theorem lane_group : ∀ (q : Fin 16) (l : Fin 128), k0_pay3 (ix2 q l) = BitVec.ofNat 32 (l.val / 16) := by
  decide +kernel

theorem select_apply {α : Type} (k : BitVec 32) (x y : S16x128.Idx → α) (q : Fin 16) (l : Fin 128) :
    select (cmpi .eq k0_pay3 (broadcast S16x128 k)) x y (ix2 q l) = if BitVec.ofNat 32 (l.val / 16) = k then x (ix2 q l) else y (ix2 q l) := by
  pointwise [lane_group]
  by_cases h : BitVec.ofNat 32 (l.val / 16) = k
  · simp [h, Scalar.select, IntOp.cmpi]
  · simp [h, beq_eq_false_iff_ne.mpr h, Scalar.select, IntOp.cmpi]

theorem pick_apply (r : Fin 8 → FVec Ideal S16x128 .f32) (q : Fin 16) (l : Fin 128) :
    pick r (ix2 q l) = r ⟨l.val / 16, by omega⟩ (ix2 q l) := by
  unfold pick
  simp only [select_apply]
  suffices h : ∀ g : Fin 8, (if BitVec.ofNat 32 g.val = 7#32 then r 7 (ix2 q l) else if BitVec.ofNat 32 g.val = 6#32 then r 6 (ix2 q l)
      else if BitVec.ofNat 32 g.val = 5#32 then r 5 (ix2 q l) else if BitVec.ofNat 32 g.val = 4#32 then r 4 (ix2 q l)
      else if BitVec.ofNat 32 g.val = 3#32 then r 3 (ix2 q l) else if BitVec.ofNat 32 g.val = 2#32 then r 2 (ix2 q l)
      else if BitVec.ofNat 32 g.val = 1#32 then r 1 (ix2 q l) else r 0 (ix2 q l)) = r g (ix2 q l) from h ⟨l.val / 16, by omega⟩
  intro g
  fin_cases g <;> rfl

theorem turned_apply (g j : ℕ) (v : FVec Ideal S16x128 .f32) (q : Fin 16) (l : Fin 128) :
    turned g j v (ix2 q l) = v (ix2 q ⟨(l.val + 128 - 16 * ((g + 8 - j % 8) % 8)) % 128, Nat.mod_lt _ (by norm_num)⟩) := by
  unfold turned
  have h : (g + 8 - j % 8) % 8 < 8 := Nat.mod_lt _ (by norm_num)
  generalize (g + 8 - j % 8) % 8 = k at h
  interval_cases k
  · refine congrArg v (congrArg (ix2 q) (Fin.ext ?_))
    show l.val = (l.val + 128 - 16 * 0) % 128
    omega
  all_goals
    dsimp only
    pointwise []

theorem row_apply (z : FVec Ideal S16x128 .f32) (q : Fin 16) (l : Fin 128) :
    shapeCast S1x16x128 z shapeCasts_S16x128_S1x16x128 (ix3 0 q l) = z (ix2 q l) := by
  pointwise []

theorem chunk_apply (z : Vec Ideal S1x1x16x128 .bf16) (q : Fin 16) (l : Fin 128) :
    extf (F := Ideal) .f32 (shapeCast S16x128 z shapeCasts_S1x1x16x128_S16x128) bitsLt_bf16_f32 (ix2 q l) = z (ix4 0 0 q l) := by
  pointwise []

theorem strip_apply (y : Fin 8 → Vec Ideal S1x1x16x128 .bf16) (j : ℕ) (q : Fin 16) (l : Fin 128) :
    strip y j (ix3 0 q l) = y ⟨l.val / 16, by omega⟩ (ix4 0 0 q ⟨16 * (j % 8) + l.val % 16, by omega⟩) := by
  unfold strip
  rw [row_apply, pick_apply, turned_apply, chunk_apply]
  refine congrArg _ (congrArg (ix4 0 0 q) (Fin.ext ?_))
  dsimp only
  omega

section
variable (arg5 : Memref sig .tc .vmem S1x32x64x256 .bf16) (harg5 : arg5.IsWhole) (arg13 : Memref sig .tc .vmem S4x1024x128 .f32)
  (x3 : Vec Ideal S1x32x64x256 .bf16)

theorem loadY_apply (h c : Fin 4) (u : Fin 2) (g : Fin 8) (q : Fin 16) (l : Fin 128) :
    loadY arg5 harg5 x3 h c u g (ix4 0 0 q l)
      = x3 (ix4 0 ⟨8 * c.val + g.val, by omega⟩ ⟨16 * h.val + q.val, by omega⟩ ⟨128 * u.val + l.val, by omega⟩) := by
  unfold loadY
  rw [View.readAt_apply, harg5.read_unread]
  refine congrArg x3 ?_
  funext a
  fin_cases a <;> apply Fin.ext <;> simp

/-- What the sorted buffer holds. -/
def sorted (c : Fin 4) (r : Fin 1024) (l : Fin 128) : EReal :=
  x3 (ix4 0 ⟨8 * c.val + l.val / 16, by omega⟩ ⟨r.val / 16, by omega⟩ ⟨16 * (r.val % 16) + l.val % 16, by omega⟩)

/-- Every store writes its part of the sorted buffer. -/
theorem piece_agrees (h c : Fin 4) (j : Fin 16) (x : (piece arg5 harg5 x3 h c j).1.shape.Idx) :
    (piece arg5 harg5 x3 h c j).2 x = (fun y : S4x1024x128.Idx => sorted x3 (y 0) (y 1) (y 2)) ((piece arg5 harg5 x3 h c j).1.emb x) := by
  obtain ⟨z, q, l, rfl⟩ : ∃ (z : Fin 1) (q : Fin 16) (l : Fin 128), x = ix3 z q l := ⟨x 0, x 1, x 2, (ix3_eta x).symm⟩
  obtain rfl : z = 0 := Subsingleton.elim _ _
  refine (strip_apply _ j.val q l).trans ((loadY_apply arg5 harg5 x3 h c _ _ q _).trans ?_)
  have e0 : (((piece arg5 harg5 x3 h c j).1.emb (ix3 0 q l)) 0).val = c.val := by
    show c.val + 1 * 0 = c.val; omega
  have e1 : (((piece arg5 harg5 x3 h c j).1.emb (ix3 0 q l)) 1).val = 256 * h.val + j.val + 16 * q.val := rfl
  have e2 : (((piece arg5 harg5 x3 h c j).1.emb (ix3 0 q l)) 2).val = l.val := by
    show 0 + 1 * l.val = l.val; omega
  unfold sorted
  refine congrArg x3 ?_
  congr 1 <;> apply Fin.ext <;> dsimp only
  · rw [e0, e2]
  · rw [e1]; omega
  · rw [e1, e2]; omega

theorem pieces_agree (n : ℕ) : ∀ p ∈ pieces arg5 harg5 x3 n, ∀ x : p.1.shape.Idx,
    p.2 x = (fun y : S4x1024x128.Idx => sorted x3 (y 0) (y 1) (y 2)) (p.1.emb x) := by
  induction n with
  | zero => intro p hp; simp [pieces] at hp
  | succ n ih =>
    intro p hp
    rcases List.mem_cons.mp hp with rfl | hp
    · exact piece_agrees arg5 harg5 x3 _ _ _
    · exact ih p hp

theorem mem_pieces (k n : ℕ) (h : k < n) : piece arg5 harg5 x3 ⟨k / 64 % 4, Nat.mod_lt _ (by decide)⟩ ⟨k / 16 % 4, Nat.mod_lt _ (by decide)⟩
    ⟨k % 16, Nat.mod_lt _ (by decide)⟩ ∈ pieces arg5 harg5 x3 n := by
  induction n with
  | zero => omega
  | succ n ih =>
    rcases Nat.lt_succ_iff_lt_or_eq.mp h with h | rfl
    · exact List.mem_cons_of_mem _ (ih h)
    · exact List.mem_cons_self

/-- The buffer read back. -/
theorem loadS_apply (h c : Fin 4) (r : Fin 256) (l : Fin 128) :
    loadS arg5 harg5 arg13 x3 h c (ix3 0 r l) = sorted x3 c ⟨256 * h.val + r.val, by omega⟩ l := by
  unfold loadS
  rw [View.readCov_eq_canon']
  refine (View.canon_apply_of_pieces (Val := Elt Ideal) (e := .f32) (fun y : S4x1024x128.Idx => sorted x3 (y 0) (y 1) (y 2)) _
    (pieces_agree arg5 harg5 x3 _) _ ?_).trans ?_
  · refine ⟨_, mem_pieces arg5 harg5 x3 (64 * h.val + 16 * c.val + r.val % 16) _ (by omega), ?_⟩
    refine LoadRect.mem_set _ |>.mpr fun a => ?_
    fin_cases a
    · exact ⟨0, by simp [piece], by simp [piece]; omega⟩
    · exact ⟨r.val / 16, by simp [piece]; omega, by simp [piece]; omega⟩
    · exact ⟨l.val, by simp [piece], by simp [piece]⟩
  · unfold sorted
    refine congrArg x3 ?_
    congr 1 <;> apply Fin.ext <;> simp

end
end Cert.Kernel2Ideal.Final
end
-- ==== Proof.Final.Spec.lean ====
/- One row of the layer's end: the recurrence's channels through the smooth rectifier and a sigmoid-gated mixing, beside the
   attention's channels, both gated, through the output projection, normalized, and added to the input row. -/
module

public import Idealize.ShloMosaic.Lib.Pointwise

@[expose] public section

noncomputable section

namespace Cert.Row

open Idealize.ShloMosaic

/-- The smooth rectifier, by its tangent formula. -/
def geluAt (y : EReal) : EReal :=
  y * (Ideal.ofBits .f32 0x3F000000#32 * (1 + Ideal.tanh (Ideal.ofBits .f32 0x3F4C422A#32 *
    (y + Ideal.ofBits .f32 0x3D372713#32 * (y * (y * y))))))

/-- A channel times its own sigmoid. -/
def silu (g : EReal) : EReal := g * Ideal.logistic g

/-- The recurrence's branch: a rectified channel times the sigmoid of the mixed row, times its gate. -/
def branch (y g : Fin 512 → EReal) (w : Fin 512 → Fin 512 → EReal) (b : Fin 512 → EReal) (e : Fin 512) : EReal :=
  geluAt (y e) * Ideal.logistic ((∑ k : Fin 512, geluAt (y k) * w k e) + b e) * g e

/-- Attention channels, gated, then the recurrence's. -/
def merged (a ga s : Fin 512 → EReal) (k : Fin 1024) : EReal :=
  if h : k.val < 512 then a ⟨k.val, h⟩ * ga ⟨k.val, h⟩ else s ⟨k.val - 512, by omega⟩

/-- The output projection. -/
def proj (m : Fin 1024 → EReal) (w : Fin 1024 → Fin 1024 → EReal) (d : Fin 1024) : EReal := ∑ k : Fin 1024, m k * w k d

/-- One over the row's root mean square. -/
def scale (o : Fin 1024 → EReal) : EReal :=
  Ideal.rsqrt (Ideal.div (∑ k : Fin 1024, o k * o k) (Ideal.ofBits .f32 0x44800000#32) + Ideal.ofBits .f32 0x358637BD#32)

/-- The row's result. -/
def rowOut (x : Fin 1024 → EReal) (a ga y gs : Fin 512 → EReal) (gate : Fin 1024 → EReal) (wg : Fin 512 → Fin 512 → EReal) (b : Fin 512 → EReal)
    (wo : Fin 1024 → Fin 1024 → EReal) (pg : Fin 1024 → EReal) (d : Fin 1024) : EReal :=
  x d + proj (merged a ga (branch y gs wg b)) wo d * scale (proj (merged a ga (branch y gs wg b)) wo) * (gate d * pg d)

/-- The call's result: each row by itself. -/
def result (x : FVec Ideal ⟨3, ![2, 8192, 1024]⟩ .f32) (attn gate_a y gate_s : FVec Ideal ⟨3, ![2, 8192, 512]⟩ .f32)
    (gate : FVec Ideal ⟨2, ![2, 1024]⟩ .f32) (w_glu : FVec Ideal ⟨2, ![512, 512]⟩ .f32) (b_glu : FVec Ideal ⟨1, ![512]⟩ .f32)
    (w_out : FVec Ideal ⟨2, ![1024, 1024]⟩ .f32) (post_g : FVec Ideal ⟨1, ![1024]⟩ .f32) : FVec Ideal ⟨3, ![2, 8192, 1024]⟩ .f32 := fun i =>
  rowOut (fun d => x (ix3 (i 0) (i 1) d)) (fun e => attn (ix3 (i 0) (i 1) e)) (fun e => silu (gate_a (ix3 (i 0) (i 1) e)))
    (fun e => y (ix3 (i 0) (i 1) e)) (fun e => silu (gate_s (ix3 (i 0) (i 1) e))) (fun d => gate (ix2 (i 0) d)) (fun k e => w_glu (ix2 k e))
    (fun e => b_glu (ix1 e)) (fun k d => w_out (ix2 k d)) (fun d => post_g (ix1 d)) (i 2)

end Cert.Row
end
-- ==== Proof.Final.Entries.lean ====
/- The named steps of the final call read at their indices, and what it stores for one row. -/
module

public import proofs.«01_k».proof.Proof.Final.Sort
public import proofs.«01_k».proof.Proof.Final.Spec

@[expose] public section

set_option maxRecDepth 16384

noncomputable section

namespace Cert.Kernel2Ideal.Final

open Idealize.ShloMosaic Cert.Kernel2Ideal Cert.Kernel2Ideal.Gen Cert.Row

/-- Four blocks of columns side by side. -/
theorem rows_apply (s : Fin 4 → Vec Ideal S1x256x128 .f32) (r : Fin 256) (e : Fin 512) :
    rows s (ix2 r e) = s ⟨e.val / 128, by omega⟩ (ix3 0 r ⟨e.val % 128, by omega⟩) := by
  pointwise [rows]
  have pull : ∀ {c c' : Fin 4} {l l' : Fin 128}, c.val = c'.val → l.val = l'.val → s c (ix3 0 r l) = s c' (ix3 0 r l') := by
    intro c c' l l' hc hl
    rw [Fin.ext hc, Fin.ext hl]
  have he := e.isLt
  split
  · exact pull (by show 0 = e.val / 128; omega) (by show e.val = e.val % 128; omega)
  split
  · exact pull (by show 1 = e.val / 128; omega) (by show e.val - 128 = e.val % 128; omega)
  split
  · exact pull (by show 2 = e.val / 128; omega) (by show e.val - 128 - 128 = e.val % 128; omega)
  · exact pull (by show 3 = e.val / 128; omega) (by show e.val - 128 - 128 - 128 = e.val % 128; omega)

theorem gelu_apply (y : FVec Ideal S256x512 .f32) (r : Fin 256) (e : Fin 512) : gelu y (ix2 r e) = geluAt (y (ix2 r e)) := by
  pointwise [gelu]
  rfl

theorem mixed_apply (y : FVec Ideal S256x512 .f32) (w : Vec Ideal S512x512 .bf16) (b : Vec Ideal S1x512 .f32) (gs : Vec Ideal S1x256x512 .bf16)
    (r : Fin 256) (e : Fin 512) :
    mixed y w b gs (ix2 r e) = y (ix2 r e) * Ideal.logistic ((∑ k : Fin 512, y (ix2 r k) * w (ix2 k e)) + b (ix2 0 e)) * gs (ix3 0 r e) := by
  pointwise [mixed]

theorem project_apply (s : FVec Ideal S256x512 .bf16) (a ga : Vec Ideal S1x256x512 .bf16) (w : Vec Ideal S1024x1024 .bf16) (r : Fin 256) (d : Fin 1024) :
    project s a ga w (ix2 r d) = ∑ k : Fin 1024, (if h : k.val < 512 then a (ix3 0 r ⟨k.val, h⟩) * ga (ix3 0 r ⟨k.val, h⟩)
      else s (ix2 r ⟨k.val - 512, by omega⟩)) * w (ix2 k d) := by
  pointwise [project]

theorem finish_apply (o : FVec Ideal S256x1024 .f32) (gate : Vec Ideal S1x1x1024 .f32) (pg : Vec Ideal S1x1024 .f32) (x : Vec Ideal S1x256x1024 .f32)
    (r : Fin 256) (d : Fin 1024) :
    finish o gate pg x (ix3 0 r d) = x (ix3 0 r d) + o (ix2 r d) * Ideal.rsqrt (Ideal.div (∑ k : Fin 1024, o (ix2 r k) * o (ix2 r k))
      (Ideal.ofBits .f32 0x44800000#32) + Ideal.ofBits .f32 0x358637BD#32) * (gate (ix3 0 0 d) * pg (ix2 0 d)) := by
  pointwise [finish]

section
variable (arg2 : Memref sig .tc .vmem S1x1024x1024 .f32) (harg2 : arg2.IsWhole) (arg : Memref sig .tc .vmem S1x1024x512 .bf16) (harg : arg.IsWhole)
  (arg7 : Memref sig .tc .vmem S1x1x1024 .f32) (harg7 : arg7.IsWhole) (arg8 : Memref sig .tc .vmem S512x512 .bf16) (harg8 : arg8.IsWhole)
  (arg9 : Memref sig .tc .vmem S1x512 .f32) (harg9 : arg9.IsWhole) (arg10 : Memref sig .tc .vmem S1024x1024 .bf16) (harg10 : arg10.IsWhole)
  (arg11 : Memref sig .tc .vmem S1x1024 .f32) (harg11 : arg11.IsWhole)
  (x0 : Vec Ideal S1x1024x1024 .f32) (x : Vec Ideal S1x1024x512 .bf16) (x5 : Vec Ideal S1x1x1024 .f32) (x6 : Vec Ideal S512x512 .bf16)
  (x7 : Vec Ideal S1x512 .f32) (x8 : Vec Ideal S1024x1024 .bf16) (x9 : Vec Ideal S1x1024 .f32)

theorem loadW_apply (h : Fin 4) (r : Fin 256) (e : Fin 512) :
    loadW arg harg x h (ix3 0 r e) = x (ix3 0 ⟨256 * h.val + r.val, by omega⟩ e) := by
  unfold loadW
  rw [View.readAt_apply, harg.read_unread]
  refine congrArg x ?_
  funext a
  fin_cases a <;> apply Fin.ext <;> simp

theorem loadX_apply (h : Fin 4) (r : Fin 256) (d : Fin 1024) :
    loadX arg2 harg2 x0 h (ix3 0 r d) = x0 (ix3 0 ⟨256 * h.val + r.val, by omega⟩ d) := by
  unfold loadX
  rw [View.readAt_apply, harg2.read_unread]
  refine congrArg x0 ?_
  funext a
  fin_cases a <;> apply Fin.ext <;> simp

theorem loadGate_apply (d : Fin 1024) : loadGate arg7 harg7 x5 (ix3 0 0 d) = x5 (ix3 0 0 d) := by
  unfold loadGate
  rw [View.readAt_apply, harg7.read_unread]
  refine congrArg x5 ?_
  funext a
  fin_cases a <;> apply Fin.ext <;> simp

theorem loadGlu_apply (k e : Fin 512) : loadGlu arg8 harg8 x6 (ix2 k e) = x6 (ix2 k e) := by
  unfold loadGlu
  rw [View.readAt_apply, harg8.read_unread]
  refine congrArg x6 ?_
  funext a
  fin_cases a <;> apply Fin.ext <;> simp

theorem loadBias_apply (e : Fin 512) : loadBias arg9 harg9 x7 (ix2 0 e) = x7 (ix2 0 e) := by
  unfold loadBias
  rw [View.readAt_apply, harg9.read_unread]
  refine congrArg x7 ?_
  funext a
  fin_cases a <;> apply Fin.ext <;> simp

theorem loadOut_apply (k d : Fin 1024) : loadOut arg10 harg10 x8 (ix2 k d) = x8 (ix2 k d) := by
  unfold loadOut
  rw [View.readAt_apply, harg10.read_unread]
  refine congrArg x8 ?_
  funext a
  fin_cases a <;> apply Fin.ext <;> simp

theorem loadGain_apply (d : Fin 1024) : loadGain arg11 harg11 x9 (ix2 0 d) = x9 (ix2 0 d) := by
  unfold loadGain
  rw [View.readAt_apply, harg11.read_unread]
  refine congrArg x9 ?_
  funext a
  fin_cases a <;> apply Fin.ext <;> simp

end

section
variable (arg2 : Memref sig .tc .vmem S1x1024x1024 .f32) (harg2 : arg2.IsWhole) (arg3 : Memref sig .tc .vmem S1x1024x512 .bf16)
  (harg3 : arg3.IsWhole) (arg4 : Memref sig .tc .vmem S1x1024x512 .bf16) (harg4 : arg4.IsWhole)
  (arg5 : Memref sig .tc .vmem S1x32x64x256 .bf16) (harg5 : arg5.IsWhole) (arg6 : Memref sig .tc .vmem S1x1024x512 .bf16)
  (harg6 : arg6.IsWhole) (arg7 : Memref sig .tc .vmem S1x1x1024 .f32) (harg7 : arg7.IsWhole)
  (arg8 : Memref sig .tc .vmem S512x512 .bf16) (harg8 : arg8.IsWhole) (arg9 : Memref sig .tc .vmem S1x512 .f32) (harg9 : arg9.IsWhole)
  (arg10 : Memref sig .tc .vmem S1024x1024 .bf16) (harg10 : arg10.IsWhole) (arg11 : Memref sig .tc .vmem S1x1024 .f32)
  (harg11 : arg11.IsWhole) (arg13 : Memref sig .tc .vmem S4x1024x128 .f32)
  (x0 : Vec Ideal S1x1024x1024 .f32) (x1 : Vec Ideal S1x1024x512 .bf16) (x2 : Vec Ideal S1x1024x512 .bf16) (x3 : Vec Ideal S1x32x64x256 .bf16)
  (x4 : Vec Ideal S1x1024x512 .bf16) (x5 : Vec Ideal S1x1x1024 .f32) (x6 : Vec Ideal S512x512 .bf16) (x7 : Vec Ideal S1x512 .f32)
  (x8 : Vec Ideal S1024x1024 .bf16) (x9 : Vec Ideal S1x1024 .f32)

/-- A row of the recurrence's block, its channels in order. -/
def channel (R : Fin 1024) (e : Fin 512) : EReal :=
  x3 (ix4 0 ⟨e.val / 16, by omega⟩ ⟨R.val / 16, by omega⟩ ⟨16 * (R.val % 16) + e.val % 16, by omega⟩)

/-- What the block's operands say a row of the result is. -/
def blockRow (R d : Fin 1024) : EReal :=
  rowOut (fun d => x0 (ix3 0 R d)) (fun e => x1 (ix3 0 R e)) (fun e => x2 (ix3 0 R e)) (channel x3 R) (fun e => x4 (ix3 0 R e))
    (fun d => x5 (ix3 0 0 d)) (fun k e => x6 (ix2 k e)) (fun e => x7 (ix2 0 e)) (fun k d => x8 (ix2 k d)) (fun d => x9 (ix2 0 d)) d

theorem gathered_apply (h : Fin 4) (r : Fin 256) (e : Fin 512) :
    rows (loadS arg5 harg5 arg13 x3 h) (ix2 r e) = channel x3 ⟨256 * h.val + r.val, by omega⟩ e := by
  rw [rows_apply, loadS_apply]
  unfold sorted channel
  refine congrArg x3 ?_
  congr 1
  · exact Fin.ext (by dsimp only; omega)
  · exact Fin.ext (by dsimp only; omega)

theorem projected_apply (h : Fin 4) (r : Fin 256) (d : Fin 1024) :
    projected arg3 harg3 arg4 harg4 arg5 harg5 arg6 harg6 arg8 harg8 arg9 harg9 arg10 harg10 arg13 x1 x2 x3 x4 x6 x7 x8 h (ix2 r d)
      = proj (merged (fun e => x1 (ix3 0 ⟨256 * h.val + r.val, by omega⟩ e)) (fun e => x2 (ix3 0 ⟨256 * h.val + r.val, by omega⟩ e))
          (branch (channel x3 ⟨256 * h.val + r.val, by omega⟩) (fun e => x4 (ix3 0 ⟨256 * h.val + r.val, by omega⟩ e)) (fun k e => x6 (ix2 k e))
            (fun e => x7 (ix2 0 e)))) (fun k d => x8 (ix2 k d)) d := by
  unfold projected proj merged branch
  rw [project_apply]
  refine Finset.sum_congr rfl fun k _ => ?_
  simp only [mixed_apply, gelu_apply, gathered_apply, loadW_apply, loadGlu_apply, loadBias_apply, loadOut_apply]

/-- The stored rows. -/
theorem stored_apply (h : Fin 4) (r : Fin 256) (d : Fin 1024) :
    stored arg2 harg2 arg3 harg3 arg4 harg4 arg5 harg5 arg6 harg6 arg7 harg7 arg8 harg8 arg9 harg9 arg10 harg10 arg11 harg11 arg13
        x0 x1 x2 x3 x4 x5 x6 x7 x8 x9 h (ix3 0 r d)
      = blockRow x0 x1 x2 x3 x4 x5 x6 x7 x8 x9 ⟨256 * h.val + r.val, by omega⟩ d := by
  unfold stored blockRow rowOut scale
  rw [finish_apply]
  simp only [projected_apply, loadX_apply, loadGate_apply, loadGain_apply]

end

end Cert.Kernel2Ideal.Final
end
-- ==== Proof.Final.Host.lean ====
/- What the final call's operands hold, read at an index, and the blocks its windows cut of them. -/
module

public import proofs.«01_k».proof.Proof.Gen.Kernel2Ideal.Frame.Runs
public import proofs.«01_k».proof.Proof.Final.Spec
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel2Ideal.Final

open Idealize.ShloMosaic Idealize.ShloMosaic.TcCoe Idealize.SL.Sem Cert.Kernel2Ideal Cert.Kernel2Ideal.Gen Cert.Row

section
variable {F : FTy → Type} [FloatOps F]

/-- The recurrence's output, chunk by chunk. -/
def chunks (y : FVec F S2x8192x512 .f32) : FVec F S2x32x512x256 .bf16 :=
  truncf .bf16 (shapeCast S2x32x512x256 (transpose S2x32x512x16x16 [0, 3, 1, 2, 4]
    (shapeCast S2x512x16x32x16 y shapeCasts_S2x8192x512_S2x512x16x32x16) transposes_S2x512x16x32x16_S2x32x512x16x16_0_3_1_2_4)
    shapeCasts_S2x32x512x16x16_S2x32x512x256) bitsLt_bf16_f32

/-- The gates. -/
def gates (g : FVec F S2x8192x512 .f32) : FVec F S2x8192x512 .bf16 :=
  truncf .bf16 (mulf g (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf g))))) bitsLt_bf16_f32

variable (m : (ℓ : Loc nD τ sig) → Buf (Elt F) ℓ) (c : Dev nD)

theorem V_attn : V m c main_v8 = truncf (F := F) .bf16 (m ((c : Thread nD τ).loc main_arg1)) bitsLt_bf16_f32 := by
  unfold_abbrev_sides
  simp only [hostOps0, hostOps0_1, hostOps0_2, hostOps0_3, hostOps0_4, List.flatten_cons, List.flatten_nil, List.append_nil, List.cons_append, List.nil_append]
  after_results

theorem V_gate_a : V m c main_v5 = gates (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results
  rfl

theorem V_chunks : V m c main_v3 = chunks (m ((c : Thread nD τ).loc main_arg3)) := by
  unfold_abbrev_sides
  simp only [hostOps0, hostOps0_1, hostOps0_2, hostOps0_3, hostOps0_4, List.flatten_cons, List.flatten_nil, List.append_nil, List.cons_append, List.nil_append]
  after_results
  rfl

theorem V_gate_s : V m c main_v7 = gates (m ((c : Thread nD τ).loc main_arg4)) := by
  unfold_abbrev_sides
  simp only [hostOps0, hostOps0_1, hostOps0_2, hostOps0_3, hostOps0_4, List.flatten_cons, List.flatten_nil, List.append_nil, List.cons_append, List.nil_append]
  after_results
  rfl

theorem V_gate : V m c main_v9 = shapeCast S2x1x1024 (m ((c : Thread nD τ).loc main_arg5)) shapeCasts_S2x1024_S2x1x1024 := by
  unfold_abbrev_sides
  simp only [hostOps0, hostOps0_1, hostOps0_2, hostOps0_3, hostOps0_4, List.flatten_cons, List.flatten_nil, List.append_nil, List.cons_append, List.nil_append]
  after_results
  rfl

theorem V_glu : V m c main_v10 = truncf (F := F) .bf16 (m ((c : Thread nD τ).loc main_arg6)) bitsLt_bf16_f32 := by
  unfold_abbrev_sides
  simp only [hostOps0, hostOps0_1, hostOps0_2, hostOps0_3, hostOps0_4, List.flatten_cons, List.flatten_nil, List.append_nil, List.cons_append, List.nil_append]
  after_results

theorem V_bias : V m c main_v11 = shapeCast S1x512 (m ((c : Thread nD τ).loc main_arg7)) shapeCasts_S512_S1x512 := by
  unfold_abbrev_sides
  simp only [hostOps0, hostOps0_1, hostOps0_2, hostOps0_3, hostOps0_4, List.flatten_cons, List.flatten_nil, List.append_nil, List.cons_append, List.nil_append]
  after_results
  rfl

theorem V_out : V m c main_v12 = truncf (F := F) .bf16 (m ((c : Thread nD τ).loc main_arg8)) bitsLt_bf16_f32 := by
  unfold_abbrev_sides
  simp only [hostOps0, hostOps0_1, hostOps0_2, hostOps0_3, hostOps0_4, List.flatten_cons, List.flatten_nil, List.append_nil, List.cons_append, List.nil_append]
  after_results

theorem V_gain : V m c main_v13 = shapeCast S1x1024 (m ((c : Thread nD τ).loc main_arg9)) shapeCasts_S1024_S1x1024 := by
  unfold_abbrev_sides
  simp only [hostOps0, hostOps0_1, hostOps0_2, hostOps0_3, hostOps0_4, List.flatten_cons, List.flatten_nil, List.append_nil, List.cons_append, List.nil_append]
  after_results
  rfl

end

theorem chunks_apply (y : FVec Ideal S2x8192x512 .f32) (b : Fin 2) (g : Fin 32) (n : Fin 512) (l : Fin 256) :
    chunks y (ix4 b g n l) = y (ix3 b ⟨16 * n.val + l.val / 16, by omega⟩ ⟨16 * g.val + l.val % 16, by omega⟩) := by
  pointwise [chunks]
  simp only [Nat.mul_comm]

theorem gates_apply (g : FVec Ideal S2x8192x512 .f32) (b : Fin 2) (n : Fin 8192) (e : Fin 512) : gates g (ix3 b n e) = silu (g (ix3 b n e)) := by
  pointwise [gates]
  rfl

/-- Where each window's block lies: batch `t / 8`, row block `t % 8`. -/
theorem index0 : ∀ t : Fin cfg0.N, win0_0.index t = ![t.val / 8, t.val % 8, 0] :=
  (by decide +kernel : ∀ t : Fin grid0.N, win0_0.index t = ![t.val / 8, t.val % 8, 0])
theorem index1 : ∀ t : Fin cfg0.N, win0_1.index t = ![t.val / 8, t.val % 8, 0] :=
  (by decide +kernel : ∀ t : Fin grid0.N, win0_1.index t = ![t.val / 8, t.val % 8, 0])
theorem index2 : ∀ t : Fin cfg0.N, win0_2.index t = ![t.val / 8, t.val % 8, 0] :=
  (by decide +kernel : ∀ t : Fin grid0.N, win0_2.index t = ![t.val / 8, t.val % 8, 0])
theorem index3 : ∀ t : Fin cfg0.N, win0_3.index t = ![t.val / 8, 0, t.val % 8, 0] :=
  (by decide +kernel : ∀ t : Fin grid0.N, win0_3.index t = ![t.val / 8, 0, t.val % 8, 0])
theorem index4 : ∀ t : Fin cfg0.N, win0_4.index t = ![t.val / 8, t.val % 8, 0] :=
  (by decide +kernel : ∀ t : Fin grid0.N, win0_4.index t = ![t.val / 8, t.val % 8, 0])
theorem index5 : ∀ t : Fin cfg0.N, win0_5.index t = ![t.val / 8, 0, 0] :=
  (by decide +kernel : ∀ t : Fin grid0.N, win0_5.index t = ![t.val / 8, 0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![t.val / 8, t.val % 8, 0] :=
  (by decide +kernel : ∀ t : Fin grid0.N, win0_10.index t = ![t.val / 8, t.val % 8, 0])

theorem lt_points (t : Fin cfg0.N) : t.val < 16 := lt_of_lt_of_eq t.isLt N_0

/-- A grid point's batch. -/
def batch (t : Fin cfg0.N) : Fin 2 := ⟨t.val / 8, by have := lt_points t; omega⟩

/-- A grid point's row `r`. -/
def row (t : Fin cfg0.N) (r : Fin 1024) : Fin 8192 := ⟨t.val % 8 * 1024 + r.val, by omega⟩

variable (m : (ℓ : Loc nD τ sig) → Buf (Elt Ideal) ℓ) (c : Dev nD) (t : Fin cfg0.N)

theorem block0 (r d : Fin 1024) : iblk m c 0 t (ix3 0 r d) = m ((c : Thread nD τ).loc main_arg0) (ix3 (batch t) (row t r) d) := by
  rw [← V_main_arg0 m c]
  blk_ext [iblk, index0, batch, row]

theorem block1 (r : Fin 1024) (e : Fin 512) :
    iblk m c 1 t (ix3 0 r e) = m ((c : Thread nD τ).loc main_arg1) (ix3 (batch t) (row t r) e) := by
  refine Eq.trans (b := V m c main_v8 (ix3 (batch t) (row t r) e)) ?_ (by rw [V_attn]; rfl)
  blk_ext [iblk, index1, batch, row]

theorem block2 (r : Fin 1024) (e : Fin 512) :
    iblk m c 2 t (ix3 0 r e) = silu (m ((c : Thread nD τ).loc main_arg2) (ix3 (batch t) (row t r) e)) := by
  refine Eq.trans (b := V m c main_v5 (ix3 (batch t) (row t r) e)) ?_ (by rw [V_gate_a]; exact gates_apply _ _ _ _)
  blk_ext [iblk, index2, batch, row]

theorem block3 (g : Fin 32) (n : Fin 64) (l : Fin 256) :
    iblk m c 3 t (ix4 0 g n l) = m ((c : Thread nD τ).loc main_arg3)
      (ix3 (batch t) (row t ⟨16 * n.val + l.val / 16, by omega⟩) ⟨16 * g.val + l.val % 16, by omega⟩) := by
  refine Eq.trans (b := V m c main_v3 (ix4 (batch t) g ⟨t.val % 8 * 64 + n.val, by omega⟩ l)) ?_ ?_
  · blk_ext [iblk, index3, batch]
  · rw [V_chunks]
    refine (chunks_apply _ _ _ _ _).trans (congrArg _ ?_)
    congr 1
    exact Fin.ext (by simp only [row]; omega)

theorem block4 (r : Fin 1024) (e : Fin 512) :
    iblk m c 4 t (ix3 0 r e) = silu (m ((c : Thread nD τ).loc main_arg4) (ix3 (batch t) (row t r) e)) := by
  refine Eq.trans (b := V m c main_v7 (ix3 (batch t) (row t r) e)) ?_ (by rw [V_gate_s]; exact gates_apply _ _ _ _)
  blk_ext [iblk, index4, batch, row]

theorem gate_apply (g : FVec Ideal S2x1024 .f32) (b : Fin 2) (d : Fin 1024) :
    shapeCast S2x1x1024 g shapeCasts_S2x1024_S2x1x1024 (ix3 b 0 d) = g (ix2 b d) := by
  pointwise []

theorem bias_apply (g : FVec Ideal S512 .f32) (e : Fin 512) : shapeCast S1x512 g shapeCasts_S512_S1x512 (ix2 0 e) = g (ix1 e) := by
  pointwise []

theorem gain_apply (g : FVec Ideal S1024 .f32) (d : Fin 1024) : shapeCast S1x1024 g shapeCasts_S1024_S1x1024 (ix2 0 d) = g (ix1 d) := by
  pointwise []

theorem block5 (d : Fin 1024) : iblk m c 5 t (ix3 0 0 d) = m ((c : Thread nD τ).loc main_arg5) (ix2 (batch t) d) := by
  refine Eq.trans (b := V m c main_v9 (ix3 (batch t) 0 d)) ?_ (by rw [V_gate]; exact gate_apply _ _ _)
  blk_ext [iblk, index5, batch]

theorem block6 (k e : Fin 512) : iblk m c 6 t (ix2 k e) = m ((c : Thread nD τ).loc main_arg6) (ix2 k e) := by
  refine Eq.trans (b := V m c main_v10 (ix2 k e)) ?_ (by rw [V_glu]; rfl)
  blk_ext [iblk, index6]

theorem block7 (e : Fin 512) : iblk m c 7 t (ix2 0 e) = m ((c : Thread nD τ).loc main_arg7) (ix1 e) := by
  refine Eq.trans (b := V m c main_v11 (ix2 0 e)) ?_ (by rw [V_bias]; exact bias_apply _ _)
  blk_ext [iblk, index7]

theorem block8 (k d : Fin 1024) : iblk m c 8 t (ix2 k d) = m ((c : Thread nD τ).loc main_arg8) (ix2 k d) := by
  refine Eq.trans (b := V m c main_v12 (ix2 k d)) ?_ (by rw [V_out]; rfl)
  blk_ext [iblk, index8]

theorem block9 (d : Fin 1024) : iblk m c 9 t (ix2 0 d) = m ((c : Thread nD τ).loc main_arg9) (ix1 d) := by
  refine Eq.trans (b := V m c main_v13 (ix2 0 d)) ?_ (by rw [V_gain]; exact gain_apply _ _)
  blk_ext [iblk, index9]

end Cert.Kernel2Ideal.Final

end
-- ==== Proof.Final.Result.lean ====
/- The final call's result array is `Row.result` of its arguments. -/
module

public import proofs.«01_k».proof.Proof.Final.Run
public import proofs.«01_k».proof.Proof.Final.Entries
public import proofs.«01_k».proof.Proof.Final.Host
public import proofs.«01_k».proof.Proof.Gen.Kernel2Ideal.Value
public import Idealize.ShloMosaic.Lib.Pipeline.ValueKit

@[expose] public section

set_option maxRecDepth 16384

noncomputable section

namespace Cert.Kernel2Ideal.Final

open Idealize.ShloMosaic Idealize.ShloMosaic.TcCoe Idealize.SL.Sem Cert.Kernel2Ideal Cert.Kernel2Ideal.Gen Cert.Row

section

variable (arg2 : Memref sig .tc .vmem S1x1024x1024 .f32) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x32x64x256 .bf16) (harg5 : arg5.IsWhole)
    (arg6 : Memref sig .tc .vmem S1x1024x512 .bf16) (harg6 : arg6.IsWhole)
    (arg7 : Memref sig .tc .vmem S1x1x1024 .f32) (harg7 : arg7.IsWhole)
    (arg8 : Memref sig .tc .vmem S512x512 .bf16) (harg8 : arg8.IsWhole)
    (arg9 : Memref sig .tc .vmem S1x512 .f32) (harg9 : arg9.IsWhole)
    (arg10 : Memref sig .tc .vmem S1024x1024 .bf16) (harg10 : arg10.IsWhole)
    (arg11 : Memref sig .tc .vmem S1x1024 .f32) (harg11 : arg11.IsWhole)
    (x0 : Vec Ideal S1x1024x1024 .f32)
    (x1 : Vec Ideal S1x1024x512 .bf16)
    (x2 : Vec Ideal S1x1024x512 .bf16)
    (x3 : Vec Ideal S1x32x64x256 .bf16)
    (x4 : Vec Ideal S1x1024x512 .bf16)
    (x5 : Vec Ideal S1x1x1024 .f32)
    (x6 : Vec Ideal S512x512 .bf16)
    (x7 : Vec Ideal S1x512 .f32)
    (x8 : Vec Ideal S1024x1024 .bf16)
    (x9 : Vec Ideal S1x1024 .f32)

/-- One store agrees with the rows of the block. -/
theorem store_agrees (arg13 : Memref sig .tc .vmem S4x1024x128 .f32) (h : Fin 4) (o : ℕ) (ho : o = 256 * h.val)
    (inb : ∀ a, (![0, o, 0] : Fin 3 → ℕ) a + S1x256x1024.size a ≤ S1x1024x1024.size a) (x : S1x256x1024.Idx) :
    stored arg2 harg2 arg3 harg3 arg4 harg4 arg5 harg5 arg6 harg6 arg7 harg7 arg8 harg8 arg9 harg9 arg10 harg10 arg11 harg11 arg13
        x0 x1 x2 x3 x4 x5 x6 x7 x8 x9 h x
      = (fun y : S1x1024x1024.Idx => blockRow x0 x1 x2 x3 x4 x5 x6 x7 x8 x9 (y 1) (y 2))
          ((Rect.unit (s := S1x1024x1024) ![0, o, 0] S1x256x1024.size inb).emb x) := by
  subst ho
  obtain ⟨z, r, d, rfl⟩ : ∃ (z : Fin 1) (r : Fin 256) (d : Fin 1024), x = ix3 z r d := ⟨x 0, x 1, x 2, (ix3_eta x).symm⟩
  obtain rfl : z = 0 := Subsingleton.elim _ _
  rw [stored_apply]
  dsimp only
  congr 1 <;> apply Fin.ext
  · show 256 * h.val + r.val = 256 * h.val + 1 * r.val; omega
  · show d.val = 0 + 1 * d.val; omega

/-- The body's four stores, read back. -/
theorem out_eq (c : Dev nD) (i : grid0.Coords) (arg12 : Memref sig .tc .vmem S1x1024x1024 .f32) (harg12 : arg12.IsWhole)
    (arg13 : Memref sig .tc .vmem S4x1024x128 .f32) (harg13 : arg13.IsWhole) (y : S1x1024x1024.Idx) :
    out0_A_10 c i arg2 harg2 arg3 harg3 arg4 harg4 arg5 harg5 arg6 harg6 arg7 harg7 arg8 harg8 arg9 harg9 arg10 harg10 arg11 harg11 arg12 harg12 arg13 harg13
        x0 x1 x2 x3 x4 x5 x6 x7 x8 x9 y
      = blockRow x0 x1 x2 x3 x4 x5 x6 x7 x8 x9 (y 1) (y 2) := by
  unfold out0_A_10
  refine View.read_writes_apply_of_pieces VO0_10 _ (fun y : S1x1024x1024.Idx => blockRow x0 x1 x2 x3 x4 x5 x6 x7 x8 x9 (y 1) (y 2)) _ ?_ y
    (cover0_A_10 c i arg2 harg2 arg3 harg3 arg4 harg4 arg5 harg5 arg6 harg6 arg7 harg7 arg8 harg8 arg9 harg9 arg10 harg10 arg11 harg11 arg12 harg12 arg13 harg13
      x0 x1 x2 x3 x4 x5 x6 x7 x8 x9 y)
  rw [run_pieces]
  simp only [List.mem_cons, List.not_mem_nil, or_false, forall_eq_or_imp, forall_eq]
  have P := store_agrees arg2 harg2 arg3 harg3 arg4 harg4 arg5 harg5 arg6 harg6 arg7 harg7 arg8 harg8 arg9 harg9 arg10 harg10 arg11 harg11
    x0 x1 x2 x3 x4 x5 x6 x7 x8 x9 arg13
  exact ⟨P 3 768 rfl _, P 2 512 rfl _, P 1 256 rfl _, P 0 0 rfl _⟩

end

variable (m : (ℓ : Loc nD τ sig) → Buf (Elt Ideal) ℓ) (c : Dev nD)

/-- A row's channels, put back in order. -/
theorem channel_block (t : Fin cfg0.N) (R : Fin 1024) (e : Fin 512) :
    channel (iblk m c 3 t) R e = (m ((c : Thread nD τ).loc main_arg3)) (ix3 (batch t) (row t R) e) := by
  unfold channel
  refine (block3 m c t _ _ _).trans (congrArg _ ?_)
  congr 1
  · exact congrArg (row t) (Fin.ext (by dsimp only; omega))
  · exact Fin.ext (by dsimp only; omega)

/-- The call's result array. -/
theorem final_o : (dats m 0 c).arrAt 10 cfg0.N = result (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9)) := by
  refine (dats m 0 c).arrAt_eq_of_covers 10 _ (by decide +kernel) fun t hf y => ?_
  blk_simp
  rw [after0_10]
  unfold outsAt0
  rw [out_eq]
  have e0 : (((win0_10.blk t).view.emb y) 0 : Fin 2) = batch t := Fin.ext (by blk_simp [index10, batch])
  have e1 : (((win0_10.blk t).view.emb y) 1 : Fin 8192) = row t (y 1) := Fin.ext (by blk_simp [index10, row])
  have e2 : (((win0_10.blk t).view.emb y) 2 : Fin 1024) = y 2 := Fin.ext (by blk_simp [index10])
  unfold blockRow result
  simp only [e0, e1, e2]
  congr 1
  · exact funext fun d => block0 m c t (y 1) d
  · exact funext fun e => block1 m c t (y 1) e
  · exact funext fun e => block2 m c t (y 1) e
  · exact funext fun e => channel_block m c t (y 1) e
  · exact funext fun e => block4 m c t (y 1) e
  · exact funext fun d => block5 m c t d
  · exact funext fun k => funext fun e => block6 m c t k e
  · exact funext fun e => block7 m c t e
  · exact funext fun k => funext fun d => block8 m c t k d
  · exact funext fun d => block9 m c t d

end Cert.Kernel2Ideal.Final

end
-- ==== Proof.Final.Ref.lean ====
/- The reference computes `Row.result`. -/
module

public import proofs.«01_k».proof.Proof.Final.Spec
public import proofs.«01_k».proof.Proof.Gen.Reference2Ideal.Read

@[expose] public section

set_option maxRecDepth 16384

noncomputable section

namespace Cert.Reference2Ideal.Final

open Idealize.ShloMosaic Cert.Reference2Ideal Cert.Reference2Ideal.Gen Cert.Reference2Ideal.Read Cert.Row

variable (x : FVec Ideal S2x8192x1024 .f32) (at_ ga y gs : FVec Ideal S2x8192x512 .f32) (gate : FVec Ideal S2x1024 .f32)
  (wg : FVec Ideal S512x512 .f32) (b : FVec Ideal S512 .f32) (wo : FVec Ideal S1024x1024 .f32) (pg : FVec Ideal S1024 .f32)

theorem gelu_apply (s : Fin 2) (n : Fin 8192) (e : Fin 512) : val_main_v12 (F := Ideal) y (ix3 s n e) = geluAt (y (ix3 s n e)) := by
  pointwise [val_main_v12, val_main_v11, val_main_v10, val_main_cst_2, val_main_v9, val_main_v8, val_main_cst_1, val_main_v7, val_main_v6, val_main_v5,
    val_main_cst_0, val_main_v4, val_main_v3, val_main_v2, val_main_cst, val_main_v1, val_main_v0]
  unfold geluAt
  rw [mul_comm (y (ix3 s n e) * y (ix3 s n e)) (y (ix3 s n e))]

theorem silu_a (s : Fin 2) (n : Fin 8192) (e : Fin 512) : val_main_v24 (F := Ideal) ga (ix3 s n e) = silu (ga (ix3 s n e)) := by
  pointwise [val_main_v24, val_main_call0_v5, val_main_call0_v4, val_main_call0_cst_0, val_main_call0_v3, val_main_call0_v2, val_main_call0_cst,
    val_main_call0_v1, val_main_call0_v0]
  rfl

theorem silu_s (s : Fin 2) (n : Fin 8192) (e : Fin 512) : val_main_v26 (F := Ideal) gs (ix3 s n e) = silu (gs (ix3 s n e)) := by
  pointwise [val_main_v26, val_main_call1_v5, val_main_call1_v4, val_main_call1_cst_0, val_main_call1_v3, val_main_call1_v2, val_main_call1_cst,
    val_main_call1_v1, val_main_call1_v0]
  rfl

theorem mix_apply (s : Fin 2) (n : Fin 8192) (e : Fin 512) :
    val_main_v16 (F := Ideal) y wg b (ix3 s n e) = (∑ k : Fin 512, geluAt (y (ix3 s n k)) * wg (ix2 k e)) + b (ix1 e) := by
  simp only [← gelu_apply]
  generalize hz : val_main_v12 (F := Ideal) y = z
  pointwise [val_main_v16, val_main_v15, val_main_v14, val_main_v13, hz]

theorem branch_apply (s : Fin 2) (n : Fin 8192) (e : Fin 512) :
    val_main_v27 (F := Ideal) y gs wg b (ix3 s n e)
      = branch (fun e => y (ix3 s n e)) (fun e => silu (gs (ix3 s n e))) (fun k e => wg (ix2 k e)) (fun e => b (ix1 e)) e := by
  unfold branch
  dsimp only
  rw [← gelu_apply, ← mix_apply, ← silu_s]
  generalize hz : val_main_v12 (F := Ideal) y = z
  generalize hm : val_main_v16 (F := Ideal) y wg b = m
  generalize hs : val_main_v26 (F := Ideal) gs = g
  pointwise [val_main_v27, val_main_v23, val_main_v22, val_main_v21, val_main_cst_4, val_main_v20, val_main_v19, val_main_cst_3, val_main_v18,
    val_main_v17, hz, hm, hs]
  rfl

theorem merged_apply (s : Fin 2) (n : Fin 8192) (k : Fin 1024) :
    val_main_v28 (F := Ideal) at_ ga y gs wg b (ix3 s n k)
      = merged (fun e => at_ (ix3 s n e)) (fun e => silu (ga (ix3 s n e)))
          (branch (fun e => y (ix3 s n e)) (fun e => silu (gs (ix3 s n e))) (fun k e => wg (ix2 k e)) (fun e => b (ix1 e))) k := by
  unfold merged
  simp only [← branch_apply]
  simp only [← silu_a]
  generalize hz : val_main_v27 (F := Ideal) y gs wg b = z
  generalize hs : val_main_v24 (F := Ideal) ga = g
  pointwise [val_main_v28, val_main_v25, hz, hs]

theorem proj_apply (s : Fin 2) (n : Fin 8192) (d : Fin 1024) :
    val_main_v29 (F := Ideal) at_ ga y gs wg b wo (ix3 s n d)
      = proj (merged (fun e => at_ (ix3 s n e)) (fun e => silu (ga (ix3 s n e)))
          (branch (fun e => y (ix3 s n e)) (fun e => silu (gs (ix3 s n e))) (fun k e => wg (ix2 k e)) (fun e => b (ix1 e)))) (fun k d => wo (ix2 k d)) d := by
  unfold proj
  simp only [← merged_apply]
  generalize hz : val_main_v28 (F := Ideal) at_ ga y gs wg b = z
  pointwise [val_main_v29, hz]

theorem last_apply (s : Fin 2) (n : Fin 8192) (d : Fin 1024) :
    val_main_v46 (F := Ideal) x at_ ga y gs gate wg b wo pg (ix3 s n d)
      = x (ix3 s n d) + gate (ix2 s d) * (val_main_v29 (F := Ideal) at_ ga y gs wg b wo (ix3 s n d)
          * scale (fun k => val_main_v29 (F := Ideal) at_ ga y gs wg b wo (ix3 s n k)) * pg (ix1 d)) := by
  generalize hz : val_main_v29 (F := Ideal) at_ ga y gs wg b wo = z
  pointwise [val_main_v46, val_main_v45, val_main_v44, val_main_v43, val_main_v42, val_main_v41, val_main_v40, val_main_v39, val_main_v38, val_main_v37,
    val_main_v36, val_main_v35, val_main_cst_7, val_main_v34, val_main_v33, val_main_cst_6, val_main_v32, val_main_v31, val_main_cst_5, val_main_v30, hz]
  rfl

/-- The reference's result. -/
theorem ref_eq : val_main_v46 (F := Ideal) x at_ ga y gs gate wg b wo pg = result x at_ ga y gs gate wg b wo pg := by
  funext i
  obtain ⟨s, n, d, rfl⟩ : ∃ (s : Fin 2) (n : Fin 8192) (d : Fin 1024), i = ix3 s n d := ⟨i 0, i 1, i 2, (ix3_eta i).symm⟩
  rw [last_apply]
  simp only [proj_apply]
  refine congrArg (x (ix3 s n d) + ·) ?_
  rw [mul_left_comm]
  rfl

end Cert.Reference2Ideal.Final
end
-- ==== Proof.Inproj.Tiles.lean ====
/- The input projection's body in closed form: 256 rows are normalized, modulated and multiplied with the weights; the
   queries and keys are normalized per head and turned by their positions; each result is then laid out as the calls
   that follow take it. -/
module

public import proofs.«01_k».proof.Proof.Gen.Kernel3Ideal.Frame.Runs

@[expose] public section

noncomputable section

namespace Cert.Kernel3Ideal.Inproj

open Idealize.ShloMosaic Cert.Kernel3Ideal Cert.Kernel3Ideal.Gen

variable {F : FTy → Type} [FloatOps F] [Named F]

/-- Whether the grid point is a context tile. -/
def isCtx (i : grid0.Coords) : BitVec 1 := Scalar.cmpi .slt (BitVec.ofNat 32 (i 1).val) 1#32

/-- The rows of the tile, normalized, scaled by the gain, modulated. -/
def hidden (i : grid0.Coords) (xl xc : Vec F S1x256x1024 .f32) (shl scl shc scc : Vec F S1x1x1024 .f32) (pg : Vec F S1x1024 .f32) :
    FVec F S256x1024 .bf16 :=
  let x : FVec F S256x1024 .f32 := Scalar.select (isCtx i) (shapeCast S256x1024 xc shapeCasts_S1x256x1024_S256x1024)
    (shapeCast S256x1024 xl shapeCasts_S1x256x1024_S256x1024)
  let shift : FVec F S1x1024 .f32 := Scalar.select (isCtx i) (shapeCast S1x1024 shc shapeCasts_S1x1x1024_S1x1024)
    (shapeCast S1x1024 shl shapeCasts_S1x1x1024_S1x1024)
  let scale : FVec F S1x1024 .f32 := Scalar.select (isCtx i) (shapeCast S1x1024 scc shapeCasts_S1x1x1024_S1x1024)
    (shapeCast S1x1024 scl shapeCasts_S1x1x1024_S1x1024)
  truncf .bf16 (addf (mulf (mulf (mulf x (broadcastTo S256x1024 (rsqrt (addf
      (divf (shapeCast S256x1 (multiReduction .add [1] S256 (mulf x x) 0x00000000#32 reduces_S256x1024_S256 (.inl rfl) rfl) shapeCasts_S256_S256x1)
        (broadcast S256x1 (Scalar.ofBits .f32 0x44800000#32)))
      (broadcast S256x1 (Scalar.ofBits .f32 0x358637BD#32)))) broadcasts_S256x1_S256x1024))
      (broadcastTo S256x1024 (shapeCast S1x1024 pg shapeCasts_S1x1024_S1x1024) broadcasts_S1x1024_S256x1024))
      (broadcastTo S256x1024 (addf (broadcast S1x1024 (Scalar.ofBits .f32 0x3F800000#32)) scale) broadcasts_S1x1024_S256x1024))
    (broadcastTo S256x1024 shift broadcasts_S1x1024_S256x1024)) bitsLt_bf16_f32

/-- 512 columns of the projection. -/
def wide (h : FVec F S256x1024 .bf16) (w : Vec F S1024x512 .bf16) : FVec F S256x512 .f32 :=
  matmul dot_S256x1024_S1024x512_S256x512_1_0_0_1_n_n none h (shapeCast S1024x512 w shapeCasts_S1024x512_S1024x512)
    (constant S256x512 .f32 0x00000000#32)

/-- 128 columns of the projection. -/
def narrow (h : FVec F S256x1024 .bf16) (w : Vec F S1024x128 .bf16) : FVec F S256x128 .f32 :=
  matmul dot_S256x1024_S1024x128_S256x128_1_0_0_1_n_n none h (shapeCast S1024x128 w shapeCasts_S1024x128_S1024x128)
    (constant S256x128 .f32 0x00000000#32)

/-- A gate: each entry times its own sigmoid. -/
def gate (z : FVec F S256x512 .f32) : FVec F S1x256x512 .bf16 :=
  shapeCast S1x256x512 (truncf .bf16 (mulf z (logistic z)) bitsLt_bf16_f32) shapeCasts_S256x512_S1x256x512

/-- The queries, each head normalized. -/
def normedQ (z : FVec F S256x512 .f32) (bd : Vec F S512x512 .bf16) (g : Vec F S1x512 .f32) : FVec F S256x512 .f32 :=
  mulf (mulf z (rsqrt (addf (matmul dot_S256x512_S512x512_S256x512_1_0_0_1_n_n none (truncf .bf16 (mulf z z) bitsLt_bf16_f32)
    (shapeCast S512x512 bd shapeCasts_S512x512_S512x512) (constant S256x512 .f32 0x00000000#32))
    (broadcast S256x512 (Scalar.ofBits .f32 0x358637BD#32)))))
    (broadcastTo S256x512 (shapeCast S1x512 g shapeCasts_S1x512_S1x512) broadcasts_S1x512_S256x512)

/-- The keys, each head normalized. -/
def normedK (z : FVec F S256x128 .f32) (bd : Vec F S128x128 .bf16) (g : Vec F S1x128 .f32) : FVec F S256x128 .f32 :=
  mulf (mulf z (rsqrt (addf (matmul dot_S256x128_S128x128_S256x128_1_0_0_1_n_n none (truncf .bf16 (mulf z z) bitsLt_bf16_f32)
    (shapeCast S128x128 bd shapeCasts_S128x128_S128x128) (constant S256x128 .f32 0x00000000#32))
    (broadcast S256x128 (Scalar.ofBits .f32 0x358637BD#32)))))
    (broadcastTo S256x128 (shapeCast S1x128 g shapeCasts_S1x128_S1x128) broadcasts_S1x128_S256x128)

/-- Two heads turned by their positions. -/
def turned (x : FVec F S256x128 .f32) (cos sin : Vec F S256x128 .f32) : FVec F S256x128 .f32 :=
  addf (mulf x (shapeCast S256x128 cos shapeCasts_S256x128_S256x128))
    (mulf (select (cmpi .eq (andi (iota .tc S256x128 32 [1] iota_S256x128_d1_w32) (broadcast S256x128 16#32)) (broadcast S256x128 0#32))
      (dynamicRotate 1 112#32 none x rotates_S256x128_d1) (dynamicRotate 1 16#32 none x rotates_S256x128_d1))
      (shapeCast S256x128 sin shapeCasts_S256x128_S256x128))

/-- The keys as they are stored. -/
def keys (z : FVec F S256x128 .f32) (bd : Vec F S128x128 .bf16) (g : Vec F S1x128 .f32) (cos sin : Vec F S256x128 .f32) : FVec F S1x256x128 .bf16 :=
  shapeCast S1x256x128 (truncf .bf16 (turned (normedK z bd g) cos sin) bitsLt_bf16_f32) shapeCasts_S256x128_S1x256x128

/-- The queries, turned and scaled. -/
def queries (n : FVec F S256x512 .f32) (cos sin : Vec F S256x128 .f32) : FVec F S256x512 .f32 :=
  mulf (concatenate S256x512 1
    [⟨S256x128, turned (extractStridedSlice S256x128 ![0, 0] n slices_S256x512_o0_0_S256x128) cos sin⟩,
      ⟨S256x128, turned (extractStridedSlice S256x128 ![0, 128] n slices_S256x512_o0_128_S256x128) cos sin⟩,
      ⟨S256x128, turned (extractStridedSlice S256x128 ![0, 256] n slices_S256x512_o0_256_S256x128) cos sin⟩,
      ⟨S256x128, turned (extractStridedSlice S256x128 ![0, 384] n slices_S256x512_o0_384_S256x128) cos sin⟩]
    concatenates_S256x128_S256x128_S256x128_S256x128_S256x512_d1) (broadcast S256x512 (Named.named κ "query_scale" (φ := .f32) 0x3E38AA3B#32))

/-- Two heads with rows and columns exchanged. -/
def across (x : FVec F S256x128 .f32) : FVec F S128x256 .bf16 :=
  truncf .bf16 (transpose S128x256 [1, 0] x transposes_S256x128_p1_0_S128x256) bitsLt_bf16_f32

/-- The first of two heads. -/
def first (t : FVec F S128x256 .bf16) : FVec F S1x1x64x256 .bf16 :=
  shapeCast S1x1x64x256 (extractStridedSlice S64x256 ![0, 0] t slices_S128x256_o0_0_S64x256) shapeCasts_S64x256_S1x1x64x256

/-- The second of two heads. -/
def second (t : FVec F S128x256 .bf16) : FVec F S1x1x64x256 .bf16 :=
  shapeCast S1x1x64x256 (extractStridedSlice S64x256 ![64, 0] t slices_S128x256_o64_0_S64x256) shapeCasts_S64x256_S1x1x64x256

/-- A head's worth of zeros. -/
def zeros : FVec F S1x1x64x256 .bf16 :=
  shapeCast S1x1x64x256 (broadcast S64x256 (Scalar.ofBits .bf16 0x0000#16)) shapeCasts_S64x256_S1x1x64x256

/-- A row of ones above fifteen of zeros. -/
def onesRow : FVec F S1x1x16x256 .bf16 :=
  shapeCast S1x1x16x256 (truncf .bf16 (select (cmpi .eq (iota .tc S16x256 32 [0] iota_S16x256_d0_w32) (broadcast S16x256 0#32))
    (broadcast S16x256 (Scalar.ofBits .f32 0x3F800000#32)) (broadcast S16x256 (Scalar.ofBits .f32 0x00000000#32)))
    bitsLt_bf16_f32) shapeCasts_S16x256_S1x1x16x256

/-- A lane's group of sixteen, as the body computes it. -/
def group : IVec S16x128 32 :=
  k0_pay15 (iota .tc S16x128 32 [1] iota_S16x128_d1_w32) 16#32 k0_pay13 k0_pay14 (Scalar.extui (Scalar.cmpi .sgt 16#32 0#32)) (Scalar.cmpi .slt 16#32 0#32)

/-- The lanes moved on by `16 k`. -/
def moved (k : ℕ) (v : FVec F S16x128 .f32) : FVec F S16x128 .f32 :=
  match k with
  | 0 => v
  | k + 1 => dynamicRotate 1 (BitVec.ofNat 32 (16 * (k + 1))) none v rotates_S16x128_d1

/-- Lanes `16 s … 16 s + 15` of the `s`-th of eight arrays. -/
def pick (r : Fin 8 → FVec F S16x128 .f32) : FVec F S16x128 .f32 :=
  select (cmpi .eq group (broadcast S16x128 7#32)) (r 7) <| select (cmpi .eq group (broadcast S16x128 6#32)) (r 6) <|
  select (cmpi .eq group (broadcast S16x128 5#32)) (r 5) <| select (cmpi .eq group (broadcast S16x128 4#32)) (r 4) <|
  select (cmpi .eq group (broadcast S16x128 3#32)) (r 3) <| select (cmpi .eq group (broadcast S16x128 2#32)) (r 2) <|
  select (cmpi .eq group (broadcast S16x128 1#32)) (r 1) (r 0)

/-- Eight steps of sixteen chunks of one channel group, side by side. -/
def chunks (s : Fin 8 → Vec F S1x16x128 .f32) (g : ℕ) : FVec F S1x1x16x128 .bf16 :=
  shapeCast S1x1x16x128 (truncf .bf16 (pick fun t => moved ((t.val + 8 - g) % 8) (shapeCast S16x128 (s t) shapeCasts_S1x16x128_S16x128))
    bitsLt_bf16_f32) shapeCasts_S16x128_S1x1x16x128

/-- A column block as it is kept. -/
def kept (x : FVec F S256x128 .f32) : FVec F S1x256x128 .f32 := shapeCast S1x256x128 x shapeCasts_S256x128_S1x256x128

section Loads

/-- What a load of an operand's rectangle reads. -/
def ld {s : Shape} {e : EltTy} (arg : Memref sig .tc .vmem s e) (harg : arg.IsWhole) (x : Vec F s e) (r : LoadRect s) : Vec F r.shape e :=
  View.readAt (Elt F) arg.view r (harg.unread x)

variable (arg22 : Memref sig .tc .vmem S4x256x128 .f32) (u : FVec F S256x512 .f32)

/-- The four column blocks, as they are kept. -/
def keptU : List (View.Piece (Elt F) S4x256x128 .f32) :=
  [⟨Rect.unit (s := S4x256x128) ![3, 0, 0] S1x256x128.size inb_S4x256x128_S1x256x128_3_0_0, kept (extractStridedSlice S256x128 ![0, 384] u slices_S256x512_o0_384_S256x128)⟩,
    ⟨Rect.unit (s := S4x256x128) ![2, 0, 0] S1x256x128.size inb_S4x256x128_S1x256x128_2_0_0, kept (extractStridedSlice S256x128 ![0, 256] u slices_S256x512_o0_256_S256x128)⟩,
    ⟨Rect.unit (s := S4x256x128) ![1, 0, 0] S1x256x128.size inb_S4x256x128_S1x256x128_1_0_0, kept (extractStridedSlice S256x128 ![0, 128] u slices_S256x512_o0_128_S256x128)⟩,
    ⟨Rect.unit (s := S4x256x128) ![0, 0, 0] S1x256x128.size inb_S4x256x128_S1x256x128_0_0_0, kept (extractStridedSlice S256x128 ![0, 0] u slices_S256x512_o0_0_S256x128)⟩]

/-- Step `j` of the sixteen chunks of column block `c`. -/
def loadU (c : Fin 4) (j : Fin 16) : Vec F S1x16x128 .f32 :=
  View.readCov (Val := Elt F) arg22.view (keptU u) (⟨![c.val, j.val, 0], S1x16x128.size, ![1, 16, 1],
    by have := c.isLt; have := j.isLt; intro a; fin_cases a <;> simp [Shape.size] <;> omega⟩ : LoadRect S4x256x128)

/-- A store of the recurrence's input: half `b` of the steps of channel group `8 c + g`. -/
def uPiece (c : Fin 4) (g : Fin 8) (b : Fin 2) : View.Piece (Elt F) S1x32x16x256 .bf16 :=
  ⟨Rect.unit (s := S1x32x16x256) ![0, 8 * c.val + g.val, 0, 128 * b.val] S1x1x16x128.size
    (by have := c.isLt; have := g.isLt; have := b.isLt; intro a; fin_cases a <;> simp [Shape.size] <;> omega),
    chunks (fun t => loadU arg22 u c ⟨8 * b.val + t.val, by omega⟩) g.val⟩

/-- The first `n` of these stores, the last first. -/
def uPieces (n : ℕ) : List (View.Piece (Elt F) S1x32x16x256 .bf16) :=
  Nat.rec (motive := fun _ => List (View.Piece (Elt F) S1x32x16x256 .bf16)) [] (fun n L =>
    uPiece arg22 u ⟨n / 16 % 4, Nat.mod_lt _ (by decide)⟩ ⟨n / 2 % 8, Nat.mod_lt _ (by decide)⟩ ⟨n % 2, Nat.mod_lt _ (by decide)⟩ :: L) n

/-- A store of half a head's padded queries. -/
def qPiece (h : Fin 8) (b : Fin 2) (v : FVec F S1x1x64x256 .bf16) : View.Piece (Elt F) S1x8x128x256 .bf16 :=
  ⟨Rect.unit (s := S1x8x128x256) ![0, h.val, 64 * b.val, 0] S1x1x64x256.size
    (by have := h.isLt; have := b.isLt; intro a; fin_cases a <;> simp [Shape.size] <;> omega), v⟩

/-- The stores of the queries. -/
def qPieces (q : FVec F S256x512 .f32) : List (View.Piece (Elt F) S1x8x128x256 .bf16) :=
  let t0 := across (extractStridedSlice S256x128 ![0, 0] q slices_S256x512_o0_0_S256x128)
  let t1 := across (extractStridedSlice S256x128 ![0, 128] q slices_S256x512_o0_128_S256x128)
  let t2 := across (extractStridedSlice S256x128 ![0, 256] q slices_S256x512_o0_256_S256x128)
  let t3 := across (extractStridedSlice S256x128 ![0, 384] q slices_S256x512_o0_384_S256x128)
  [qPiece 7 0 zeros, qPiece 7 1 (second t3), qPiece 6 0 zeros, qPiece 6 1 (first t3),
    qPiece 5 0 zeros, qPiece 5 1 (second t2), qPiece 4 0 zeros, qPiece 4 1 (first t2),
    qPiece 3 1 zeros, qPiece 3 0 (second t1), qPiece 2 1 zeros, qPiece 2 0 (first t1),
    qPiece 1 1 zeros, qPiece 1 0 (second t0), qPiece 0 1 zeros, qPiece 0 0 (first t0)]

/-- The values, kept and read back, rows and columns exchanged. -/
def valuesT (arg21 : Memref sig .tc .vmem S256x128 .f32) (v : FVec F S256x128 .f32) : FVec F S128x256 .bf16 :=
  across (View.readCov (Val := Elt F) arg21.view
    [⟨Rect.unit (s := S256x128) ![0, 0] S256x128.size inb_S256x128_S256x128_0_0, shapeCast S256x128 v shapeCasts_S256x128_S256x128⟩]
    (Rect.unit (s := S256x128) ![0, 0] S256x128.size inb_S256x128_S256x128_0_0).toLoadRect)

/-- The stores of the values. -/
def vPieces (t : FVec F S128x256 .bf16) : List (View.Piece (Elt F) S1x2x80x256 .bf16) :=
  [⟨Rect.unit (s := S1x2x80x256) ![0, 1, 64, 0] S1x1x16x256.size inb_S1x2x80x256_S1x1x16x256_0_1_64_0, onesRow⟩,
    ⟨Rect.unit (s := S1x2x80x256) ![0, 1, 0, 0] S1x1x64x256.size inb_S1x2x80x256_S1x1x64x256_0_1_0_0, second t⟩,
    ⟨Rect.unit (s := S1x2x80x256) ![0, 0, 64, 0] S1x1x16x256.size inb_S1x2x80x256_S1x1x16x256_0_0_64_0, onesRow⟩,
    ⟨Rect.unit (s := S1x2x80x256) ![0, 0, 0, 0] S1x1x64x256.size inb_S1x2x80x256_S1x1x64x256_0_0_0_0, first t⟩]

end Loads

end Cert.Kernel3Ideal.Inproj

end
-- ==== Proof.Inproj.Spec.lean ====
/- The input projection, row by row: normalized and modulated rows, the projection's columns, the heads' normalization,
   the rotation by position, and the layouts of the six results. -/
module

public import Idealize.ShloMosaic.Lib.Pointwise

@[expose] public section

noncomputable section

namespace Cert.InRow

open Idealize.ShloMosaic

/-- A row over its root mean square, scaled by the gain, modulated. -/
def modulated (x sh sc pg : Fin 1024 → EReal) (k : Fin 1024) : EReal :=
  x k * Ideal.rsqrt (Ideal.div (∑ k : Fin 1024, x k * x k) (Ideal.ofBits .f32 0x44800000#32) + Ideal.ofBits .f32 0x358637BD#32) * pg k * (1 + sc k) + sh k

/-- A head over its root mean square, scaled by the gain. -/
def normed (z g : Fin 64 → EReal) (d : Fin 64) : EReal :=
  z d * Ideal.rsqrt (Ideal.div (∑ k : Fin 64, z k * z k) (Ideal.ofBits .f32 0x42800000#32) + Ideal.ofBits .f32 0x358637BD#32) * g d

/-- The rotation's frequencies. -/
def freq (f : Fin 16) : EReal :=
  Ideal.pow (Ideal.ofBits .f32 0x461C4000#32) (Ideal.div (-((f.val : ℝ) : EReal)) (Ideal.ofBits .f32 0x41800000#32))

/-- The angle by which a pair of entries is turned: half `0` of a head turns by the row, half `1` by the column. -/
def angle (t : Fin 8192) (d : Fin 64) : EReal :=
  (((if d.val < 32 then t.val / 64 else t.val % 64 : ℕ) : ℝ) : EReal) * freq ⟨d.val % 16, Nat.mod_lt _ (by norm_num)⟩

/-- A head, turned by its position. -/
def rotated (n : Fin 64 → EReal) (t : Fin 8192) (d : Fin 64) : EReal :=
  if h : d.val % 32 < 16 then n d * Ideal.cos (angle t d) - n ⟨d.val + 16, by omega⟩ * Ideal.sin (angle t d)
  else n ⟨d.val - 16, by omega⟩ * Ideal.sin (angle t d) + n d * Ideal.cos (angle t d)

/-- A gate. -/
def gated (z : EReal) : EReal := z * Ideal.logistic z

section
variable (x : FVec Ideal ⟨3, ![2, 8192, 1024]⟩ .f32) (ctx : FVec Ideal ⟨3, ![2, 256, 1024]⟩ .f32) (shl scl : FVec Ideal ⟨2, ![2, 1024]⟩ .f32)
  (shc scc pg : FVec Ideal ⟨1, ![1024]⟩ .f32) (w : FVec Ideal ⟨2, ![1024, 2304]⟩ .f32) (qg kg : FVec Ideal ⟨1, ![64]⟩ .f32)

/-- A latent row's projection. -/
def latent (b : Fin 2) (t : Fin 8192) (j : Fin 2304) : EReal :=
  ∑ k : Fin 1024, modulated (fun k => x (ix3 b t k)) (fun k => shl (ix2 b k)) (fun k => scl (ix2 b k)) (fun k => pg (ix1 k)) k * w (ix2 k j)

/-- A context row's projection. -/
def context (b : Fin 2) (t : Fin 256) (j : Fin 2304) : EReal :=
  ∑ k : Fin 1024, modulated (fun k => ctx (ix3 b t k)) (fun k => shc (ix1 k)) (fun k => scc (ix1 k)) (fun k => pg (ix1 k)) k * w (ix2 k j)

/-- The context rows, then the latent rows. -/
def joint (b : Fin 2) (n : Fin 8448) (j : Fin 2304) : EReal :=
  if h : n.val < 256 then context ctx shc scc pg w b ⟨n.val, h⟩ j else latent x shl scl pg w b ⟨n.val - 256, by omega⟩ j

/-- The queries: turned, scaled, and padded so that each head meets its own key head. -/
def queries (i : (⟨4, ![2, 8, 128, 8192]⟩ : Shape).Idx) : EReal :=
  if (i 1 : Fin 8).val / 4 = (i 2 : Fin 128).val / 64 then
    rotated (normed (fun d => latent x shl scl pg w (i 0) (i 3) ⟨64 * (i 1 : Fin 8).val + d.val, by have : (i 1 : Fin 8).val < 8 := (i 1 : Fin 8).isLt; omega⟩)
      (fun d => qg (ix1 d))) (i 3) ⟨(i 2 : Fin 128).val % 64, Nat.mod_lt _ (by norm_num)⟩ * ((8⁻¹ * (Real.log 2)⁻¹ : ℝ) : EReal)
  else 0

/-- The keys: the context's as they are, the latent ones turned. -/
def keys (i : (⟨3, ![2, 8448, 128]⟩ : Shape).Idx) : EReal :=
  let n := normed (fun d => joint x ctx shl scl shc scc pg w (i 0) (i 1)
      ⟨512 + 64 * ((i 2 : Fin 128).val / 64) + d.val, by have : (i 2 : Fin 128).val < 128 := (i 2 : Fin 128).isLt; omega⟩) (fun d => kg (ix1 d))
  let d : Fin 64 := ⟨(i 2 : Fin 128).val % 64, Nat.mod_lt _ (by norm_num)⟩
  if (i 1 : Fin 8448).val < 256 then n d
  else rotated n ⟨(i 1 : Fin 8448).val - 256, by have : (i 1 : Fin 8448).val < 8448 := (i 1 : Fin 8448).isLt; omega⟩ d

/-- The values, a row of ones, and zeros. -/
def values (i : (⟨4, ![2, 2, 80, 8448]⟩ : Shape).Idx) : EReal :=
  if h : (i 2 : Fin 80).val < 64 then
    joint x ctx shl scl shc scc pg w (i 0) (i 3) ⟨640 + 64 * (i 1 : Fin 2).val + (i 2 : Fin 80).val, by have : (i 1 : Fin 2).val < 2 := (i 1 : Fin 2).isLt; omega⟩
  else if (i 2 : Fin 80).val = 64 then 1 else 0

/-- The attention's gate. -/
def gateA (i : (⟨3, ![2, 8192, 512]⟩ : Shape).Idx) : EReal :=
  gated (latent x shl scl pg w (i 0) (i 1) ⟨768 + (i 2 : Fin 512).val, by have : (i 2 : Fin 512).val < 512 := (i 2 : Fin 512).isLt; omega⟩)

/-- The recurrence's input, chunk by chunk. -/
def inputs (i : (⟨4, ![2, 32, 528, 256]⟩ : Shape).Idx) : EReal :=
  joint x ctx shl scl shc scc pg w (i 0)
    ⟨16 * (i 2 : Fin 528).val + (i 3 : Fin 256).val / 16, by
      have : (i 2 : Fin 528).val < 528 := (i 2 : Fin 528).isLt; have : (i 3 : Fin 256).val < 256 := (i 3 : Fin 256).isLt; omega⟩
    ⟨1280 + 16 * (i 1 : Fin 32).val + (i 3 : Fin 256).val % 16, by have : (i 1 : Fin 32).val < 32 := (i 1 : Fin 32).isLt; omega⟩

/-- The recurrence's gate. -/
def gateS (i : (⟨3, ![2, 8192, 512]⟩ : Shape).Idx) : EReal :=
  gated (latent x shl scl pg w (i 0) (i 1) ⟨1792 + (i 2 : Fin 512).val, by have : (i 2 : Fin 512).val < 512 := (i 2 : Fin 512).isLt; omega⟩)

end

theorem sq_nonneg (z : EReal) : 0 ≤ z * z := by
  rcases le_total 0 z with h | h
  · exact EReal.mul_nonneg h h
  · exact EReal.mul_nonneg_iff.mpr (.inr ⟨h, h⟩)

theorem sum_mul {ι : Type} (s : Finset ι) (f : ι → EReal) (hf : ∀ i, 0 ≤ f i) (c : EReal) : ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

theorem sixtyfour : Ideal.ofBits .f32 0x42800000#32 = ((64 : ℝ) : EReal) := by
  simp [Ideal.ofBits, Ideal.ieee, -EReal.coe_mul]; norm_num

/-- The mean over a head, taken as a product with a block diagonal of sixty-fourths. -/
theorem head_mean (H : ℕ) (z : Fin (H * 64) → EReal) (g : Fin H) :
    (∑ k : Fin (H * 64), z k * z k * (if k.val / 64 = g.val then (((1 : ℝ) / 64 : ℝ) : EReal) else 0))
      = Ideal.div (∑ d : Fin 64, z ⟨64 * g.val + d.val, by have := g.isLt; have := d.isLt; omega⟩ * z ⟨64 * g.val + d.val, by have := g.isLt; have := d.isLt; omega⟩)
          (Ideal.ofBits .f32 0x42800000#32) := by
  rw [sixtyfour, Ideal.div_coe (by norm_num), ← sum_mul _ _ fun d => sq_nonneg _, ← finProdFinEquiv.sum_comp, Fintype.sum_prod_type]
  rw [Finset.sum_eq_single g]
  · refine Finset.sum_congr rfl fun d _ => ?_
    have e : finProdFinEquiv (g, d) = ⟨64 * g.val + d.val, by have := g.isLt; have := d.isLt; omega⟩ := Fin.ext (by simp [finProdFinEquiv]; omega)
    rw [e, if_pos (by dsimp only; omega)]
  · intro h _ hg
    refine Finset.sum_eq_zero fun d _ => ?_
    rw [if_neg, mul_zero]
    intro e
    refine hg (Fin.ext ?_)
    simp [finProdFinEquiv] at e
    omega
  · simp

end Cert.InRow
end
-- ==== Proof.Inproj.Entries.lean ====
/- The input projection's body read at its entries. -/
module

public import proofs.«01_k».proof.Proof.Inproj.Tiles
public import proofs.«01_k».proof.Proof.Inproj.Spec
public import Idealize.ShloMosaic.Lib.Pointwise
public import Idealize.ShloMosaic.Lib.Pipeline.Value

@[expose] public section

set_option maxRecDepth 16384

noncomputable section

namespace Cert.Kernel3Ideal.Inproj

open Idealize.ShloMosaic Cert.Kernel3Ideal Cert.Kernel3Ideal.Gen Cert.InRow

theorem hidden_ctx (i : grid0.Coords) (hi : isCtx i = 1#1) (xl xc : Vec Ideal S1x256x1024 .f32) (shl scl shc scc : Vec Ideal S1x1x1024 .f32)
    (pg : Vec Ideal S1x1024 .f32) (r : Fin 256) (k : Fin 1024) :
    hidden i xl xc shl scl shc scc pg (ix2 r k)
      = modulated (fun k => xc (ix3 0 r k)) (fun k => shc (ix3 0 0 k)) (fun k => scc (ix3 0 0 k)) (fun k => pg (ix2 0 k)) k := by
  have e : ∀ {S : Shape} (x y : FVec Ideal S .f32), Scalar.select (isCtx i) x y = x := fun x y => by rw [hi]; rfl
  unfold hidden
  simp only [e]
  pointwise []
  rfl

theorem hidden_lat (i : grid0.Coords) (hi : isCtx i = 0#1) (xl xc : Vec Ideal S1x256x1024 .f32) (shl scl shc scc : Vec Ideal S1x1x1024 .f32)
    (pg : Vec Ideal S1x1024 .f32) (r : Fin 256) (k : Fin 1024) :
    hidden i xl xc shl scl shc scc pg (ix2 r k)
      = modulated (fun k => xl (ix3 0 r k)) (fun k => shl (ix3 0 0 k)) (fun k => scl (ix3 0 0 k)) (fun k => pg (ix2 0 k)) k := by
  have e : ∀ {S : Shape} (x y : FVec Ideal S .f32), Scalar.select (isCtx i) x y = y := fun x y => by rw [hi]; rfl
  unfold hidden
  simp only [e]
  pointwise []
  rfl

theorem wide_apply (h : FVec Ideal S256x1024 .bf16) (w : Vec Ideal S1024x512 .bf16) (r : Fin 256) (e : Fin 512) :
    wide h w (ix2 r e) = ∑ k : Fin 1024, h (ix2 r k) * w (ix2 k e) := by
  pointwise [wide]

theorem narrow_apply (h : FVec Ideal S256x1024 .bf16) (w : Vec Ideal S1024x128 .bf16) (r : Fin 256) (e : Fin 128) :
    narrow h w (ix2 r e) = ∑ k : Fin 1024, h (ix2 r k) * w (ix2 k e) := by
  pointwise [narrow]

theorem gate_apply (z : FVec Ideal S256x512 .f32) (r : Fin 256) (e : Fin 512) : gate z (ix3 0 r e) = gated (z (ix2 r e)) := by
  pointwise [gate]
  rfl

theorem normedQ_apply (z : FVec Ideal S256x512 .f32) (bd : Vec Ideal S512x512 .bf16) (g : Vec Ideal S1x512 .f32) (r : Fin 256) (e : Fin 512) :
    normedQ z bd g (ix2 r e) = z (ix2 r e) * Ideal.rsqrt ((∑ k : Fin 512, z (ix2 r k) * z (ix2 r k) * bd (ix2 k e))
      + Ideal.ofBits .f32 0x358637BD#32) * g (ix2 0 e) := by
  pointwise [normedQ]

theorem normedK_apply (z : FVec Ideal S256x128 .f32) (bd : Vec Ideal S128x128 .bf16) (g : Vec Ideal S1x128 .f32) (r : Fin 256) (e : Fin 128) :
    normedK z bd g (ix2 r e) = z (ix2 r e) * Ideal.rsqrt ((∑ k : Fin 128, z (ix2 r k) * z (ix2 r k) * bd (ix2 k e))
      + Ideal.ofBits .f32 0x358637BD#32) * g (ix2 0 e) := by
  pointwise [normedK]

theorem lane_bit : ∀ (l : Fin 128), IntOp.cmpi .eq (IntOp.andi (BitVec.ofNat 32 l.val) 16#32) 0#32 = if l.val % 32 < 16 then 1#1 else 0#1 := by
  decide +kernel

theorem turned_apply (x : FVec Ideal S256x128 .f32) (cos sin : Vec Ideal S256x128 .f32) (r : Fin 256) (l : Fin 128) :
    turned x cos sin (ix2 r l) = x (ix2 r l) * cos (ix2 r l)
      + (if h : l.val % 32 < 16 then x (ix2 r ⟨l.val + 16, by omega⟩) else x (ix2 r ⟨l.val - 16, by omega⟩)) * sin (ix2 r l) := by
  pointwise [turned]
  have hb := lane_bit l
  by_cases h : l.val % 32 < 16
  · rw [dif_pos h]
    rw [if_pos h] at hb
    refine (congrArg (fun b => _ + Scalar.select b _ _ * _) hb).trans ?_
    refine congrArg (fun z => _ + z * _) (congrArg x (congrArg (ix2 r) (Fin.ext ?_)))
    show (l.val + 128 - 112) % 128 = l.val + 16
    omega
  · rw [dif_neg h]
    rw [if_neg h] at hb
    refine (congrArg (fun b => _ + Scalar.select b _ _ * _) hb).trans ?_
    refine congrArg (fun z => _ + z * _) (congrArg x (congrArg (ix2 r) (Fin.ext ?_)))
    show (l.val + 128 - 16) % 128 = l.val - 16
    omega

theorem keys_apply (z : FVec Ideal S256x128 .f32) (bd : Vec Ideal S128x128 .bf16) (g : Vec Ideal S1x128 .f32) (cos sin : Vec Ideal S256x128 .f32)
    (r : Fin 256) (l : Fin 128) : keys z bd g cos sin (ix3 0 r l) = turned (normedK z bd g) cos sin (ix2 r l) := by
  pointwise [keys]

theorem across_apply (x : FVec Ideal S256x128 .f32) (d : Fin 128) (r : Fin 256) : across x (ix2 d r) = x (ix2 r d) := by
  pointwise [across]

theorem first_apply (t : FVec Ideal S128x256 .bf16) (d : Fin 64) (r : Fin 256) : first t (ix4 0 0 d r) = t (ix2 ⟨d.val, by omega⟩ r) := by
  pointwise [first]

theorem second_apply (t : FVec Ideal S128x256 .bf16) (d : Fin 64) (r : Fin 256) : second t (ix4 0 0 d r) = t (ix2 ⟨64 + d.val, by omega⟩ r) := by
  pointwise [second]

theorem zeros_apply (d : Fin 64) (r : Fin 256) : zeros (F := Ideal) (ix4 0 0 d r) = 0 := by
  pointwise [zeros]

theorem onesRow_apply (d : Fin 16) (r : Fin 256) : onesRow (F := Ideal) (ix4 0 0 d r) = if d.val = 0 then 1 else 0 := by
  pointwise [onesRow]
  fin_cases d <;> rfl

theorem block_apply0 (u : FVec Ideal S256x512 .f32) (r : Fin 256) (l : Fin 128) : extractStridedSlice S256x128 ![0, 0] u slices_S256x512_o0_0_S256x128 (ix2 r l)
    = u (ix2 r ⟨128 * (0 : Fin 4).val + l.val, by show 128 * 0 + l.val < 512; omega⟩) := by
  pointwise []

theorem block_apply1 (u : FVec Ideal S256x512 .f32) (r : Fin 256) (l : Fin 128) : extractStridedSlice S256x128 ![0, 128] u slices_S256x512_o0_128_S256x128 (ix2 r l)
    = u (ix2 r ⟨128 * (1 : Fin 4).val + l.val, by show 128 * 1 + l.val < 512; omega⟩) := by
  pointwise []

theorem block_apply2 (u : FVec Ideal S256x512 .f32) (r : Fin 256) (l : Fin 128) : extractStridedSlice S256x128 ![0, 256] u slices_S256x512_o0_256_S256x128 (ix2 r l)
    = u (ix2 r ⟨128 * (2 : Fin 4).val + l.val, by show 128 * 2 + l.val < 512; omega⟩) := by
  pointwise []

theorem block_apply3 (u : FVec Ideal S256x512 .f32) (r : Fin 256) (l : Fin 128) : extractStridedSlice S256x128 ![0, 384] u slices_S256x512_o0_384_S256x128 (ix2 r l)
    = u (ix2 r ⟨128 * (3 : Fin 4).val + l.val, by show 128 * 3 + l.val < 512; omega⟩) := by
  pointwise []

/-- A query row turned, at column `e`. -/
def turnedAt (n : FVec Ideal S256x512 .f32) (cos sin : Vec Ideal S256x128 .f32) (r : Fin 256) (e : Fin 512) : EReal :=
  n (ix2 r e) * cos (ix2 r ⟨e.val % 128, by omega⟩)
    + (if h : e.val % 32 < 16 then n (ix2 r ⟨e.val + 16, by omega⟩) else n (ix2 r ⟨e.val - 16, by omega⟩)) * sin (ix2 r ⟨e.val % 128, by omega⟩)

theorem turned_block (n : FVec Ideal S256x512 .f32) (cos sin : Vec Ideal S256x128 .f32) (k : Fin 4) (v : FVec Ideal S256x128 .f32)
    (hv : ∀ r l, v (ix2 r l) = n (ix2 r ⟨128 * k.val + l.val, by omega⟩)) (r : Fin 256) (l : Fin 128) (e : Fin 512) (he : e.val = 128 * k.val + l.val) :
    turned v cos sin (ix2 r l) = turnedAt n cos sin r e := by
  have hl : (⟨e.val % 128, by omega⟩ : Fin 128) = l := Fin.ext (by dsimp only; omega)
  have hv' : v (ix2 r l) = n (ix2 r e) := (hv r l).trans (congrArg n (congrArg (ix2 r) (Fin.ext he.symm)))
  rw [turned_apply]
  unfold turnedAt
  rw [hl, hv']
  congr 2
  by_cases h : l.val % 32 < 16
  · rw [dif_pos h, dif_pos (by omega), hv]
    exact congrArg n (congrArg (ix2 r) (Fin.ext (by dsimp only; omega)))
  · rw [dif_neg h, dif_neg (by omega), hv]
    exact congrArg n (congrArg (ix2 r) (Fin.ext (by dsimp only; omega)))

theorem queries_apply (n : FVec Ideal S256x512 .f32) (cos sin : Vec Ideal S256x128 .f32) (r : Fin 256) (e : Fin 512) :
    queries n cos sin (ix2 r e) = turnedAt n cos sin r e * ((8⁻¹ * (Real.log 2)⁻¹ : ℝ) : EReal) := by
  pointwise [queries]
  refine congrArg₂ (· * ·) ?_ rfl
  have he := e.isLt
  split
  · exact turned_block n cos sin 0 _ (block_apply0 n) _ _ _ (by show e.val = 128 * 0 + e.val; omega)
  split
  · exact turned_block n cos sin 1 _ (block_apply1 n) _ _ _ (by show e.val = 128 * 1 + (e.val - 128); omega)
  split
  · exact turned_block n cos sin 2 _ (block_apply2 n) _ _ _ (by show e.val = 128 * 2 + (e.val - 128 - 128); omega)
  · exact turned_block n cos sin 3 _ (block_apply3 n) _ _ _ (by show e.val = 128 * 3 + (e.val - 128 - 128 - 128); omega)

theorem lane_group : ∀ (q : Fin 16) (l : Fin 128), group (ix2 q l) = BitVec.ofNat 32 (l.val / 16) := by
  decide +kernel

theorem select_apply {α : Type} (k : BitVec 32) (x y : S16x128.Idx → α) (q : Fin 16) (l : Fin 128) :
    select (cmpi .eq group (broadcast S16x128 k)) x y (ix2 q l) = if BitVec.ofNat 32 (l.val / 16) = k then x (ix2 q l) else y (ix2 q l) := by
  pointwise [lane_group]
  by_cases h : BitVec.ofNat 32 (l.val / 16) = k
  · simp [h, Scalar.select, IntOp.cmpi]
  · simp [h, beq_eq_false_iff_ne.mpr h, Scalar.select, IntOp.cmpi]

theorem pick_apply (r : Fin 8 → FVec Ideal S16x128 .f32) (q : Fin 16) (l : Fin 128) :
    pick r (ix2 q l) = r ⟨l.val / 16, by omega⟩ (ix2 q l) := by
  unfold pick
  simp only [select_apply]
  suffices h : ∀ g : Fin 8, (if BitVec.ofNat 32 g.val = 7#32 then r 7 (ix2 q l) else if BitVec.ofNat 32 g.val = 6#32 then r 6 (ix2 q l)
      else if BitVec.ofNat 32 g.val = 5#32 then r 5 (ix2 q l) else if BitVec.ofNat 32 g.val = 4#32 then r 4 (ix2 q l)
      else if BitVec.ofNat 32 g.val = 3#32 then r 3 (ix2 q l) else if BitVec.ofNat 32 g.val = 2#32 then r 2 (ix2 q l)
      else if BitVec.ofNat 32 g.val = 1#32 then r 1 (ix2 q l) else r 0 (ix2 q l)) = r g (ix2 q l) from h ⟨l.val / 16, by omega⟩
  intro g
  fin_cases g <;> rfl

theorem moved_apply (k : ℕ) (hk : k < 8) (v : FVec Ideal S16x128 .f32) (q : Fin 16) (l : Fin 128) :
    moved k v (ix2 q l) = v (ix2 q ⟨(l.val + 128 - 16 * k) % 128, Nat.mod_lt _ (by norm_num)⟩) := by
  unfold moved
  interval_cases k
  · refine congrArg v (congrArg (ix2 q) (Fin.ext ?_))
    show l.val = (l.val + 128 - 16 * 0) % 128
    omega
  all_goals
    dsimp only
    pointwise []

theorem step_apply (z : Vec Ideal S1x16x128 .f32) (q : Fin 16) (l : Fin 128) :
    shapeCast S16x128 z shapeCasts_S1x16x128_S16x128 (ix2 q l) = z (ix3 0 q l) := by
  pointwise []

theorem laid_apply (z : FVec Ideal S16x128 .f32) (q : Fin 16) (l : Fin 128) :
    shapeCast S1x1x16x128 (truncf (F := Ideal) .bf16 z bitsLt_bf16_f32) shapeCasts_S16x128_S1x1x16x128 (ix4 0 0 q l) = z (ix2 q l) := by
  pointwise []

theorem chunks_apply (s : Fin 8 → Vec Ideal S1x16x128 .f32) (g : Fin 8) (q : Fin 16) (l : Fin 128) :
    chunks s g.val (ix4 0 0 q l) = s ⟨l.val / 16, by omega⟩ (ix3 0 q ⟨16 * g.val + l.val % 16, by omega⟩) := by
  unfold chunks
  rw [laid_apply, pick_apply, moved_apply _ (Nat.mod_lt _ (by norm_num)), step_apply]
  refine congrArg _ (congrArg (ix3 0 q) (Fin.ext ?_))
  dsimp only
  omega

theorem kept_apply (x : FVec Ideal S256x128 .f32) (r : Fin 256) (l : Fin 128) : kept x (ix3 0 r l) = x (ix2 r l) := by
  pointwise [kept]

section
variable (arg22 : Memref sig .tc .vmem S4x256x128 .f32) (u : FVec Ideal S256x512 .f32)

/-- What the kept column blocks hold. -/
def keptAt (y : S4x256x128.Idx) : EReal :=
  u (ix2 (y 1) ⟨128 * (y 0 : Fin 4).val + (y 2 : Fin 128).val, by have : (y 0 : Fin 4).val < 4 := (y 0 : Fin 4).isLt; have : (y 2 : Fin 128).val < 128 := (y 2 : Fin 128).isLt; omega⟩)

theorem kept_agrees (c : Fin 4) (o : ℕ) (ho : o = 128 * c.val) (v : FVec Ideal S256x128 .f32)
    (hv : ∀ r l, v (ix2 r l) = u (ix2 r ⟨128 * c.val + l.val, by omega⟩))
    (inb : ∀ a, (![c.val, 0, 0] : Fin 3 → ℕ) a + S1x256x128.size a ≤ S4x256x128.size a) (x : S1x256x128.Idx) :
    kept v x = keptAt u ((Rect.unit (s := S4x256x128) ![c.val, 0, 0] S1x256x128.size inb).emb x) := by
  obtain ⟨z, r, l, rfl⟩ : ∃ (z : Fin 1) (r : Fin 256) (l : Fin 128), x = ix3 z r l := ⟨x 0, x 1, x 2, (ix3_eta x).symm⟩
  obtain rfl : z = 0 := Subsingleton.elim _ _
  rw [kept_apply, hv]
  unfold keptAt
  congr 2
  · exact Fin.ext (by show r.val = 0 + 1 * r.val; omega)
  · exact Fin.ext (by show 128 * c.val + l.val = 128 * (c.val + 1 * 0) + (0 + 1 * l.val); omega)

theorem keptU_agree : ∀ p ∈ keptU u, ∀ x : p.1.shape.Idx, p.2 x = keptAt u (p.1.emb x) := by
  unfold keptU
  simp only [List.mem_cons, List.not_mem_nil, or_false, forall_eq_or_imp, forall_eq]
  exact ⟨kept_agrees u 3 384 rfl _ (block_apply3 u) _, kept_agrees u 2 256 rfl _ (block_apply2 u) _,
    kept_agrees u 1 128 rfl _ (block_apply1 u) _, kept_agrees u 0 0 rfl _ (block_apply0 u) _⟩

theorem loadU_apply (c : Fin 4) (j : Fin 16) (q : Fin 16) (l : Fin 128) :
    loadU arg22 u c j (ix3 0 q l) = u (ix2 ⟨16 * q.val + j.val, by omega⟩ ⟨128 * c.val + l.val, by omega⟩) := by
  unfold loadU
  rw [View.readCov_eq_canon']
  refine (View.canon_apply_of_pieces (Val := Elt Ideal) (e := .f32) (keptAt u) _ (keptU_agree u) _ ?_).trans ?_
  · fin_cases c
    · refine ⟨_, List.mem_cons_of_mem _ (List.mem_cons_of_mem _ (List.mem_cons_of_mem _ List.mem_cons_self)), ?_⟩
      refine LoadRect.mem_set _ |>.mpr fun a => ?_
      fin_cases a
      · exact ⟨0, by simp, by simp⟩
      · exact ⟨16 * q.val + j.val, by simp; omega, by simp; omega⟩
      · exact ⟨l.val, by simp, by simp⟩
    · refine ⟨_, List.mem_cons_of_mem _ (List.mem_cons_of_mem _ List.mem_cons_self), ?_⟩
      refine LoadRect.mem_set _ |>.mpr fun a => ?_
      fin_cases a
      · exact ⟨0, by simp, by simp⟩
      · exact ⟨16 * q.val + j.val, by simp; omega, by simp; omega⟩
      · exact ⟨l.val, by simp, by simp⟩
    · refine ⟨_, List.mem_cons_of_mem _ List.mem_cons_self, ?_⟩
      refine LoadRect.mem_set _ |>.mpr fun a => ?_
      fin_cases a
      · exact ⟨0, by simp, by simp⟩
      · exact ⟨16 * q.val + j.val, by simp; omega, by simp; omega⟩
      · exact ⟨l.val, by simp, by simp⟩
    · refine ⟨_, List.mem_cons_self, ?_⟩
      refine LoadRect.mem_set _ |>.mpr fun a => ?_
      fin_cases a
      · exact ⟨0, by simp, by simp⟩
      · exact ⟨16 * q.val + j.val, by simp; omega, by simp; omega⟩
      · exact ⟨l.val, by simp, by simp⟩
  · unfold keptAt
    congr 2 <;> apply Fin.ext <;> simp <;> omega

/-- What a store of the recurrence's input holds. -/
def inputAt (y : S1x32x16x256.Idx) : EReal :=
  u (ix2 ⟨16 * (y 2 : Fin 16).val + (y 3 : Fin 256).val / 16, by
      have : (y 2 : Fin 16).val < 16 := (y 2 : Fin 16).isLt; have : (y 3 : Fin 256).val < 256 := (y 3 : Fin 256).isLt; omega⟩
    ⟨16 * (y 1 : Fin 32).val + (y 3 : Fin 256).val % 16, by have : (y 1 : Fin 32).val < 32 := (y 1 : Fin 32).isLt; omega⟩)

theorem uPiece_agrees (c : Fin 4) (g : Fin 8) (b : Fin 2) (x : (uPiece arg22 u c g b).1.shape.Idx) :
    (uPiece arg22 u c g b).2 x = inputAt u ((uPiece arg22 u c g b).1.emb x) := by
  obtain ⟨z, z', q, l, rfl⟩ : ∃ (z z' : Fin 1) (q : Fin 16) (l : Fin 128), x = ix4 z z' q l := ⟨x 0, x 1, x 2, x 3, (ix4_eta x).symm⟩
  obtain rfl : z = 0 := Subsingleton.elim _ _
  obtain rfl : z' = 0 := Subsingleton.elim _ _
  refine (chunks_apply _ g q l).trans ((loadU_apply arg22 u c _ q _).trans ?_)
  unfold inputAt
  congr 2
  · exact Fin.ext (by show 16 * q.val + (8 * b.val + l.val / 16) = 16 * (0 + 1 * q.val) + (128 * b.val + 1 * l.val) / 16; omega)
  · exact Fin.ext (by show 128 * c.val + (16 * g.val + l.val % 16) = 16 * (8 * c.val + g.val + 1 * 0) + (128 * b.val + 1 * l.val) % 16; omega)

theorem uPieces_agree (n : ℕ) : ∀ p ∈ uPieces arg22 u n, ∀ x : p.1.shape.Idx, p.2 x = inputAt u (p.1.emb x) := by
  induction n with
  | zero => intro p hp; simp [uPieces] at hp
  | succ n ih =>
    intro p hp
    rcases List.mem_cons.mp hp with rfl | hp
    · exact uPiece_agrees arg22 u _ _ _
    · exact ih p hp

/-- What a store of the queries holds. -/
def queryAt (q : FVec Ideal S256x512 .f32) (y : S1x8x128x256.Idx) : EReal :=
  if (y 1 : Fin 8).val / 4 = (y 2 : Fin 128).val / 64 then
    q (ix2 (y 3) ⟨64 * (y 1 : Fin 8).val + (y 2 : Fin 128).val % 64, by have : (y 1 : Fin 8).val < 8 := (y 1 : Fin 8).isLt; omega⟩)
  else 0

theorem qPiece_agrees (q : FVec Ideal S256x512 .f32) (h : Fin 8) (b : Fin 2) (v : FVec Ideal S1x1x64x256 .bf16)
    (hv : ∀ d r, v (ix4 0 0 d r) = if h.val / 4 = b.val then q (ix2 r ⟨64 * h.val + d.val, by omega⟩) else 0) (x : S1x1x64x256.Idx) :
    v x = queryAt q ((qPiece h b v).1.emb x) := by
  obtain ⟨z, z', d, r, rfl⟩ : ∃ (z z' : Fin 1) (d : Fin 64) (r : Fin 256), x = ix4 z z' d r := ⟨x 0, x 1, x 2, x 3, (ix4_eta x).symm⟩
  obtain rfl : z = 0 := Subsingleton.elim _ _
  obtain rfl : z' = 0 := Subsingleton.elim _ _
  have e1 : (((qPiece h b v).1.emb (ix4 0 0 d r)) 1 : Fin 8) = h := Fin.ext (by show h.val + 1 * 0 = h.val; omega)
  have e2 : (((qPiece h b v).1.emb (ix4 0 0 d r)) 2 : Fin 128) = (⟨64 * b.val + d.val, by omega⟩ : Fin 128) :=
    Fin.ext (by show 64 * b.val + 1 * d.val = 64 * b.val + d.val; omega)
  have e3 : (((qPiece h b v).1.emb (ix4 0 0 d r)) 3 : Fin 256) = r := Fin.ext (by show 0 + 1 * r.val = r.val; omega)
  unfold queryAt
  simp only [e1, e2, e3]
  rw [hv]
  have f : (64 * b.val + d.val) / 64 = b.val := by omega
  have g : (64 * b.val + d.val) % 64 = d.val := by omega
  simp only [f, g]

theorem zero_agrees (q : FVec Ideal S256x512 .f32) (h : Fin 8) (b : Fin 2) (hb : h.val / 4 ≠ b.val) (x : S1x1x64x256.Idx) :
    zeros (F := Ideal) x = queryAt q ((qPiece h b (zeros (F := Ideal))).1.emb x) :=
  qPiece_agrees q h b _ (fun d r => by rw [if_neg hb, zeros_apply]) x

theorem head_agrees (q : FVec Ideal S256x512 .f32) (k : Fin 4) (v : FVec Ideal S256x128 .f32)
    (hv : ∀ r l, v (ix2 r l) = q (ix2 r ⟨128 * k.val + l.val, by omega⟩)) (b : Fin 2) (hb : k.val / 2 = b.val) :
    (∀ h : Fin 8, h.val = 2 * k.val → ∀ x : S1x1x64x256.Idx, first (across v) x = queryAt q ((qPiece h b (first (across v))).1.emb x)) ∧
    ∀ h : Fin 8, h.val = 2 * k.val + 1 → ∀ x : S1x1x64x256.Idx, second (across v) x = queryAt q ((qPiece h b (second (across v))).1.emb x) := by
  constructor
  · intro h hh x
    refine qPiece_agrees q h b _ (fun d r => ?_) x
    rw [if_pos (by omega), first_apply, across_apply, hv]
    exact congrArg q (congrArg (ix2 r) (Fin.ext (by dsimp only; omega)))
  · intro h hh x
    refine qPiece_agrees q h b _ (fun d r => ?_) x
    rw [if_pos (by omega), second_apply, across_apply, hv]
    exact congrArg q (congrArg (ix2 r) (Fin.ext (by dsimp only; omega)))

theorem qPieces_agree (q : FVec Ideal S256x512 .f32) : ∀ p ∈ qPieces q, ∀ x : p.1.shape.Idx, p.2 x = queryAt q (p.1.emb x) := by
  unfold qPieces
  simp only [List.mem_cons, List.not_mem_nil, or_false, forall_eq_or_imp, forall_eq]
  obtain ⟨a0, b0⟩ := head_agrees q 0 _ (block_apply0 q) 0 rfl
  obtain ⟨a1, b1⟩ := head_agrees q 1 _ (block_apply1 q) 0 rfl
  obtain ⟨a2, b2⟩ := head_agrees q 2 _ (block_apply2 q) 1 rfl
  obtain ⟨a3, b3⟩ := head_agrees q 3 _ (block_apply3 q) 1 rfl
  exact ⟨zero_agrees q 7 0 (by decide), b3 7 rfl, zero_agrees q 6 0 (by decide), a3 6 rfl, zero_agrees q 5 0 (by decide), b2 5 rfl,
    zero_agrees q 4 0 (by decide), a2 4 rfl, zero_agrees q 3 1 (by decide), b1 3 rfl, zero_agrees q 2 1 (by decide), a1 2 rfl,
    zero_agrees q 1 1 (by decide), b0 1 rfl, zero_agrees q 0 1 (by decide), a0 0 rfl⟩

/-- The values read back. -/
theorem valuesT_apply (arg21 : Memref sig .tc .vmem S256x128 .f32) (v : FVec Ideal S256x128 .f32) (d : Fin 128) (r : Fin 256) :
    valuesT arg21 v (ix2 d r) = v (ix2 r d) := by
  unfold valuesT
  rw [across_apply, View.readCov_eq_canon']
  refine (View.canon_apply_of_pieces (Val := Elt Ideal) (e := .f32) (fun y : S256x128.Idx => v y) _ ?_ _ ?_).trans ?_
  · simp only [List.mem_cons, List.not_mem_nil, or_false, forall_eq]
    intro x
    obtain ⟨r, l, rfl⟩ : ∃ (r : Fin 256) (l : Fin 128), x = ix2 r l := ⟨x 0, x 1, (ix2_eta x).symm⟩
    have e : shapeCast S256x128 v shapeCasts_S256x128_S256x128 (ix2 r l) = v (ix2 r l) := by pointwise []
    refine e.trans (congrArg v ?_)
    funext a
    fin_cases a <;> apply Fin.ext
    · show r.val = 0 + 1 * r.val; omega
    · show l.val = 0 + 1 * l.val; omega
  · refine ⟨_, List.mem_cons_self, ?_⟩
    refine LoadRect.mem_set _ |>.mpr fun a => ?_
    fin_cases a
    · exact ⟨r.val, by simp, by simp⟩
    · exact ⟨d.val, by simp, by simp⟩
  · refine congrArg v ?_
    funext a
    fin_cases a <;> apply Fin.ext <;> simp

/-- What a store of the values holds. -/
def valueAt (t : FVec Ideal S128x256 .bf16) (y : S1x2x80x256.Idx) : EReal :=
  if h : (y 2 : Fin 80).val < 64 then t (ix2 ⟨64 * (y 1 : Fin 2).val + (y 2 : Fin 80).val, by have : (y 1 : Fin 2).val < 2 := (y 1 : Fin 2).isLt; omega⟩ (y 3))
  else if (y 2 : Fin 80).val = 64 then 1 else 0

theorem ones_agrees (t : FVec Ideal S128x256 .bf16) (j : Fin 2)
    (inb : ∀ a, (![0, j.val, 64, 0] : Fin 4 → ℕ) a + S1x1x16x256.size a ≤ S1x2x80x256.size a) (x : S1x1x16x256.Idx) :
    onesRow (F := Ideal) x = valueAt t ((Rect.unit (s := S1x2x80x256) ![0, j.val, 64, 0] S1x1x16x256.size inb).emb x) := by
  obtain ⟨z, z', d, r, rfl⟩ : ∃ (z z' : Fin 1) (d : Fin 16) (r : Fin 256), x = ix4 z z' d r := ⟨x 0, x 1, x 2, x 3, (ix4_eta x).symm⟩
  obtain rfl : z = 0 := Subsingleton.elim _ _
  obtain rfl : z' = 0 := Subsingleton.elim _ _
  have e2 : (((Rect.unit (s := S1x2x80x256) ![0, j.val, 64, 0] S1x1x16x256.size inb).emb (ix4 0 0 d r)) 2 : Fin 80) = (⟨64 + d.val, by omega⟩ : Fin 80) :=
    Fin.ext (by show 64 + 1 * d.val = 64 + d.val; omega)
  unfold valueAt
  simp only [e2]
  rw [onesRow_apply, dif_neg (by omega)]
  simp

theorem half_agrees (t : FVec Ideal S128x256 .bf16) (j : Fin 2) (v : FVec Ideal S1x1x64x256 .bf16)
    (hv : ∀ d r, v (ix4 0 0 d r) = t (ix2 ⟨64 * j.val + d.val, by omega⟩ r))
    (inb : ∀ a, (![0, j.val, 0, 0] : Fin 4 → ℕ) a + S1x1x64x256.size a ≤ S1x2x80x256.size a) (x : S1x1x64x256.Idx) :
    v x = valueAt t ((Rect.unit (s := S1x2x80x256) ![0, j.val, 0, 0] S1x1x64x256.size inb).emb x) := by
  obtain ⟨z, z', d, r, rfl⟩ : ∃ (z z' : Fin 1) (d : Fin 64) (r : Fin 256), x = ix4 z z' d r := ⟨x 0, x 1, x 2, x 3, (ix4_eta x).symm⟩
  obtain rfl : z = 0 := Subsingleton.elim _ _
  obtain rfl : z' = 0 := Subsingleton.elim _ _
  have e1 : (((Rect.unit (s := S1x2x80x256) ![0, j.val, 0, 0] S1x1x64x256.size inb).emb (ix4 0 0 d r)) 1 : Fin 2) = j :=
    Fin.ext (by show j.val + 1 * 0 = j.val; omega)
  have e2 : (((Rect.unit (s := S1x2x80x256) ![0, j.val, 0, 0] S1x1x64x256.size inb).emb (ix4 0 0 d r)) 2 : Fin 80) = (⟨d.val, by omega⟩ : Fin 80) :=
    Fin.ext (by show 0 + 1 * d.val = d.val; omega)
  have e3 : (((Rect.unit (s := S1x2x80x256) ![0, j.val, 0, 0] S1x1x64x256.size inb).emb (ix4 0 0 d r)) 3 : Fin 256) = r :=
    Fin.ext (by show 0 + 1 * r.val = r.val; omega)
  unfold valueAt
  simp only [e1, e2, e3]
  rw [dif_pos d.isLt, hv]

theorem vPieces_agree (t : FVec Ideal S128x256 .bf16) : ∀ p ∈ vPieces t, ∀ x : p.1.shape.Idx, p.2 x = valueAt t (p.1.emb x) := by
  unfold vPieces
  simp only [List.mem_cons, List.not_mem_nil, or_false, forall_eq_or_imp, forall_eq]
  refine ⟨ones_agrees t 1 _, half_agrees t 1 _ (fun d r => ?_) _, ones_agrees t 0 _, half_agrees t 0 _ (fun d r => ?_) _⟩
  · rw [second_apply]; rfl
  · rw [first_apply]
    exact congrArg t (congrArg (fun z => ix2 z r) (Fin.ext (by show d.val = 64 * 0 + d.val; omega)))

/-- A load of a whole operand, or of part of it. -/
theorem ld_apply {s : Shape} {e : EltTy} (arg : Memref sig .tc .vmem s e) (harg : arg.IsWhole) (x : Vec Ideal s e) (r : LoadRect s) (i : r.shape.Idx)
    (y : s.Idx) (h : ∀ a, (r.idx i a).val = (y a).val) : ld arg harg x r i = x y := by
  unfold ld
  rw [View.readAt_apply, harg.read_unread]
  exact congrArg x (funext fun a => Fin.ext (h a))

end
end Cert.Kernel3Ideal.Inproj
end
-- ==== Proof.Inproj.Run.lean ====
/- The run of the input projection's body stores exactly the pieces of `Tiles`. -/
module

public import proofs.«01_k».proof.Proof.Inproj.Tiles
public import proofs.«01_k».proof.Proof.Gen.Kernel3Ideal.Frame

@[expose] public section

noncomputable section

namespace Cert.Kernel3Ideal.Inproj

open Idealize.ShloMosaic Cert.Kernel3Ideal Cert.Kernel3Ideal.Gen

variable {F : FTy → Type} [FloatOps F] [Named F]

section
variable (c : Dev nD) (i : grid0.Coords) (arg2 : Memref sig .tc .vmem S1x256x1024 .f32) (harg2 : arg2.IsWhole)
  (arg3 : Memref sig .tc .vmem S1x256x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S1x1x1024 .f32) (harg6 : arg6.IsWhole)
  (arg7 : Memref sig .tc .vmem S1x1x1024 .f32) (harg7 : arg7.IsWhole) (arg8 : Memref sig .tc .vmem S1x1024 .f32) (harg8 : arg8.IsWhole)
  (arg9 : Memref sig .tc .vmem S1024x2304 .bf16) (harg9 : arg9.IsWhole) (arg10 : Memref sig .tc .vmem S1x512 .f32) (harg10 : arg10.IsWhole)
  (arg11 : Memref sig .tc .vmem S1x128 .f32) (harg11 : arg11.IsWhole) (arg12 : Memref sig .tc .vmem S256x128 .f32) (harg12 : arg12.IsWhole)
  (arg13 : Memref sig .tc .vmem S256x128 .f32) (harg13 : arg13.IsWhole) (arg14 : Memref sig .tc .vmem S512x512 .bf16) (harg14 : arg14.IsWhole)
  (arg15 : Memref sig .tc .vmem S1x8x128x256 .bf16) (harg15 : arg15.IsWhole) (arg16 : Memref sig .tc .vmem S1x256x128 .bf16) (harg16 : arg16.IsWhole)
  (arg17 : Memref sig .tc .vmem S1x2x80x256 .bf16) (harg17 : arg17.IsWhole) (arg18 : Memref sig .tc .vmem S1x256x512 .bf16) (harg18 : arg18.IsWhole)
  (arg19 : Memref sig .tc .vmem S1x32x16x256 .bf16) (harg19 : arg19.IsWhole) (arg20 : Memref sig .tc .vmem S1x256x512 .bf16) (harg20 : arg20.IsWhole)
  (arg21 : Memref sig .tc .vmem S256x128 .f32) (harg21 : arg21.IsWhole) (arg22 : Memref sig .tc .vmem S4x256x128 .f32) (harg22 : arg22.IsWhole)
  (x0 x1 : Vec F S1x256x1024 .f32) (x2 x3 x4 x5 : Vec F S1x1x1024 .f32) (x6 : Vec F S1x1024 .f32) (x7 : Vec F S1024x2304 .bf16)
  (x8 : Vec F S1x512 .f32) (x9 : Vec F S1x128 .f32) (x10 x11 : Vec F S256x128 .f32) (x12 : Vec F S512x512 .bf16)

/-- The tile's rows, from the loads. -/
def hid : FVec F S256x1024 .bf16 :=
  hidden i (ld arg2 harg2 x0 (Rect.unit (s := S1x256x1024) ![0, 0, 0] S1x256x1024.size inb_S1x256x1024_S1x256x1024_0_0_0).toLoadRect)
    (ld arg3 harg3 x1 (Rect.unit (s := S1x256x1024) ![0, 0, 0] S1x256x1024.size inb_S1x256x1024_S1x256x1024_0_0_0).toLoadRect)
    (ld arg4 harg4 x2 (Rect.unit (s := S1x1x1024) ![0, 0, 0] S1x1x1024.size inb_S1x1x1024_S1x1x1024_0_0_0).toLoadRect)
    (ld arg5 harg5 x3 (Rect.unit (s := S1x1x1024) ![0, 0, 0] S1x1x1024.size inb_S1x1x1024_S1x1x1024_0_0_0).toLoadRect)
    (ld arg6 harg6 x4 (Rect.unit (s := S1x1x1024) ![0, 0, 0] S1x1x1024.size inb_S1x1x1024_S1x1x1024_0_0_0).toLoadRect)
    (ld arg7 harg7 x5 (Rect.unit (s := S1x1x1024) ![0, 0, 0] S1x1x1024.size inb_S1x1x1024_S1x1x1024_0_0_0).toLoadRect)
    (ld arg8 harg8 x6 (Rect.unit (s := S1x1024) ![0, 0] S1x1024.size inb_S1x1024_S1x1024_0_0).toLoadRect)

def wQ : Vec F S1024x512 .bf16 := ld arg9 harg9 x7 (Rect.unit (s := S1024x2304) ![0, 0] S1024x512.size inb_S1024x2304_S1024x512_0_0).toLoadRect
def wK : Vec F S1024x128 .bf16 := ld arg9 harg9 x7 (Rect.unit (s := S1024x2304) ![0, 512] S1024x128.size inb_S1024x2304_S1024x128_0_512).toLoadRect
def wV : Vec F S1024x128 .bf16 := ld arg9 harg9 x7 (Rect.unit (s := S1024x2304) ![0, 640] S1024x128.size inb_S1024x2304_S1024x128_0_640).toLoadRect
def wA : Vec F S1024x512 .bf16 := ld arg9 harg9 x7 (Rect.unit (s := S1024x2304) ![0, 768] S1024x512.size inb_S1024x2304_S1024x512_0_768).toLoadRect
def wU : Vec F S1024x512 .bf16 := ld arg9 harg9 x7 (Rect.unit (s := S1024x2304) ![0, 1280] S1024x512.size inb_S1024x2304_S1024x512_0_1280).toLoadRect
def wS : Vec F S1024x512 .bf16 := ld arg9 harg9 x7 (Rect.unit (s := S1024x2304) ![0, 1792] S1024x512.size inb_S1024x2304_S1024x512_0_1792).toLoadRect
def gQ : Vec F S1x512 .f32 := ld arg10 harg10 x8 (Rect.unit (s := S1x512) ![0, 0] S1x512.size inb_S1x512_S1x512_0_0).toLoadRect
def gK : Vec F S1x128 .f32 := ld arg11 harg11 x9 (Rect.unit (s := S1x128) ![0, 0] S1x128.size inb_S1x128_S1x128_0_0).toLoadRect
def table (arg : Memref sig .tc .vmem S256x128 .f32) (harg : arg.IsWhole) (x : Vec F S256x128 .f32) : Vec F S256x128 .f32 :=
  ld arg harg x (Rect.unit (s := S256x128) ![0, 0] S256x128.size inb_S256x128_S256x128_0_0).toLoadRect
def meanQ : Vec F S512x512 .bf16 := ld arg14 harg14 x12 (Rect.unit (s := S512x512) ![0, 0] S512x512.size inb_S512x512_S512x512_0_0).toLoadRect
def meanK : Vec F S128x128 .bf16 := ld arg14 harg14 x12 (Rect.unit (s := S512x512) ![0, 0] S128x128.size inb_S512x512_S128x128_0_0).toLoadRect
end

set_option maxHeartbeats 4000000 in
set_option maxRecDepth 100000 in
/-- The body's stores, result by result. -/
theorem run_pieces (c : Dev nD) (i : grid0.Coords) (arg2 : Memref sig .tc .vmem S1x256x1024 .f32) (harg2 : arg2.IsWhole)
  (arg3 : Memref sig .tc .vmem S1x256x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S1x1x1024 .f32) (harg6 : arg6.IsWhole)
  (arg7 : Memref sig .tc .vmem S1x1x1024 .f32) (harg7 : arg7.IsWhole) (arg8 : Memref sig .tc .vmem S1x1024 .f32) (harg8 : arg8.IsWhole)
  (arg9 : Memref sig .tc .vmem S1024x2304 .bf16) (harg9 : arg9.IsWhole) (arg10 : Memref sig .tc .vmem S1x512 .f32) (harg10 : arg10.IsWhole)
  (arg11 : Memref sig .tc .vmem S1x128 .f32) (harg11 : arg11.IsWhole) (arg12 : Memref sig .tc .vmem S256x128 .f32) (harg12 : arg12.IsWhole)
  (arg13 : Memref sig .tc .vmem S256x128 .f32) (harg13 : arg13.IsWhole) (arg14 : Memref sig .tc .vmem S512x512 .bf16) (harg14 : arg14.IsWhole)
  (arg15 : Memref sig .tc .vmem S1x8x128x256 .bf16) (harg15 : arg15.IsWhole) (arg16 : Memref sig .tc .vmem S1x256x128 .bf16) (harg16 : arg16.IsWhole)
  (arg17 : Memref sig .tc .vmem S1x2x80x256 .bf16) (harg17 : arg17.IsWhole) (arg18 : Memref sig .tc .vmem S1x256x512 .bf16) (harg18 : arg18.IsWhole)
  (arg19 : Memref sig .tc .vmem S1x32x16x256 .bf16) (harg19 : arg19.IsWhole) (arg20 : Memref sig .tc .vmem S1x256x512 .bf16) (harg20 : arg20.IsWhole)
  (arg21 : Memref sig .tc .vmem S256x128 .f32) (harg21 : arg21.IsWhole) (arg22 : Memref sig .tc .vmem S4x256x128 .f32) (harg22 : arg22.IsWhole)
  (x0 x1 : Vec F S1x256x1024 .f32) (x2 x3 x4 x5 : Vec F S1x1x1024 .f32) (x6 : Vec F S1x1024 .f32) (x7 : Vec F S1024x2304 .bf16)
  (x8 : Vec F S1x512 .f32) (x9 : Vec F S1x128 .f32) (x10 x11 : Vec F S256x128 .f32) (x12 : Vec F S512x512 .bf16) :
    let run := kernelRun0_A c i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22
        x0 x1 x2 x3 x4 x5 x6 x7 x8 x9 x10 x11 x12
    let h := hid i arg2 harg2 arg3 harg3 arg4 harg4 arg5 harg5 arg6 harg6 arg7 harg7 arg8 harg8 x0 x1 x2 x3 x4 x5 x6
    run.1 = qPieces (queries (normedQ (wide h (wQ arg9 harg9 x7)) (meanQ arg14 harg14 x12) (gQ arg10 harg10 x8)) (table arg12 harg12 x10) (table arg13 harg13 x11))
    ∧ run.2.1 = [⟨Rect.unit (s := S1x256x128) ![0, 0, 0] S1x256x128.size inb_S1x256x128_S1x256x128_0_0_0,
        keys (narrow h (wK arg9 harg9 x7)) (meanK arg14 harg14 x12) (gK arg11 harg11 x9) (table arg12 harg12 x10) (table arg13 harg13 x11)⟩]
    ∧ run.2.2.1 = vPieces (valuesT arg21 (narrow h (wV arg9 harg9 x7)))
    ∧ run.2.2.2.1 = [⟨Rect.unit (s := S1x256x512) ![0, 0, 0] S1x256x512.size inb_S1x256x512_S1x256x512_0_0_0, gate (wide h (wA arg9 harg9 x7))⟩]
    ∧ run.2.2.2.2.1 = uPieces arg22 (wide h (wU arg9 harg9 x7)) 64
    ∧ run.2.2.2.2.2.1 = [⟨Rect.unit (s := S1x256x512) ![0, 0, 0] S1x256x512.size inb_S1x256x512_S1x256x512_0_0_0, gate (wide h (wS arg9 harg9 x7))⟩] := by
  refine ⟨?_, ?_, ?_, ?_, ?_, ?_⟩
  · sl_kernel_rfl
  · sl_kernel_rfl
  · sl_kernel_rfl
  · sl_kernel_rfl
  · sl_kernel_rfl
  · sl_kernel_rfl

end Cert.Kernel3Ideal.Inproj

end
-- ==== Proof.Inproj.Tile.lean ====
/- One tile of the input projection: its columns, its normalized heads, and its heads turned by their positions. -/
module

public import proofs.«01_k».proof.Proof.Inproj.Entries
public import proofs.«01_k».proof.Proof.Inproj.Run

@[expose] public section

set_option maxRecDepth 16384

noncomputable section

namespace Cert.Kernel3Ideal.Inproj

open Idealize.ShloMosaic Cert.Kernel3Ideal Cert.Kernel3Ideal.Gen Cert.InRow

section
variable (h : FVec Ideal S256x1024 .bf16) (arg9 : Memref sig .tc .vmem S1024x2304 .bf16) (harg9 : arg9.IsWhole) (x7 : Vec Ideal S1024x2304 .bf16)
  (J : Fin 256 → Fin 2304 → EReal) (hJ : ∀ r j, ∑ k : Fin 1024, h (ix2 r k) * x7 (ix2 k j) = J r j)

include hJ

theorem wide_cols (o : ℕ) (ho : o + 512 ≤ 2304) (inb : ∀ a, (![0, o] : Fin 2 → ℕ) a + S1024x512.size a ≤ S1024x2304.size a) (r : Fin 256) (e : Fin 512) :
    wide h (ld arg9 harg9 x7 (Rect.unit (s := S1024x2304) ![0, o] S1024x512.size inb).toLoadRect) (ix2 r e) = J r ⟨o + e.val, by omega⟩ := by
  rw [wide_apply, ← hJ]
  refine Finset.sum_congr rfl fun k _ => congrArg (h (ix2 r k) * ·) (ld_apply arg9 harg9 x7 _ _ _ fun a => ?_)
  fin_cases a <;> simp

theorem narrow_cols (o : ℕ) (ho : o + 128 ≤ 2304) (inb : ∀ a, (![0, o] : Fin 2 → ℕ) a + S1024x128.size a ≤ S1024x2304.size a) (r : Fin 256) (e : Fin 128) :
    narrow h (ld arg9 harg9 x7 (Rect.unit (s := S1024x2304) ![0, o] S1024x128.size inb).toLoadRect) (ix2 r e) = J r ⟨o + e.val, by omega⟩ := by
  rw [narrow_apply, ← hJ]
  refine Finset.sum_congr rfl fun k _ => congrArg (h (ix2 r k) * ·) (ld_apply arg9 harg9 x7 _ _ _ fun a => ?_)
  fin_cases a <;> simp

end

section
variable (G : Fin 64 → EReal)

theorem normedQ_heads (z : FVec Ideal S256x512 .f32) (bd : Vec Ideal S512x512 .bf16) (g : Vec Ideal S1x512 .f32)
    (hbd : ∀ k e : Fin 512, bd (ix2 k e) = if k.val / 64 = e.val / 64 then (((1 : ℝ) / 64 : ℝ) : EReal) else 0)
    (hg : ∀ e : Fin 512, g (ix2 0 e) = G ⟨e.val % 64, Nat.mod_lt _ (by norm_num)⟩) (r : Fin 256) (e : Fin 512) :
    normedQ z bd g (ix2 r e)
      = normed (fun d => z (ix2 r ⟨64 * (e.val / 64) + d.val, by omega⟩)) G ⟨e.val % 64, Nat.mod_lt _ (by norm_num)⟩ := by
  have e1 : e = ⟨64 * (e.val / 64) + e.val % 64, by omega⟩ := Fin.ext (by dsimp only; omega)
  rw [normedQ_apply, hg]
  simp only [hbd]
  exact congrArg₂ (· * ·) (congrArg₂ (· * ·) (congrArg z (congrArg (ix2 r) e1))
    (congrArg (fun s => Ideal.rsqrt (s + _)) (head_mean 8 (fun k : Fin (8 * 64) => z (ix2 r k)) ⟨e.val / 64, by omega⟩))) rfl

theorem normedK_heads (z : FVec Ideal S256x128 .f32) (bd : Vec Ideal S128x128 .bf16) (g : Vec Ideal S1x128 .f32)
    (hbd : ∀ k e : Fin 128, bd (ix2 k e) = if k.val / 64 = e.val / 64 then (((1 : ℝ) / 64 : ℝ) : EReal) else 0)
    (hg : ∀ e : Fin 128, g (ix2 0 e) = G ⟨e.val % 64, Nat.mod_lt _ (by norm_num)⟩) (r : Fin 256) (e : Fin 128) :
    normedK z bd g (ix2 r e)
      = normed (fun d => z (ix2 r ⟨64 * (e.val / 64) + d.val, by omega⟩)) G ⟨e.val % 64, Nat.mod_lt _ (by norm_num)⟩ := by
  have e1 : e = ⟨64 * (e.val / 64) + e.val % 64, by omega⟩ := Fin.ext (by dsimp only; omega)
  rw [normedK_apply, hg]
  simp only [hbd]
  exact congrArg₂ (· * ·) (congrArg₂ (· * ·) (congrArg z (congrArg (ix2 r) e1))
    (congrArg (fun s => Ideal.rsqrt (s + _)) (head_mean 2 (fun k : Fin (2 * 64) => z (ix2 r k)) ⟨e.val / 64, by omega⟩))) rfl

end

/-- A product with the cosine and a product with the signed sine are the rotation. -/
theorem rotate_eq (n : Fin 64 → EReal) (t : Fin 8192) (d : Fin 64) (a b c s : EReal) (ha : a = n d)
    (hb : ∀ h : d.val % 32 < 16, b = n ⟨d.val + 16, by omega⟩) (hb' : ¬ d.val % 32 < 16 → b = n ⟨d.val - 16, by omega⟩)
    (hc : c = Ideal.cos (angle t d)) (hs : s = if d.val % 32 < 16 then -Ideal.sin (angle t d) else Ideal.sin (angle t d)) :
    a * c + b * s = rotated n t d := by
  unfold rotated
  rw [ha, hc, hs]
  by_cases h : d.val % 32 < 16
  · rw [dif_pos h, if_pos h, hb h, mul_neg, ← sub_eq_add_neg]
  · rw [dif_neg h, if_neg h, hb' h, add_comm]

/-- A row of the context is not turned. -/
theorem turned_ctx (x : FVec Ideal S256x128 .f32) (cos sin : Vec Ideal S256x128 .f32) (r : Fin 256) (l : Fin 128)
    (hc : cos (ix2 r l) = 1) (hs : sin (ix2 r l) = 0) : turned x cos sin (ix2 r l) = x (ix2 r l) := by
  rw [turned_apply, hc, hs, mul_one, mul_zero, add_zero]

/-- A latent row's keys, turned. -/
theorem turned_lat (x : FVec Ideal S256x128 .f32) (cos sin : Vec Ideal S256x128 .f32) (r : Fin 256) (t : Fin 8192) (N : ℕ → Fin 64 → EReal)
    (hx : ∀ l : Fin 128, x (ix2 r l) = N (l.val / 64) ⟨l.val % 64, Nat.mod_lt _ (by norm_num)⟩)
    (hc : ∀ l : Fin 128, cos (ix2 r l) = Ideal.cos (angle t ⟨l.val % 64, Nat.mod_lt _ (by norm_num)⟩))
    (hs : ∀ l : Fin 128, sin (ix2 r l) = if l.val % 32 < 16 then -Ideal.sin (angle t ⟨l.val % 64, Nat.mod_lt _ (by norm_num)⟩)
      else Ideal.sin (angle t ⟨l.val % 64, Nat.mod_lt _ (by norm_num)⟩)) (l : Fin 128) :
    turned x cos sin (ix2 r l) = rotated (N (l.val / 64)) t ⟨l.val % 64, Nat.mod_lt _ (by norm_num)⟩ := by
  have hm : l.val % 64 % 32 = l.val % 32 := by omega
  rw [turned_apply]
  refine rotate_eq _ _ _ _ _ _ _ (hx l) (fun h => ?_) (fun h => ?_) (hc l) ((hs l).trans (by rw [hm]))
  · rw [dif_pos (hm ▸ h), hx]
    exact congrArg₂ N (by dsimp only at h ⊢; omega) (Fin.ext (by dsimp only at h ⊢; omega))
  · rw [dif_neg (hm ▸ h), hx]
    exact congrArg₂ N (by dsimp only at h ⊢; omega) (Fin.ext (by dsimp only at h ⊢; omega))

/-- A latent row's queries, turned. -/
theorem turnedAt_lat (x : FVec Ideal S256x512 .f32) (cos sin : Vec Ideal S256x128 .f32) (r : Fin 256) (t : Fin 8192) (N : ℕ → Fin 64 → EReal)
    (hx : ∀ l : Fin 512, x (ix2 r l) = N (l.val / 64) ⟨l.val % 64, Nat.mod_lt _ (by norm_num)⟩)
    (hc : ∀ l : Fin 128, cos (ix2 r l) = Ideal.cos (angle t ⟨l.val % 64, Nat.mod_lt _ (by norm_num)⟩))
    (hs : ∀ l : Fin 128, sin (ix2 r l) = if l.val % 32 < 16 then -Ideal.sin (angle t ⟨l.val % 64, Nat.mod_lt _ (by norm_num)⟩)
      else Ideal.sin (angle t ⟨l.val % 64, Nat.mod_lt _ (by norm_num)⟩)) (l : Fin 512) :
    turnedAt x cos sin r l = rotated (N (l.val / 64)) t ⟨l.val % 64, Nat.mod_lt _ (by norm_num)⟩ := by
  have hm : l.val % 64 % 32 = l.val % 32 := by omega
  have h1 : l.val % 128 % 64 = l.val % 64 := by omega
  have h2 : l.val % 128 % 32 = l.val % 64 % 32 := by omega
  unfold turnedAt
  refine rotate_eq _ _ _ _ _ _ _ (hx l) (fun h => ?_) (fun h => ?_) ((hc _).trans (by simp only [h1])) ((hs _).trans (by simp only [h1, h2]))
  · rw [dif_pos (hm ▸ h), hx]
    exact congrArg₂ N (by dsimp only at h ⊢; omega) (Fin.ext (by dsimp only at h ⊢; omega))
  · rw [dif_neg (hm ▸ h), hx]
    exact congrArg₂ N (by dsimp only at h ⊢; omega) (Fin.ext (by dsimp only at h ⊢; omega))

end Cert.Kernel3Ideal.Inproj

end
-- ==== Proof.Inproj.Out.lean ====
/- What the input projection's body leaves in its six results, entry by entry. -/
module

public import proofs.«01_k».proof.Proof.Inproj.Run
public import proofs.«01_k».proof.Proof.Inproj.Entries
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem Cert.Kernel3Ideal Cert.Kernel3Ideal.Gen Cert.InRow

/-- One store of a whole block. -/
theorem whole_agrees (a b : ℕ) (inb : ∀ i, (![0, 0, 0] : Fin 3 → ℕ) i + (⟨3, ![1, a, b]⟩ : Shape).size i ≤ (⟨3, ![1, a, b]⟩ : Shape).size i)
    (v : (⟨3, ![1, a, b]⟩ : Shape).Idx → EReal) :
    ∀ p ∈ ([⟨Rect.unit (s := ⟨3, ![1, a, b]⟩) ![0, 0, 0] (⟨3, ![1, a, b]⟩ : Shape).size inb, v⟩] :
      List ((r : Rect ⟨3, ![1, a, b]⟩) × (r.shape.Idx → EReal))), ∀ x : p.1.shape.Idx, p.2 x = v (p.1.emb x) := by
  intro p hp x
  obtain rfl := List.mem_singleton.mp hp
  refine congrArg v (funext fun k => Fin.ext ?_)
  have e : ∀ n : ℕ, n = 0 + 1 * n := fun n => by omega
  fin_cases k <;> exact e _

section
variable (c : Dev nD) (i : grid0.Coords)
  (arg2 : Memref sig .tc .vmem S1x256x1024 .f32) (harg2 : arg2.IsWhole)
  (arg3 : Memref sig .tc .vmem S1x256x1024 .f32) (harg3 : arg3.IsWhole)
  (arg4 : Memref sig .tc .vmem S1x1x1024 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1024 .f32) (harg8 : arg8.IsWhole)
  (arg9 : Memref sig .tc .vmem S1024x2304 .bf16) (harg9 : arg9.IsWhole)
  (arg10 : Memref sig .tc .vmem S1x512 .f32) (harg10 : arg10.IsWhole)
  (arg11 : Memref sig .tc .vmem S1x128 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S512x512 .bf16) (harg14 : arg14.IsWhole)
  (arg15 : Memref sig .tc .vmem S1x8x128x256 .bf16) (harg15 : arg15.IsWhole)
  (arg16 : Memref sig .tc .vmem S1x256x128 .bf16) (harg16 : arg16.IsWhole)
  (arg17 : Memref sig .tc .vmem S1x2x80x256 .bf16) (harg17 : arg17.IsWhole)
  (arg18 : Memref sig .tc .vmem S1x256x512 .bf16) (harg18 : arg18.IsWhole)
  (arg19 : Memref sig .tc .vmem S1x32x16x256 .bf16) (harg19 : arg19.IsWhole)
  (arg20 : Memref sig .tc .vmem S1x256x512 .bf16) (harg20 : arg20.IsWhole)
  (arg21 : Memref sig .tc .vmem S256x128 .f32) (harg21 : arg21.IsWhole)
  (arg22 : Memref sig .tc .vmem S4x256x128 .f32) (harg22 : arg22.IsWhole)
  (x0 : Vec Ideal S1x256x1024 .f32)
  (x1 : Vec Ideal S1x256x1024 .f32)
  (x2 : Vec Ideal S1x1x1024 .f32)
  (x3 : Vec Ideal S1x1x1024 .f32)
  (x4 : Vec Ideal S1x1x1024 .f32)
  (x5 : Vec Ideal S1x1x1024 .f32)
  (x6 : Vec Ideal S1x1024 .f32)
  (x7 : Vec Ideal S1024x2304 .bf16)
  (x8 : Vec Ideal S1x512 .f32)
  (x9 : Vec Ideal S1x128 .f32)
  (x10 : Vec Ideal S256x128 .f32)
  (x11 : Vec Ideal S256x128 .f32)
  (x12 : Vec Ideal S512x512 .bf16)

theorem out_queries (y : S1x8x128x256.Idx) :
    out0_A_13
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = queryAt (queries (normedQ (wide (hid i arg2 harg2 arg3 harg3 arg4 harg4 arg5 harg5 arg6 harg6 arg7 harg7 arg8 harg8 x0 x1 x2 x3 x4 x5 x6)
        (wQ arg9 harg9 x7)) (meanQ arg14 harg14 x12) (gQ arg10 harg10 x8)) (table arg12 harg12 x10) (table arg13 harg13 x11)) y := by
  unfold out0_A_13
  refine View.read_writes_apply_of_pieces VO0_13 _ (queryAt (queries (normedQ (wide (hid i arg2 harg2 arg3 harg3 arg4 harg4 arg5 harg5 arg6 harg6 arg7 harg7 arg8 harg8 x0 x1 x2 x3 x4 x5 x6)
        (wQ arg9 harg9 x7)) (meanQ arg14 harg14 x12) (gQ arg10 harg10 x8)) (table arg12 harg12 x10) (table arg13 harg13 x11))) _ ?_ y
    (cover0_A_13
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).1]
  exact qPieces_agree _

theorem out_keys (y : S1x256x128.Idx) :
    out0_A_14
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = keys (narrow (hid i arg2 harg2 arg3 harg3 arg4 harg4 arg5 harg5 arg6 harg6 arg7 harg7 arg8 harg8 x0 x1 x2 x3 x4 x5 x6)
        (wK arg9 harg9 x7)) (meanK arg14 harg14 x12) (gK arg11 harg11 x9) (table arg12 harg12 x10) (table arg13 harg13 x11) y := by
  unfold out0_A_14
  refine View.read_writes_apply_of_pieces VO0_14 _ (keys (narrow (hid i arg2 harg2 arg3 harg3 arg4 harg4 arg5 harg5 arg6 harg6 arg7 harg7 arg8 harg8 x0 x1 x2 x3 x4 x5 x6)
        (wK arg9 harg9 x7)) (meanK arg14 harg14 x12) (gK arg11 harg11 x9) (table arg12 harg12 x10) (table arg13 harg13 x11)) _ ?_ y
    (cover0_A_14
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).2.1]
  exact whole_agrees 256 128 _ _

theorem out_values (y : S1x2x80x256.Idx) :
    out0_A_15
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = valueAt (valuesT arg21 (narrow (hid i arg2 harg2 arg3 harg3 arg4 harg4 arg5 harg5 arg6 harg6 arg7 harg7 arg8 harg8 x0 x1 x2 x3 x4 x5 x6)
        (wV arg9 harg9 x7))) y := by
  unfold out0_A_15
  refine View.read_writes_apply_of_pieces VO0_15 _ (valueAt (valuesT arg21 (narrow (hid i arg2 harg2 arg3 harg3 arg4 harg4 arg5 harg5 arg6 harg6 arg7 harg7 arg8 harg8 x0 x1 x2 x3 x4 x5 x6)
        (wV arg9 harg9 x7)))) _ ?_ y
    (cover0_A_15
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).2.2.1]
  exact vPieces_agree _

theorem out_gate_a (y : S1x256x512.Idx) :
    out0_A_16
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = gate (wide (hid i arg2 harg2 arg3 harg3 arg4 harg4 arg5 harg5 arg6 harg6 arg7 harg7 arg8 harg8 x0 x1 x2 x3 x4 x5 x6)
        (wA arg9 harg9 x7)) y := by
  unfold out0_A_16
  refine View.read_writes_apply_of_pieces VO0_16 _ (gate (wide (hid i arg2 harg2 arg3 harg3 arg4 harg4 arg5 harg5 arg6 harg6 arg7 harg7 arg8 harg8 x0 x1 x2 x3 x4 x5 x6)
        (wA arg9 harg9 x7))) _ ?_ y
    (cover0_A_16
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).2.2.2.1]
  exact whole_agrees 256 512 _ _

theorem out_inputs (y : S1x32x16x256.Idx) :
    out0_A_17
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = inputAt (wide (hid i arg2 harg2 arg3 harg3 arg4 harg4 arg5 harg5 arg6 harg6 arg7 harg7 arg8 harg8 x0 x1 x2 x3 x4 x5 x6)
        (wU arg9 harg9 x7)) y := by
  unfold out0_A_17
  refine View.read_writes_apply_of_pieces VO0_17 _ (inputAt (wide (hid i arg2 harg2 arg3 harg3 arg4 harg4 arg5 harg5 arg6 harg6 arg7 harg7 arg8 harg8 x0 x1 x2 x3 x4 x5 x6)
        (wU arg9 harg9 x7))) _ ?_ y
    (cover0_A_17
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).2.2.2.2.1]
  exact uPieces_agree _ _ _

theorem out_gate_s (y : S1x256x512.Idx) :
    out0_A_18
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y
      = gate (wide (hid i arg2 harg2 arg3 harg3 arg4 harg4 arg5 harg5 arg6 harg6 arg7 harg7 arg8 harg8 x0 x1 x2 x3 x4 x5 x6)
        (wS arg9 harg9 x7)) y := by
  unfold out0_A_18
  refine View.read_writes_apply_of_pieces VO0_18 _ (gate (wide (hid i arg2 harg2 arg3 harg3 arg4 harg4 arg5 harg5 arg6 harg6 arg7 harg7 arg8 harg8 x0 x1 x2 x3 x4 x5 x6)
        (wS arg9 harg9 x7))) _ ?_ y
    (cover0_A_18
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12 y)
  rw [(run_pieces
        c i arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 x0 x1 x2 x3 x4 x5 x6 x7 x8
        x9 x10 x11 x12).2.2.2.2.2]
  exact whole_agrees 256 512 _ _

end

end Cert.Kernel3Ideal.Inproj

end
-- ==== Proof.Inproj.Host.lean ====
/- What the input projection's operands hold, read at an index. -/
module

public import proofs.«01_k».proof.Proof.Gen.Kernel3Ideal.Frame.Runs
public import proofs.«01_k».proof.Proof.Inproj.Spec
public import Idealize.ShloMosaic.Lib.Pointwise
public import Idealize.ShloMosaic.Lib.StableHlo.Run
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem Cert.Kernel3Ideal Cert.Kernel3Ideal.Gen Cert.InRow

/-- A column's head. -/
def heads : IVec S512 32 :=
  let x : IVec S512 32 := iotaInDim S512 32 0
  let k : IVec S512 32 := broadcastInDim S512 ![] bcast_S_S512 (constantI S_ 32 64#32)
  select (andi (cmpi .ne (signi x) (broadcastInDim S512 ![] bcast_S_S512 (signi (constantI S_ 32 64#32))))
    (cmpi .ne (Host.remsi x k) (broadcastInDim S512 ![] bcast_S_S512 (constantI S_ 32 0#32))))
    (subi (Host.divsi x k) (broadcastInDim S512 ![] bcast_S_S512 (constantI S_ 32 1#32))) (Host.divsi x k)

/-- A token's row. -/
def rowsOf : IVec S8192 32 :=
  let x : IVec S8192 32 := iotaInDim S8192 32 0
  let k : IVec S8192 32 := broadcastInDim S8192 ![] bcast_S_S8192 (constantI S_ 32 64#32)
  select (andi (cmpi .ne (signi x) (broadcastInDim S8192 ![] bcast_S_S8192 (signi (constantI S_ 32 64#32))))
    (cmpi .ne (Host.remsi x k) (broadcastInDim S8192 ![] bcast_S_S8192 (constantI S_ 32 0#32))))
    (subi (Host.divsi x k) (broadcastInDim S8192 ![] bcast_S_S8192 (constantI S_ 32 1#32))) (Host.divsi x k)

/-- A token's column. -/
def colsOf : IVec S8192 32 :=
  let x : IVec S8192 32 := iotaInDim S8192 32 0
  let z : IVec S8192 32 := broadcastInDim S8192 ![] bcast_S_S8192 (constantI S_ 32 0#32)
  let d : IVec S_ 32 := select (cmpi .eq (constantI S_ 32 64#32) (constantI S_ 32 0#32)) (constantI S_ 32 1#32) (constantI S_ 32 64#32)
  let k : IVec S8192 32 := broadcastInDim S8192 ![] bcast_S_S8192 d
  let r : IVec S8192 32 := Host.remsi x k
  select (andi (cmpi .ne (cmpi .slt r z) (broadcastInDim S8192 ![] bcast_S_S8192 (cmpi .slt d (constantI S_ 32 0#32)))) (cmpi .ne r z)) (addi r k) r

section
variable {F : FTy → Type} [FloatOps F] [Named F]

/-- The block diagonal of the heads' means. -/
def means : FVec F S512x512 .bf16 :=
  mulf (uitofp .bf16 (cmpi .eq (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads))))
    (broadcastInDim S512x512 ![] bcast_S_S512x512 (constant S_ .bf16 0x3C80#16))

/-- The queries' gains, head by head. -/
def gains8 (g : FVec F S64 .f32) : FVec F S1x512 .f32 :=
  shapeCast S1x512 (shapeCast S512 (broadcastInDim S8x64 ![0, 1] bcast_S1x64_S8x64_0_1 (shapeCast S1x64 g shapeCasts_S64_S1x64)) shapeCasts_S8x64_S512)
    shapeCasts_S512_S1x512

/-- The keys' gains, head by head. -/
def gains2 (g : FVec F S64 .f32) : FVec F S1x128 .f32 :=
  shapeCast S1x128 (shapeCast S128 (broadcastInDim S2x64 ![0, 1] bcast_S1x64_S2x64_0_1 (shapeCast S1x64 g shapeCasts_S64_S1x64)) shapeCasts_S2x64_S128)
    shapeCasts_S128_S1x128

/-- The frequencies. -/
def freqs : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Positions times frequencies. -/
def angles (p : IVec S8192 32) : FVec F S8192x16 .f32 :=
  mulf (broadcastInDim S8192x16 ![0, 1] bcast_S8192x1_S8192x16_0_1 (broadcastInDim S8192x1 ![0] bcast_S8192_S8192x1_0 (sitofp .f32 p)))
    (broadcastInDim S8192x16 ![0, 1] bcast_S1x16_S8192x16_0_1 (broadcastInDim S1x16 ![1] bcast_S16_S1x16_1 freqs))

/-- Four blocks of sixteen side by side. -/
def four (a b c d : FVec F S8192x16 .f32) : FVec F S8192x64 .f32 :=
  concatenate S8192x64 1 [⟨S8192x16, a⟩, ⟨S8192x16, b⟩, ⟨S8192x16, c⟩, ⟨S8192x16, d⟩] concatenates_S8192x16_S8192x16_S8192x16_S8192x16_S8192x64_d1

/-- A table for two heads, the context's rows before it. -/
def tall (z : BitVec 32) (t : FVec F S8192x64 .f32) : FVec F S8448x128 .f32 :=
  shapeCast S8448x128 (broadcastInDim S1x8448x2x64 ![0, 1, 2, 3] bcast_S1x8448x1x64_S1x8448x2x64_0_1_2_3
    (shapeCast S1x8448x1x64 (concatenate S8448x64 0 [⟨S256x64, broadcastInDim S256x64 ![] bcast_S_S256x64 (constant S_ .f32 z)⟩, ⟨S8192x64, t⟩]
      concatenates_S256x64_S8192x64_S8448x64_d0) shapeCasts_S8448x64_S1x8448x1x64)) shapeCasts_S1x8448x2x64_S8448x128

/-- The cosines. -/
def cosines : FVec F S8448x128 .f32 :=
  tall 0x3F800000#32 (four (Host.cos (angles rowsOf)) (Host.cos (angles rowsOf)) (Host.cos (angles colsOf)) (Host.cos (angles colsOf)))

/-- The sines, signed. -/
def sines : FVec F S8448x128 .f32 :=
  tall 0x00000000#32 (four (Host.negf (Host.sin (angles rowsOf))) (Host.sin (angles rowsOf)) (Host.negf (Host.sin (angles colsOf))) (Host.sin (angles colsOf)))

variable (m : (ℓ : Loc nD τ sig) → Buf (Elt F) ℓ) (c : Dev nD)

theorem V_means : V m c main_v9 = means := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_gains8 : V m c main_v13 = gains8 (m ((c : Thread nD τ).loc main_arg8)) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_gains2 : V m c main_v17 = gains2 (m ((c : Thread nD τ).loc main_arg9)) := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
theorem V_cosines : V m c main_v55 = cosines := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
theorem V_sines : V m c main_v58 = sines := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_shift_l : V m c main_v59 = shapeCast S2x1x1024 (m ((c : Thread nD τ).loc main_arg2)) shapeCasts_S2x1024_S2x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_scale_l : V m c main_v60 = shapeCast S2x1x1024 (m ((c : Thread nD τ).loc main_arg3)) shapeCasts_S2x1024_S2x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_shift_c : V m c main_v61 = shapeCast S1x1x1024 (m ((c : Thread nD τ).loc main_arg4)) shapeCasts_S1024_S1x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_scale_c : V m c main_v62 = shapeCast S1x1x1024 (m ((c : Thread nD τ).loc main_arg5)) shapeCasts_S1024_S1x1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_gain : V m c main_v63 = shapeCast S1x1024 (m ((c : Thread nD τ).loc main_arg6)) shapeCasts_S1024_S1x1024 := by
  unfold_abbrev_sides
  simp only [hostOps0, hostOps0_1, hostOps0_2, hostOps0_3, hostOps0_4, hostOps0_5, hostOps0_6, List.flatten_cons, List.flatten_nil, List.append_nil, List.cons_append, List.nil_append]
  after_results
  rfl

theorem V_weights : V m c main_v64 = truncf (F := F) .bf16 (m ((c : Thread nD τ).loc main_arg7)) bitsLt_bf16_f32 := by
  unfold_abbrev_sides
  simp only [hostOps0, hostOps0_1, hostOps0_2, hostOps0_3, hostOps0_4, hostOps0_5, hostOps0_6, List.flatten_cons, List.flatten_nil, List.append_nil, List.cons_append, List.nil_append]
  after_results

end

end Cert.Kernel3Ideal.Inproj

end
-- ==== Proof.Inproj.Tables.lean ====
/- The input projection's prepared operands, read at an index: the means' block diagonal, the gains, and the tables of cosines and sines. -/
module

public import proofs.«01_k».proof.Proof.Inproj.Host

@[expose] public section

set_option maxRecDepth 16384

noncomputable section

namespace Cert.Kernel3Ideal.Inproj

open Idealize.ShloMosaic Cert.Kernel3Ideal Cert.Kernel3Ideal.Gen Cert.InRow

theorem heads_apply : ∀ e : Fin 512, heads (ix1 e) = BitVec.ofNat 32 (e.val / 64) := by
  decide +kernel

theorem rowsOf_apply : ∀ t : Fin 8192, rowsOf (ix1 t) = BitVec.ofNat 32 (t.val / 64) := by
  decide +kernel

theorem colsOf_apply : ∀ t : Fin 8192, colsOf (ix1 t) = BitVec.ofNat 32 (t.val % 64) := by
  decide +kernel

theorem sixtyfourth : Ideal.ofBits .bf16 0x3C80#16 = (((1 : ℝ) / 64 : ℝ) : EReal) := by
  simp [Ideal.ofBits, Ideal.ieee, -EReal.coe_mul]; norm_num

theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem means_apply (k e : Fin 512) : means (F := Ideal) (ix2 k e) = if k.val / 64 = e.val / 64 then (((1 : ℝ) / 64 : ℝ) : EReal) else 0 := by
  pointwise [means]
  rw [heads_apply, heads_apply, sixtyfourth]
  by_cases h : k.val / 64 = e.val / 64
  · rw [if_pos h, h]
    simp [IntOp.cmpi, FloatOps.uitofp]
  · have hb : (BitVec.ofNat 32 (k.val / 64) == BitVec.ofNat 32 (e.val / 64)) = false := by
      rw [beq_eq_false_iff_ne]
      intro e'
      have := congrArg BitVec.toNat e'
      simp at this
      omega
    rw [if_neg h]
    simp [IntOp.cmpi, hb, FloatOps.uitofp]

theorem gains8_apply (g : FVec Ideal S64 .f32) (e : Fin 512) : gains8 g (ix2 0 e) = g (ix1 ⟨e.val % 64, by omega⟩) := by
  pointwise [gains8]

theorem gains2_apply (g : FVec Ideal S64 .f32) (e : Fin 128) : gains2 g (ix2 0 e) = g (ix1 ⟨e.val % 64, by omega⟩) := by
  pointwise [gains2]

theorem freqs_apply (f : Fin 16) : freqs (F := Ideal) (ix1 f) = freq f := by
  pointwise [freqs]
  have e : FloatOps.sitofp (F := Ideal) .f32 (BitVec.ofNat 32 f.val) = ((f.val : ℝ) : EReal) := by
    show (((BitVec.ofNat 32 f.val).toInt : ℝ) : EReal) = _
    rw [toInt_small _ (by omega)]
    simp
  rw [e]
  rfl

theorem angles_apply (p : IVec S8192 32) (k : ℕ) (hk : k < 2 ^ 31) (t : Fin 8192) (hp : p (ix1 t) = BitVec.ofNat 32 k) (f : Fin 16) :
    angles (F := Ideal) p (ix2 t f) = ((k : ℝ) : EReal) * freq f := by
  pointwise [angles]
  have e : FloatOps.sitofp (F := Ideal) .f32 (BitVec.ofNat 32 k) = ((k : ℝ) : EReal) := by
    show (((BitVec.ofNat 32 k).toInt : ℝ) : EReal) = _
    rw [toInt_small _ hk]
    simp
  rw [hp, e, freqs_apply]

theorem four_apply (a b c d : FVec Ideal S8192x16 .f32) (t : Fin 8192) (l : Fin 64) : four a b c d (ix2 t l) =
    (if l.val < 32 then (if l.val % 32 < 16 then a else b) else if l.val % 32 < 16 then c else d) (ix2 t ⟨l.val % 16, by omega⟩) := by
  pointwise [four]
  have pull : ∀ {v w : FVec Ideal S8192x16 .f32} {l l' : Fin 16}, v = w → l.val = l'.val → v (ix2 t l) = w (ix2 t l') := by
    intro v w l l' hv hl
    rw [Fin.ext hl, hv]
  have hl := l.isLt
  split
  · exact pull (by rw [if_pos (by omega), if_pos (by omega)]) (by dsimp only; omega)
  split
  · exact pull (by rw [if_pos (by omega), if_neg (by omega)]) (by dsimp only; omega)
  split
  · exact pull (by rw [if_neg (by omega), if_pos (by omega)]) (by dsimp only; omega)
  · exact pull (by rw [if_neg (by omega), if_neg (by omega)]) (by dsimp only; omega)

theorem tall_apply (z : BitVec 32) (t : FVec Ideal S8192x64 .f32) (n : Fin 8448) (l : Fin 128) :
    tall z t (ix2 n l) = if h : n.val < 256 then Ideal.ofBits .f32 z else t (ix2 ⟨n.val - 256, by omega⟩ ⟨l.val % 64, by omega⟩) := by
  pointwise [tall]

theorem row_angle (t : Fin 8192) (f : Fin 16) (l : Fin 64) (hl : l.val < 32) (hf : f.val = l.val % 16) :
    angles (F := Ideal) rowsOf (ix2 t f) = angle t l := by
  rw [angles_apply rowsOf (t.val / 64) (by omega) t (rowsOf_apply t)]
  unfold angle
  rw [if_pos hl]
  exact congrArg (fun f => _ * freq f) (Fin.ext hf)

theorem col_angle (t : Fin 8192) (f : Fin 16) (l : Fin 64) (hl : ¬ l.val < 32) (hf : f.val = l.val % 16) :
    angles (F := Ideal) colsOf (ix2 t f) = angle t l := by
  rw [angles_apply colsOf (t.val % 64) (by omega) t (colsOf_apply t)]
  unfold angle
  rw [if_neg hl]
  exact congrArg (fun f => _ * freq f) (Fin.ext hf)

theorem cosines_apply (n : Fin 8448) (l : Fin 128) : cosines (F := Ideal) (ix2 n l)
    = if h : n.val < 256 then 1 else Ideal.cos (angle ⟨n.val - 256, by omega⟩ ⟨l.val % 64, Nat.mod_lt _ (by norm_num)⟩) := by
  unfold cosines
  rw [tall_apply]
  split
  · pointwise []
  rw [four_apply]
  dsimp only
  have r : ∀ t f l, l.val < 32 → f.val = l.val % 16 → Host.cos (angles (F := Ideal) rowsOf) (ix2 t f) = Ideal.cos (angle t l) := fun t f l hl hf => by
    pointwise []
    rw [row_angle t f l hl hf]
  have c : ∀ t f l, ¬ l.val < 32 → f.val = l.val % 16 → Host.cos (angles (F := Ideal) colsOf) (ix2 t f) = Ideal.cos (angle t l) := fun t f l hl hf => by
    pointwise []
    rw [col_angle t f l hl hf]
  split
  · split
    · exact r _ _ _ (by assumption) rfl
    · exact r _ _ _ (by assumption) rfl
  · split
    · exact c _ _ _ (by assumption) rfl
    · exact c _ _ _ (by assumption) rfl

theorem sines_apply (n : Fin 8448) (l : Fin 128) : sines (F := Ideal) (ix2 n l)
    = if h : n.val < 256 then 0
      else if l.val % 32 < 16 then -Ideal.sin (angle ⟨n.val - 256, by omega⟩ ⟨l.val % 64, Nat.mod_lt _ (by norm_num)⟩)
      else Ideal.sin (angle ⟨n.val - 256, by omega⟩ ⟨l.val % 64, Nat.mod_lt _ (by norm_num)⟩) := by
  unfold sines
  rw [tall_apply]
  split
  · pointwise []
  rw [four_apply]
  dsimp only
  have r : ∀ t f l, l.val < 32 → f.val = l.val % 16 → Host.sin (angles (F := Ideal) rowsOf) (ix2 t f) = Ideal.sin (angle t l) := fun t f l hl hf => by
    pointwise []
    rw [row_angle t f l hl hf]
  have c : ∀ t f l, ¬ l.val < 32 → f.val = l.val % 16 → Host.sin (angles (F := Ideal) colsOf) (ix2 t f) = Ideal.sin (angle t l) := fun t f l hl hf => by
    pointwise []
    rw [col_angle t f l hl hf]
  have hm : l.val % 64 % 32 = l.val % 32 := by omega
  rw [hm]
  split
  · split
    · exact congrArg (- ·) (r _ _ _ (by assumption) rfl)
    · exact r _ _ _ (by assumption) rfl
  · split
    · exact congrArg (- ·) (c _ _ _ (by assumption) rfl)
    · exact c _ _ _ (by assumption) rfl

end Cert.Kernel3Ideal.Inproj

end
-- ==== Proof.Inproj.Blocks.lean ====
/- The blocks that the input projection's windows cut of its operands. -/
module

public import proofs.«01_k».proof.Proof.Inproj.Tiles
public import proofs.«01_k».proof.Proof.Inproj.Host
public import proofs.«01_k».proof.Proof.Inproj.Tables
public import Idealize.ShloMosaic.Lib.Pipeline.ValueKit

@[expose] public section

set_option maxRecDepth 16384

noncomputable section

namespace Cert.Kernel3Ideal.Inproj

open Idealize.ShloMosaic Idealize.ShloMosaic.TcCoe Idealize.SL.Sem Cert.Kernel3Ideal Cert.Kernel3Ideal.Gen Cert.InRow

/-- Where each window's block lies: batch `t / 33`, row block `t % 33`, of which the first is the context. -/
theorem index0 : ∀ t : Fin cfg0.N, win0_0.index t = ![t.val / 33, t.val % 33 - 1, 0] :=
  (by decide +kernel : ∀ t : Fin grid0.N, win0_0.index t = ![t.val / 33, t.val % 33 - 1, 0])
theorem index1 : ∀ t : Fin cfg0.N, win0_1.index t = ![t.val / 33, 0, 0] :=
  (by decide +kernel : ∀ t : Fin grid0.N, win0_1.index t = ![t.val / 33, 0, 0])
theorem index2 : ∀ t : Fin cfg0.N, win0_2.index t = ![t.val / 33, 0, 0] :=
  (by decide +kernel : ∀ t : Fin grid0.N, win0_2.index t = ![t.val / 33, 0, 0])
theorem index3 : ∀ t : Fin cfg0.N, win0_3.index t = ![t.val / 33, 0, 0] :=
  (by decide +kernel : ∀ t : Fin grid0.N, win0_3.index t = ![t.val / 33, 0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![0, 0, 0] :=
  (by decide +kernel : ∀ t : Fin grid0.N, win0_5.index t = ![0, 0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![t.val % 33, 0] :=
  (by decide +kernel : ∀ t : Fin grid0.N, win0_10.index t = ![t.val % 33, 0])
theorem index11 : ∀ t : Fin cfg0.N, win0_11.index t = ![t.val % 33, 0] :=
  (by decide +kernel : ∀ t : Fin grid0.N, win0_11.index t = ![t.val % 33, 0])
theorem index12 : ∀ t : Fin cfg0.N, win0_12.index t = ![0, 0] :=
  (by decide +kernel : ∀ t : Fin grid0.N, win0_12.index t = ![0, 0])
theorem index13 : ∀ t : Fin cfg0.N, win0_13.index t = ![t.val / 33, 0, 0, t.val % 33 - 1] :=
  (by decide +kernel : ∀ t : Fin grid0.N, win0_13.index t = ![t.val / 33, 0, 0, t.val % 33 - 1])
theorem index14 : ∀ t : Fin cfg0.N, win0_14.index t = ![t.val / 33, t.val % 33, 0] :=
  (by decide +kernel : ∀ t : Fin grid0.N, win0_14.index t = ![t.val / 33, t.val % 33, 0])
theorem index15 : ∀ t : Fin cfg0.N, win0_15.index t = ![t.val / 33, 0, 0, t.val % 33] :=
  (by decide +kernel : ∀ t : Fin grid0.N, win0_15.index t = ![t.val / 33, 0, 0, t.val % 33])
theorem index16 : ∀ t : Fin cfg0.N, win0_16.index t = ![t.val / 33, t.val % 33 - 1, 0] :=
  (by decide +kernel : ∀ t : Fin grid0.N, win0_16.index t = ![t.val / 33, t.val % 33 - 1, 0])
theorem index17 : ∀ t : Fin cfg0.N, win0_17.index t = ![t.val / 33, 0, t.val % 33, 0] :=
  (by decide +kernel : ∀ t : Fin grid0.N, win0_17.index t = ![t.val / 33, 0, t.val % 33, 0])
theorem index18 : ∀ t : Fin cfg0.N, win0_18.index t = ![t.val / 33, t.val % 33 - 1, 0] :=
  (by decide +kernel : ∀ t : Fin grid0.N, win0_18.index t = ![t.val / 33, t.val % 33 - 1, 0])

/-- The first row block of a batch is the context's. -/
theorem context_point : ∀ t : Fin cfg0.N, isCtx (grid0.coords t) = if t.val % 33 = 0 then 1#1 else 0#1 :=
  (by decide +kernel : ∀ t : Fin grid0.N, isCtx (grid0.coords t) = if t.val % 33 = 0 then 1#1 else 0#1)

theorem lt_points (t : Fin cfg0.N) : t.val < 66 := lt_of_lt_of_eq t.isLt N_0

/-- A grid point's batch. -/
def batch (t : Fin cfg0.N) : Fin 2 := ⟨t.val / 33, by have := lt_points t; omega⟩

/-- A grid point's row `r`, of the context and the latent rows together. -/
def pos (t : Fin cfg0.N) (r : Fin 256) : Fin 8448 := ⟨t.val % 33 * 256 + r.val, by omega⟩

/-- A grid point's latent row `r`. -/
def row (t : Fin cfg0.N) (r : Fin 256) : Fin 8192 := ⟨(t.val % 33 - 1) * 256 + r.val, by omega⟩

variable (m : (ℓ : Loc nD τ sig) → Buf (Elt Ideal) ℓ) (c : Dev nD) (t : Fin cfg0.N)

theorem block0 (r : Fin 256) (k : Fin 1024) : iblk m c 0 t (ix3 0 r k) = m ((c : Thread nD τ).loc main_arg0) (ix3 (batch t) (row t r) k) := by
  rw [← V_main_arg0 m c]
  blk_ext [iblk, index0, batch, row]

theorem block1 (r : Fin 256) (k : Fin 1024) : iblk m c 1 t (ix3 0 r k) = m ((c : Thread nD τ).loc main_arg1) (ix3 (batch t) r k) := by
  rw [← V_main_arg1 m c]
  blk_ext [iblk, index1, batch]

theorem block2 (k : Fin 1024) : iblk m c 2 t (ix3 0 0 k) = m ((c : Thread nD τ).loc main_arg2) (ix2 (batch t) k) := by
  refine Eq.trans (b := V m c main_v59 (ix3 (batch t) 0 k)) ?_ ?_
  · blk_ext [iblk, index2, batch]
  · rw [V_shift_l]
    pointwise []

theorem block3 (k : Fin 1024) : iblk m c 3 t (ix3 0 0 k) = m ((c : Thread nD τ).loc main_arg3) (ix2 (batch t) k) := by
  refine Eq.trans (b := V m c main_v60 (ix3 (batch t) 0 k)) ?_ ?_
  · blk_ext [iblk, index3, batch]
  · rw [V_scale_l]
    pointwise []

theorem block4 (k : Fin 1024) : iblk m c 4 t (ix3 0 0 k) = m ((c : Thread nD τ).loc main_arg4) (ix1 k) := by
  refine Eq.trans (b := V m c main_v61 (ix3 0 0 k)) ?_ ?_
  · blk_ext [iblk, index4]
  · rw [V_shift_c]
    pointwise []

theorem block5 (k : Fin 1024) : iblk m c 5 t (ix3 0 0 k) = m ((c : Thread nD τ).loc main_arg5) (ix1 k) := by
  refine Eq.trans (b := V m c main_v62 (ix3 0 0 k)) ?_ ?_
  · blk_ext [iblk, index5]
  · rw [V_scale_c]
    pointwise []

theorem block6 (k : Fin 1024) : iblk m c 6 t (ix2 0 k) = m ((c : Thread nD τ).loc main_arg6) (ix1 k) := by
  refine Eq.trans (b := V m c main_v63 (ix2 0 k)) ?_ ?_
  · blk_ext [iblk, index6]
  · rw [V_gain]
    pointwise []

theorem block7 (k : Fin 1024) (j : Fin 2304) : iblk m c 7 t (ix2 k j) = m ((c : Thread nD τ).loc main_arg7) (ix2 k j) := by
  refine Eq.trans (b := V m c main_v64 (ix2 k j)) ?_ (by rw [V_weights]; rfl)
  blk_ext [iblk, index7]

theorem block8 (e : Fin 512) : iblk m c 8 t (ix2 0 e) = m ((c : Thread nD τ).loc main_arg8) (ix1 ⟨e.val % 64, by omega⟩) := by
  refine Eq.trans (b := V m c main_v13 (ix2 0 e)) ?_ (by rw [V_gains8]; exact gains8_apply _ _)
  blk_ext [iblk, index8]

theorem block9 (e : Fin 128) : iblk m c 9 t (ix2 0 e) = m ((c : Thread nD τ).loc main_arg9) (ix1 ⟨e.val % 64, by omega⟩) := by
  refine Eq.trans (b := V m c main_v17 (ix2 0 e)) ?_ (by rw [V_gains2]; exact gains2_apply _ _)
  blk_ext [iblk, index9]

theorem block10 (r : Fin 256) (l : Fin 128) : iblk m c 10 t (ix2 r l) = cosines (F := Ideal) (ix2 (pos t r) l) := by
  rw [← V_cosines m c]
  blk_ext [iblk, index10, pos]

theorem block11 (r : Fin 256) (l : Fin 128) : iblk m c 11 t (ix2 r l) = sines (F := Ideal) (ix2 (pos t r) l) := by
  rw [← V_sines m c]
  blk_ext [iblk, index11, pos]

theorem block12 (k e : Fin 512) : iblk m c 12 t (ix2 k e) = if k.val / 64 = e.val / 64 then (((1 : ℝ) / 64 : ℝ) : EReal) else 0 := by
  refine Eq.trans (b := V m c main_v9 (ix2 k e)) ?_ (by rw [V_means]; exact means_apply _ _)
  blk_ext [iblk, index12]

end Cert.Kernel3Ideal.Inproj

end
-- ==== Proof.Inproj.Point.lean ====
/- What a grid point of the input projection computes, in terms of the call's arguments. -/
module

public import proofs.«01_k».proof.Proof.Inproj.Tile
public import proofs.«01_k».proof.Proof.Inproj.Out
public import proofs.«01_k».proof.Proof.Inproj.Blocks

@[expose] public section

set_option maxRecDepth 16384

noncomputable section

namespace Cert.Kernel3Ideal.Inproj

open Idealize.ShloMosaic Idealize.ShloMosaic.TcCoe Idealize.SL.Sem Cert.Kernel3Ideal Cert.Kernel3Ideal.Gen Cert.InRow

variable (m : (ℓ : Loc nD τ sig) → Buf (Elt Ideal) ℓ) (c : Dev nD) (t : Fin cfg0.N)

/-- The projection's row `n` of a batch, from the call's arguments. -/
def proj (b : Fin 2) (n : Fin 8448) (j : Fin 2304) : EReal :=
  joint (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b n j

/-- A latent row of the projection. -/
def lat (b : Fin 2) (n : Fin 8192) (j : Fin 2304) : EReal :=
  latent (m ((c : Thread nD τ).loc main_arg0)) (m ((c : Thread nD τ).loc main_arg2)) (m ((c : Thread nD τ).loc main_arg3)) (m ((c : Thread nD τ).loc main_arg6)) (m ((c : Thread nD τ).loc main_arg7)) b n j

/-- The rows a grid point projects. -/
def rows : FVec Ideal S256x1024 .bf16 :=
  hid (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

theorem rows_apply (r : Fin 256) (k : Fin 1024) : rows m c t (ix2 r k) =
    if t.val % 33 = 0 then modulated (fun k => (m ((c : Thread nD τ).loc main_arg1)) (ix3 (batch t) r k)) (fun k => (m ((c : Thread nD τ).loc main_arg4)) (ix1 k)) (fun k => (m ((c : Thread nD τ).loc main_arg5)) (ix1 k)) (fun k => (m ((c : Thread nD τ).loc main_arg6)) (ix1 k)) k
    else modulated (fun k => (m ((c : Thread nD τ).loc main_arg0)) (ix3 (batch t) (row t r) k)) (fun k => (m ((c : Thread nD τ).loc main_arg2)) (ix2 (batch t) k)) (fun k => (m ((c : Thread nD τ).loc main_arg3)) (ix2 (batch t) k)) (fun k => (m ((c : Thread nD τ).loc main_arg6)) (ix1 k)) k := by
  have a0 := fun r k => (ld_apply (ms0_0 t) (hs0_0 t) (iblk m c 0 t) (Rect.unit (s := S1x256x1024) ![0, 0, 0] S1x256x1024.size inb_S1x256x1024_S1x256x1024_0_0_0).toLoadRect
    (ix3 0 r k) (ix3 0 r k) (by intro a; fin_cases a <;> simp)).trans (block0 m c t r k)
  have a1 := fun r k => (ld_apply (ms0_1 t) (hs0_1 t) (iblk m c 1 t) (Rect.unit (s := S1x256x1024) ![0, 0, 0] S1x256x1024.size inb_S1x256x1024_S1x256x1024_0_0_0).toLoadRect
    (ix3 0 r k) (ix3 0 r k) (by intro a; fin_cases a <;> simp)).trans (block1 m c t r k)
  have a2 := fun k => (ld_apply (ms0_2 t) (hs0_2 t) (iblk m c 2 t) (Rect.unit (s := S1x1x1024) ![0, 0, 0] S1x1x1024.size inb_S1x1x1024_S1x1x1024_0_0_0).toLoadRect
    (ix3 0 0 k) (ix3 0 0 k) (by intro a; fin_cases a <;> simp)).trans (block2 m c t k)
  have a3 := fun k => (ld_apply (ms0_3 t) (hs0_3 t) (iblk m c 3 t) (Rect.unit (s := S1x1x1024) ![0, 0, 0] S1x1x1024.size inb_S1x1x1024_S1x1x1024_0_0_0).toLoadRect
    (ix3 0 0 k) (ix3 0 0 k) (by intro a; fin_cases a <;> simp)).trans (block3 m c t k)
  have a4 := fun k => (ld_apply (ms0_4 t) (hs0_4 t) (iblk m c 4 t) (Rect.unit (s := S1x1x1024) ![0, 0, 0] S1x1x1024.size inb_S1x1x1024_S1x1x1024_0_0_0).toLoadRect
    (ix3 0 0 k) (ix3 0 0 k) (by intro a; fin_cases a <;> simp)).trans (block4 m c t k)
  have a5 := fun k => (ld_apply (ms0_5 t) (hs0_5 t) (iblk m c 5 t) (Rect.unit (s := S1x1x1024) ![0, 0, 0] S1x1x1024.size inb_S1x1x1024_S1x1x1024_0_0_0).toLoadRect
    (ix3 0 0 k) (ix3 0 0 k) (by intro a; fin_cases a <;> simp)).trans (block5 m c t k)
  have a6 := fun k => (ld_apply (ms0_6 t) (hs0_6 t) (iblk m c 6 t) (Rect.unit (s := S1x1024) ![0, 0] S1x1024.size inb_S1x1024_S1x1024_0_0).toLoadRect
    (ix2 0 k) (ix2 0 k) (by intro a; fin_cases a <;> simp)).trans (block6 m c t k)
  have g := context_point t
  unfold rows hid
  by_cases h : t.val % 33 = 0
  · rw [if_pos h] at g ⊢
    rw [hidden_ctx _ g]
    simp only [a1, a4, a5, a6]
  · rw [if_neg h] at g ⊢
    rw [hidden_lat _ g]
    simp only [a0, a2, a3, a6]

theorem lat_proj (h : t.val % 33 ≠ 0) (r : Fin 256) (j : Fin 2304) : proj m c (batch t) (pos t r) j = lat m c (batch t) (row t r) j := by
  unfold proj joint lat
  have hp : ¬ (pos t r).val < 256 := by unfold pos; dsimp only; omega
  rw [dif_neg hp]
  congr 1
  exact Fin.ext (by unfold pos row; dsimp only; omega)

theorem rows_proj (r : Fin 256) (j : Fin 2304) : ∑ k : Fin 1024, rows m c t (ix2 r k) * iblk m c 7 t (ix2 k j) = proj m c (batch t) (pos t r) j := by
  by_cases h : t.val % 33 = 0
  · have hp : (pos t r).val < 256 := by unfold pos; dsimp only; omega
    unfold proj joint context
    rw [dif_pos hp]
    refine Finset.sum_congr rfl fun k _ => ?_
    rw [rows_apply, if_pos h, block7]
    have e : (⟨(pos t r).val, hp⟩ : Fin 256) = r := Fin.ext (by unfold pos; dsimp only; omega)
    rw [e]
  · rw [lat_proj m c t h]
    unfold lat latent
    refine Finset.sum_congr rfl fun k _ => ?_
    rw [rows_apply, if_neg h, block7]

/-- The point's tables and gains, loaded. -/
theorem cos_apply (r : Fin 256) (l : Fin 128) : table (ms0_10 t) (hs0_10 t) (iblk m c 10 t) (ix2 r l) = cosines (F := Ideal) (ix2 (pos t r) l) :=
  (ld_apply (ms0_10 t) (hs0_10 t) (iblk m c 10 t)
    (Rect.unit (s := S256x128) ![0, 0] S256x128.size inb_S256x128_S256x128_0_0).toLoadRect
    (ix2 r l) (ix2 r l) (by intro a; fin_cases a <;> simp)).trans (block10 m c t r l)

theorem sin_apply (r : Fin 256) (l : Fin 128) : table (ms0_11 t) (hs0_11 t) (iblk m c 11 t) (ix2 r l) = sines (F := Ideal) (ix2 (pos t r) l) :=
  (ld_apply (ms0_11 t) (hs0_11 t) (iblk m c 11 t)
    (Rect.unit (s := S256x128) ![0, 0] S256x128.size inb_S256x128_S256x128_0_0).toLoadRect
    (ix2 r l) (ix2 r l) (by intro a; fin_cases a <;> simp)).trans (block11 m c t r l)

theorem gQ_apply (e : Fin 512) : gQ (ms0_8 t) (hs0_8 t) (iblk m c 8 t) (ix2 0 e) = m ((c : Thread nD τ).loc main_arg8) (ix1 ⟨e.val % 64, by omega⟩) :=
  (ld_apply (ms0_8 t) (hs0_8 t) (iblk m c 8 t)
    (Rect.unit (s := S1x512) ![0, 0] S1x512.size inb_S1x512_S1x512_0_0).toLoadRect
    (ix2 0 e) (ix2 0 e) (by intro a; fin_cases a <;> simp)).trans (block8 m c t e)

theorem gK_apply (e : Fin 128) : gK (ms0_9 t) (hs0_9 t) (iblk m c 9 t) (ix2 0 e) = m ((c : Thread nD τ).loc main_arg9) (ix1 ⟨e.val % 64, by omega⟩) :=
  (ld_apply (ms0_9 t) (hs0_9 t) (iblk m c 9 t)
    (Rect.unit (s := S1x128) ![0, 0] S1x128.size inb_S1x128_S1x128_0_0).toLoadRect
    (ix2 0 e) (ix2 0 e) (by intro a; fin_cases a <;> simp)).trans (block9 m c t e)

theorem meanQ_apply (k e : Fin 512) : meanQ (ms0_12 t) (hs0_12 t) (iblk m c 12 t) (ix2 k e) = if k.val / 64 = e.val / 64 then (((1 : ℝ) / 64 : ℝ) : EReal) else 0 :=
  (ld_apply (ms0_12 t) (hs0_12 t) (iblk m c 12 t)
    (Rect.unit (s := S512x512) ![0, 0] S512x512.size inb_S512x512_S512x512_0_0).toLoadRect
    (ix2 k e) (ix2 k e) (by intro a; fin_cases a <;> simp)).trans (block12 m c t k e)

theorem meanK_apply (k e : Fin 128) : meanK (ms0_12 t) (hs0_12 t) (iblk m c 12 t) (ix2 k e) = if k.val / 64 = e.val / 64 then (((1 : ℝ) / 64 : ℝ) : EReal) else 0 :=
  (ld_apply (ms0_12 t) (hs0_12 t) (iblk m c 12 t)
    (Rect.unit (s := S512x512) ![0, 0] S128x128.size inb_S512x512_S128x128_0_0).toLoadRect
    (ix2 k e) (ix2 (⟨k.val, by omega⟩ : Fin 512) (⟨e.val, by omega⟩ : Fin 512))
    (by intro a; fin_cases a <;> simp)).trans (block12 m c t _ _)

theorem wQ_apply (r : Fin 256) (e : Fin 512) : wide (rows m c t) (wQ (ms0_7 t) (hs0_7 t) (iblk m c 7 t)) (ix2 r e) = proj m c (batch t) (pos t r) ⟨0 + e.val, by omega⟩ :=
  wide_cols (rows m c t) (ms0_7 t) (hs0_7 t) (iblk m c 7 t) (fun r j => proj m c (batch t) (pos t r) j) (rows_proj m c t) 0 (by norm_num) _ r e

theorem wK_apply (r : Fin 256) (e : Fin 128) : narrow (rows m c t) (wK (ms0_7 t) (hs0_7 t) (iblk m c 7 t)) (ix2 r e) = proj m c (batch t) (pos t r) ⟨512 + e.val, by omega⟩ :=
  narrow_cols (rows m c t) (ms0_7 t) (hs0_7 t) (iblk m c 7 t) (fun r j => proj m c (batch t) (pos t r) j) (rows_proj m c t) 512 (by norm_num) _ r e

theorem wV_apply (r : Fin 256) (e : Fin 128) : narrow (rows m c t) (wV (ms0_7 t) (hs0_7 t) (iblk m c 7 t)) (ix2 r e) = proj m c (batch t) (pos t r) ⟨640 + e.val, by omega⟩ :=
  narrow_cols (rows m c t) (ms0_7 t) (hs0_7 t) (iblk m c 7 t) (fun r j => proj m c (batch t) (pos t r) j) (rows_proj m c t) 640 (by norm_num) _ r e

theorem wA_apply (r : Fin 256) (e : Fin 512) : wide (rows m c t) (wA (ms0_7 t) (hs0_7 t) (iblk m c 7 t)) (ix2 r e) = proj m c (batch t) (pos t r) ⟨768 + e.val, by omega⟩ :=
  wide_cols (rows m c t) (ms0_7 t) (hs0_7 t) (iblk m c 7 t) (fun r j => proj m c (batch t) (pos t r) j) (rows_proj m c t) 768 (by norm_num) _ r e

theorem wU_apply (r : Fin 256) (e : Fin 512) : wide (rows m c t) (wU (ms0_7 t) (hs0_7 t) (iblk m c 7 t)) (ix2 r e) = proj m c (batch t) (pos t r) ⟨1280 + e.val, by omega⟩ :=
  wide_cols (rows m c t) (ms0_7 t) (hs0_7 t) (iblk m c 7 t) (fun r j => proj m c (batch t) (pos t r) j) (rows_proj m c t) 1280 (by norm_num) _ r e

theorem wS_apply (r : Fin 256) (e : Fin 512) : wide (rows m c t) (wS (ms0_7 t) (hs0_7 t) (iblk m c 7 t)) (ix2 r e) = proj m c (batch t) (pos t r) ⟨1792 + e.val, by omega⟩ :=
  wide_cols (rows m c t) (ms0_7 t) (hs0_7 t) (iblk m c 7 t) (fun r j => proj m c (batch t) (pos t r) j) (rows_proj m c t) 1792 (by norm_num) _ r e

/-- The point's cosines and sines at a latent row. -/
theorem cos_lat (h : t.val % 33 ≠ 0) (r : Fin 256) (l : Fin 128) :
    table (ms0_10 t) (hs0_10 t) (iblk m c 10 t) (ix2 r l) = Ideal.cos (angle (row t r) ⟨l.val % 64, Nat.mod_lt _ (by norm_num)⟩) := by
  have hp : ¬ (pos t r).val < 256 := by unfold pos; dsimp only; omega
  have e : (⟨(pos t r).val - 256, by omega⟩ : Fin 8192) = row t r := Fin.ext (by unfold pos row; dsimp only; omega)
  rw [cos_apply, cosines_apply, dif_neg hp, e]

theorem sin_lat (h : t.val % 33 ≠ 0) (r : Fin 256) (l : Fin 128) :
    table (ms0_11 t) (hs0_11 t) (iblk m c 11 t) (ix2 r l)
      = if l.val % 32 < 16 then -Ideal.sin (angle (row t r) ⟨l.val % 64, Nat.mod_lt _ (by norm_num)⟩)
        else Ideal.sin (angle (row t r) ⟨l.val % 64, Nat.mod_lt _ (by norm_num)⟩) := by
  have hp : ¬ (pos t r).val < 256 := by unfold pos; dsimp only; omega
  have e : (⟨(pos t r).val - 256, by omega⟩ : Fin 8192) = row t r := Fin.ext (by unfold pos row; dsimp only; omega)
  rw [sin_apply, sines_apply, dif_neg hp, e]

/-- A head of the queries, normalized. -/
def headQ (b : Fin 2) (n : Fin 8448) (g : ℕ) : Fin 64 → EReal :=
  normed (fun d => if h : g < 8 then proj m c b n ⟨64 * g + d.val, by omega⟩ else 0) (fun d => m ((c : Thread nD τ).loc main_arg8) (ix1 d))

/-- A head of the keys, normalized. -/
def headK (b : Fin 2) (n : Fin 8448) (g : ℕ) : Fin 64 → EReal :=
  normed (fun d => if h : g < 2 then proj m c b n ⟨512 + 64 * g + d.val, by omega⟩ else 0) (fun d => m ((c : Thread nD τ).loc main_arg9) (ix1 d))

theorem normedQ_point (r : Fin 256) (e : Fin 512) :
    normedQ (wide (rows m c t) (wQ (ms0_7 t) (hs0_7 t) (iblk m c 7 t))) (meanQ (ms0_12 t) (hs0_12 t) (iblk m c 12 t))
        (gQ (ms0_8 t) (hs0_8 t) (iblk m c 8 t)) (ix2 r e)
      = headQ m c (batch t) (pos t r) (e.val / 64) ⟨e.val % 64, Nat.mod_lt _ (by norm_num)⟩ := by
  rw [normedQ_heads (fun d => m ((c : Thread nD τ).loc main_arg8) (ix1 d)) _ _ _ (meanQ_apply m c t) (gQ_apply m c t)]
  unfold headQ
  refine congrArg (fun z => normed z _ _) (funext fun d => ?_)
  rw [dif_pos (by omega : e.val / 64 < 8), wQ_apply]
  exact congrArg _ (Fin.ext (Nat.zero_add _))

theorem normedK_point (r : Fin 256) (e : Fin 128) :
    normedK (narrow (rows m c t) (wK (ms0_7 t) (hs0_7 t) (iblk m c 7 t))) (meanK (ms0_12 t) (hs0_12 t) (iblk m c 12 t))
        (gK (ms0_9 t) (hs0_9 t) (iblk m c 9 t)) (ix2 r e)
      = headK m c (batch t) (pos t r) (e.val / 64) ⟨e.val % 64, Nat.mod_lt _ (by norm_num)⟩ := by
  rw [normedK_heads (fun d => m ((c : Thread nD τ).loc main_arg9) (ix1 d)) _ _ _ (meanK_apply m c t) (gK_apply m c t)]
  unfold headK
  refine congrArg (fun z => normed z _ _) (funext fun d => ?_)
  rw [dif_pos (by omega : e.val / 64 < 2), wK_apply]
  exact congrArg _ (Fin.ext (Nat.add_assoc _ _ _).symm)

/-- The point's queries. -/
theorem queries_point (h : t.val % 33 ≠ 0) (r : Fin 256) (e : Fin 512) :
    queries (normedQ (wide (rows m c t) (wQ (ms0_7 t) (hs0_7 t) (iblk m c 7 t))) (meanQ (ms0_12 t) (hs0_12 t) (iblk m c 12 t))
        (gQ (ms0_8 t) (hs0_8 t) (iblk m c 8 t))) (table (ms0_10 t) (hs0_10 t) (iblk m c 10 t)) (table (ms0_11 t) (hs0_11 t) (iblk m c 11 t)) (ix2 r e)
      = rotated (headQ m c (batch t) (pos t r) (e.val / 64)) (row t r) ⟨e.val % 64, Nat.mod_lt _ (by norm_num)⟩ * ((8⁻¹ * (Real.log 2)⁻¹ : ℝ) : EReal) := by
  rw [queries_apply]
  exact congrArg (· * _) (turnedAt_lat _ _ _ r (row t r) (headQ m c (batch t) (pos t r)) (normedQ_point m c t r) (cos_lat m c t h r) (sin_lat m c t h r) e)

/-- The point's keys. -/
theorem keys_point (r : Fin 256) (l : Fin 128) :
    keys (narrow (rows m c t) (wK (ms0_7 t) (hs0_7 t) (iblk m c 7 t))) (meanK (ms0_12 t) (hs0_12 t) (iblk m c 12 t))
        (gK (ms0_9 t) (hs0_9 t) (iblk m c 9 t)) (table (ms0_10 t) (hs0_10 t) (iblk m c 10 t)) (table (ms0_11 t) (hs0_11 t) (iblk m c 11 t)) (ix3 0 r l)
      = if t.val % 33 = 0 then headK m c (batch t) (pos t r) (l.val / 64) ⟨l.val % 64, Nat.mod_lt _ (by norm_num)⟩
        else rotated (headK m c (batch t) (pos t r) (l.val / 64)) (row t r) ⟨l.val % 64, Nat.mod_lt _ (by norm_num)⟩ := by
  rw [keys_apply]
  by_cases h : t.val % 33 = 0
  · have hp : (pos t r).val < 256 := by unfold pos; dsimp only; omega
    rw [if_pos h, turned_ctx _ _ _ r l (by rw [cos_apply, cosines_apply, dif_pos hp]) (by rw [sin_apply, sines_apply, dif_pos hp]), normedK_point]
  · rw [if_neg h]
    exact turned_lat _ _ _ r (row t r) (headK m c (batch t) (pos t r)) (normedK_point m c t r) (cos_lat m c t h r) (sin_lat m c t h r) l

end Cert.Kernel3Ideal.Inproj

end
-- ==== Proof.Inproj.Result.lean ====
/- The input projection's six result arrays. -/
module

public import proofs.«01_k».proof.Proof.Inproj.Point
public import proofs.«01_k».proof.Proof.Gen.Kernel3Ideal.Value

@[expose] public section

set_option maxRecDepth 16384

noncomputable section

namespace Cert.Kernel3Ideal.Inproj

open Idealize.ShloMosaic Idealize.ShloMosaic.TcCoe Idealize.SL.Sem Cert.Kernel3Ideal Cert.Kernel3Ideal.Gen Cert.InRow

/-- The first row block writes back nothing of the latent results. -/
theorem flush13 : ∀ t : Fin cfg0.N, (cfg0.win 13).flush t = true → t.val % 33 ≠ 0 :=
  (by decide +kernel : ∀ t : Fin grid0.N, win0_13.flush t = true → t.val % 33 ≠ 0)
theorem flush16 : ∀ t : Fin cfg0.N, (cfg0.win 16).flush t = true → t.val % 33 ≠ 0 :=
  (by decide +kernel : ∀ t : Fin grid0.N, win0_16.flush t = true → t.val % 33 ≠ 0)
theorem flush18 : ∀ t : Fin cfg0.N, (cfg0.win 18).flush t = true → t.val % 33 ≠ 0 :=
  (by decide +kernel : ∀ t : Fin grid0.N, win0_18.flush t = true → t.val % 33 ≠ 0)

variable (m : (ℓ : Loc nD τ sig) → Buf (Elt Ideal) ℓ) (c : Dev nD)

theorem result_queries : (dats m 0 c).arrAt 13 cfg0.N = InRow.queries (m ((c : Thread nD τ).loc main_arg0)) (m ((c : Thread nD τ).loc main_arg2)) (m ((c : Thread nD τ).loc main_arg3)) (m ((c : Thread nD τ).loc main_arg6))
    (m ((c : Thread nD τ).loc main_arg7)) (m ((c : Thread nD τ).loc main_arg8)) := by
  refine (dats m 0 c).arrAt_eq_of_covers 13 _ (by decide +kernel) fun t hf y => ?_
  blk_simp
  rw [after0_13]
  unfold outsAt0
  dsimp only
  rw [out_queries]
  have e0 : (((win0_13.blk t).view.emb y) 0 : Fin 2) = batch t := Fin.ext (by blk_simp [index13, batch, pos, row])
  have e1 : (((win0_13.blk t).view.emb y) 1 : Fin 8) = y 1 := Fin.ext (by blk_simp [index13, batch, pos, row])
  have e2 : (((win0_13.blk t).view.emb y) 2 : Fin 128) = y 2 := Fin.ext (by blk_simp [index13, batch, pos, row])
  have e3 : (((win0_13.blk t).view.emb y) 3 : Fin 8192) = row t (y 3) := Fin.ext (by blk_simp [index13, batch, pos, row])
  unfold queryAt InRow.queries
  simp only [e0, e1, e2, e3]
  refine if_congr Iff.rfl ?_ rfl
  refine (queries_point m c t (flush13 t hf) _ _).trans ?_
  have f1 : (64 * (y 1 : Fin 8).val + (y 2 : Fin 128).val % 64) / 64 = (y 1 : Fin 8).val := by omega
  have f2 : (64 * (y 1 : Fin 8).val + (y 2 : Fin 128).val % 64) % 64 = (y 2 : Fin 128).val % 64 := by omega
  have f3 : (y 1 : Fin 8).val < 8 := (y 1 : Fin 8).isLt
  simp only [f1, f2]
  refine congrArg (fun z => rotated (normed z _) _ _ * _) (funext fun d => ?_)
  rw [dif_pos f3]
  exact lat_proj m c t (flush13 t hf) _ _

theorem result_keys : (dats m 0 c).arrAt 14 cfg0.N = InRow.keys (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg9)) := by
  refine (dats m 0 c).arrAt_eq_of_covers 14 _ (by decide +kernel) fun t hf y => ?_
  blk_simp
  rw [after0_14]
  unfold outsAt0
  dsimp only
  rw [out_keys]
  have e0 : (((win0_14.blk t).view.emb y) 0 : Fin 2) = batch t := Fin.ext (by blk_simp [index14, batch, pos, row])
  have e1 : (((win0_14.blk t).view.emb y) 1 : Fin 8448) = pos t (y 1) := Fin.ext (by blk_simp [index14, batch, pos, row])
  have e2 : (((win0_14.blk t).view.emb y) 2 : Fin 128) = y 2 := Fin.ext (by blk_simp [index14, batch, pos, row])
  obtain ⟨z, r, l, rfl⟩ : ∃ (z : Fin 1) (r : Fin 256) (l : Fin 128), y = ix3 z r l := ⟨y 0, y 1, y 2, (ix3_eta y).symm⟩
  obtain rfl : z = 0 := Subsingleton.elim _ _
  refine (keys_point m c t r l).trans ?_
  unfold InRow.keys
  simp only [e0, e1, e2]
  have f3 : l.val / 64 < 2 := by omega
  unfold headK
  simp only [dif_pos f3]
  by_cases h : t.val % 33 = 0
  · have hp : (pos t r).val < 256 := by unfold pos; dsimp only; omega
    rw [if_pos h]
    refine Eq.trans ?_ (if_pos hp).symm
    rfl
  · have hp : ¬ (pos t r).val < 256 := by unfold pos; dsimp only; omega
    rw [if_neg h]
    refine Eq.trans ?_ (if_neg hp).symm
    have e : (⟨(pos t r).val - 256, by omega⟩ : Fin 8192) = row t r := Fin.ext (by unfold pos row; dsimp only; omega)
    exact congrArg (fun p => rotated _ p _) e.symm

theorem result_values : (dats m 0 c).arrAt 15 cfg0.N = InRow.values (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  unfold outsAt0
  dsimp only
  rw [out_values]
  have e0 : (((win0_15.blk t).view.emb y) 0 : Fin 2) = batch t := Fin.ext (by blk_simp [index15, batch, pos, row])
  have e1 : (((win0_15.blk t).view.emb y) 1 : Fin 2) = y 1 := Fin.ext (by blk_simp [index15, batch, pos, row])
  have e2 : (((win0_15.blk t).view.emb y) 2 : Fin 80) = y 2 := Fin.ext (by blk_simp [index15, batch, pos, row])
  have e3 : (((win0_15.blk t).view.emb y) 3 : Fin 8448) = pos t (y 3) := Fin.ext (by blk_simp [index15, batch, pos, row])
  unfold valueAt InRow.values
  simp only [e0, e1, e2, e3]
  by_cases h : (y 2 : Fin 80).val < 64
  · refine (dif_pos h).trans (Eq.trans ?_ (dif_pos h).symm)
    refine (valuesT_apply _ _ _ _).trans ((wV_apply m c t _ _).trans ?_)
    exact congrArg (proj m c (batch t) (pos t (y 3))) (Fin.ext (Nat.add_assoc _ _ _).symm)
  · refine (dif_neg h).trans (Eq.trans ?_ (dif_neg h).symm)
    rfl

theorem result_gate_a : (dats m 0 c).arrAt 16 cfg0.N = InRow.gateA (m ((c : Thread nD τ).loc main_arg0)) (m ((c : Thread nD τ).loc main_arg2)) (m ((c : Thread nD τ).loc main_arg3)) (m ((c : Thread nD τ).loc main_arg6))
    (m ((c : Thread nD τ).loc main_arg7)) := by
  refine (dats m 0 c).arrAt_eq_of_covers 16 _ (by decide +kernel) fun t hf y => ?_
  blk_simp
  rw [after0_16]
  unfold outsAt0
  dsimp only
  rw [out_gate_a]
  have e0 : (((win0_16.blk t).view.emb y) 0 : Fin 2) = batch t := Fin.ext (by blk_simp [index16, batch, pos, row])
  have e1 : (((win0_16.blk t).view.emb y) 1 : Fin 8192) = row t (y 1) := Fin.ext (by blk_simp [index16, batch, pos, row])
  have e2 : (((win0_16.blk t).view.emb y) 2 : Fin 512) = y 2 := Fin.ext (by blk_simp [index16, batch, pos, row])
  obtain ⟨z, r, l, rfl⟩ : ∃ (z : Fin 1) (r : Fin 256) (l : Fin 512), y = ix3 z r l := ⟨y 0, y 1, y 2, (ix3_eta y).symm⟩
  obtain rfl : z = 0 := Subsingleton.elim _ _
  unfold InRow.gateA
  simp only [e0, e1, e2]
  refine (gate_apply _ _ _).trans (congrArg gated ((wA_apply m c t _ _).trans (lat_proj m c t (flush16 t hf) _ _)))

theorem result_inputs : (dats m 0 c).arrAt 17 cfg0.N = InRow.inputs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 17 _ (by decide +kernel) fun t hf y => ?_
  blk_simp
  rw [after0_17]
  unfold outsAt0
  dsimp only
  rw [out_inputs]
  have e0 : (((win0_17.blk t).view.emb y) 0 : Fin 2) = batch t := Fin.ext (by blk_simp [index17, batch, pos, row])
  have e1 : (((win0_17.blk t).view.emb y) 1 : Fin 32) = y 1 := Fin.ext (by blk_simp [index17, batch, pos, row])
  have e2 : (((win0_17.blk t).view.emb y) 2 : Fin 528) = (⟨t.val % 33 * 16 + (y 2 : Fin 16).val, by have : (y 2 : Fin 16).val < 16 := (y 2 : Fin 16).isLt; omega⟩ : Fin 528) := Fin.ext (by blk_simp [index17, batch, pos, row])
  have e3 : (((win0_17.blk t).view.emb y) 3 : Fin 256) = y 3 := Fin.ext (by blk_simp [index17, batch, pos, row])
  unfold inputAt InRow.inputs
  simp only [e0, e1, e2, e3]
  refine (wU_apply m c t _ _).trans (congrArg₂ (proj m c (batch t)) (Fin.ext ?_) (Fin.ext (Nat.add_assoc _ _ _).symm))
  show t.val % 33 * 256 + (16 * (y 2 : Fin 16).val + (y 3 : Fin 256).val / 16) = 16 * (t.val % 33 * 16 + (y 2 : Fin 16).val) + (y 3 : Fin 256).val / 16
  omega

theorem result_gate_s : (dats m 0 c).arrAt 18 cfg0.N = InRow.gateS (m ((c : Thread nD τ).loc main_arg0)) (m ((c : Thread nD τ).loc main_arg2)) (m ((c : Thread nD τ).loc main_arg3)) (m ((c : Thread nD τ).loc main_arg6))
    (m ((c : Thread nD τ).loc main_arg7)) := by
  refine (dats m 0 c).arrAt_eq_of_covers 18 _ (by decide +kernel) fun t hf y => ?_
  blk_simp
  rw [after0_18]
  unfold outsAt0
  dsimp only
  rw [out_gate_s]
  have e0 : (((win0_18.blk t).view.emb y) 0 : Fin 2) = batch t := Fin.ext (by blk_simp [index18, batch, pos, row])
  have e1 : (((win0_18.blk t).view.emb y) 1 : Fin 8192) = row t (y 1) := Fin.ext (by blk_simp [index18, batch, pos, row])
  have e2 : (((win0_18.blk t).view.emb y) 2 : Fin 512) = y 2 := Fin.ext (by blk_simp [index18, batch, pos, row])
  obtain ⟨z, r, l, rfl⟩ : ∃ (z : Fin 1) (r : Fin 256) (l : Fin 512), y = ix3 z r l := ⟨y 0, y 1, y 2, (ix3_eta y).symm⟩
  obtain rfl : z = 0 := Subsingleton.elim _ _
  unfold InRow.gateS
  simp only [e0, e1, e2]
  refine (gate_apply _ _ _).trans (congrArg gated ((wS_apply m c t _ _).trans (lat_proj m c t (flush18 t hf) _ _)))

end Cert.Kernel3Ideal.Inproj

end
-- ==== Proof.Inproj.RefRows.lean ====
/- The reference's positions, frequencies, angles, and projected rows. -/
module

public import proofs.«01_k».proof.Proof.Inproj.Spec
public import proofs.«01_k».proof.Proof.Gen.Reference3Ideal.Read

@[expose] public section

set_option maxRecDepth 16384

noncomputable section

namespace Cert.Reference3Ideal.Inproj

open Idealize.ShloMosaic Cert.Reference3Ideal Cert.Reference3Ideal.Gen Cert.Reference3Ideal.Read Cert.InRow

theorem rows_apply : ∀ t : Fin 8192, (val_main_v1 (F := Ideal) (ix1 t) : BitVec 32) = BitVec.ofNat 32 (t.val / 64) := by
  decide +kernel

theorem cols_apply : ∀ t : Fin 8192, (val_main_v3 (F := Ideal) (ix1 t) : BitVec 32) = BitVec.ofNat 32 (t.val % 64) := by
  decide +kernel

/-- A small count, as a number. -/
theorem count (k : ℕ) (hk : k < 2 ^ 31) : FloatOps.sitofp (F := Ideal) .f32 (BitVec.ofNat 32 k) = ((k : ℝ) : EReal) := by
  show (((BitVec.ofNat 32 k).toInt : ℝ) : EReal) = _
  rw [BitVec.toInt_eq_toNat_of_lt (by rw [BitVec.toNat_ofNat, Nat.mod_eq_of_lt (by omega)]; omega), BitVec.toNat_ofNat, Nat.mod_eq_of_lt (by omega)]
  simp

theorem freq_q (f : Fin 16) : val_main_v69 (F := Ideal) (ix1 f) = freq f := by
  pointwise [val_main_v69, val_main_v68, val_main_cst_12, val_main_v67, val_main_v66, val_main_cst_11, val_main_v65, val_main_v64]
  rw [count _ (by omega)]
  rfl

theorem freq_k (f : Fin 16) : val_main_v145 (F := Ideal) (ix1 f) = freq f := by
  pointwise [val_main_v145, val_main_v144, val_main_cst_17, val_main_v143, val_main_v142, val_main_cst_16, val_main_v141, val_main_v140]
  rw [count _ (by omega)]
  rfl

section
variable (t : Fin 8192) (f : Fin 16) (l : Fin 64) (hf : f.val = l.val % 16)
include hf

theorem row_q (hl : l.val < 32) : val_main_v75 (F := Ideal) (ix2 t f) = angle t l := by
  pointwise [val_main_v75, val_main_v74, val_main_v73, val_main_v72, val_main_v71, val_main_v2]
  rw [rows_apply, count _ (by omega), freq_q]
  unfold angle
  rw [if_pos hl]
  exact congrArg (fun f => _ * freq f) (Fin.ext hf)

theorem col_q (hl : ¬ l.val < 32) : val_main_v102 (F := Ideal) (ix2 t f) = angle t l := by
  pointwise [val_main_v102, val_main_v101, val_main_v100, val_main_v99, val_main_v98, val_main_v4]
  rw [cols_apply, count _ (by omega), freq_q]
  unfold angle
  rw [if_neg hl]
  exact congrArg (fun f => _ * freq f) (Fin.ext hf)

theorem row_k (hl : l.val < 32) : val_main_v151 (F := Ideal) (ix2 t f) = angle t l := by
  pointwise [val_main_v151, val_main_v150, val_main_v149, val_main_v148, val_main_v147, val_main_v2]
  rw [rows_apply, count _ (by omega), freq_k]
  unfold angle
  rw [if_pos hl]
  exact congrArg (fun f => _ * freq f) (Fin.ext hf)

theorem col_k (hl : ¬ l.val < 32) : val_main_v178 (F := Ideal) (ix2 t f) = angle t l := by
  pointwise [val_main_v178, val_main_v177, val_main_v176, val_main_v175, val_main_v174, val_main_v4]
  rw [cols_apply, count _ (by omega), freq_k]
  unfold angle
  rw [if_neg hl]
  exact congrArg (fun f => _ * freq f) (Fin.ext hf)

end

variable (x : FVec Ideal S2x8192x1024 .f32) (ctx : FVec Ideal S2x256x1024 .f32) (shl scl : FVec Ideal S2x1024 .f32)
  (shc scc pg : FVec Ideal S1024 .f32) (w : FVec Ideal S1024x2304 .f32)

theorem latent_row (b : Fin 2) (t : Fin 8192) (k : Fin 1024) : val_main_v25 (F := Ideal) x shl scl pg (ix3 b t k)
    = modulated (fun k => x (ix3 b t k)) (fun k => shl (ix2 b k)) (fun k => scl (ix2 b k)) (fun k => pg (ix1 k)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_1, val_main_cst_2, val_main_cst_3]
  rfl

theorem context_row (b : Fin 2) (t : Fin 256) (k : Fin 1024) : val_main_v47 (F := Ideal) ctx shc scc pg (ix3 b t k)
    = modulated (fun k => ctx (ix3 b t k)) (fun k => shc (ix1 k)) (fun k => scc (ix1 k)) (fun k => pg (ix1 k)) k := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_4, val_main_cst_5, val_main_cst_6, val_main_cst_7]
  rfl

theorem latent_apply (b : Fin 2) (t : Fin 8192) (j : Fin 2304) : val_main_v26 (F := Ideal) x shl scl pg w (ix3 b t j) = latent x shl scl pg w b t j := by
  unfold latent
  simp only [← latent_row]
  generalize hz : val_main_v25 (F := Ideal) x shl scl pg = z
  pointwise [val_main_v26, hz]

theorem context_apply (b : Fin 2) (t : Fin 256) (j : Fin 2304) : val_main_v48 (F := Ideal) ctx shc scc pg w (ix3 b t j) = context ctx shc scc pg w b t j := by
  unfold context
  simp only [← context_row]
  generalize hz : val_main_v47 (F := Ideal) ctx shc scc pg = z
  pointwise [val_main_v48, hz]

end Cert.Reference3Ideal.Inproj

end
-- ==== Proof.Inproj.RefHeads.lean ====
/- The reference's heads: normalized, and turned by their positions. -/
module

public import proofs.«01_k».proof.Proof.Inproj.RefRows

@[expose] public section

set_option maxRecDepth 16384

noncomputable section

namespace Cert.Reference3Ideal.Inproj

open Idealize.ShloMosaic Cert.Reference3Ideal Cert.Reference3Ideal.Gen Cert.Reference3Ideal.Read Cert.InRow

variable (x : FVec Ideal S2x8192x1024 .f32) (ctx : FVec Ideal S2x256x1024 .f32) (shl scl : FVec Ideal S2x1024 .f32)
  (shc scc pg : FVec Ideal S1024 .f32) (w : FVec Ideal S1024x2304 .f32) (qg kg : FVec Ideal S64 .f32)

/-- The first half of a pair of turned entries, and the second. -/
theorem turn_first (n : Fin 64 → EReal) (t : Fin 8192) (d : Fin 64) (hd : d.val % 32 < 16) (a b p q : EReal) (ha : a = n d)
    (hb : b = n ⟨d.val + 16, by omega⟩) (hp : p = angle t d) (hq : q = angle t d) : a * Ideal.cos p - b * Ideal.sin q = rotated n t d := by
  unfold rotated
  rw [dif_pos hd, ha, hb, hp, hq]

theorem turn_second (n : Fin 64 → EReal) (t : Fin 8192) (d : Fin 64) (hd : ¬ d.val % 32 < 16) (a b p q : EReal) (hb : b = n ⟨d.val - 16, by omega⟩)
    (ha : a = n d) (hp : p = angle t d) (hq : q = angle t d) : b * Ideal.sin p + a * Ideal.cos q = rotated n t d := by
  unfold rotated
  rw [dif_neg hd, ha, hb, hp, hq]

theorem normed_q (b : Fin 2) (t : Fin 8192) (h : Fin 8) (d : Fin 64) : val_main_v63 (F := Ideal) x shl scl pg w qg (ix4 b t h d)
    = normed (fun d => latent x shl scl pg w b t ⟨64 * h.val + d.val, by omega⟩) (fun d => qg (ix1 d)) d := by
  simp only [← latent_apply]
  generalize hz : val_main_v26 (F := Ideal) x shl scl pg w = z
  pointwise [val_main_v63, val_main_v62, val_main_v61, val_main_v60, val_main_v59, val_main_v58, val_main_v57, val_main_v56, val_main_v55, val_main_v54, val_main_v53, val_main_v52, val_main_v51, val_main_v50, val_main_v49, val_main_cst_8, val_main_cst_9, val_main_cst_10, hz]
  unfold normed
  simp only [Nat.mul_comm 64]

theorem normed_k (b : Fin 2) (t : Fin 8192) (h : Fin 2) (d : Fin 64) : val_main_v139 (F := Ideal) x shl scl pg w kg (ix4 b t h d)
    = normed (fun d => latent x shl scl pg w b t ⟨512 + 64 * h.val + d.val, by omega⟩) (fun d => kg (ix1 d)) d := by
  simp only [← latent_apply]
  generalize hz : val_main_v26 (F := Ideal) x shl scl pg w = z
  pointwise [val_main_v139, val_main_v138, val_main_v137, val_main_v136, val_main_v135, val_main_v134, val_main_v133, val_main_v132, val_main_v131, val_main_v130, val_main_v129, val_main_v128, val_main_v127, val_main_v126, val_main_v125, val_main_cst_13, val_main_cst_14, val_main_cst_15, hz]
  unfold normed
  simp only [Nat.mul_comm 64, Nat.add_assoc]

theorem normed_c (b : Fin 2) (t : Fin 256) (h : Fin 2) (d : Fin 64) : val_main_v215 (F := Ideal) ctx shc scc pg w kg (ix4 b t h d)
    = normed (fun d => context ctx shc scc pg w b t ⟨512 + 64 * h.val + d.val, by omega⟩) (fun d => kg (ix1 d)) d := by
  simp only [← context_apply]
  generalize hz : val_main_v48 (F := Ideal) ctx shc scc pg w = z
  pointwise [val_main_v215, val_main_v214, val_main_v213, val_main_v212, val_main_v211, val_main_v210, val_main_v209, val_main_v208, val_main_v207, val_main_v206, val_main_v205, val_main_v204, val_main_v203, val_main_v202, val_main_v201, val_main_cst_18, val_main_cst_19, val_main_cst_20, hz]
  unfold normed
  simp only [Nat.mul_comm 64, Nat.add_assoc]

theorem rotated_q (b : Fin 2) (t : Fin 8192) (h : Fin 8) (d : Fin 64) : val_main_v124 (F := Ideal) x shl scl pg w qg (ix4 b t h d)
    = rotated (fun d => val_main_v63 (F := Ideal) x shl scl pg w qg (ix4 b t h d)) t d := by
  have hr := row_q t
  have hc := col_q t
  generalize hz : val_main_v63 (F := Ideal) x shl scl pg w qg = z
  generalize hp : val_main_v75 (F := Ideal) = p at hr
  generalize hq : val_main_v102 (F := Ideal) = q at hc
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v70, hz, hp, hq]
  have zz : ∀ {a a' : Fin 64}, a.val = a'.val → z (ix4 b t h a) = z (ix4 b t h a') := fun e => by rw [Fin.ext e]
  have hd := d.isLt
  by_cases h1 : d.val < 32
  · refine (dif_pos h1).trans ?_
    by_cases h2 : d.val < 16
    · exact (dif_pos h2).trans (turn_first _ _ _ (by omega) _ _ _ _ (zz rfl) (zz (by dsimp only; omega)) (hr _ d (by dsimp only; omega) h1)
        (hr _ d (by dsimp only; omega) h1))
    · exact (dif_neg h2).trans (turn_second _ _ _ (by omega) _ _ _ _ (zz rfl) (zz (by dsimp only; omega)) (hr _ d (by dsimp only; omega) h1)
        (hr _ d (by dsimp only; omega) h1))
  · refine (dif_neg h1).trans ?_
    by_cases h2 : d.val - 32 < 16
    · exact (dif_pos h2).trans (turn_first _ _ _ (by omega) _ _ _ _ (zz (by dsimp only; omega)) (zz (by dsimp only; omega)) (hc _ d (by dsimp only; omega) h1)
        (hc _ d (by dsimp only; omega) h1))
    · exact (dif_neg h2).trans (turn_second _ _ _ (by omega) _ _ _ _ (zz (by dsimp only; omega)) (zz (by dsimp only; omega)) (hc _ d (by dsimp only; omega) h1)
        (hc _ d (by dsimp only; omega) h1))

theorem rotated_k (b : Fin 2) (t : Fin 8192) (h : Fin 2) (d : Fin 64) : val_main_v200 (F := Ideal) x shl scl pg w kg (ix4 b t h d)
    = rotated (fun d => val_main_v139 (F := Ideal) x shl scl pg w kg (ix4 b t h d)) t d := by
  have hr := row_k t
  have hc := col_k t
  generalize hz : val_main_v139 (F := Ideal) x shl scl pg w kg = z
  generalize hp : val_main_v151 (F := Ideal) = p at hr
  generalize hq : val_main_v178 (F := Ideal) = q at hc
  pointwise [val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v146, hz, hp, hq]
  have zz : ∀ {a a' : Fin 64}, a.val = a'.val → z (ix4 b t h a) = z (ix4 b t h a') := fun e => by rw [Fin.ext e]
  have hd := d.isLt
  by_cases h1 : d.val < 32
  · refine (dif_pos h1).trans ?_
    by_cases h2 : d.val < 16
    · exact (dif_pos h2).trans (turn_first _ _ _ (by omega) _ _ _ _ (zz rfl) (zz (by dsimp only; omega)) (hr _ d (by dsimp only; omega) h1)
        (hr _ d (by dsimp only; omega) h1))
    · exact (dif_neg h2).trans (turn_second _ _ _ (by omega) _ _ _ _ (zz rfl) (zz (by dsimp only; omega)) (hr _ d (by dsimp only; omega) h1)
        (hr _ d (by dsimp only; omega) h1))
  · refine (dif_neg h1).trans ?_
    by_cases h2 : d.val - 32 < 16
    · exact (dif_pos h2).trans (turn_first _ _ _ (by omega) _ _ _ _ (zz (by dsimp only; omega)) (zz (by dsimp only; omega)) (hc _ d (by dsimp only; omega) h1)
        (hc _ d (by dsimp only; omega) h1))
    · exact (dif_neg h2).trans (turn_second _ _ _ (by omega) _ _ _ _ (zz (by dsimp only; omega)) (zz (by dsimp only; omega)) (hc _ d (by dsimp only; omega) h1)
        (hc _ d (by dsimp only; omega) h1))

end Cert.Reference3Ideal.Inproj

end
-- ==== Proof.Inproj.Ref.lean ====
/- The reference's six results are the functions of `Spec`. -/
module

public import proofs.«01_k».proof.Proof.Inproj.RefHeads
public import proofs.«01_k».proof.Proof.Attn.Spec

@[expose] public section

set_option maxRecDepth 16384

noncomputable section

namespace Cert.Reference3Ideal.Inproj

open Idealize.ShloMosaic Cert.Reference3Ideal Cert.Reference3Ideal.Gen Cert.Reference3Ideal.Read Cert.InRow

variable (x : FVec Ideal S2x8192x1024 .f32) (ctx : FVec Ideal S2x256x1024 .f32) (shl scl : FVec Ideal S2x1024 .f32)
  (shc scc pg : FVec Ideal S1024 .f32) (w : FVec Ideal S1024x2304 .f32) (qg kg : FVec Ideal S64 .f32)

/-- An eighth, over the logarithm of two. -/
theorem query_factor (a : EReal) : Ideal.div (a * Ideal.ofBits .f32 0x3E000000#32) (Ideal.log (Ideal.ofBits .f32 0x40000000#32))
    = a * ((8⁻¹ * (Real.log 2)⁻¹ : ℝ) : EReal) := by
  have hl : Real.log 2 ≠ 0 := (Real.log_pos (by norm_num)).ne'
  have h2 : Ideal.log ((2 : ℝ) : EReal) = ((Real.log 2 : ℝ) : EReal) := by
    show (if (2 : ℝ) ≤ 0 then (⊥ : EReal) else ((Real.log 2 : ℝ) : EReal)) = _
    rw [if_neg (by norm_num)]
  rw [Spec.eighth, Spec.two, h2, Ideal.div_coe hl, mul_assoc, ← EReal.coe_mul, one_div, one_div]

theorem scaled_apply (b : Fin 2) (t : Fin 8192) (h : Fin 8) (d : Fin 64) : val_main_v229 (F := Ideal) x shl scl pg w qg (ix4 b t h d)
    = rotated (normed (fun d => latent x shl scl pg w b t ⟨64 * h.val + d.val, by omega⟩) (fun d => qg (ix1 d))) t d
      * ((8⁻¹ * (Real.log 2)⁻¹ : ℝ) : EReal) := by
  have e := rotated_q x shl scl pg w qg b t h d
  simp only [normed_q] at e
  rw [← query_factor]
  generalize hz : val_main_v124 (F := Ideal) x shl scl pg w qg = z at e
  pointwise [val_main_v229, val_main_v228, val_main_v227, val_main_cst_22, val_main_v226, val_main_v225, val_main_cst_21, hz]
  rw [e]

/-- The queries. -/
theorem ref_queries : val_main_v245 (F := Ideal) x shl scl pg w qg = queries x shl scl pg w qg := by
  funext i
  obtain ⟨b, h, e, t, rfl⟩ : ∃ (b : Fin 2) (h : Fin 8) (e : Fin 128) (t : Fin 8192), i = ix4 b h e t := ⟨i 0, i 1, i 2, i 3, (ix4_eta i).symm⟩
  have sc := scaled_apply x shl scl pg w qg b t
  generalize hz : val_main_v229 (F := Ideal) x shl scl pg w qg = z at sc
  pointwise [val_main_v245, val_main_v236, val_main_v235, val_main_v234, val_main_v233, val_main_v232, val_main_v231, val_main_cst_23, val_main_v230, hz]
  have at_ : ∀ (h' : Fin 8) (d : Fin 64), h'.val = h.val → d.val = e.val % 64 → h.val / 4 = e.val / 64 →
      z (ix4 b t h' d) = queries x shl scl pg w qg (ix4 b h e t) := by
    intro h' d eh ed hc
    obtain rfl : h' = h := Fin.ext eh
    rw [sc]
    refine Eq.trans ?_ (if_pos hc).symm
    exact congrArg (fun d => rotated _ t d * _) (Fin.ext ed)
  have off : h.val / 4 ≠ e.val / 64 → (0 : EReal) = queries x shl scl pg w qg (ix4 b h e t) := fun hc => (if_neg hc).symm
  have hh := h.isLt
  have he := e.isLt
  by_cases h1 : h.val < 4
  · rw [dif_pos h1]
    by_cases h2 : e.val < 64
    · rw [dif_pos h2]
      exact at_ _ _ rfl (by dsimp only; omega) (by omega)
    · rw [dif_neg h2]
      exact off (by omega)
  · rw [dif_neg h1]
    by_cases h2 : e.val < 64
    · rw [dif_pos h2]
      exact off (by omega)
    · rw [dif_neg h2]
      exact at_ _ _ (by dsimp only; omega) (by dsimp only; omega) (by omega)

/-- The context's projection, then the latents'. -/
theorem joint_apply (b : Fin 2) (n : Fin 8448) (j : Fin 2304) :
    val_main_v218 (F := Ideal) x ctx shl scl shc scc pg w (ix3 b n j) = joint x ctx shl scl shc scc pg w b n j := by
  unfold joint
  simp only [← latent_apply, ← context_apply]
  generalize hz : val_main_v48 (F := Ideal) ctx shc scc pg w = y
  generalize hy : val_main_v26 (F := Ideal) x shl scl pg w = z
  pointwise [val_main_v218, hz, hy]

/-- The keys' heads, side by side. -/
theorem sides_apply (z : FVec Ideal S2x8448x2x64 .f32) (b : Fin 2) (n : Fin 8448) (l : Fin 128) :
    truncf (F := Ideal) .bf16 (shapeCast S2x8448x128 z shapeCasts_S2x8448x2x64_S2x8448x128) bitsLt_bf16_f32 (ix3 b n l)
      = z (ix4 b n ⟨l.val / 64, by omega⟩ ⟨l.val % 64, by omega⟩) := by
  pointwise []

theorem sides_keys (b : Fin 2) (n : Fin 8448) (l : Fin 128) : val_main_v246 (F := Ideal) x ctx shl scl shc scc pg w kg (ix3 b n l)
    = val_main_v216 (F := Ideal) x ctx shl scl shc scc pg w kg (ix4 b n ⟨l.val / 64, by omega⟩ ⟨l.val % 64, by omega⟩) := by
  unfold val_main_v246 val_main_v217
  generalize val_main_v216 (F := Ideal) x ctx shl scl shc scc pg w kg = z
  exact sides_apply z b n l

/-- The keys. -/
theorem ref_keys : val_main_v246 (F := Ideal) x ctx shl scl shc scc pg w kg = keys x ctx shl scl shc scc pg w kg := by
  funext i
  obtain ⟨b, n, l, rfl⟩ : ∃ (b : Fin 2) (n : Fin 8448) (l : Fin 128), i = ix3 b n l := ⟨i 0, i 1, i 2, (ix3_eta i).symm⟩
  rw [sides_keys]
  have hl := rotated_k x shl scl pg w kg b
  simp only [normed_k] at hl
  have hc := normed_c ctx shc scc pg w kg b
  generalize hy : val_main_v215 (F := Ideal) ctx shc scc pg w kg = y at hc
  generalize hz : val_main_v200 (F := Ideal) x shl scl pg w kg = z at hl
  pointwise [val_main_v216, hy, hz]
  have e : keys x ctx shl scl shc scc pg w kg (ix3 b n l) = if n.val < 256 then
        normed (fun d => joint x ctx shl scl shc scc pg w b n ⟨512 + 64 * (l.val / 64) + d.val, by omega⟩) (fun d => kg (ix1 d)) ⟨l.val % 64, by omega⟩
      else rotated (normed (fun d => joint x ctx shl scl shc scc pg w b n ⟨512 + 64 * (l.val / 64) + d.val, by omega⟩) (fun d => kg (ix1 d)))
        ⟨n.val - 256, by omega⟩ ⟨l.val % 64, by omega⟩ := rfl
  rw [e]
  by_cases h : n.val < 256
  · rw [dif_pos h, if_pos h, hc]
    refine congrArg (fun z => normed z _ _) (funext fun d => ?_)
    unfold joint
    rw [dif_pos h]
  · rw [dif_neg h, if_neg h, hl]
    refine congrArg (fun z => rotated (normed z _) _ _) (funext fun d => ?_)
    unfold joint
    rw [dif_neg h]

/-- The values. -/
theorem ref_values : val_main_v247 (F := Ideal) x ctx shl scl shc scc pg w = values x ctx shl scl shc scc pg w := by
  funext i
  obtain ⟨b, g, r, n, rfl⟩ : ∃ (b : Fin 2) (g : Fin 2) (r : Fin 80) (n : Fin 8448), i = ix4 b g r n := ⟨i 0, i 1, i 2, i 3, (ix4_eta i).symm⟩
  have hj := joint_apply x ctx shl scl shc scc pg w b
  generalize hz : val_main_v218 (F := Ideal) x ctx shl scl shc scc pg w = z at hj
  pointwise [val_main_v247, val_main_v241, val_main_v240, val_main_cst_25, val_main_v239, val_main_cst_24, val_main_v238, val_main_v237, val_main_v219, hz]
  have e : values x ctx shl scl shc scc pg w (ix4 b g r n) = if h : r.val < 64 then
        joint x ctx shl scl shc scc pg w b n ⟨640 + 64 * g.val + r.val, by omega⟩ else if r.val = 64 then 1 else 0 := rfl
  rw [e]
  by_cases h : r.val < 64
  · rw [dif_pos h, dif_pos h, hj]
    exact congrArg _ (Fin.ext (by dsimp only; omega))
  · rw [dif_neg h, dif_neg h]
    by_cases h' : r.val = 64
    · rw [dif_pos (by omega), if_pos h']
    · rw [dif_neg (by omega), if_neg h']

/-- The gates. -/
theorem ref_gate_a : val_main_v248 (F := Ideal) x shl scl pg w = gateA x shl scl pg w := by
  funext i
  obtain ⟨b, t, e, rfl⟩ : ∃ (b : Fin 2) (t : Fin 8192) (e : Fin 512), i = ix3 b t e := ⟨i 0, i 1, i 2, (ix3_eta i).symm⟩
  have hj := latent_apply x shl scl pg w b t
  generalize hz : val_main_v26 (F := Ideal) x shl scl pg w = z at hj
  pointwise [val_main_v248, val_main_v222, val_main_call2_v5, val_main_call2_v4, val_main_call2_cst_0, val_main_call2_v3, val_main_call2_v2, val_main_call2_cst, val_main_call2_v1, val_main_call2_v0, val_main_v221, hz]
  rw [hj]
  rfl

theorem ref_gate_s : val_main_v250 (F := Ideal) x shl scl pg w = gateS x shl scl pg w := by
  funext i
  obtain ⟨b, t, e, rfl⟩ : ∃ (b : Fin 2) (t : Fin 8192) (e : Fin 512), i = ix3 b t e := ⟨i 0, i 1, i 2, (ix3_eta i).symm⟩
  have hj := latent_apply x shl scl pg w b t
  generalize hz : val_main_v26 (F := Ideal) x shl scl pg w = z at hj
  pointwise [val_main_v250, val_main_v224, val_main_call3_v5, val_main_call3_v4, val_main_call3_cst_0, val_main_call3_v3, val_main_call3_v2, val_main_call3_cst, val_main_call3_v1, val_main_call3_v0, val_main_v223, hz]
  rw [hj]
  rfl

/-- The recurrence's input, chunk by chunk. -/
theorem chunk_apply (z : FVec Ideal S2x8448x512 .f32) (b : Fin 2) (g : Fin 32) (n : Fin 528) (l : Fin 256) :
    truncf (F := Ideal) .bf16 (shapeCast S2x32x528x256 (transpose S2x32x528x16x16 [0, 3, 1, 2, 4]
      (shapeCast S2x528x16x32x16 z shapeCasts_S2x8448x512_S2x528x16x32x16) transposes_S2x528x16x32x16_S2x32x528x16x16_0_3_1_2_4)
      shapeCasts_S2x32x528x16x16_S2x32x528x256) bitsLt_bf16_f32 (ix4 b g n l)
    = z (ix3 b ⟨16 * n.val + l.val / 16, by omega⟩ ⟨16 * g.val + l.val % 16, by omega⟩) := by
  pointwise []
  simp only [Nat.mul_comm]

theorem inputs_apply (b : Fin 2) (g : Fin 32) (n : Fin 528) (l : Fin 256) : val_main_v249 (F := Ideal) x ctx shl scl shc scc pg w (ix4 b g n l)
    = val_main_v220 (F := Ideal) x ctx shl scl shc scc pg w (ix3 b ⟨16 * n.val + l.val / 16, by omega⟩ ⟨16 * g.val + l.val % 16, by omega⟩) := by
  unfold val_main_v249 val_main_v244 val_main_v243 val_main_v242
  generalize val_main_v220 (F := Ideal) x ctx shl scl shc scc pg w = z
  exact chunk_apply z b g n l

/-- The recurrence's input. -/
theorem ref_inputs : val_main_v249 (F := Ideal) x ctx shl scl shc scc pg w = inputs x ctx shl scl shc scc pg w := by
  funext i
  obtain ⟨b, g, n, l, rfl⟩ : ∃ (b : Fin 2) (g : Fin 32) (n : Fin 528) (l : Fin 256), i = ix4 b g n l := ⟨i 0, i 1, i 2, i 3, (ix4_eta i).symm⟩
  rw [inputs_apply]
  have hj := joint_apply x ctx shl scl shc scc pg w b
  generalize hz : val_main_v218 (F := Ideal) x ctx shl scl shc scc pg w = z at hj
  pointwise [val_main_v220, hz]
  rw [hj]
  exact congrArg (joint x ctx shl scl shc scc pg w b _) (Fin.ext (Nat.add_assoc _ _ _).symm)

end Cert.Reference3Ideal.Inproj

end
-- ==== Proof.Inproj.Ends.lean ====
/- The reference's run: it ends with the six results of `InRow` and leaves its arguments as they were. -/
module

public import proofs.«01_k».proof.Proof.Gen.Reference3Ideal.Run
public import proofs.«01_k».proof.Proof.Gen.Reference3Ideal.Read
public import proofs.«01_k».proof.Proof.Inproj.Ref

@[expose] public section

noncomputable section

namespace Cert.Reference3Ideal.Inproj

open Cert.Reference3Ideal Cert.Reference3Ideal.Gen Idealize.ShloMosaic Idealize.ShloMosaic.TcCoe Idealize.SL.Sem Idealize.ShloMosaic.StableHlo

variable (m : (ℓ : Loc nD τ sig) → Buf (Elt Ideal) ℓ)

/-- The read terms at the launch contents, one by one. -/
theorem last_queries (c : Dev nD) : Read.val_main_v245 (F := Ideal) (launchContents m c (Proc.devRef .tc main_arg0)) (launchContents m c (Proc.devRef .tc main_arg2)) (launchContents m c (Proc.devRef .tc main_arg3)) (launchContents m c (Proc.devRef .tc main_arg6)) (launchContents m c (Proc.devRef .tc main_arg7)) (launchContents m c (Proc.devRef .tc main_arg8))
    = InRow.queries (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) := ref_queries (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8))

theorem last_keys (c : Dev nD) : Read.val_main_v246 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg9))
    = InRow.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := ref_keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))

theorem last_values (c : Dev nD) : Read.val_main_v247 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7))
    = InRow.values (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := ref_values (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem last_gate_a (c : Dev nD) : Read.val_main_v248 (F := Ideal) (launchContents m c (Proc.devRef .tc main_arg0)) (launchContents m c (Proc.devRef .tc main_arg2)) (launchContents m c (Proc.devRef .tc main_arg3)) (launchContents m c (Proc.devRef .tc main_arg6)) (launchContents m c (Proc.devRef .tc main_arg7))
    = InRow.gateA (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := ref_gate_a (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))

theorem last_inputs (c : Dev nD) : Read.val_main_v249 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7))
    = InRow.inputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := ref_inputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem last_gate_s (c : Dev nD) : Read.val_main_v250 (F := Ideal) (launchContents m c (Proc.devRef .tc main_arg0)) (launchContents m c (Proc.devRef .tc main_arg2)) (launchContents m c (Proc.devRef .tc main_arg3)) (launchContents m c (Proc.devRef .tc main_arg6)) (launchContents m c (Proc.devRef .tc main_arg7))
    = InRow.gateS (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := ref_gate_s (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))

/-- Every execution of the reference ends with the six results and its arguments unchanged. -/
theorem ends (ρ : Dev nD → PrngReg) : θ_run defs (onTc (τ := τ) (main (F := Ideal))) ⟨m, fun _ => 0, ρ⟩ fun r => ∀ c : Dev nD,
      r.2.mem ((c.tc : Thread nD τ).loc main_v245) = InRow.queries (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8))
      ∧ r.2.mem ((c.tc : Thread nD τ).loc main_v246) = InRow.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_v247) = InRow.values (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v248) = InRow.gateA (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v249) = InRow.inputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v250) = InRow.gateS (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Read.val_main_v245_eq (launchContents m c)).trans (last_queries m c)),
    (h c).2.1.trans ((Read.val_main_v246_eq (launchContents m c)).trans (last_keys m c)),
    (h c).2.2.1.trans ((Read.val_main_v247_eq (launchContents m c)).trans (last_values m c)),
    (h c).2.2.2.1.trans ((Read.val_main_v248_eq (launchContents m c)).trans (last_gate_a m c)),
    (h c).2.2.2.2.1.trans ((Read.val_main_v249_eq (launchContents m c)).trans (last_inputs m c)),
    (h c).2.2.2.2.2.1.trans ((Read.val_main_v250_eq (launchContents m c)).trans (last_gate_s m c)),
    (h c).2.2.2.2.2.2⟩)
    (Value.run (F := Ideal) m ρ)

end Cert.Reference3Ideal.Inproj

end
-- ==== Proof.lean ====
/- The claims about the attention call, the final call and the input-projection call: every program runs and leaves its
   arguments and counters as they were, each idealized kernel is the kernel's own text up to one named constant of the
   third, and its results are the reference's: the attention call's on finite queries and keys, the others' on every
   input. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Attn.Result
public import proofs.«01_k».proof.Proof.Attn.Ref
public import proofs.«01_k».proof.Proof.Attn.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Final.Result
public import proofs.«01_k».proof.Proof.Final.Ref
public import proofs.«01_k».proof.Proof.Inproj.Result
public import proofs.«01_k».proof.Proof.Inproj.Ends
public import Idealize.ShloMosaic.Adequacy
public import Idealize.ShloMosaic.Init

@[expose] public section

noncomputable section

namespace Cert.Proof

open Idealize.ShloMosaic Idealize.SL.Sem Cert.Kernel

instance : Cert.Pre_finite_scores.Facts := Cert.Spec.pre_facts

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame: its run leaves the arguments alone, and it declares no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite queries and keys both programs end with the attention of `Spec`. -/
theorem value : Cert.algebraic_KernelIdeal_ReferenceIdeal_pre_finite_scores := by
  intro m ρ m' ρ' hpre hagree
  have hq := fun c => Cert.Spec.reals_of_mask _ _ (hpre c).1
  have hl := fun c => Cert.Spec.reals_of_mask _ _ (hpre c).2.1
  have hc := fun c => Cert.Spec.reals_of_mask _ _ (hpre c).2.2
  refine ⟨_, Cert.KernelIdeal.Value.run_blocks m ρ, ?_⟩
  refine (θ_run Cert.ReferenceIdeal.defs _ _).mono (fun r h c => ⟨?_, (h c).2⟩) (Cert.ReferenceIdeal.Value.run (F := Ideal) m' ρ')
  obtain ⟨a0, a1, a2, a3, a4⟩ := hagree c
  refine ((h c).1.trans (Cert.ReferenceIdeal.Read.val_main_v21_eq _ _ _ _ _)).trans ?_
  rw [a0, a1, a2, a3, a4, Cert.KernelIdeal.Attn.final_o m c (hq c) (hl c) (hc c)]
  exact Cert.ReferenceIdeal.Attn.ref_eq _ _ _ _ _ (hq c) (hl c) (hc c)

/-- The final call's frame. -/
theorem frame_kernel2 : Cert.quiescent_Kernel2 := fun m ρ _ => Cert.Kernel2.Gen.frame m ρ

/-- The idealized final call's frame. -/
theorem frame_ideal2 : Cert.quiescent_Kernel2Ideal := fun m ρ _ => Cert.Kernel2Ideal.Gen.frame m ρ

/-- Its reference's frame. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The final call and its reference end with the rows of `Row.result`. -/
theorem value2 : Cert.algebraic_Kernel2Ideal_Reference2Ideal := by
  intro m ρ m' ρ' _ hagree
  refine ⟨_, Cert.Kernel2Ideal.Value.run_blocks m ρ, ?_⟩
  refine (θ_run Cert.Reference2Ideal.defs _ _).mono (fun r h c => ⟨?_, (h c).2⟩) (Cert.Reference2Ideal.Value.run (F := Ideal) m' ρ')
  obtain ⟨a0, a1, a2, a3, a4, a5, a6, a7, a8, a9⟩ := hagree c
  refine ((h c).1.trans (Cert.Reference2Ideal.Read.val_main_v46_eq _ _)).trans ?_
  rw [a0, a1, a2, a3, a4, a5, a6, a7, a8, a9, Cert.Kernel2Ideal.Final.final_o m c]
  exact Cert.Reference2Ideal.Final.ref_eq _ _ _ _ _ _ _ _ _ _

/-- The input-projection call's frame. -/
theorem frame_kernel3 : Cert.quiescent_Kernel3 := fun m ρ _ => Cert.Kernel3.Gen.frame m ρ

/-- The idealized input-projection call's frame. -/
theorem frame_ideal3 : Cert.quiescent_Kernel3Ideal := fun m ρ _ => Cert.Kernel3Ideal.Gen.frame m ρ

/-- Its reference's frame. -/
theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The named constant stands for 1 / (8 · log 2). -/
theorem preserves3 : Cert.preserves_Kernel3_Kernel3Ideal :=
  IdealRules.named_const.statement Cert.Kernel3Ideal.κ "query_scale" .f32 0x3E38AA3B#32 ((8⁻¹ * (Real.log 2)⁻¹ : ℝ) : EReal) rfl

/-- The input-projection call and its reference end with the six results of `InRow`. -/
theorem value3 : Cert.algebraic_Kernel3Ideal_Reference3Ideal := by
  intro m ρ m' ρ' _ hagree
  refine ⟨_, _, _, _, _, _, Cert.Kernel3Ideal.Value.run_blocks m ρ, ?_⟩
  refine (θ_run Cert.Reference3Ideal.defs _ _).mono (fun r h c => ?_) (Cert.Reference3Ideal.Inproj.ends m' ρ')
  obtain ⟨a0, a1, a2, a3, a4, a5, a6, a7, a8, a9⟩ := hagree c
  obtain ⟨h0, h1, h2, h3, h4, h5, hargs⟩ := h c
  refine ⟨h0.trans ?_, h1.trans ?_, h2.trans ?_, h3.trans ?_, h4.trans ?_, h5.trans ?_, hargs⟩
  · rw [a0, a2, a3, a6, a7, a8]
    exact (Cert.Kernel3Ideal.Inproj.result_queries m c).symm
  · rw [a0, a1, a2, a3, a4, a5, a6, a7, a9]
    exact (Cert.Kernel3Ideal.Inproj.result_keys m c).symm
  · rw [a0, a1, a2, a3, a4, a5, a6, a7]
    exact (Cert.Kernel3Ideal.Inproj.result_values m c).symm
  · rw [a0, a2, a3, a6, a7]
    exact (Cert.Kernel3Ideal.Inproj.result_gate_a m c).symm
  · rw [a0, a1, a2, a3, a4, a5, a6, a7]
    exact (Cert.Kernel3Ideal.Inproj.result_inputs m c).symm
  · rw [a0, a2, a3, a6, a7]
    exact (Cert.Kernel3Ideal.Inproj.result_gate_s m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Spec.pre_facts,
    frame_kernel, frame_ideal, fun m ρ _ => Cert.KernelIdeal.Gen.frame m ρ, frame_reference,
    fun m ρ _ => frame_reference m ρ trivial, frame_kernel2, frame_ideal2, frame_reference2,
    frame_kernel3, frame_ideal3, frame_reference3, trivial, value, trivial, value2, preserves3, value3⟩

end Cert.Proof

end
